-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v233) = v2 c
          ∧ r.2.mem ((c.tc : Thread Cert.ReferenceIdeal.nD Cert.ReferenceIdeal.τ).loc Cert.ReferenceIdeal.main_v235) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S_ : Shape := ⟨0, ![]⟩

class Facts : Prop where
  bcast_S_S8400x2 : S_.BroadcastsInDim S8400x2 (![] : Fin 0 → Fin S8400x2.rank)
  reducesTo_S8400x2_S_d0_1 : S8400x2.ReducesTo [0, 1] S_
  h_S_ : 0 < S_.numel
  bcast_S_S16x32x1 : S_.BroadcastsInDim S16x32x1 (![] : Fin 0 → Fin S16x32x1.rank)
  reducesTo_S16x32x1_S_d0_1_2 : S16x32x1.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x8400x80 .f32) (main_arg1 : FVec F S16x8400x4 .f32) (main_arg2 : FVec F S8400x2 .f32) (main_arg3 : IVec S16x32x1 32) (main_arg4 : FVec F S16x32x4 .f32) (main_arg5 : FVec F S16x32x1 .f32) : IVec S_ 1 :=
  let main_cst : FVec F S_ .f32 := constant S_ .f32 0x7F800000#32
  let main_v0 : FVec F S8400x2 .f32 := broadcastInDim S8400x2 ![] bcast_S_S8400x2 main_cst
  let main_v1 : IVec S8400x2 1 := cmpf .olt main_arg2 main_v0
  let main_cst_0 : FVec F S_ .f32 := constant S_ .f32 0xFF800000#32
  let main_v2 : FVec F S8400x2 .f32 := broadcastInDim S8400x2 ![] bcast_S_S8400x2 main_cst_0
  let main_v3 : IVec S8400x2 1 := cmpf .ogt main_arg2 main_v2
  let main_v4 : IVec S8400x2 1 := andi main_v1 main_v3
  let main_c : IVec S_ 1 := constantI S_ 1 1#1
  let main_v5 : IVec S_ 1 := (fun x v => Host.reduce IntOp.andi x v reducesTo_S8400x2_S_d0_1 h_S_) main_v4 main_c
  let main_cst_1 : FVec F S_ .f32 := constant S_ .f32 0x3F800000#32
  let main_v6 : FVec F S16x32x1 .f32 := broadcastInDim S16x32x1 ![] bcast_S_S16x32x1 main_cst_1
  let main_v7 : IVec S16x32x1 1 := cmpf .oeq main_arg5 main_v6
  let main_cst_2 : FVec F S_ .f32 := constant S_ .f32 0x00000000#32
  let main_v8 : FVec F S16x32x1 .f32 := broadcastInDim S16x32x1 ![] bcast_S_S16x32x1 main_cst_2
  let main_v9 : IVec S16x32x1 1 := cmpf .ole main_arg5 main_v8
  let main_v10 : IVec S16x32x1 1 := ori main_v7 main_v9
  let main_c_3 : IVec S_ 1 := constantI S_ 1 1#1
  let main_v11 : IVec S_ 1 := (fun x v => Host.reduce IntOp.andi x v reducesTo_S16x32x1_S_d0_1_2 h_S_) main_v10 main_c_3
  let main_v12 : IVec S_ 1 := andi main_v5 main_v11
  let main_c_4 : IVec S_ 32 := constantI S_ 32 80#32
  let main_v13 : IVec S16x32x1 32 := broadcastInDim S16x32x1 ![] bcast_S_S16x32x1 main_c_4
  let main_v14 : IVec S16x32x1 1 := cmpi .ne main_arg3 main_v13
  let main_c_5 : IVec S_ 1 := constantI S_ 1 1#1
  let main_v15 : IVec S_ 1 := (fun x v => Host.reduce IntOp.andi x v reducesTo_S16x32x1_S_d0_1_2 h_S_) main_v14 main_c_5
  fn_part1 (F := F) main_v12 main_v15
-- ==== Kernel.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S2x8400 : Shape := ⟨2, ![2, 8400]⟩
abbrev S6x2800 : Shape := ⟨2, ![6, 2800]⟩
abbrev S16x4x8400 : Shape := ⟨3, ![16, 4, 8400]⟩
abbrev S16x12x2800 : Shape := ⟨3, ![16, 12, 2800]⟩
abbrev S16x3x1x2800 : Shape := ⟨4, ![16, 3, 1, 2800]⟩
abbrev S16x3x2800x4 : Shape := ⟨4, ![16, 3, 2800, 4]⟩
abbrev S16x3x2800x80 : Shape := ⟨4, ![16, 3, 2800, 80]⟩
abbrev S1x12x2800 : Shape := ⟨3, ![1, 12, 2800]⟩
abbrev S1x32x4 : Shape := ⟨3, ![1, 32, 4]⟩
abbrev S1x32x1 : Shape := ⟨3, ![1, 32, 1]⟩
abbrev S1x3x1x2800 : Shape := ⟨4, ![1, 3, 1, 2800]⟩
abbrev S1x3x2800x4 : Shape := ⟨4, ![1, 3, 2800, 4]⟩
abbrev S1x3x2800x80 : Shape := ⟨4, ![1, 3, 2800, 80]⟩
abbrev S32x4 : Shape := ⟨2, ![32, 4]⟩
abbrev S32x1 : Shape := ⟨2, ![32, 1]⟩
abbrev S1x2800 : Shape := ⟨2, ![1, 2800]⟩
abbrev S32x2800 : Shape := ⟨2, ![32, 2800]⟩
abbrev S96x2800 : Shape := ⟨2, ![96, 2800]⟩
abbrev S96 : Shape := ⟨1, ![96]⟩
abbrev S96x1 : Shape := ⟨2, ![96, 1]⟩
abbrev S1x96x1 : Shape := ⟨3, ![1, 96, 1]⟩
abbrev S1 : Shape := ⟨1, ![1]⟩
abbrev S1x1x1 : Shape := ⟨3, ![1, 1, 1]⟩
abbrev S96x9 : Shape := ⟨2, ![96, 9]⟩
abbrev S32x9 : Shape := ⟨2, ![32, 9]⟩
abbrev S32x27 : Shape := ⟨2, ![32, 27]⟩
abbrev S32 : Shape := ⟨1, ![32]⟩
abbrev S32x80 : Shape := ⟨2, ![32, 80]⟩
abbrev S2800 : Shape := ⟨1, ![2800]⟩
abbrev S1x1x2800 : Shape := ⟨3, ![1, 1, 2800]⟩
abbrev S2800x4 : Shape := ⟨2, ![2800, 4]⟩
abbrev S2800x80 : Shape := ⟨2, ![2800, 80]⟩
abbrev S1x1x1x2800 : Shape := ⟨4, ![1, 1, 1, 2800]⟩
abbrev S1x1x2800x4 : Shape := ⟨4, ![1, 1, 2800, 4]⟩
abbrev S1x1x2800x80 : Shape := ⟨4, ![1, 1, 2800, 80]⟩
abbrev S16x8400 : Shape := ⟨2, ![16, 8400]⟩
abbrev S_ : Shape := ⟨0, ![]⟩

abbrev nBuf : Space → Nat
  | .hbm => 21
  | .vmem => 17
  | .smem => 0
  | _ => 0

abbrev bufTy : (tb : Table) → Fin (tcTables nBuf tb) → BufTy
  | .hbm, ⟨0, _⟩ => ⟨S16x8400x80, .f32⟩
  | .hbm, ⟨1, _⟩ => ⟨S16x8400x4, .f32⟩
  | .hbm, ⟨2, _⟩ => ⟨S8400x2, .f32⟩
  | .hbm, ⟨3, _⟩ => ⟨S16x32x1, .i32⟩
  | .hbm, ⟨4, _⟩ => ⟨S16x32x4, .f32⟩
  | .hbm, ⟨5, _⟩ => ⟨S16x32x1, .f32⟩
  | .hbm, ⟨6, _⟩ => ⟨S2x8400, .f32⟩
  | .hbm, ⟨7, _⟩ => ⟨S6x2800, .f32⟩
  | .hbm, ⟨8, _⟩ => ⟨S16x4x8400, .f32⟩
  | .hbm, ⟨9, _⟩ => ⟨S16x12x2800, .f32⟩
  | .hbm, ⟨10, _⟩ => ⟨S16x3x1x2800, .i32⟩
  | .hbm, ⟨11, _⟩ => ⟨S16x3x2800x4, .f32⟩
  | .hbm, ⟨12, _⟩ => ⟨S16x3x2800x80, .f32⟩
  | .hbm, ⟨13, _⟩ => ⟨S16x3x1x2800, .i32⟩
  | .hbm, ⟨14, _⟩ => ⟨S16x8400, .i32⟩
  | .hbm, ⟨15, _⟩ => ⟨S16x8400x4, .f32⟩
  | .hbm, ⟨16, _⟩ => ⟨S16x8400x80, .f32⟩
  | .hbm, ⟨17, _⟩ => ⟨S_, .i32⟩
  | .hbm, ⟨18, _⟩ => ⟨S16x8400, .i32⟩
  | .hbm, ⟨19, _⟩ => ⟨S16x8400, .i1⟩
  | .hbm, ⟨20, _⟩ => ⟨S16x8400, .i32⟩
  | .local _ .vmem, ⟨0, _⟩ => ⟨S6x2800, .f32⟩
  | .local _ .vmem, ⟨1, _⟩ => ⟨S1x12x2800, .f32⟩
  | .local _ .vmem, ⟨2, _⟩ => ⟨S1x12x2800, .f32⟩
  | .local _ .vmem, ⟨3, _⟩ => ⟨S1x32x4, .f32⟩
  | .local _ .vmem, ⟨4, _⟩ => ⟨S1x32x4, .f32⟩
  | .local _ .vmem, ⟨5, _⟩ => ⟨S1x32x1, .i32⟩
  | .local _ .vmem, ⟨6, _⟩ => ⟨S1x32x1, .i32⟩
  | .local _ .vmem, ⟨7, _⟩ => ⟨S1x32x1, .f32⟩
  | .local _ .vmem, ⟨8, _⟩ => ⟨S1x32x1, .f32⟩
  | .local _ .vmem, ⟨9, _⟩ => ⟨S1x3x1x2800, .i32⟩
  | .local _ .vmem, ⟨10, _⟩ => ⟨S1x3x1x2800, .i32⟩
  | .local _ .vmem, ⟨11, _⟩ => ⟨S1x3x2800x4, .f32⟩
  | .local _ .vmem, ⟨12, _⟩ => ⟨S1x3x2800x4, .f32⟩
  | .local _ .vmem, ⟨13, _⟩ => ⟨S1x3x2800x80, .f32⟩
  | .local _ .vmem, ⟨14, _⟩ => ⟨S1x3x2800x80, .f32⟩
  | .local _ .vmem, ⟨15, _⟩ => ⟨S1x3x1x2800, .i32⟩
  | .local _ .vmem, ⟨16, _⟩ => ⟨S1x3x1x2800, .i32⟩
  | _, _ => ⟨S16x8400x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S6x2800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x12x2800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x1x2800 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x2800x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x2800x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x1x2800 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x8400x80 : Shape := ⟨3, ![16, 8400, 80]⟩
abbrev S16x8400x4 : Shape := ⟨3, ![16, 8400, 4]⟩
abbrev S8400x2 : Shape := ⟨2, ![8400, 2]⟩
abbrev S16x32x1 : Shape := ⟨3, ![16, 32, 1]⟩
abbrev S16x32x4 : Shape := ⟨3, ![16, 32, 4]⟩
abbrev S_ : Shape := ⟨0, ![]⟩
abbrev S8400x4 : Shape := ⟨2, ![8400, 4]⟩
abbrev S16x32x1x4 : Shape := ⟨4, ![16, 32, 1, 4]⟩
abbrev S1x1x8400x4 : Shape := ⟨4, ![1, 1, 8400, 4]⟩
abbrev S16x32x1x1 : Shape := ⟨4, ![16, 32, 1, 1]⟩
abbrev S1x1x8400x1 : Shape := ⟨4, ![1, 1, 8400, 1]⟩
abbrev S16x32x8400x1 : Shape := ⟨4, ![16, 32, 8400, 1]⟩
abbrev S16x32x8400 : Shape := ⟨3, ![16, 32, 8400]⟩
abbrev S16x32x2 : Shape := ⟨3, ![16, 32, 2]⟩
abbrev S16x32x1x2 : Shape := ⟨4, ![16, 32, 1, 2]⟩
abbrev S1x1x8400x2 : Shape := ⟨4, ![1, 1, 8400, 2]⟩
abbrev S16x32x8400x2 : Shape := ⟨4, ![16, 32, 8400, 2]⟩
abbrev S16x32x2800 : Shape := ⟨3, ![16, 32, 2800]⟩
abbrev S16x32x9 : Shape := ⟨3, ![16, 32, 9]⟩
abbrev S16x32x9x1 : Shape := ⟨4, ![16, 32, 9, 1]⟩
abbrev S1x1x1x2800 : Shape := ⟨4, ![1, 1, 1, 2800]⟩
abbrev S16x32x9x2800 : Shape := ⟨4, ![16, 32, 9, 2800]⟩
abbrev S16x32x27 : Shape := ⟨3, ![16, 32, 27]⟩
abbrev S512x27 : Shape := ⟨2, ![512, 27]⟩
abbrev S512 : Shape := ⟨1, ![512]⟩
abbrev S512x1 : Shape := ⟨2, ![512, 1]⟩
abbrev S4300800 : Shape := ⟨1, ![4300800]⟩
abbrev S512x27x1 : Shape := ⟨3, ![512, 27, 1]⟩
abbrev S16x32 : Shape := ⟨2, ![16, 32]⟩
abbrev S16x32x8400x4 : Shape := ⟨4, ![16, 32, 8400, 4]⟩
abbrev S16x8400 : Shape := ⟨2, ![16, 8400]⟩
abbrev S16x1x8400 : Shape := ⟨3, ![16, 1, 8400]⟩
abbrev S16x8400x1 : Shape := ⟨3, ![16, 8400, 1]⟩
abbrev S1x1x32 : Shape := ⟨3, ![1, 1, 32]⟩
abbrev S16x8400x32 : Shape := ⟨3, ![16, 8400, 32]⟩
abbrev S16 : Shape := ⟨1, ![16]⟩
abbrev S16x1 : Shape := ⟨2, ![16, 1]⟩
abbrev S512x4 : Shape := ⟨2, ![512, 4]⟩
abbrev S1x1x81 : Shape := ⟨3, ![1, 1, 81]⟩
abbrev S16x8400x81 : Shape := ⟨3, ![16, 8400, 81]⟩
abbrev S16x1x8400x4 : Shape := ⟨4, ![16, 1, 8400, 4]⟩
abbrev S16x1x8400x1 : Shape := ⟨4, ![16, 1, 8400, 1]⟩

abbrev nBuf : Space → Nat
  | .hbm => 376
  | .vmem => 0
  | .smem => 0
  | _ => 0

abbrev hbmTy0_0 (i : Nat) : BufTy := match i % 128 with
  | 0 => ⟨S16x8400x80, .f32⟩
  | 1 => ⟨S16x8400x4, .f32⟩
  | 2 => ⟨S8400x2, .f32⟩
  | 3 => ⟨S16x32x1, .i32⟩
  | 4 => ⟨S16x32x4, .f32⟩
  | 5 => ⟨S16x32x1, .f32⟩
  | 6 => ⟨S_, .f32⟩
  | 7 => ⟨S8400x2, .f32⟩
  | 8 => ⟨S8400x2, .f32⟩
  | 9 => ⟨S_, .f32⟩
  | 10 => ⟨S8400x2, .f32⟩
  | 11 => ⟨S8400x2, .f32⟩
  | 12 => ⟨S8400x4, .f32⟩
  | 13 => ⟨S16x32x1x4, .f32⟩
  | 14 => ⟨S1x1x8400x4, .f32⟩
  | 15 => ⟨S16x32x1x1, .f32⟩
  | 16 => ⟨S16x32x1x1, .f32⟩
  | 17 => ⟨S16x32x1x1, .f32⟩
  | 18 => ⟨S16x32x1x1, .f32⟩
  | 19 => ⟨S1x1x8400x1, .f32⟩
  | 20 => ⟨S1x1x8400x1, .f32⟩
  | 21 => ⟨S1x1x8400x1, .f32⟩
  | 22 => ⟨S1x1x8400x1, .f32⟩
  | 23 => ⟨S16x32x8400x1, .f32⟩
  | 24 => ⟨S16x32x8400x1, .f32⟩
  | 25 => ⟨S16x32x8400x1, .f32⟩
  | 26 => ⟨S16x32x8400x1, .f32⟩
  | 27 => ⟨S16x32x8400x1, .f32⟩
  | 28 => ⟨S16x32x8400x1, .f32⟩
  | 29 => ⟨S16x32x8400x1, .f32⟩
  | 30 => ⟨S_, .f32⟩
  | 31 => ⟨S_, .f32⟩
  | 32 => ⟨S16x32x8400x1, .f32⟩
  | 33 => ⟨S16x32x8400x1, .f32⟩
  | 34 => ⟨S16x32x8400x1, .f32⟩
  | 35 => ⟨S16x32x8400x1, .f32⟩
  | 36 => ⟨S16x32x8400x1, .f32⟩
  | 37 => ⟨S16x32x8400x1, .f32⟩
  | 38 => ⟨S16x32x8400x1, .f32⟩
  | 39 => ⟨S16x32x8400x1, .f32⟩
  | 40 => ⟨S16x32x8400x1, .f32⟩
  | 41 => ⟨S_, .f32⟩
  | 42 => ⟨S_, .f32⟩
  | 43 => ⟨S16x32x8400x1, .f32⟩
  | 44 => ⟨S16x32x8400x1, .f32⟩
  | 45 => ⟨S16x32x8400x1, .f32⟩
  | 46 => ⟨S16x32x1x1, .f32⟩
  | 47 => ⟨S16x32x1x1, .f32⟩
  | 48 => ⟨S16x32x1x1, .f32⟩
  | 49 => ⟨S1x1x8400x1, .f32⟩
  | 50 => ⟨S1x1x8400x1, .f32⟩
  | 51 => ⟨S1x1x8400x1, .f32⟩
  | 52 => ⟨S16x32x8400x1, .f32⟩
  | 53 => ⟨S16x32x8400x1, .f32⟩
  | 54 => ⟨S16x32x8400x1, .f32⟩
  | 55 => ⟨S16x32x8400x1, .f32⟩
  | 56 => ⟨S_, .f32⟩
  | 57 => ⟨S16x32x8400x1, .f32⟩
  | 58 => ⟨S16x32x8400x1, .f32⟩
  | 59 => ⟨S16x32x8400x1, .f32⟩
  | 60 => ⟨S16x32x8400, .f32⟩
  | 61 => ⟨S16x32x2, .f32⟩
  | 62 => ⟨S16x32x2, .f32⟩
  | 63 => ⟨S16x32x2, .f32⟩
  | 64 => ⟨S_, .f32⟩
  | 65 => ⟨S16x32x2, .f32⟩
  | 66 => ⟨S16x32x2, .f32⟩
  | 67 => ⟨S16x32x1x2, .f32⟩
  | 68 => ⟨S1x1x8400x2, .f32⟩
  | 69 => ⟨S16x32x8400x2, .f32⟩
  | 70 => ⟨S16x32x8400x2, .f32⟩
  | 71 => ⟨S16x32x8400x2, .f32⟩
  | 72 => ⟨S16x32x8400x2, .f32⟩
  | 73 => ⟨S_, .f32⟩
  | 74 => ⟨S16x32x8400, .f32⟩
  | 75 => ⟨S16x32x8400, .f32⟩
  | 76 => ⟨S_, .f32⟩
  | 77 => ⟨S16x32x1, .f32⟩
  | 78 => ⟨S16x32x1, .i1⟩
  | 79 => ⟨S16x32x2800, .f32⟩
  | 80 => ⟨S16x32x2800, .f32⟩
  | 81 => ⟨S16x32x9, .f32⟩
  | 82 => ⟨S16x32x9, .i32⟩
  | 83 => ⟨S_, .i32⟩
  | 84 => ⟨S16x32x9, .i32⟩
  | 85 => ⟨S16x32x9, .i32⟩
  | 86 => ⟨S_, .i32⟩
  | 87 => ⟨S_, .i32⟩
  | 88 => ⟨S16x32x9, .i1⟩
  | 89 => ⟨S16x32x9, .i32⟩
  | 90 => ⟨S16x32x9, .i32⟩
  | 91 => ⟨S16x32x9x1, .i32⟩
  | 92 => ⟨S1x1x1x2800, .i32⟩
  | 93 => ⟨S16x32x9x2800, .i32⟩
  | 94 => ⟨S16x32x9x2800, .i32⟩
  | 95 => ⟨S16x32x9x2800, .i1⟩
  | 96 => ⟨S16x32x9x2800, .f32⟩
  | 97 => ⟨S_, .f32⟩
  | 98 => ⟨S16x32x2800, .f32⟩
  | 99 => ⟨S_, .f32⟩
  | 100 => ⟨S16x32x2800, .f32⟩
  | 101 => ⟨S16x32x2800, .i1⟩
  | 102 => ⟨S_, .f32⟩
  | 103 => ⟨S16x32x2800, .f32⟩
  | 104 => ⟨S16x32x2800, .f32⟩
  | 105 => ⟨S16x32x2800, .f32⟩
  | 106 => ⟨S16x32x2800, .f32⟩
  | 107 => ⟨S16x32x9, .f32⟩
  | 108 => ⟨S16x32x9, .i32⟩
  | 109 => ⟨S_, .i32⟩
  | 110 => ⟨S16x32x9, .i32⟩
  | 111 => ⟨S16x32x9, .i32⟩
  | 112 => ⟨S_, .i32⟩
  | 113 => ⟨S_, .i32⟩
  | 114 => ⟨S16x32x9, .i1⟩
  | 115 => ⟨S16x32x9, .i32⟩
  | 116 => ⟨S16x32x9, .i32⟩
  | 117 => ⟨S16x32x9x1, .i32⟩
  | 118 => ⟨S1x1x1x2800, .i32⟩
  | 119 => ⟨S16x32x9x2800, .i32⟩
  | 120 => ⟨S16x32x9x2800, .i32⟩
  | 121 => ⟨S16x32x9x2800, .i1⟩
  | 122 => ⟨S16x32x9x2800, .f32⟩
  | 123 => ⟨S_, .f32⟩
  | 124 => ⟨S16x32x2800, .f32⟩
  | 125 => ⟨S_, .f32⟩
  | 126 => ⟨S16x32x2800, .f32⟩
  | 127 => ⟨S16x32x2800, .i1⟩
  | _ => ⟨S16x8400x80, .f32⟩

abbrev hbmTy0_1 (i : Nat) : BufTy := match i % 128 with
  | 0 => ⟨S_, .f32⟩
  | 1 => ⟨S16x32x2800, .f32⟩
  | 2 => ⟨S16x32x2800, .f32⟩
  | 3 => ⟨S16x32x2800, .f32⟩
  | 4 => ⟨S16x32x2800, .f32⟩
  | 5 => ⟨S16x32x9, .f32⟩
  | 6 => ⟨S16x32x9, .i32⟩
  | 7 => ⟨S_, .i32⟩
  | 8 => ⟨S16x32x9, .i32⟩
  | 9 => ⟨S16x32x9, .i32⟩
  | 10 => ⟨S_, .i32⟩
  | 11 => ⟨S_, .i32⟩
  | 12 => ⟨S16x32x9, .i1⟩
  | 13 => ⟨S16x32x9, .i32⟩
  | 14 => ⟨S16x32x9, .i32⟩
  | 15 => ⟨S16x32x9x1, .i32⟩
  | 16 => ⟨S1x1x1x2800, .i32⟩
  | 17 => ⟨S16x32x9x2800, .i32⟩
  | 18 => ⟨S16x32x9x2800, .i32⟩
  | 19 => ⟨S16x32x9x2800, .i1⟩
  | 20 => ⟨S16x32x9x2800, .f32⟩
  | 21 => ⟨S_, .f32⟩
  | 22 => ⟨S16x32x2800, .f32⟩
  | 23 => ⟨S_, .f32⟩
  | 24 => ⟨S16x32x2800, .f32⟩
  | 25 => ⟨S16x32x2800, .i1⟩
  | 26 => ⟨S_, .f32⟩
  | 27 => ⟨S16x32x2800, .f32⟩
  | 28 => ⟨S16x32x2800, .f32⟩
  | 29 => ⟨S16x32x8400, .f32⟩
  | 30 => ⟨S16x32x27, .i32⟩
  | 31 => ⟨S_, .f32⟩
  | 32 => ⟨S16x32x8400, .f32⟩
  | 33 => ⟨S16x32x8400, .i1⟩
  | 34 => ⟨S_, .f32⟩
  | 35 => ⟨S16x32x8400, .f32⟩
  | 36 => ⟨S16x32x8400, .f32⟩
  | 37 => ⟨S512x27, .i32⟩
  | 38 => ⟨S512, .i32⟩
  | 39 => ⟨S_, .i32⟩
  | 40 => ⟨S512, .i32⟩
  | 41 => ⟨S512, .i32⟩
  | 42 => ⟨S512x1, .i32⟩
  | 43 => ⟨S512x27, .i32⟩
  | 44 => ⟨S512x27, .i32⟩
  | 45 => ⟨S4300800, .f32⟩
  | 46 => ⟨S_, .i32⟩
  | 47 => ⟨S512x27, .i32⟩
  | 48 => ⟨S512x27, .i1⟩
  | 49 => ⟨S_, .i32⟩
  | 50 => ⟨S512x27, .i32⟩
  | 51 => ⟨S512x27, .i32⟩
  | 52 => ⟨S512x27, .i32⟩
  | 53 => ⟨S512x27x1, .i32⟩
  | 54 => ⟨S512x27, .f32⟩
  | 55 => ⟨S16x32x27, .f32⟩
  | 56 => ⟨S_, .f32⟩
  | 57 => ⟨S16x32, .f32⟩
  | 58 => ⟨S16x32x1, .f32⟩
  | 59 => ⟨S_, .f32⟩
  | 60 => ⟨S16x32x1, .f32⟩
  | 61 => ⟨S16x32x1, .f32⟩
  | 62 => ⟨S_, .i32⟩
  | 63 => ⟨S_, .f32⟩
  | 64 => ⟨S16x32, .f32⟩
  | 65 => ⟨S16x32x1, .f32⟩
  | 66 => ⟨S_, .f32⟩
  | 67 => ⟨S16x32x1, .f32⟩
  | 68 => ⟨S16x32x1, .f32⟩
  | 69 => ⟨S16x32x27, .f32⟩
  | 70 => ⟨S16x32x27, .f32⟩
  | 71 => ⟨S16x32x27, .f32⟩
  | 72 => ⟨S_, .f32⟩
  | 73 => ⟨S_, .f32⟩
  | 74 => ⟨S_, .f32⟩
  | 75 => ⟨S_, .f32⟩
  | 76 => ⟨S16x32, .f32⟩
  | 77 => ⟨S16x32x1, .f32⟩
  | 78 => ⟨S16x32x1, .f32⟩
  | 79 => ⟨S16x32x1, .f32⟩
  | 80 => ⟨S_, .f32⟩
  | 81 => ⟨S_, .i1⟩
  | 82 => ⟨S_, .f32⟩
  | 83 => ⟨S_, .f32⟩
  | 84 => ⟨S16x32x1, .f32⟩
  | 85 => ⟨S16x32x1, .f32⟩
  | 86 => ⟨S16x32x1, .f32⟩
  | 87 => ⟨S16x32x1, .f32⟩
  | 88 => ⟨S16x32x8400, .f32⟩
  | 89 => ⟨S16x32x8400, .i1⟩
  | 90 => ⟨S_, .f32⟩
  | 91 => ⟨S16x32x8400, .f32⟩
  | 92 => ⟨S16x32x8400, .f32⟩
  | 93 => ⟨S1x1x8400x2, .f32⟩
  | 94 => ⟨S16x32x2, .f32⟩
  | 95 => ⟨S16x32x1x2, .f32⟩
  | 96 => ⟨S16x32x8400x2, .f32⟩
  | 97 => ⟨S16x32x8400x2, .f32⟩
  | 98 => ⟨S16x32x8400x2, .f32⟩
  | 99 => ⟨S16x32x2, .f32⟩
  | 100 => ⟨S16x32x1x2, .f32⟩
  | 101 => ⟨S1x1x8400x2, .f32⟩
  | 102 => ⟨S16x32x8400x2, .f32⟩
  | 103 => ⟨S16x32x8400x2, .f32⟩
  | 104 => ⟨S16x32x8400x2, .f32⟩
  | 105 => ⟨S16x32x8400x4, .f32⟩
  | 106 => ⟨S_, .f32⟩
  | 107 => ⟨S16x32x8400, .f32⟩
  | 108 => ⟨S_, .f32⟩
  | 109 => ⟨S16x32x8400, .f32⟩
  | 110 => ⟨S16x32x8400, .i1⟩
  | 111 => ⟨S16x32x8400, .f32⟩
  | 112 => ⟨S16x32x8400, .f32⟩
  | 113 => ⟨S16x32x8400, .f32⟩
  | 114 => ⟨S16x32x8400, .f32⟩
  | 115 => ⟨S_, .f32⟩
  | 116 => ⟨S16x8400, .f32⟩
  | 117 => ⟨S16x1x8400, .f32⟩
  | 118 => ⟨S_, .f32⟩
  | 119 => ⟨S16x1x8400, .f32⟩
  | 120 => ⟨S16x1x8400, .i1⟩
  | 121 => ⟨S16x32x8400, .i32⟩
  | 122 => ⟨S_, .f32⟩
  | 123 => ⟨S_, .i32⟩
  | 124 => ⟨S16x8400, .f32⟩
  | 125 => ⟨S16x8400, .i32⟩
  | 126 => ⟨S16x8400x1, .i32⟩
  | 127 => ⟨S1x1x32, .i32⟩
  | _ => ⟨S16x8400x80, .f32⟩

abbrev hbmTy0_2 (i : Nat) : BufTy := match i % 128 with
  | 0 => ⟨S16x8400x32, .i32⟩
  | 1 => ⟨S16x8400x32, .i32⟩
  | 2 => ⟨S16x8400x32, .i1⟩
  | 3 => ⟨S16x8400x32, .f32⟩
  | 4 => ⟨S16x32x8400, .f32⟩
  | 5 => ⟨S16x32x8400, .i1⟩
  | 6 => ⟨S16x32x8400, .f32⟩
  | 7 => ⟨S_, .f32⟩
  | 8 => ⟨S16x8400, .f32⟩
  | 9 => ⟨S16x32x8400, .i32⟩
  | 10 => ⟨S_, .f32⟩
  | 11 => ⟨S_, .i32⟩
  | 12 => ⟨S16x8400, .f32⟩
  | 13 => ⟨S16x8400, .i32⟩
  | 14 => ⟨S16, .i32⟩
  | 15 => ⟨S16x1, .i32⟩
  | 16 => ⟨S_, .i32⟩
  | 17 => ⟨S16x1, .i32⟩
  | 18 => ⟨S16x1, .i32⟩
  | 19 => ⟨S16x8400, .i32⟩
  | 20 => ⟨S16x8400, .i32⟩
  | 21 => ⟨S512, .i32⟩
  | 22 => ⟨S_, .i32⟩
  | 23 => ⟨S16x8400, .i32⟩
  | 24 => ⟨S16x8400, .i1⟩
  | 25 => ⟨S_, .i32⟩
  | 26 => ⟨S16x8400, .i32⟩
  | 27 => ⟨S16x8400, .i32⟩
  | 28 => ⟨S16x8400, .i32⟩
  | 29 => ⟨S16x8400x1, .i32⟩
  | 30 => ⟨S16x8400, .i32⟩
  | 31 => ⟨S512x4, .f32⟩
  | 32 => ⟨S_, .i32⟩
  | 33 => ⟨S16x8400, .i32⟩
  | 34 => ⟨S16x8400, .i1⟩
  | 35 => ⟨S_, .i32⟩
  | 36 => ⟨S16x8400, .i32⟩
  | 37 => ⟨S16x8400, .i32⟩
  | 38 => ⟨S16x8400, .i32⟩
  | 39 => ⟨S16x8400x1, .i32⟩
  | 40 => ⟨S16x8400x4, .f32⟩
  | 41 => ⟨S_, .f32⟩
  | 42 => ⟨S16x8400, .f32⟩
  | 43 => ⟨S16x8400, .i1⟩
  | 44 => ⟨S_, .i32⟩
  | 45 => ⟨S_, .i32⟩
  | 46 => ⟨S16x8400, .i32⟩
  | 47 => ⟨S16x8400, .i32⟩
  | 48 => ⟨S16x8400x1, .i32⟩
  | 49 => ⟨S1x1x81, .i32⟩
  | 50 => ⟨S16x8400x81, .i32⟩
  | 51 => ⟨S16x8400x81, .i32⟩
  | 52 => ⟨S16x8400x81, .i1⟩
  | 53 => ⟨S16x8400x81, .f32⟩
  | 54 => ⟨S_, .f32⟩
  | 55 => ⟨S16x8400, .f32⟩
  | 56 => ⟨S16x8400, .i1⟩
  | 57 => ⟨S16x8400x1, .i1⟩
  | 58 => ⟨S_, .f32⟩
  | 59 => ⟨S16x8400x81, .f32⟩
  | 60 => ⟨S16x8400x81, .i1⟩
  | 61 => ⟨S16x8400x81, .f32⟩
  | 62 => ⟨S16x8400x80, .f32⟩
  | 63 => ⟨S16x32x1x4, .f32⟩
  | 64 => ⟨S16x1x8400x4, .f32⟩
  | 65 => ⟨S16x32x1x1, .f32⟩
  | 66 => ⟨S16x32x1x1, .f32⟩
  | 67 => ⟨S16x32x1x1, .f32⟩
  | 68 => ⟨S16x32x1x1, .f32⟩
  | 69 => ⟨S16x1x8400x1, .f32⟩
  | 70 => ⟨S16x1x8400x1, .f32⟩
  | 71 => ⟨S16x1x8400x1, .f32⟩
  | 72 => ⟨S16x1x8400x1, .f32⟩
  | 73 => ⟨S16x32x8400x1, .f32⟩
  | 74 => ⟨S16x32x8400x1, .f32⟩
  | 75 => ⟨S16x32x8400x1, .f32⟩
  | 76 => ⟨S16x32x8400x1, .f32⟩
  | 77 => ⟨S16x32x8400x1, .f32⟩
  | 78 => ⟨S16x32x8400x1, .f32⟩
  | 79 => ⟨S16x32x8400x1, .f32⟩
  | 80 => ⟨S_, .f32⟩
  | 81 => ⟨S_, .f32⟩
  | 82 => ⟨S16x32x8400x1, .f32⟩
  | 83 => ⟨S16x32x8400x1, .f32⟩
  | 84 => ⟨S16x32x8400x1, .f32⟩
  | 85 => ⟨S16x32x8400x1, .f32⟩
  | 86 => ⟨S16x32x8400x1, .f32⟩
  | 87 => ⟨S16x32x8400x1, .f32⟩
  | 88 => ⟨S16x32x8400x1, .f32⟩
  | 89 => ⟨S16x32x8400x1, .f32⟩
  | 90 => ⟨S16x32x8400x1, .f32⟩
  | 91 => ⟨S_, .f32⟩
  | 92 => ⟨S_, .f32⟩
  | 93 => ⟨S16x32x8400x1, .f32⟩
  | 94 => ⟨S16x32x8400x1, .f32⟩
  | 95 => ⟨S16x32x8400x1, .f32⟩
  | 96 => ⟨S16x32x1x1, .f32⟩
  | 97 => ⟨S16x32x1x1, .f32⟩
  | 98 => ⟨S16x32x1x1, .f32⟩
  | 99 => ⟨S16x1x8400x1, .f32⟩
  | 100 => ⟨S16x1x8400x1, .f32⟩
  | 101 => ⟨S16x1x8400x1, .f32⟩
  | 102 => ⟨S16x32x8400x1, .f32⟩
  | 103 => ⟨S16x32x8400x1, .f32⟩
  | 104 => ⟨S16x32x8400x1, .f32⟩
  | 105 => ⟨S16x32x8400x1, .f32⟩
  | 106 => ⟨S_, .f32⟩
  | 107 => ⟨S16x32x8400x1, .f32⟩
  | 108 => ⟨S16x32x8400x1, .f32⟩
  | 109 => ⟨S16x32x8400x1, .f32⟩
  | 110 => ⟨S16x32x8400, .f32⟩
  | 111 => ⟨S16x32x8400, .f32⟩
  | 112 => ⟨S_, .f32⟩
  | 113 => ⟨S16x8400, .f32⟩
  | 114 => ⟨S16x8400x1, .f32⟩
  | 115 => ⟨S16x8400x80, .f32⟩
  | 116 => ⟨S16x8400x80, .f32⟩
  | 117 => ⟨S_, .f32⟩
  | 118 => ⟨S16x8400, .f32⟩
  | 119 => ⟨S16x8400, .i1⟩
  | _ => ⟨S16x8400x80, .f32⟩

abbrev hbmTy (i : Nat) : BufTy := match i / 128 with
  | 0 => hbmTy0_0 i
  | 1 => hbmTy0_1 i
  | 2 => hbmTy0_2 i
  | _ => ⟨S16x8400x80, .f32⟩

abbrev bufTy : (tb : Table) → Fin (tcTables nBuf tb) → BufTy
  | .hbm, ⟨i, _⟩ => hbmTy i
  | _, _ => ⟨S16x8400x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_values : Ref sig .tc := ⟨.hbm, 81, rfl⟩
abbrev main_indices : Ref sig .tc := ⟨.hbm, 82, rfl⟩
abbrev main_c : Ref sig .tc := ⟨.hbm, 83, rfl⟩
abbrev main_v63 : Ref sig .tc := ⟨.hbm, 84, rfl⟩
abbrev main_v64 : Ref sig .tc := ⟨.hbm, 85, rfl⟩
abbrev main_c_7 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v65 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_values_11 : Ref sig .tc := ⟨.hbm, 107, rfl⟩
abbrev main_indices_12 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_c_14 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v76 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v77 : Ref sig .tc := ⟨.hbm, 122, rfl⟩
abbrev main_cst_15 : Ref sig .tc := ⟨.hbm, 123, rfl⟩
abbrev main_v78 : Ref sig .tc := ⟨.hbm, 124, rfl⟩
abbrev main_cst_16 : Ref sig .tc := ⟨.hbm, 125, rfl⟩
abbrev main_v79 : Ref sig .tc := ⟨.hbm, 126, rfl⟩
abbrev main_v80 : Ref sig .tc := ⟨.hbm, 127, rfl⟩
abbrev main_cst_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_values_18 : Ref sig .tc := ⟨.hbm, 133, rfl⟩
abbrev main_indices_19 : Ref sig .tc := ⟨.hbm, 134, rfl⟩
abbrev main_c_20 : Ref sig .tc := ⟨.hbm, 135, rfl⟩
abbrev main_v85 : Ref sig .tc := ⟨.hbm, 136, rfl⟩
abbrev main_v86 : Ref sig .tc := ⟨.hbm, 137, rfl⟩
abbrev main_c_21 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v87 : Ref sig .tc := ⟨.hbm, 142, rfl⟩
abbrev main_call9_v0 : Ref sig .tc := ⟨.hbm, 143, rfl⟩
abbrev main_call9_v1 : Ref sig .tc := ⟨.hbm, 144, rfl⟩
abbrev main_call9_v2 : Ref sig .tc := ⟨.hbm, 145, rfl⟩
abbrev main_call9_v3 : Ref sig .tc := ⟨.hbm, 146, rfl⟩
abbrev main_call9_v4 : Ref sig .tc := ⟨.hbm, 147, rfl⟩
abbrev main_v88 : Ref sig .tc := ⟨.hbm, 148, rfl⟩
abbrev main_cst_22 : Ref sig .tc := ⟨.hbm, 149, rfl⟩
abbrev main_v89 : Ref sig .tc := ⟨.hbm, 150, rfl⟩
abbrev main_cst_23 : Ref sig .tc := ⟨.hbm, 151, rfl⟩
abbrev main_v90 : Ref sig .tc := ⟨.hbm, 152, rfl⟩
abbrev main_v91 : Ref sig .tc := ⟨.hbm, 153, rfl⟩
abbrev main_cst_24 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_25 : Ref sig .tc := ⟨.hbm, 159, rfl⟩
abbrev main_v96 : Ref sig .tc := ⟨.hbm, 160, rfl⟩
abbrev main_v97 : Ref sig .tc := ⟨.hbm, 161, rfl⟩
abbrev main_cst_26 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_c_27 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_c_28 : Ref sig .tc := ⟨.hbm, 174, rfl⟩
abbrev main_v108 : Ref sig .tc := ⟨.hbm, 175, rfl⟩
abbrev main_v109 : Ref sig .tc := ⟨.hbm, 176, rfl⟩
abbrev main_c_29 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_30 : Ref sig .tc := ⟨.hbm, 184, rfl⟩
abbrev main_v116 : Ref sig .tc := ⟨.hbm, 185, rfl⟩
abbrev main_v117 : Ref sig .tc := ⟨.hbm, 186, rfl⟩
abbrev main_cst_31 : Ref sig .tc := ⟨.hbm, 187, rfl⟩
abbrev main_v118 : Ref sig .tc := ⟨.hbm, 188, rfl⟩
abbrev main_v119 : Ref sig .tc := ⟨.hbm, 189, rfl⟩
abbrev main_c_32 : Ref sig .tc := ⟨.hbm, 190, rfl⟩
abbrev main_call12_call0_cst : Ref sig .tc := ⟨.hbm, 191, rfl⟩
abbrev main_call12_call0_v0 : Ref sig .tc := ⟨.hbm, 192, rfl⟩
abbrev main_call12_call0_v1 : Ref sig .tc := ⟨.hbm, 193, rfl⟩
abbrev main_call12_call0_cst_0 : Ref sig .tc := ⟨.hbm, 194, rfl⟩
abbrev main_call12_call0_v2 : Ref sig .tc := ⟨.hbm, 195, rfl⟩
abbrev main_call12_call0_v3 : Ref sig .tc := ⟨.hbm, 196, rfl⟩
abbrev main_call12_call0_v4 : Ref sig .tc := ⟨.hbm, 197, rfl⟩
abbrev main_call12_call0_v5 : Ref sig .tc := ⟨.hbm, 198, rfl⟩
abbrev main_call12_call0_v6 : Ref sig .tc := ⟨.hbm, 199, rfl⟩
abbrev main_call12_call0_v7 : Ref sig .tc := ⟨.hbm, 200, rfl⟩
abbrev main_call12_call0_cst_1 : Ref sig .tc := ⟨.hbm, 201, rfl⟩
abbrev main_call12_call0_v8 : Ref sig .tc := ⟨.hbm, 202, rfl⟩
abbrev main_call12_call0_cst_2 : Ref sig .tc := ⟨.hbm, 203, rfl⟩
abbrev main_call12_call0_v9 : Ref sig .tc := ⟨.hbm, 204, rfl⟩
abbrev main_call12_call0_v10 : Ref sig .tc := ⟨.hbm, 205, rfl⟩
abbrev main_call12_call0_v11 : Ref sig .tc := ⟨.hbm, 206, rfl⟩
abbrev main_call12_call0_v12 : Ref sig .tc := ⟨.hbm, 207, rfl⟩
abbrev main_call12_call0_cst_3 : Ref sig .tc := ⟨.hbm, 208, rfl⟩
abbrev main_call12_call0_v13 : Ref sig .tc := ⟨.hbm, 209, rfl⟩
abbrev main_call12_call0_cst_4 : Ref sig .tc := ⟨.hbm, 210, rfl⟩
abbrev main_call12_call0_call0_v0 : Ref sig .tc := ⟨.hbm, 211, rfl⟩
abbrev main_call12_call0_call0_v1 : Ref sig .tc := ⟨.hbm, 212, rfl⟩
abbrev main_call12_v0 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_cst_33 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_cst_34 : Ref sig .tc := ⟨.hbm, 234, rfl⟩
abbrev main_v139 : Ref sig .tc := ⟨.hbm, 235, rfl⟩
abbrev main_cst_35 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_cst_36 : Ref sig .tc := ⟨.hbm, 243, rfl⟩
abbrev main_v146 : Ref sig .tc := ⟨.hbm, 244, rfl⟩
abbrev main_v147 : Ref sig .tc := ⟨.hbm, 245, rfl⟩
abbrev main_cst_37 : Ref sig .tc := ⟨.hbm, 246, rfl⟩
abbrev main_v148 : Ref sig .tc := ⟨.hbm, 247, rfl⟩
abbrev main_v149 : Ref sig .tc := ⟨.hbm, 248, rfl⟩
abbrev main_call14_v0 : Ref sig .tc := ⟨.hbm, 249, rfl⟩
abbrev main_call14_cst : Ref sig .tc := ⟨.hbm, 250, rfl⟩
abbrev main_call14_c : Ref sig .tc := ⟨.hbm, 251, rfl⟩
abbrev main_call14_v1_0 : Ref sig .tc := ⟨.hbm, 252, rfl⟩
abbrev main_v150 : Ref sig .tc := ⟨.hbm, 253, rfl⟩
abbrev main_call15_v0 : Ref sig .tc := ⟨.hbm, 254, rfl⟩
abbrev main_call15_v1 : Ref sig .tc := ⟨.hbm, 255, rfl⟩
abbrev main_call15_v2 : Ref sig .tc := ⟨.hbm, 256, rfl⟩
abbrev main_call15_v3 : Ref sig .tc := ⟨.hbm, 257, rfl⟩
abbrev main_call15_v4 : Ref sig .tc := ⟨.hbm, 258, rfl⟩
abbrev main_v151 : Ref sig .tc := ⟨.hbm, 259, rfl⟩
abbrev main_v152 : Ref sig .tc := ⟨.hbm, 260, rfl⟩
abbrev main_call16_v0 : Ref sig .tc := ⟨.hbm, 261, rfl⟩
abbrev main_v153 : Ref sig .tc := ⟨.hbm, 262, rfl⟩
abbrev main_cst_38 : Ref sig .tc := ⟨.hbm, 263, rfl⟩
abbrev main_v154 : Ref sig .tc := ⟨.hbm, 264, rfl⟩
abbrev main_call17_v0 : Ref sig .tc := ⟨.hbm, 265, rfl⟩
abbrev main_call17_cst : Ref sig .tc := ⟨.hbm, 266, rfl⟩
abbrev main_call17_c : Ref sig .tc := ⟨.hbm, 267, rfl⟩
abbrev main_call17_v1_0 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_c_39 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_c_40 : Ref sig .tc := ⟨.hbm, 278, rfl⟩
abbrev main_v163 : Ref sig .tc := ⟨.hbm, 279, rfl⟩
abbrev main_v164 : Ref sig .tc := ⟨.hbm, 280, rfl⟩
abbrev main_c_41 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_c_42 : Ref sig .tc := ⟨.hbm, 288, rfl⟩
abbrev main_v171 : Ref sig .tc := ⟨.hbm, 289, rfl⟩
abbrev main_v172 : Ref sig .tc := ⟨.hbm, 290, rfl⟩
abbrev main_c_43 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_cst_44 : Ref sig .tc := ⟨.hbm, 297, rfl⟩
abbrev main_v178 : Ref sig .tc := ⟨.hbm, 298, rfl⟩
abbrev main_v179 : Ref sig .tc := ⟨.hbm, 299, rfl⟩
abbrev main_c_45 : Ref sig .tc := ⟨.hbm, 300, rfl⟩
abbrev main_call18_v0 : Ref sig .tc := ⟨.hbm, 301, rfl⟩
abbrev main_call18_v1 : Ref sig .tc := ⟨.hbm, 302, rfl⟩
abbrev main_v180 : Ref sig .tc := ⟨.hbm, 303, rfl⟩
abbrev main_call19_v0 : Ref sig .tc := ⟨.hbm, 304, rfl⟩
abbrev main_call19_v1 : Ref sig .tc := ⟨.hbm, 305, rfl⟩
abbrev main_call19_v2 : Ref sig .tc := ⟨.hbm, 306, rfl⟩
abbrev main_call19_v3 : Ref sig .tc := ⟨.hbm, 307, rfl⟩
abbrev main_call19_v4 : Ref sig .tc := ⟨.hbm, 308, rfl⟩
abbrev main_v181 : Ref sig .tc := ⟨.hbm, 309, rfl⟩
abbrev main_cst_46 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_cst_47 : Ref sig .tc := ⟨.hbm, 314, rfl⟩
abbrev main_v185 : Ref sig .tc := ⟨.hbm, 315, rfl⟩
abbrev main_call20_v0 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_cst_48 : Ref sig .tc := ⟨.hbm, 336, rfl⟩
abbrev main_call21_v0 : Ref sig .tc := ⟨.hbm, 337, rfl⟩
abbrev main_call21_v1 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_cst_49 : Ref sig .tc := ⟨.hbm, 347, rfl⟩
abbrev main_call22_v0 : Ref sig .tc := ⟨.hbm, 348, rfl⟩
abbrev main_call22_v1 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_cst_50 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_cst_51 : Ref sig .tc := ⟨.hbm, 368, rfl⟩
abbrev main_v230 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_cst_52 : Ref sig .tc := ⟨.hbm, 373, rfl⟩
abbrev main_v234 : Ref sig .tc := ⟨.hbm, 374, rfl⟩
abbrev main_v235 : Ref sig .tc := ⟨.hbm, 375, rfl⟩

abbrev nD : Nat := 1
abbrev τ : Topo := Topo.v7x

variable {F : FTy → Type} [FloatOps F]
-- ==== Proof.Vals.lean ====
/-
  The kernel body's values.

  Everything the body computes is a function of the five blocks it reads (`Blk`). Each value the body binds is named here
  as printed (`v59`, …) over the payload functions of the skeleton; the nine exact rounds of the conditional's first
  branch are functions of the working distances `d` and the overlaps `o`. The conditional itself is a choice between two
  pairs of vectors (`chosenD`, `chosenV`).
-/
module

public import proofs.«01_k».proof.Proof.Gen.KernelIdeal.Skeleton
public import Idealize.ShloMosaic.Lib.Pipeline.FrameBody

@[expose] public section

set_option maxRecDepth 16384

noncomputable section

namespace Cert.Proof.Body

open Cert.KernelIdeal Cert.KernelIdeal.Gen
open Idealize.ShloMosaic

variable {F : FTy → Type} [FloatOps F]

/-- The five blocks the body reads at one grid point: anchors, predicted boxes, ground-truth boxes, labels, mask. -/
structure Blk (F : FTy → Type) where
  x0 : Vec F S6x2800 .f32
  x1 : Vec F S1x12x2800 .f32
  x2 : Vec F S1x32x4 .f32
  x3 : Vec F S1x32x1 .i32
  x4 : Vec F S1x32x1 .f32

/-! ## The exact rounds, from the distances `d` and the overlaps `o` -/

def v696 (_d _o : FVec F S96x2800 .f32) : IVec S96x2800 32 :=
  iota .tc S96x2800 32 [1] iota_S96x2800_d1_w32
def v710 (d o : FVec F S96x2800 .f32) : FVec F S96x1 .f32 :=
  k0_pay3 d o
def v726 (d o : FVec F S96x2800 .f32) : FVec F S96x1 .f32 :=
  k0_pay6 d o
def v728 (d o : FVec F S96x2800 .f32) : FVec F S96x2800 .f32 :=
  k0_pay7 d
def v738 (d o : FVec F S96x2800 .f32) : IVec S96x2800 1 :=
  k0_pay8 d
def v739 (d o : FVec F S96x2800 .f32) : FVec F S96x2800 .f32 :=
  k0_pay9 (F := F)
def v742 (d o : FVec F S96x2800 .f32) : FVec F S96x1 .f32 :=
  k0_pay10 o (v738 d o) (v739 d o)
def v758 (d o : FVec F S96x2800 .f32) : FVec F S96x1 .f32 :=
  k0_pay13 o (v696 d o) (v728 d o) (v738 d o)
def v774 (d o : FVec F S96x2800 .f32) : FVec F S96x1 .f32 :=
  k0_pay16 o (v696 d o) (v728 d o) (v738 d o)
def v776 (d o : FVec F S96x2800 .f32) : FVec F S96x2800 .f32 :=
  k0_pay17 (v696 d o) (v728 d o) (v738 d o)
def v782 (d o : FVec F S96x2800 .f32) : IVec S96x2800 32 :=
  k0_pay18 (v696 d o) (v728 d o) (v738 d o)
def v790 (d o : FVec F S96x2800 .f32) : FVec F S96x1 .f32 :=
  k0_pay20 o (v696 d o) (v782 d o)
def v806 (d o : FVec F S96x2800 .f32) : FVec F S96x1 .f32 :=
  k0_pay23 o (v696 d o) (v776 d o) (v782 d o)
def v822 (d o : FVec F S96x2800 .f32) : FVec F S96x1 .f32 :=
  k0_pay26 o (v696 d o) (v776 d o) (v782 d o)
def v824 (d o : FVec F S96x2800 .f32) : FVec F S96x2800 .f32 :=
  k0_pay27 (v696 d o) (v776 d o) (v782 d o)
def v826 (d o : FVec F S96x2800 .f32) : FVec F S96x1 .f32 :=
  k0_pay28 (v696 d o) (v776 d o) (v782 d o)

/-! ## The conditional's choice -/

/-- The word the conditional tests: whether the fast rounds met a tie in some row. -/
def tieWord (v273 : FVec F S96x1 .f32) : BitVec 1 :=
  Scalar.cmpi .ne (Scalar.extui (Scalar.cmpf .ogt (k0_pay102 v273) (Scalar.ofBits .f32 0x00000000#32)) : BitVec 32) 0#32
/-- The distances after the nine rounds: the exact ones' when there is a tie, the fast ones' when not. -/
def chosenD (d o : FVec F S96x2800 .f32) (v273 : FVec F S96x1 .f32) (v263 : FVec F S96x2800 .f32) : FVec F S96x2800 .f32 :=
  if tieWord v273 = 1#1 then k0_pay104 (v696 d o) (v824 d o) (v826 d o) else v263
/-- The nine selected overlaps of each row, likewise. -/
def chosenV (d o : FVec F S96x2800 .f32) (v273 v181 v191 v201 v211 v221 v231 v241 v251 v261 : FVec F S96x1 .f32) : FVec F S96x9 .f32 :=
  if tieWord v273 = 1#1 then k0_pay105 o (v696 d o) (v710 d o) (v726 d o) (v742 d o) (v758 d o) (v774 d o) (v790 d o) (v806 d o) (v822 d o) (v824 d o) (v826 d o) else k0_pay106 v181 v191 v201 v211 v221 v231 v241 v251 v261

/-! ## The values, from the blocks -/

def v0 (b : Blk F) : Vec F S1x32x4 .f32 :=
  View.ld b.x2 (Rect.unit (s := S1x32x4) ![0, 0, 0] S1x32x4.size inb_S1x32x4_S1x32x4_0_0_0)
def v6 (b : Blk F) : Vec F S1x32x1 .i32 :=
  View.ld b.x3 (Rect.unit (s := S1x32x1) ![0, 0, 0] S1x32x1.size inb_S1x32x1_S1x32x1_0_0_0)
def v8 (b : Blk F) : Vec F S1x32x1 .f32 :=
  View.ld b.x4 (Rect.unit (s := S1x32x1) ![0, 0, 0] S1x32x1.size inb_S1x32x1_S1x32x1_0_0_0)
def v19 (b : Blk F) : Vec F S1x2800 .f32 :=
  View.ld b.x0 (Rect.unit (s := S6x2800) ![0, 0] S1x2800.size inb_S6x2800_S1x2800_0_0)
def v21 (b : Blk F) : Vec F S1x2800 .f32 :=
  View.ld b.x0 (Rect.unit (s := S6x2800) ![3, 0] S1x2800.size inb_S6x2800_S1x2800_3_0)
def v1 (b : Blk F) : FVec F S32x4 .f32 :=
  k0_pay29 (v0 b)
def v2 (b : Blk F) : FVec F S32x1 .f32 :=
  k0_pay30 (v0 b)
def v3 (b : Blk F) : FVec F S32x1 .f32 :=
  k0_pay31 (v0 b)
def v4 (b : Blk F) : FVec F S32x1 .f32 :=
  k0_pay32 (v0 b)
def v5 (b : Blk F) : FVec F S32x1 .f32 :=
  k0_pay33 (v0 b)
def v7 (b : Blk F) : IVec S32x1 32 :=
  k0_pay34 (v6 b)
def v9 (b : Blk F) : FVec F S32x1 .f32 :=
  k0_pay35 (v8 b)
def v12 (b : Blk F) : FVec F S32x1 .f32 :=
  k0_pay36 (v0 b)
def v15 (b : Blk F) : FVec F S32x1 .f32 :=
  k0_pay37 (v0 b)
def v18 (b : Blk F) : FVec F S32x1 .f32 :=
  k0_pay38 (v0 b)
def v20 (b : Blk F) : FVec F S1x2800 .f32 :=
  k0_pay39 (v19 b)
def v22 (b : Blk F) : FVec F S1x2800 .f32 :=
  k0_pay40 (v21 b)
def v26 (b : Blk F) : FVec F S1x2800 .f32 :=
  k0_pay42 (v21 b)
def v30 (b : Blk F) : FVec F S1x2800 .f32 :=
  k0_pay44 (v21 b)
def v33 (b : Blk F) : FVec F S1x2800 .f32 :=
  k0_pay45 (v19 b) (v21 b)
def v36 (b : Blk F) : FVec F S32x2800 .f32 :=
  k0_pay46 (v0 b) (v19 b)
def v39 (b : Blk F) : FVec F S32x2800 .f32 :=
  k0_pay47 (v0 b) (v19 b)
def v70 (b : Blk F) : Vec F S1x2800 .f32 :=
  View.ld b.x0 (Rect.unit (s := S6x2800) ![1, 0] S1x2800.size inb_S6x2800_S1x2800_1_0)
def v72 (b : Blk F) : Vec F S1x2800 .f32 :=
  View.ld b.x0 (Rect.unit (s := S6x2800) ![4, 0] S1x2800.size inb_S6x2800_S1x2800_4_0)
def v59 (b : Blk F) : FVec F S32x2800 .f32 :=
  k0_pay48 (v3 b) (v5 b) (v12 b) (v26 b) (v30 b) (v33 b) (v36 b) (v39 b)
def v69 (b : Blk F) : FVec F S32x2800 .f32 :=
  k0_pay49 (v15 b) (v18 b) (v20 b) (v22 b)
def v71 (b : Blk F) : FVec F S1x2800 .f32 :=
  k0_pay50 (v70 b)
def v73 (b : Blk F) : FVec F S1x2800 .f32 :=
  k0_pay51 (v72 b)
def v75 (b : Blk F) : FVec F S1x2800 .f32 :=
  k0_pay52 (v70 b)
def v77 (b : Blk F) : FVec F S1x2800 .f32 :=
  k0_pay53 (v72 b)
def v81 (b : Blk F) : FVec F S1x2800 .f32 :=
  k0_pay55 (v72 b)
def v84 (b : Blk F) : FVec F S1x2800 .f32 :=
  k0_pay56 (v70 b) (v72 b)
def v87 (b : Blk F) : FVec F S32x2800 .f32 :=
  k0_pay57 (v4 b) (v70 b)
def v88 (b : Blk F) : FVec F S32x2800 .f32 :=
  k0_pay58 (v2 b)
def v121 (b : Blk F) : Vec F S1x2800 .f32 :=
  View.ld b.x0 (Rect.unit (s := S6x2800) ![2, 0] S1x2800.size inb_S6x2800_S1x2800_2_0)
def v123 (b : Blk F) : Vec F S1x2800 .f32 :=
  View.ld b.x0 (Rect.unit (s := S6x2800) ![5, 0] S1x2800.size inb_S6x2800_S1x2800_5_0)
def v110 (b : Blk F) : FVec F S32x2800 .f32 :=
  k0_pay59 (v3 b) (v5 b) (v12 b) (v75 b) (v77 b) (v81 b) (v84 b) (v87 b) (v88 b)
def v120 (b : Blk F) : FVec F S32x2800 .f32 :=
  k0_pay60 (v15 b) (v18 b) (v71 b) (v73 b)
def v122 (b : Blk F) : FVec F S1x2800 .f32 :=
  k0_pay61 (v121 b)
def v124 (b : Blk F) : FVec F S1x2800 .f32 :=
  k0_pay62 (v123 b)
def v126 (b : Blk F) : FVec F S1x2800 .f32 :=
  k0_pay63 (v121 b)
def v128 (b : Blk F) : FVec F S1x2800 .f32 :=
  k0_pay64 (v123 b)
def v132 (b : Blk F) : FVec F S1x2800 .f32 :=
  k0_pay66 (v123 b)
def v135 (b : Blk F) : FVec F S1x2800 .f32 :=
  k0_pay67 (v121 b) (v123 b)
def v136 (b : Blk F) : FVec F S32x2800 .f32 :=
  k0_pay68 (v4 b)
def v137 (b : Blk F) : FVec F S32x2800 .f32 :=
  k0_pay69 (v121 b)
def v161 (b : Blk F) : FVec F S32x2800 .f32 :=
  k0_pay70 (v2 b) (v3 b) (v5 b) (v12 b) (v126 b) (v128 b) (v132 b) (v135 b) (v136 b) (v137 b)
def v172 (b : Blk F) : FVec F S96x2800 .f32 :=
  k0_pay71 (v15 b) (v18 b) (v69 b) (v120 b) (v122 b) (v124 b)
def v173 (b : Blk F) : FVec F S96x2800 .f32 :=
  k0_pay72 (v2 b) (v3 b) (v5 b) (v12 b) (v59 b) (v110 b) (v126 b) (v128 b) (v132 b) (v135 b) (v136 b) (v137 b)
def v181 (b : Blk F) : FVec F S96x1 .f32 :=
  k0_pay74 (v2 b) (v3 b) (v5 b) (v12 b) (v15 b) (v18 b) (v59 b) (v69 b) (v110 b) (v120 b) (v122 b) (v124 b) (v126 b) (v128 b) (v132 b) (v135 b) (v136 b) (v137 b)
def v183 (b : Blk F) : FVec F S96x2800 .f32 :=
  k0_pay75 (v15 b) (v18 b) (v69 b) (v120 b) (v122 b) (v124 b)
def v187 (b : Blk F) : IVec S96x2800 1 :=
  k0_pay76 (v15 b) (v18 b) (v69 b) (v120 b) (v122 b) (v124 b)
def v188 (b : Blk F) : FVec F S96x2800 .f32 :=
  k0_pay77 (F := F)
def v191 (b : Blk F) : FVec F S96x1 .f32 :=
  k0_pay78 (v173 b) (v187 b) (v188 b)
def v201 (b : Blk F) : FVec F S96x1 .f32 :=
  k0_pay81 (v173 b) (v183 b) (v187 b)
def v211 (b : Blk F) : FVec F S96x1 .f32 :=
  k0_pay84 (v173 b) (v183 b) (v187 b)
def v221 (b : Blk F) : FVec F S96x1 .f32 :=
  k0_pay87 (v173 b) (v183 b) (v187 b)
def v223 (b : Blk F) : FVec F S96x2800 .f32 :=
  k0_pay88 (v183 b) (v187 b)
def v227 (b : Blk F) : IVec S96x2800 1 :=
  k0_pay89 (v183 b) (v187 b)
def v231 (b : Blk F) : FVec F S96x1 .f32 :=
  k0_pay90 (v173 b) (v183 b) (v187 b)
def v241 (b : Blk F) : FVec F S96x1 .f32 :=
  k0_pay93 (v173 b) (v223 b) (v227 b)
def v251 (b : Blk F) : FVec F S96x1 .f32 :=
  k0_pay96 (v173 b) (v223 b) (v227 b)
def v261 (b : Blk F) : FVec F S96x1 .f32 :=
  k0_pay99 (v173 b) (v223 b) (v227 b)
def v263 (b : Blk F) : FVec F S96x2800 .f32 :=
  k0_pay100 (v223 b) (v227 b)
def v273 (b : Blk F) : FVec F S96x1 .f32 :=
  k0_pay101 (v223 b) (v227 b)
def v281_0 (b : Blk F) : FVec F S96x2800 .f32 :=
  chosenD (v172 b) (v173 b) (v273 b) (v263 b)
def v281_1 (b : Blk F) : FVec F S96x9 .f32 :=
  chosenV (v172 b) (v173 b) (v273 b) (v181 b) (v191 b) (v201 b) (v211 b) (v221 b) (v231 b) (v241 b) (v251 b) (v261 b)
def v310 (_b : Blk F) : IVec S32x2800 32 := iota .tc S32x2800 32 [0] iota_S32x2800_d0_w32
def v287 (b : Blk F) : IVec S32x2800 1 :=
  k0_pay107 (v281_0 b)
def v290 (b : Blk F) : IVec S32x2800 1 :=
  k0_pay108 (v281_0 b)
def v307 (b : Blk F) : FVec F S32x1 .f32 :=
  k0_pay109 (v281_1 b)
def v309 (b : Blk F) : IVec S32x1 1 :=
  k0_pay110 (v9 b)
def v316 (b : Blk F) : FVec F S32x80 .f32 :=
  k0_pay111 (F := F) (v7 b)
def v317 (b : Blk F) : FVec F S32x1 .f32 :=
  k0_pay112 (F := F) (v7 b)
def v320 (b : Blk F) : IVec S32x2800 1 :=
  k0_pay113 (v59 b) (v281_0 b) (v281_1 b)
def v366 (b : Blk F) : FVec F S32x2800 .f32 :=
  k0_pay114 (v2 b) (v3 b) (v4 b) (v5 b) (v20 b) (v22 b) (v59 b) (v309 b) (v310 b) (v320 b)
def v368 (b : Blk F) : FVec F S1x2800 .f32 :=
  k0_pay115 (v2 b) (v3 b) (v4 b) (v5 b) (v20 b) (v22 b) (v59 b) (v309 b) (v310 b) (v320 b)
def v379 (b : Blk F) : Vec F S1x1x2800 .f32 :=
  View.ld b.x1 (Rect.unit (s := S1x12x2800) ![0, 0, 0] S1x1x2800.size inb_S1x12x2800_S1x1x2800_0_0_0)
def v381 (b : Blk F) : Vec F S1x1x2800 .f32 :=
  View.ld b.x1 (Rect.unit (s := S1x12x2800) ![0, 3, 0] S1x1x2800.size inb_S1x12x2800_S1x1x2800_0_3_0)
def v383 (b : Blk F) : Vec F S1x1x2800 .f32 :=
  View.ld b.x1 (Rect.unit (s := S1x12x2800) ![0, 6, 0] S1x1x2800.size inb_S1x12x2800_S1x1x2800_0_6_0)
def v385 (b : Blk F) : Vec F S1x1x2800 .f32 :=
  View.ld b.x1 (Rect.unit (s := S1x12x2800) ![0, 9, 0] S1x1x2800.size inb_S1x12x2800_S1x1x2800_0_9_0)
def v373 (b : Blk F) : IVec S1x2800 32 :=
  k0_pay116 (v310 b) (v366 b)
def v378 (b : Blk F) : FVec F S32x2800 .f32 :=
  k0_pay117 (v310 b) (v366 b)
def v405 (b : Blk F) : FVec F S32x2800 .f32 :=
  k0_pay122 (v2 b) (v3 b) (v4 b) (v5 b) (v379 b) (v381 b) (v383 b) (v385 b)
def v411 (b : Blk F) : FVec F S32x2800 .f32 :=
  k0_pay123 (v12 b) (v379 b) (v381 b) (v383 b) (v385 b)
def v444 (b : Blk F) : FVec F S32x2800 .f32 :=
  (k0_pay128 (v307 b))
def v492 (b : Blk F) : FVec F S32x2800 .f32 :=
  (k0_pay129 (v2 b) (v3 b) (v4 b) (v5 b) (v71 b) (v73 b) (v110 b) (v287 b) (v309 b) (v310 b) (v444 b))
def v505 (b : Blk F) : Vec F S1x1x2800 .f32 :=
  View.ld b.x1 (Rect.unit (s := S1x12x2800) ![0, 1, 0] S1x1x2800.size inb_S1x12x2800_S1x1x2800_0_1_0)
def v507 (b : Blk F) : Vec F S1x1x2800 .f32 :=
  View.ld b.x1 (Rect.unit (s := S1x12x2800) ![0, 4, 0] S1x1x2800.size inb_S1x12x2800_S1x1x2800_0_4_0)
def v509 (b : Blk F) : Vec F S1x1x2800 .f32 :=
  View.ld b.x1 (Rect.unit (s := S1x12x2800) ![0, 7, 0] S1x1x2800.size inb_S1x12x2800_S1x1x2800_0_7_0)
def v511 (b : Blk F) : Vec F S1x1x2800 .f32 :=
  View.ld b.x1 (Rect.unit (s := S1x12x2800) ![0, 10, 0] S1x1x2800.size inb_S1x12x2800_S1x1x2800_0_10_0)
def v494 (b : Blk F) : FVec F S1x2800 .f32 :=
  k0_pay130 (v492 b)
def v499 (b : Blk F) : IVec S1x2800 32 :=
  k0_pay131 (v310 b) (v492 b)
def v504 (b : Blk F) : FVec F S32x2800 .f32 :=
  k0_pay132 (v310 b) (v492 b)
def v531 (b : Blk F) : FVec F S32x2800 .f32 :=
  k0_pay137 (v2 b) (v3 b) (v4 b) (v5 b) (v505 b) (v507 b) (v509 b) (v511 b)
def v534 (b : Blk F) : FVec F S1x2800 .f32 :=
  k0_pay138 (v505 b) (v507 b) (v509 b) (v511 b)
def v535 (b : Blk F) : FVec F S32x2800 .f32 :=
  k0_pay139 (v12 b)
def v569 (b : Blk F) : FVec F S1x1x2800x80 .f32 :=
  (k0_pay143 (v316 b) (v492 b) (v531 b) (v534 b) (v535 b))
def v615 (b : Blk F) : IVec S32x2800 1 :=
  k0_pay144 (v2 b) (v3 b) (v4 b) (v5 b) (v122 b) (v124 b) (v161 b) (v290 b) (v307 b) (v309 b) (v310 b)
def v616 (b : Blk F) : FVec F S32x2800 .f32 :=
  k0_pay145 (F := F)
def v617 (b : Blk F) : FVec F S32x2800 .f32 :=
  k0_pay146 (F := F)
def v631 (b : Blk F) : Vec F S1x1x2800 .f32 :=
  View.ld b.x1 (Rect.unit (s := S1x12x2800) ![0, 2, 0] S1x1x2800.size inb_S1x12x2800_S1x1x2800_0_2_0)
def v633 (b : Blk F) : Vec F S1x1x2800 .f32 :=
  View.ld b.x1 (Rect.unit (s := S1x12x2800) ![0, 5, 0] S1x1x2800.size inb_S1x12x2800_S1x1x2800_0_5_0)
def v635 (b : Blk F) : Vec F S1x1x2800 .f32 :=
  View.ld b.x1 (Rect.unit (s := S1x12x2800) ![0, 8, 0] S1x1x2800.size inb_S1x12x2800_S1x1x2800_0_8_0)
def v637 (b : Blk F) : Vec F S1x1x2800 .f32 :=
  View.ld b.x1 (Rect.unit (s := S1x12x2800) ![0, 11, 0] S1x1x2800.size inb_S1x12x2800_S1x1x2800_0_11_0)
def v618 (b : Blk F) : FVec F S32x2800 .f32 :=
  k0_pay147 (v615 b) (v616 b) (v617 b)
def v620 (b : Blk F) : FVec F S1x2800 .f32 :=
  k0_pay148 (v615 b) (v616 b) (v617 b)
def v625 (b : Blk F) : IVec S1x2800 32 :=
  k0_pay149 (v310 b) (v615 b) (v616 b) (v617 b)
def v630 (b : Blk F) : FVec F S32x2800 .f32 :=
  k0_pay150 (v310 b) (v615 b) (v616 b) (v617 b)
def v657 (b : Blk F) : FVec F S32x2800 .f32 :=
  k0_pay155 (v2 b) (v3 b) (v4 b) (v5 b) (v631 b) (v633 b) (v635 b) (v637 b)
def v658 (b : Blk F) : FVec F S1x2800 .f32 :=
  k0_pay156 (v631 b) (v635 b)
def v659 (b : Blk F) : FVec F S1x2800 .f32 :=
  k0_pay157 (v633 b) (v637 b)
def v683 (b : Blk F) : FVec F S2800x80 .f32 :=
  k0_pay158 (v12 b) (v316 b) (v618 b) (v657 b) (v658 b) (v659 b)

/-! ## What the body leaves in each output buffer: its three stores, the last first -/

/-- Level 0's labels. -/
def out5_0 (b : Blk F) : Vec F S1x1x1x2800 .i32 :=
  (k0_pay124 (v317 b) (v368 b) (v378 b))
/-- Level 1's labels. -/
def out5_1 (b : Blk F) : Vec F S1x1x1x2800 .i32 :=
  (k0_pay140 (v317 b) (v494 b) (v504 b))
/-- Level 2's labels. -/
def out5_2 (b : Blk F) : Vec F S1x1x1x2800 .i32 :=
  (k0_pay159 (v317 b) (v620 b) (v630 b))
def out5 (b : Blk F) : Vec F S1x3x1x2800 .i32 :=
  View.canon [⟨Rect.unit (s := S1x3x1x2800) ![0, 2, 0, 0] S1x1x1x2800.size inb_S1x3x1x2800_S1x1x1x2800_0_2_0_0, out5_2 b⟩, ⟨Rect.unit (s := S1x3x1x2800) ![0, 1, 0, 0] S1x1x1x2800.size inb_S1x3x1x2800_S1x1x1x2800_0_1_0_0, out5_1 b⟩, ⟨Rect.unit (s := S1x3x1x2800) ![0, 0, 0, 0] S1x1x1x2800.size inb_S1x3x1x2800_S1x1x1x2800_0_0_0_0, out5_0 b⟩]

/-- Level 0's boxes. -/
def out6_0 (b : Blk F) : Vec F S1x1x2800x4 .f32 :=
  (k0_pay126 (v1 b) (v378 b))
/-- Level 1's boxes. -/
def out6_1 (b : Blk F) : Vec F S1x1x2800x4 .f32 :=
  (k0_pay142 (v1 b) (v504 b))
/-- Level 2's boxes. -/
def out6_2 (b : Blk F) : Vec F S1x1x2800x4 .f32 :=
  (k0_pay161 (v1 b) (v630 b))
def out6 (b : Blk F) : Vec F S1x3x2800x4 .f32 :=
  View.canon [⟨Rect.unit (s := S1x3x2800x4) ![0, 2, 0, 0] S1x1x2800x4.size inb_S1x3x2800x4_S1x1x2800x4_0_2_0_0, out6_2 b⟩, ⟨Rect.unit (s := S1x3x2800x4) ![0, 1, 0, 0] S1x1x2800x4.size inb_S1x3x2800x4_S1x1x2800x4_0_1_0_0, out6_1 b⟩, ⟨Rect.unit (s := S1x3x2800x4) ![0, 0, 0, 0] S1x1x2800x4.size inb_S1x3x2800x4_S1x1x2800x4_0_0_0_0, out6_0 b⟩]

/-- Level 0's scores. -/
def out7_0 (b : Blk F) : Vec F S1x1x2800x80 .f32 :=
  (k0_pay127 (v316 b) (v366 b) (v405 b) (v411 b))
/-- Level 1's scores. -/
def out7_1 (b : Blk F) : Vec F S1x1x2800x80 .f32 :=
  (v569 b)
/-- Level 2's scores. -/
def out7_2 (b : Blk F) : Vec F S1x1x2800x80 .f32 :=
  (k0_pay1 (v683 b))
def out7 (b : Blk F) : Vec F S1x3x2800x80 .f32 :=
  View.canon [⟨Rect.unit (s := S1x3x2800x80) ![0, 2, 0, 0] S1x1x2800x80.size inb_S1x3x2800x80_S1x1x2800x80_0_2_0_0, out7_2 b⟩, ⟨Rect.unit (s := S1x3x2800x80) ![0, 1, 0, 0] S1x1x2800x80.size inb_S1x3x2800x80_S1x1x2800x80_0_1_0_0, out7_1 b⟩, ⟨Rect.unit (s := S1x3x2800x80) ![0, 0, 0, 0] S1x1x2800x80.size inb_S1x3x2800x80_S1x1x2800x80_0_0_0_0, out7_0 b⟩]

/-- Level 0's ground-truth indices. -/
def out8_0 (b : Blk F) : Vec F S1x1x1x2800 .i32 :=
  (k0_pay125 (v373 b))
/-- Level 1's ground-truth indices. -/
def out8_1 (b : Blk F) : Vec F S1x1x1x2800 .i32 :=
  (k0_pay141 (v499 b))
/-- Level 2's ground-truth indices. -/
def out8_2 (b : Blk F) : Vec F S1x1x1x2800 .i32 :=
  (k0_pay160 (v625 b))
def out8 (b : Blk F) : Vec F S1x3x1x2800 .i32 :=
  View.canon [⟨Rect.unit (s := S1x3x1x2800) ![0, 2, 0, 0] S1x1x1x2800.size inb_S1x3x1x2800_S1x1x1x2800_0_2_0_0, out8_2 b⟩, ⟨Rect.unit (s := S1x3x1x2800) ![0, 1, 0, 0] S1x1x1x2800.size inb_S1x3x1x2800_S1x1x1x2800_0_1_0_0, out8_1 b⟩, ⟨Rect.unit (s := S1x3x1x2800) ![0, 0, 0, 0] S1x1x1x2800.size inb_S1x3x1x2800_S1x1x1x2800_0_0_0_0, out8_0 b⟩]

end Cert.Proof.Body

end
-- ==== Proof.Choice.lean ====
/-
  The part of the body that holds the conditional, and the tiling of the output buffers by the body's stores.

  Both branches of the conditional touch no memory, so its part is a `pure` of the choice (`part10_eq`).
-/
module

public import proofs.«01_k».proof.Proof.Gen.KernelIdeal.Launch
public import proofs.«01_k».proof.Proof.Vals
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Tactic

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 65536 in
set_option maxHeartbeats 4000000 in
/-- The part that holds the conditional touches no memory: it returns the values of the choice. -/
theorem part10_eq (i : grid0.Coords) (arg1 : Memref sig .tc .vmem S6x2800 .f32) (harg1 : arg1.IsWhole) (arg2 : Memref sig .tc .vmem S1x12x2800 .f32) (harg2 : arg2.IsWhole) (arg3 : Memref sig .tc .vmem S1x32x4 .f32) (harg3 : arg3.IsWhole) (arg4 : Memref sig .tc .vmem S1x32x1 .i32) (harg4 : arg4.IsWhole) (arg5 : Memref sig .tc .vmem S1x32x1 .f32) (harg5 : arg5.IsWhole) (arg6 : Memref sig .tc .vmem S1x3x1x2800 .i32) (harg6 : arg6.IsWhole) (arg7 : Memref sig .tc .vmem S1x3x2800x4 .f32) (harg7 : arg7.IsWhole) (arg8 : Memref sig .tc .vmem S1x3x2800x80 .f32) (harg8 : arg8.IsWhole) (arg9 : Memref sig .tc .vmem S1x3x1x2800 .i32) (harg9 : arg9.IsWhole)
    (v7 : IVec S32x1 32) (v9 : FVec F S32x1 .f32) (v59 : FVec F S32x2800 .f32) (v172 : FVec F S96x2800 .f32) (v173 : FVec F S96x2800 .f32) (v181 : FVec F S96x1 .f32) (v191 : FVec F S96x1 .f32) (v201 : FVec F S96x1 .f32) (v211 : FVec F S96x1 .f32) (v221 : FVec F S96x1 .f32) (v231 : FVec F S96x1 .f32) (v241 : FVec F S96x1 .f32) (v251 : FVec F S96x1 .f32) (v261 : FVec F S96x1 .f32) (v263 : FVec F S96x2800 .f32) (v273 : FVec F S96x1 .f32) :
    k0_part10 (F := F) i arg1 harg1 arg2 harg2 arg3 harg3 arg4 harg4 arg5 harg5 arg6 harg6 arg7 harg7 arg8 harg8 arg9 harg9 v7 v9 v59 v172 v173 v181 v191 v201 v211 v221 v231 v241 v251 v261 v263 v273
      = pure ⟨k0_pay107 (chosenD v172 v173 v273 v263), k0_pay108 (chosenD v172 v173 v273 v263), k0_pay109 (chosenV v172 v173 v273 v181 v191 v201 v211 v221 v231 v241 v251 v261), k0_pay110 v9, iota .tc S32x2800 32 [0] iota_S32x2800_d0_w32, k0_pay111 (F := F) v7, k0_pay112 (F := F) v7, k0_pay113 v59 (chosenD v172 v173 v273 v263) (chosenV v172 v173 v273 v181 v191 v201 v211 v221 v231 v241 v251 v261)⟩ := by
  rw [k0_part10_eq_skeleton]; unfold k0_part10_skel
  rw [k0_part1_eq_skeleton, k0_part2_eq_skeleton, k0_part3_eq_skeleton]
  by_cases h : tieWord v273 = 1#1
  · simp only [chosenD, chosenV, if_pos h]
    unfold tieWord at h
    simp only [if_pos h, k0_part1_skel, k0_part2_skel, k0_part3_skel, pure_bind]
    rfl
  · simp only [chosenD, chosenV, if_neg h]
    unfold tieWord at h
    simp only [if_neg h, pure_bind]

/-! ## The stores tile each output buffer -/

theorem cover5 (p0 p1 p2 : Vec F S1x1x1x2800 .i32) (y : S1x3x1x2800.Idx) :
    ∃ pc ∈ ([⟨Rect.unit (s := S1x3x1x2800) ![0, 2, 0, 0] S1x1x1x2800.size inb_S1x3x1x2800_S1x1x1x2800_0_2_0_0, p0⟩, ⟨Rect.unit (s := S1x3x1x2800) ![0, 1, 0, 0] S1x1x1x2800.size inb_S1x3x1x2800_S1x1x1x2800_0_1_0_0, p1⟩, ⟨Rect.unit (s := S1x3x1x2800) ![0, 0, 0, 0] S1x1x1x2800.size inb_S1x3x1x2800_S1x1x1x2800_0_0_0_0, p2⟩] : List (View.Piece (Elt F) S1x3x1x2800 .i32)), y ∈ pc.1.set :=
  View.cover_of_tiled [⟨Rect.unit (s := S1x3x1x2800) ![0, 2, 0, 0] S1x1x1x2800.size inb_S1x3x1x2800_S1x1x1x2800_0_2_0_0, p0⟩, ⟨Rect.unit (s := S1x3x1x2800) ![0, 1, 0, 0] S1x1x1x2800.size inb_S1x3x1x2800_S1x1x1x2800_0_1_0_0, p1⟩, ⟨Rect.unit (s := S1x3x1x2800) ![0, 0, 0, 0] S1x1x1x2800.size inb_S1x3x1x2800_S1x1x1x2800_0_0_0_0, p2⟩] S1x1x1x2800.size (by rfl) y

theorem cover6 (p0 p1 p2 : Vec F S1x1x2800x4 .f32) (y : S1x3x2800x4.Idx) :
    ∃ pc ∈ ([⟨Rect.unit (s := S1x3x2800x4) ![0, 2, 0, 0] S1x1x2800x4.size inb_S1x3x2800x4_S1x1x2800x4_0_2_0_0, p0⟩, ⟨Rect.unit (s := S1x3x2800x4) ![0, 1, 0, 0] S1x1x2800x4.size inb_S1x3x2800x4_S1x1x2800x4_0_1_0_0, p1⟩, ⟨Rect.unit (s := S1x3x2800x4) ![0, 0, 0, 0] S1x1x2800x4.size inb_S1x3x2800x4_S1x1x2800x4_0_0_0_0, p2⟩] : List (View.Piece (Elt F) S1x3x2800x4 .f32)), y ∈ pc.1.set :=
  View.cover_of_tiled [⟨Rect.unit (s := S1x3x2800x4) ![0, 2, 0, 0] S1x1x2800x4.size inb_S1x3x2800x4_S1x1x2800x4_0_2_0_0, p0⟩, ⟨Rect.unit (s := S1x3x2800x4) ![0, 1, 0, 0] S1x1x2800x4.size inb_S1x3x2800x4_S1x1x2800x4_0_1_0_0, p1⟩, ⟨Rect.unit (s := S1x3x2800x4) ![0, 0, 0, 0] S1x1x2800x4.size inb_S1x3x2800x4_S1x1x2800x4_0_0_0_0, p2⟩] S1x1x2800x4.size (by rfl) y

theorem cover7 (p0 p1 p2 : Vec F S1x1x2800x80 .f32) (y : S1x3x2800x80.Idx) :
    ∃ pc ∈ ([⟨Rect.unit (s := S1x3x2800x80) ![0, 2, 0, 0] S1x1x2800x80.size inb_S1x3x2800x80_S1x1x2800x80_0_2_0_0, p0⟩, ⟨Rect.unit (s := S1x3x2800x80) ![0, 1, 0, 0] S1x1x2800x80.size inb_S1x3x2800x80_S1x1x2800x80_0_1_0_0, p1⟩, ⟨Rect.unit (s := S1x3x2800x80) ![0, 0, 0, 0] S1x1x2800x80.size inb_S1x3x2800x80_S1x1x2800x80_0_0_0_0, p2⟩] : List (View.Piece (Elt F) S1x3x2800x80 .f32)), y ∈ pc.1.set :=
  View.cover_of_tiled [⟨Rect.unit (s := S1x3x2800x80) ![0, 2, 0, 0] S1x1x2800x80.size inb_S1x3x2800x80_S1x1x2800x80_0_2_0_0, p0⟩, ⟨Rect.unit (s := S1x3x2800x80) ![0, 1, 0, 0] S1x1x2800x80.size inb_S1x3x2800x80_S1x1x2800x80_0_1_0_0, p1⟩, ⟨Rect.unit (s := S1x3x2800x80) ![0, 0, 0, 0] S1x1x2800x80.size inb_S1x3x2800x80_S1x1x2800x80_0_0_0_0, p2⟩] S1x1x2800x80.size (by rfl) y

theorem cover8 (p0 p1 p2 : Vec F S1x1x1x2800 .i32) (y : S1x3x1x2800.Idx) :
    ∃ pc ∈ ([⟨Rect.unit (s := S1x3x1x2800) ![0, 2, 0, 0] S1x1x1x2800.size inb_S1x3x1x2800_S1x1x1x2800_0_2_0_0, p0⟩, ⟨Rect.unit (s := S1x3x1x2800) ![0, 1, 0, 0] S1x1x1x2800.size inb_S1x3x1x2800_S1x1x1x2800_0_1_0_0, p1⟩, ⟨Rect.unit (s := S1x3x1x2800) ![0, 0, 0, 0] S1x1x1x2800.size inb_S1x3x1x2800_S1x1x1x2800_0_0_0_0, p2⟩] : List (View.Piece (Elt F) S1x3x1x2800 .i32)), y ∈ pc.1.set :=
  View.cover_of_tiled [⟨Rect.unit (s := S1x3x1x2800) ![0, 2, 0, 0] S1x1x1x2800.size inb_S1x3x1x2800_S1x1x1x2800_0_2_0_0, p0⟩, ⟨Rect.unit (s := S1x3x1x2800) ![0, 1, 0, 0] S1x1x1x2800.size inb_S1x3x1x2800_S1x1x1x2800_0_1_0_0, p1⟩, ⟨Rect.unit (s := S1x3x1x2800) ![0, 0, 0, 0] S1x1x1x2800.size inb_S1x3x1x2800_S1x1x1x2800_0_0_0_0, p2⟩] S1x1x1x2800.size (by rfl) y

end Cert.Proof.Body

end
-- ==== Proof.Body.lean ====
/-
  The kernel body's triple: the whole body is run symbolically once, over the part equations of the skeleton and
  `part10_eq` (`bodyRun`).
-/
module

public import proofs.«01_k».proof.Proof.Gen.KernelIdeal.Launch
public import proofs.«01_k».proof.Proof.Choice
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Tactic

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 128000000 in
/-- On whole staging buffers, the inputs at the blocks and the outputs at anything, the body runs to its end with the
    inputs as they were and each output at what is stated above. -/
theorem bodyRun (c : Dev nD) (E : Set ℕ) (i : grid0.Coords) (arg1 : Memref sig .tc .vmem S6x2800 .f32) (harg1 : arg1.IsWhole) (arg2 : Memref sig .tc .vmem S1x12x2800 .f32) (harg2 : arg2.IsWhole) (arg3 : Memref sig .tc .vmem S1x32x4 .f32) (harg3 : arg3.IsWhole) (arg4 : Memref sig .tc .vmem S1x32x1 .i32) (harg4 : arg4.IsWhole) (arg5 : Memref sig .tc .vmem S1x32x1 .f32) (harg5 : arg5.IsWhole) (arg6 : Memref sig .tc .vmem S1x3x1x2800 .i32) (harg6 : arg6.IsWhole) (arg7 : Memref sig .tc .vmem S1x3x2800x4 .f32) (harg7 : arg7.IsWhole) (arg8 : Memref sig .tc .vmem S1x3x2800x80 .f32) (harg8 : arg8.IsWhole) (arg9 : Memref sig .tc .vmem S1x3x1x2800 .i32) (harg9 : arg9.IsWhole) (b : Blk F) (K : PUnit → sProp 𝕄) :
    iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare (out5 b) ∗ owns (c : Thread nD τ) arg7 fullShare (out6 b) ∗ owns (c : Thread nD τ) arg8 fullShare (out7 b) ∗ owns (c : Thread nD τ) arg9 fullShare (out8 b)) -∗ K ⟨⟩))
      ⊢ wp frame (wpE (defs₀ (F := F)) Variants.none c none) E (cc0__atss_kernel i arg1 harg1 arg2 harg2 arg3 harg3 arg4 harg4 arg5 harg5 arg6 harg6 arg7 harg7 arg8 harg8 arg9 harg9) K := by
  simp only [cc0__atss_kernel_eq_skeleton]; unfold cc0__atss_kernel_skel
  simp only [part10_eq, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain ⟨x0, x1, x2, x3, x4⟩ := b
  simp only at hf0 hf1 hf2 hf3 hf4
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover5 _ _ _)).trans ?_
    rfl
  isplitl [H6]
  · iexists _; isplitr
    swap; · iexact H6
    ipureintro
    refine (View.read_writes_eq_canon _ _ _ (cover6 _ _ _)).trans ?_
    rfl
  isplitl [H7]
  · iexists _; isplitr
    swap; · iexact H7
    ipureintro
    refine (View.read_writes_eq_canon _ _ _ (cover7 _ _ _)).trans ?_
    rfl
  iexists _; isplitr
  swap; · iexact H8
  ipureintro
  refine (View.read_writes_eq_canon _ _ _ (cover8 _ _ _)).trans ?_
  rfl

end Cert.Proof.Body

end
-- ==== Proof.Run.lean ====
/-
  The kernel's run, for every float model: the pipeline's proof data (each input buffer keeps its block, each output
  buffer is what the body's triple states), the body obligation at every grid point, and the launch. `run_main` gives
  every array at what the library computes from the proof data, the host lines after the region, and every counter zero;
  `frame` is the frame claim's statement.
-/
module

public import proofs.«01_k».proof.Proof.Body
public import Idealize.ShloMosaic.Lib.Pipeline.FrameSuffix
public import Idealize.ShloMosaic.Lib.Claim

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks grid point `t` works on. -/
def blkAt (c : Dev nD) (t : Fin cfg0.N) : Blk F :=
  ⟨iblk m c 0 t, iblk m c 1 t, iblk m c 2 t, iblk m c 3 t, iblk m c 4 t⟩

/-- The proof data: arrays as the region finds them, inputs kept, outputs as the triple states, nothing owed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (blkAt m c t)
    | ⟨6, _⟩ => out6 (blkAt m c t)
    | ⟨7, _⟩ => out7 (blkAt m c t)
    | ⟨8, _⟩ => out8 (blkAt m c t)
  Φ _ := Pipeline.ΦA spec0 c
  q _ := fullShare
  owed _ := 0

theorem dat_A (c : Dev nD) (w : Fin cfg0.W) : (dat m 0 c).A w = V m c (Pipeline.arrRef spec0 w) := by
  dsimp only [dat]

theorem dat_after_0 (c : Dev nD) (t : Fin cfg0.N) : (dat m 0 c).after 0 t = iblk m c 0 t := by dsimp only [dat]
theorem dat_after_1 (c : Dev nD) (t : Fin cfg0.N) : (dat m 0 c).after 1 t = iblk m c 1 t := by dsimp only [dat]
theorem dat_after_2 (c : Dev nD) (t : Fin cfg0.N) : (dat m 0 c).after 2 t = iblk m c 2 t := by dsimp only [dat]
theorem dat_after_3 (c : Dev nD) (t : Fin cfg0.N) : (dat m 0 c).after 3 t = iblk m c 3 t := by dsimp only [dat]
theorem dat_after_4 (c : Dev nD) (t : Fin cfg0.N) : (dat m 0 c).after 4 t = iblk m c 4 t := by dsimp only [dat]
theorem dat_after_5 (c : Dev nD) (t : Fin cfg0.N) : (dat m 0 c).after 5 t = out5 (blkAt m c t) := by dsimp only [dat]
theorem dat_after_6 (c : Dev nD) (t : Fin cfg0.N) : (dat m 0 c).after 6 t = out6 (blkAt m c t) := by dsimp only [dat]
theorem dat_after_7 (c : Dev nD) (t : Fin cfg0.N) : (dat m 0 c).after 7 t = out7 (blkAt m c t) := by dsimp only [dat]
theorem dat_after_8 (c : Dev nD) (t : Fin cfg0.N) : (dat m 0 c).after 8 t = out8 (blkAt m c t) := by dsimp only [dat]

/-! Each input buffer holds its block when the body starts. -/

theorem dat_before_0 (c : Dev nD) (t : Fin cfg0.N) (d) : (dat m 0 c).before 0 t d = iblk m c 0 t :=
  before0_0_of m (dat m 0 c) (dat_A m c 0) (dat_after_0 m c) t d
theorem dat_before_1 (c : Dev nD) (t : Fin cfg0.N) (d) : (dat m 0 c).before 1 t d = iblk m c 1 t :=
  before0_1_of m (dat m 0 c) (dat_A m c 1) (dat_after_1 m c) t d
theorem dat_before_2 (c : Dev nD) (t : Fin cfg0.N) (d) : (dat m 0 c).before 2 t d = iblk m c 2 t :=
  before0_2_of m (dat m 0 c) (dat_A m c 2) (dat_after_2 m c) t d
theorem dat_before_3 (c : Dev nD) (t : Fin cfg0.N) (d) : (dat m 0 c).before 3 t d = iblk m c 3 t :=
  before0_3_of m (dat m 0 c) (dat_A m c 3) (dat_after_3 m c) t d
theorem dat_before_4 (c : Dev nD) (t : Fin cfg0.N) (d) : (dat m 0 c).before 4 t d = iblk m c 4 t :=
  before0_4_of m (dat m 0 c) (dat_A m c 4) (dat_after_4 m c) t d

/-- The body at grid point `t`, over the nine current staging buffers. -/
theorem body_at (c : Dev nD) (t : Fin cfg0.N) :
    iprop((dat m 0 c).Φ t.castSucc ∗ (dat m 0 c).owesAt () t.castSucc
      ∗ (∃ d, owns (c : Thread nD τ) (st0_0 t) fullShare ((dat m 0 c).before 0 t d))
      ∗ (∃ d, owns (c : Thread nD τ) (st0_1 t) fullShare ((dat m 0 c).before 1 t d))
      ∗ (∃ d, owns (c : Thread nD τ) (st0_2 t) fullShare ((dat m 0 c).before 2 t d))
      ∗ (∃ d, owns (c : Thread nD τ) (st0_3 t) fullShare ((dat m 0 c).before 3 t d))
      ∗ (∃ d, owns (c : Thread nD τ) (st0_4 t) fullShare ((dat m 0 c).before 4 t d))
      ∗ (∃ d, owns (c : Thread nD τ) (st0_5 t) fullShare ((dat m 0 c).before 5 t d))
      ∗ (∃ d, owns (c : Thread nD τ) (st0_6 t) fullShare ((dat m 0 c).before 6 t d))
      ∗ (∃ d, owns (c : Thread nD τ) (st0_7 t) fullShare ((dat m 0 c).before 7 t d))
      ∗ (∃ d, owns (c : Thread nD τ) (st0_8 t) fullShare ((dat m 0 c).before 8 t d)))
    ⊢ wp frame (wpE (defs₀ (F := F)) Variants.none c none) Set.univ (bodyAt0 t) fun _ =>
      iprop((dat m 0 c).Φ t.succ ∗ (dat m 0 c).owesAt () t.succ
        ∗ owns (c : Thread nD τ) (st0_0 t) fullShare ((dat m 0 c).after 0 t)
        ∗ owns (c : Thread nD τ) (st0_1 t) fullShare ((dat m 0 c).after 1 t)
        ∗ owns (c : Thread nD τ) (st0_2 t) fullShare ((dat m 0 c).after 2 t)
        ∗ owns (c : Thread nD τ) (st0_3 t) fullShare ((dat m 0 c).after 3 t)
        ∗ owns (c : Thread nD τ) (st0_4 t) fullShare ((dat m 0 c).after 4 t)
        ∗ owns (c : Thread nD τ) (st0_5 t) fullShare ((dat m 0 c).after 5 t)
        ∗ owns (c : Thread nD τ) (st0_6 t) fullShare ((dat m 0 c).after 6 t)
        ∗ owns (c : Thread nD τ) (st0_7 t) fullShare ((dat m 0 c).after 7 t)
        ∗ owns (c : Thread nD τ) (st0_8 t) fullShare ((dat m 0 c).after 8 t)) := by
  unfold bodyAt0
  simp only [dat_before_0, dat_before_1, dat_before_2, dat_before_3, dat_before_4]
  rw [show (dat m 0 c).Φ t.succ = (dat m 0 c).Φ t.castSucc from rfl,
    show (dat m 0 c).owesAt () t.succ = (dat m 0 c).owesAt () t.castSucc from rfl,
    dat_after_0, dat_after_1, dat_after_2, dat_after_3, dat_after_4, dat_after_5, dat_after_6, dat_after_7, dat_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun c Set.univ (grid0.coords t) _ _ _ _ _ _ _ _ _ _ _ _ _ _ _ _ _ _ (blkAt m c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline's table names at point `t` is the printed one on the current staging buffers. -/
theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, body_row]
  exact triple_restated (body_at m c t) rfl .rfl fun _ => .rfl

/-! ## The launch -/

-- the theorem's implicit arguments are found by unifying its conclusion with the statement
set_option backward.isDefEq.respectTransparency.types false in
set_option maxHeartbeats 800000 in
/-- Every weakly fair execution of the host program ends with the arrays as the proof data say, the other buffers as the
    host lines after the region leave them, and every semaphore counter at zero. -/
theorem run_main : θ_run defs (onTc (τ := τ) (main (F := F))) (s₀ m ρ) (fun r =>
    Pipeline.FramePost cfgs (dat m) 0 (Pipeline.afterTail₀ cfgs (dat m) 0 (V0 m) [hostOps1]) r ∧ r.2.sem = fun _ => 0) :=
  Pipeline.θ_run_frame_around (Q' := _) cfgs (dat m) (0 : Fin 1) launch0 defs₀ Variants.none m ρ main
    (hbody := fun c => (obligation m c).loose) (hshare := fun c => (dat m 0 c).share_full fun _ => rfl)
    (howed := fun _ _ => rfl) (V₀ := V0 m) (opss := [hostOps1]) (hsub := sfx_sub) (hfresh := sfx_fresh) (hkeep := sfx_keeps)
    (hmain := hmain m Variants.none) (hA := dat_A m) (hΦ := fun _ _ => rfl)

/-- The frame: every argument array ends unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dat m) (dat_A m) ((θ_run defs _ _).mono (fun _ h => h.1) (run_main m ρ)))
    ((θ_run defs _ _).mono (fun _ h => h.2) (run_main m ρ))

end Cert.Proof.Body

end
-- ==== Proof.RefLine.lean ====
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! A straight line of host operations in which the n-th operation writes buffer `first + n` only: then the contents
after the whole line of the buffer an operation writes are that operation's function of the final contents of its
operands, provided its operands are written before it. -/

/-- The index of a buffer in its table. -/
def rank (b : DevRef τ sig) : ℕ := b.idx.val

/-- The operations write one buffer each, of consecutive indices from `n`. -/
inductive Ordered : ℕ → List (HloOp τ sig (Elt F)) → Prop
  | nil (n : ℕ) : Ordered n []
  | cons (n : ℕ) (op : HloOp τ sig (Elt F)) (L : List (HloOp τ sig (Elt F))) (h : ∀ b ∈ op.writes, rank b = n)
      (hL : Ordered (n + 1) L) : Ordered n (op :: L)

theorem Ordered.one {n : ℕ} {op : HloOp τ sig (Elt F)} {L : List (HloOp τ sig (Elt F))} (b : DevRef τ sig)
    (h : op.writes = {b}) (hb : rank b = n) (hL : Ordered (n + 1) L) : Ordered n (op :: L) :=
  .cons n op L (fun c hc => by rw [h, Finset.mem_singleton] at hc; rw [hc]; exact hb) hL

theorem Ordered.append {n : ℕ} {L L' : List (HloOp τ sig (Elt F))} (h : Ordered n L) :
    Ordered (n + L.length) L' → Ordered n (L ++ L') := by
  induction h with
  | nil n => exact fun h' => h'
  | cons n op L hw _ ih => exact fun h' => .cons n op _ hw (ih (by rw [List.length_cons] at h'; rwa [Nat.add_right_comm, Nat.add_assoc]))

theorem Ordered.keep {n : ℕ} {L : List (HloOp τ sig (Elt F))} (h : Ordered n L) {b : DevRef τ sig} (hb : rank b < n)
    (V : Valuation τ sig (Elt F)) : after L V b = V b := by
  induction h generalizing V with
  | nil n => rfl
  | cons n op L hw _ ih =>
    rw [after_cons, ih (by omega), op.result_of_not_mem V (fun hm => by have := hw b hm; omega)]

/-- The contents before the k-th operation, at a buffer written before it, are the final ones; so are those after it
at the buffer it writes. -/
theorem Ordered.split {n : ℕ} {L : List (HloOp τ sig (Elt F))} (h : Ordered n L) (V : Valuation τ sig (Elt F))
    (k : ℕ) (op : HloOp τ sig (Elt F)) (hk : L[k]? = some op) :
    ∃ W : Valuation τ sig (Elt F), (∀ b, rank b < n + k → after L V b = W b) ∧
      (∀ b, rank b < n + k + 1 → after L V b = op.result W b) := by
  induction h generalizing V k with
  | nil n => simp at hk
  | cons n op' L hw hL ih =>
    cases k with
    | zero =>
      rw [List.getElem?_cons_zero, Option.some.injEq] at hk
      subst hk
      refine ⟨V, fun b hb => (Ordered.cons n op' L hw hL).keep (by omega) V, fun b hb => ?_⟩
      rw [after_cons]; exact hL.keep (by omega) _
    | succ k =>
      rw [List.getElem?_cons_succ] at hk
      obtain ⟨W, h1, h2⟩ := ih (op'.result V) k hk
      exact ⟨W, fun b hb => h1 b (by omega), fun b hb => h2 b (by omega)⟩

end Cert.Proof.Ref

end
-- ==== Proof.RefOps.lean ====
module

public import proofs.«01_k».proof.Proof.RefLine

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! The reference program as one list of host operations, its calls written out, and its run. -/

/-- The operations of part 0 of the program. -/
abbrev ops0 : List (HloOp τ sig (Elt F)) := [
  nullary main_cst (constant S_ .f32 0x3F000000#32),
  unary main_cst main_v0 (broadcastInDim S8400x2 ![] bcast_S_S8400x2 : (⟨S_, .f32⟩ : BufTy).Contents (Elt F) → (⟨S8400x2, .f32⟩ : BufTy).Contents (Elt F)),
  binary main_arg2 main_v0 main_v1 (subf : (⟨S8400x2, .f32⟩ : BufTy).Contents (Elt F) → (⟨S8400x2, .f32⟩ : BufTy).Contents (Elt F) → (⟨S8400x2, .f32⟩ : BufTy).Contents (Elt F)),
  nullary main_cst_0 (constant S_ .f32 0x3F000000#32),
  unary main_cst_0 main_v2 (broadcastInDim S8400x2 ![] bcast_S_S8400x2 : (⟨S_, .f32⟩ : BufTy).Contents (Elt F) → (⟨S8400x2, .f32⟩ : BufTy).Contents (Elt F)),
  binary main_arg2 main_v2 main_v3 (addf : (⟨S8400x2, .f32⟩ : BufTy).Contents (Elt F) → (⟨S8400x2, .f32⟩ : BufTy).Contents (Elt F) → (⟨S8400x2, .f32⟩ : BufTy).Contents (Elt F)),
  binary main_v1 main_v3 main_v4 ((fun a b => concatenate S8400x4 1 [⟨S8400x2, a⟩, ⟨S8400x2, b⟩] concatenates_S8400x2_S8400x2_S8400x4_d1) : (⟨S8400x2, .f32⟩ : BufTy).Contents (Elt F) → (⟨S8400x2, .f32⟩ : BufTy).Contents (Elt F) → (⟨S8400x4, .f32⟩ : BufTy).Contents (Elt F)),
  unary main_arg4 main_v5 (broadcastInDim S16x32x1x4 ![0, 1, 3] bcast_S16x32x4_S16x32x1x4_0_1_3 : (⟨S16x32x4, .f32⟩ : BufTy).Contents (Elt F) → (⟨S16x32x1x4, .f32⟩ : BufTy).Contents (Elt F)),
  unary main_v4 main_v6 (broadcastInDim S1x1x8400x4 ![2, 3] bcast_S8400x4_S1x1x8400x4_2_3 : (⟨S8400x4, .f32⟩ : BufTy).Contents (Elt F) → (⟨S1x1x8400x4, .f32⟩ : BufTy).Contents (Elt F)),
  unary main_v5 main_v7 ((extractStridedSlice S16x32x1x1 ![0, 0, 0, 0] · slices_S16x32x1x4_S16x32x1x1_0_0_0_0) : (⟨S16x32x1x4, .f32⟩ : BufTy).Contents (Elt F) → (⟨S16x32x1x1, .f32⟩ : BufTy).Contents (Elt F)),
  unary main_v5 main_v8 ((extractStridedSlice S16x32x1x1 ![0, 0, 0, 1] · slices_S16x32x1x4_S16x32x1x1_0_0_0_1) : (⟨S16x32x1x4, .f32⟩ : BufTy).Contents (Elt F) → (⟨S16x32x1x1, .f32⟩ : BufTy).Contents (Elt F)),
  unary main_v5 main_v9 ((extractStridedSlice S16x32x1x1 ![0, 0, 0, 2] · slices_S16x32x1x4_S16x32x1x1_0_0_0_2) : (⟨S16x32x1x4, .f32⟩ : BufTy).Contents (Elt F) → (⟨S16x32x1x1, .f32⟩ : BufTy).Contents (Elt F)),
  unary main_v5 main_v10 ((extractStridedSlice S16x32x1x1 ![0, 0, 0, 3] · slices_S16x32x1x4_S16x32x1x1_0_0_0_3) : (⟨S16x32x1x4, .f32⟩ : BufTy).Contents (Elt F) → (⟨S16x32x1x1, .f32⟩ : BufTy).Contents (Elt F)),
  unary main_v6 main_v11 ((extractStridedSlice S1x1x8400x1 ![0, 0, 0, 0] · slices_S1x1x8400x4_S1x1x8400x1_0_0_0_0) : (⟨S1x1x8400x4, .f32⟩ : BufTy).Contents (Elt F) → (⟨S1x1x8400x1, .f32⟩ : BufTy).Contents (Elt F)),
  unary main_v6 main_v12 ((extractStridedSlice S1x1x8400x1 ![0, 0, 0, 1] · slices_S1x1x8400x4_S1x1x8400x1_0_0_0_1) : (⟨S1x1x8400x4, .f32⟩ : BufTy).Contents (Elt F) → (⟨S1x1x8400x1, .f32⟩ : BufTy).Contents (Elt F)),
  unary main_v6 main_v13 ((extractStridedSlice S1x1x8400x1 ![0, 0, 0, 2] · slices_S1x1x8400x4_S1x1x8400x1_0_0_0_2) : (⟨S1x1x8400x4, .f32⟩ : BufTy).Contents (Elt F) → (⟨S1x1x8400x1, .f32⟩ : BufTy).Contents (Elt F)),
  unary main_v6 main_v14 ((extractStridedSlice S1x1x8400x1 ![0, 0, 0, 3] · slices_S1x1x8400x4_S1x1x8400x1_0_0_0_3) : (⟨S1x1x8400x4, .f32⟩ : BufTy).Contents (Elt F) → (⟨S1x1x8400x1, .f32⟩ : BufTy).Contents (Elt F)),
  unary main_v9 main_v15 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v13 main_v16 (broadcastInDim S16x32x8400x1 ![0, 1, 2, 3] bcast_S1x1x8400x1_S16x32x8400x1_0_1_2_3 : (⟨S1x1x8400x1, .f32⟩ : BufTy).Contents (Elt F) → (⟨S16x32x8400x1, .f32⟩ : BufTy).Contents (Elt F)),
  binary main_v15 main_v16 main_v17 (minimumf : (⟨S16x32x8400x1, .f32⟩ : BufTy).Contents (Elt F) → (⟨S16x32x8400x1, .f32⟩ : BufTy).Contents (Elt F) → (⟨S16x32x8400x1, .f32⟩ : BufTy).Contents (Elt F)),
  unary main_v7 main_v18 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v11 main_v19 (broadcastInDim S16x32x8400x1 ![0, 1, 2, 3] bcast_S1x1x8400x1_S16x32x8400x1_0_1_2_3 : (⟨S1x1x8400x1, .f32⟩ : BufTy).Contents (Elt F) → (⟨S16x32x8400x1, .f32⟩ : BufTy).Contents (Elt F)),
  binary main_v18 main_v19 main_v20 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v17 main_v20 main_v21 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_1 (constant S_ .f32 0x00000000#32),
  unary main_cst_1 main_call0_v0 (id : (⟨S_, .f32⟩ : BufTy).Contents (Elt F) → (⟨S_, .f32⟩ : BufTy).Contents (Elt F)),
  unary main_call0_v0 main_call0_v1 (broadcastInDim S16x32x8400x1 ![] bcast_S_S16x32x8400x1 : (⟨S_, .f32⟩ : BufTy).Contents (Elt F) → (⟨S16x32x8400x1, .f32⟩ : BufTy).Contents (Elt F)),
  binary main_call0_v1 main_v21 main_v22 (maximumf : (⟨S16x32x8400x1, .f32⟩ : BufTy).Contents (Elt F) → (⟨S16x32x8400x1, .f32⟩ : BufTy).Contents (Elt F) → (⟨S16x32x8400x1, .f32⟩ : BufTy).Contents (Elt F)),
  unary main_v10 main_v23 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v14 main_v24 (broadcastInDim S16x32x8400x1 ![0, 1, 2, 3] bcast_S1x1x8400x1_S16x32x8400x1_0_1_2_3 : (⟨S1x1x8400x1, .f32⟩ : BufTy).Contents (Elt F) → (⟨S16x32x8400x1, .f32⟩ : BufTy).Contents (Elt F)),
  binary main_v23 main_v24 main_v25 (minimumf : (⟨S16x32x8400x1, .f32⟩ : BufTy).Contents (Elt F) → (⟨S16x32x8400x1, .f32⟩ : BufTy).Contents (Elt F) → (⟨S16x32x8400x1, .f32⟩ : BufTy).Contents (Elt F)),
  unary main_v8 main_v26 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v12 main_v27 (broadcastInDim S16x32x8400x1 ![0, 1, 2, 3] bcast_S1x1x8400x1_S16x32x8400x1_0_1_2_3 : (⟨S1x1x8400x1, .f32⟩ : BufTy).Contents (Elt F) → (⟨S16x32x8400x1, .f32⟩ : BufTy).Contents (Elt F)),
  binary main_v26 main_v27 main_v28 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v25 main_v28 main_v29 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_2 (constant S_ .f32 0x00000000#32),
  unary main_cst_2 main_call1_v0 (id : (⟨S_, .f32⟩ : BufTy).Contents (Elt F) → (⟨S_, .f32⟩ : BufTy).Contents (Elt F)),
  unary main_call1_v0 main_call1_v1 (broadcastInDim S16x32x8400x1 ![] bcast_S_S16x32x8400x1 : (⟨S_, .f32⟩ : BufTy).Contents (Elt F) → (⟨S16x32x8400x1, .f32⟩ : BufTy).Contents (Elt F)),
  binary main_call1_v1 main_v29 main_v30 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v22 main_v30 main_v31 (mulf : (⟨S16x32x8400x1, .f32⟩ : BufTy).Contents (Elt F) → (⟨S16x32x8400x1, .f32⟩ : BufTy).Contents (Elt F) → (⟨S16x32x8400x1, .f32⟩ : BufTy).Contents (Elt F)),
  binary main_v9 main_v7 main_v32 (subf : (⟨S16x32x1x1, .f32⟩ : BufTy).Contents (Elt F) → (⟨S16x32x1x1, .f32⟩ : BufTy).Contents (Elt F) → (⟨S16x32x1x1, .f32⟩ : BufTy).Contents (Elt F)),
  binary main_v10 main_v8 main_v33 (subf : (⟨S16x32x1x1, .f32⟩ : BufTy).Contents (Elt F) → (⟨S16x32x1x1, .f32⟩ : BufTy).Contents (Elt F) → (⟨S16x32x1x1, .f32⟩ : BufTy).Contents (Elt F)),
  binary main_v32 main_v33 main_v34 (mulf : (⟨S16x32x1x1, .f32⟩ : BufTy).Contents (Elt F) → (⟨S16x32x1x1, .f32⟩ : BufTy).Contents (Elt F) → (⟨S16x32x1x1, .f32⟩ : BufTy).Contents (Elt F)),
  binary main_v13 main_v11 main_v35 (subf : (⟨S1x1x8400x1, .f32⟩ : BufTy).Contents (Elt F) → (⟨S1x1x8400x1, .f32⟩ : BufTy).Contents (Elt F) → (⟨S1x1x8400x1, .f32⟩ : BufTy).Contents (Elt F)),
  binary main_v14 main_v12 main_v36 (subf : (⟨S1x1x8400x1, .f32⟩ : BufTy).Contents (Elt F) → (⟨S1x1x8400x1, .f32⟩ : BufTy).Contents (Elt F) → (⟨S1x1x8400x1, .f32⟩ : BufTy).Contents (Elt F)),
  binary main_v35 main_v36 main_v37 (mulf : (⟨S1x1x8400x1, .f32⟩ : BufTy).Contents (Elt F) → (⟨S1x1x8400x1, .f32⟩ : BufTy).Contents (Elt F) → (⟨S1x1x8400x1, .f32⟩ : BufTy).Contents (Elt F)),
  unary main_v34 main_v38 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v37 main_v39 (broadcastInDim S16x32x8400x1 ![0, 1, 2, 3] bcast_S1x1x8400x1_S16x32x8400x1_0_1_2_3 : (⟨S1x1x8400x1, .f32⟩ : BufTy).Contents (Elt F) → (⟨S16x32x8400x1, .f32⟩ : BufTy).Contents (Elt F)),
  binary main_v38 main_v39 main_v40 (addf : (⟨S16x32x8400x1, .f32⟩ : BufTy).Contents (Elt F) → (⟨S16x32x8400x1, .f32⟩ : BufTy).Contents (Elt F) → (⟨S16x32x8400x1, .f32⟩ : BufTy).Contents (Elt F)),
  binary main_v40 main_v31 main_v41 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_3 (constant S_ .f32 0x33D6BF95#32),
  unary main_cst_3 main_v42 (broadcastInDim S16x32x8400x1 ![] bcast_S_S16x32x8400x1 : (⟨S_, .f32⟩ : BufTy).Contents (Elt F) → (⟨S16x32x8400x1, .f32⟩ : BufTy).Contents (Elt F)),
  binary main_v41 main_v42 main_v43 (addf : (⟨S16x32x8400x1, .f32⟩ : BufTy).Contents (Elt F) → (⟨S16x32x8400x1, .f32⟩ : BufTy).Contents (Elt F) → (⟨S16x32x8400x1, .f32⟩ : BufTy).Contents (Elt F)),
  binary main_v31 main_v43 main_v44 (Host.divf : (⟨S16x32x8400x1, .f32⟩ : BufTy).Contents (Elt F) → (⟨S16x32x8400x1, .f32⟩ : BufTy).Contents (Elt F) → (⟨S16x32x8400x1, .f32⟩ : BufTy).Contents (Elt F)),
  reshape main_v44 main_v45 (rfl : (.f32 : EltTy) = .f32) shapeCasts_S16x32x8400x1_S16x32x8400,
  unary main_arg4 main_v46 ((extractStridedSlice S16x32x2 ![0, 0, 0] · slices_S16x32x4_S16x32x2_0_0_0) : (⟨S16x32x4, .f32⟩ : BufTy).Contents (Elt F) → (⟨S16x32x2, .f32⟩ : BufTy).Contents (Elt F)),
  unary main_arg4 main_v47 ((extractStridedSlice S16x32x2 ![0, 0, 2] · slices_S16x32x4_S16x32x2_0_0_2) : (⟨S16x32x4, .f32⟩ : BufTy).Contents (Elt F) → (⟨S16x32x2, .f32⟩ : BufTy).Contents (Elt F)),
  binary main_v46 main_v47 main_v48 (addf : (⟨S16x32x2, .f32⟩ : BufTy).Contents (Elt F) → (⟨S16x32x2, .f32⟩ : BufTy).Contents (Elt F) → (⟨S16x32x2, .f32⟩ : BufTy).Contents (Elt F)),
  nullary main_cst_4 (constant S_ .f32 0x40000000#32),
  unary main_cst_4 main_v49 (broadcastInDim S16x32x2 ![] bcast_S_S16x32x2 : (⟨S_, .f32⟩ : BufTy).Contents (Elt F) → (⟨S16x32x2, .f32⟩ : BufTy).Contents (Elt F)),
  binary main_v48 main_v49 main_v50 (Host.divf : (⟨S16x32x2, .f32⟩ : BufTy).Contents (Elt F) → (⟨S16x32x2, .f32⟩ : BufTy).Contents (Elt F) → (⟨S16x32x2, .f32⟩ : BufTy).Contents (Elt F)),
  unary main_v50 main_v51 (broadcastInDim S16x32x1x2 ![0, 1, 3] bcast_S16x32x2_S16x32x1x2_0_1_3 : (⟨S16x32x2, .f32⟩ : BufTy).Contents (Elt F) → (⟨S16x32x1x2, .f32⟩ : BufTy).Contents (Elt F)),
  unary main_arg2 main_v52 (broadcastInDim S1x1x8400x2 ![2, 3] bcast_S8400x2_S1x1x8400x2_2_3 : (⟨S8400x2, .f32⟩ : BufTy).Contents (Elt F) → (⟨S1x1x8400x2, .f32⟩ : BufTy).Contents (Elt F)),
  unary main_v51 main_v53 (broadcastInDim S16x32x8400x2 ![0, 1, 2, 3] bcast_S16x32x1x2_S16x32x8400x2_0_1_2_3 : (⟨S16x32x1x2, .f32⟩ : BufTy).Contents (Elt F) → (⟨S16x32x8400x2, .f32⟩ : BufTy).Contents (Elt F))]

/-- The operations of part 1 of the program. -/
abbrev ops1 : List (HloOp τ sig (Elt F)) := [
  unary main_v52 main_v54 (broadcastInDim S16x32x8400x2 ![0, 1, 2, 3] bcast_S1x1x8400x2_S16x32x8400x2_0_1_2_3 : (⟨S1x1x8400x2, .f32⟩ : BufTy).Contents (Elt F) → (⟨S16x32x8400x2, .f32⟩ : BufTy).Contents (Elt F)),
  binary main_v53 main_v54 main_v55 (subf : (⟨S16x32x8400x2, .f32⟩ : BufTy).Contents (Elt F) → (⟨S16x32x8400x2, .f32⟩ : BufTy).Contents (Elt F) → (⟨S16x32x8400x2, .f32⟩ : BufTy).Contents (Elt F)),
  binary main_v55 main_v55 main_v56 (mulf : (⟨S16x32x8400x2, .f32⟩ : BufTy).Contents (Elt F) → (⟨S16x32x8400x2, .f32⟩ : BufTy).Contents (Elt F) → (⟨S16x32x8400x2, .f32⟩ : BufTy).Contents (Elt F)),
  nullary main_cst_5 (constant S_ .f32 0x00000000#32),
  binary main_v56 main_cst_5 main_v57 ((fun x v => Host.reduceAdd x v reducesTo_S16x32x8400x2_S16x32x8400_d3 h_S_) : (⟨S16x32x8400x2, .f32⟩ : BufTy).Contents (Elt F) → (⟨S_, .f32⟩ : BufTy).Contents (Elt F) → (⟨S16x32x8400, .f32⟩ : BufTy).Contents (Elt F)),
  unary main_v57 main_v58 (Host.sqrt : (⟨S16x32x8400, .f32⟩ : BufTy).Contents (Elt F) → (⟨S16x32x8400, .f32⟩ : BufTy).Contents (Elt F)),
  nullary main_cst_6 (constant S_ .f32 0x00000000#32),
  unary main_cst_6 main_v59 (broadcastInDim S16x32x1 ![] bcast_S_S16x32x1 : (⟨S_, .f32⟩ : BufTy).Contents (Elt F) → (⟨S16x32x1, .f32⟩ : BufTy).Contents (Elt F)),
  binary main_arg5 main_v59 main_v60 (cmpf .ogt : (⟨S16x32x1, .f32⟩ : BufTy).Contents (Elt F) → (⟨S16x32x1, .f32⟩ : BufTy).Contents (Elt F) → (⟨S16x32x1, .i1⟩ : BufTy).Contents (Elt F)),
  unary main_v58 main_v61 ((extractStridedSlice S16x32x2800 ![0, 0, 0] · slices_S16x32x8400_S16x32x2800_0_0_0) : (⟨S16x32x8400, .f32⟩ : BufTy).Contents (Elt F) → (⟨S16x32x2800, .f32⟩ : BufTy).Contents (Elt F)),
  unary main_v61 main_v62 (Host.negf : (⟨S16x32x2800, .f32⟩ : BufTy).Contents (Elt F) → (⟨S16x32x2800, .f32⟩ : BufTy).Contents (Elt F)),
  unary main_v62 main_values ((fun x => (Host.topK S16x32x9 2 (FloatOps.cmpfTotal .gt) x sliceFits_S16x32x2800_S16x32x9).1) : (⟨S16x32x2800, .f32⟩ : BufTy).Contents (Elt F) → (⟨S16x32x9, .f32⟩ : BufTy).Contents (Elt F)),
  unary main_v62 main_indices ((fun x => (Host.topK S16x32x9 2 (FloatOps.cmpfTotal .gt) x sliceFits_S16x32x2800_S16x32x9).2) : (⟨S16x32x2800, .f32⟩ : BufTy).Contents (Elt F) → (⟨S16x32x9, .i32⟩ : BufTy).Contents (Elt F)),
  nullary main_c (constantI S_ 32 0#32),
  unary main_c main_v63 (broadcastInDim S16x32x9 ![] bcast_S_S16x32x9 : (⟨S_, .i32⟩ : BufTy).Contents (Elt F) → (⟨S16x32x9, .i32⟩ : BufTy).Contents (Elt F)),
  binary main_indices main_v63 main_v64 (addi : (⟨S16x32x9, .i32⟩ : BufTy).Contents (Elt F) → (⟨S16x32x9, .i32⟩ : BufTy).Contents (Elt F) → (⟨S16x32x9, .i32⟩ : BufTy).Contents (Elt F)),
  nullary main_c_7 (constantI S_ 32 0#32),
  unary main_c_7 main_call2_v0 (id : (⟨S_, .i32⟩ : BufTy).Contents (Elt F) → (⟨S_, .i32⟩ : BufTy).Contents (Elt F)),
  unary main_v60 main_call2_v1 (broadcastInDim S16x32x9 ![0, 1, 2] bcast_S16x32x1_S16x32x9_0_1_2 : (⟨S16x32x1, .i1⟩ : BufTy).Contents (Elt F) → (⟨S16x32x9, .i1⟩ : BufTy).Contents (Elt F)),
  unary main_call2_v0 main_call2_v2 (broadcastInDim S16x32x9 ![] bcast_S_S16x32x9 : (⟨S_, .i32⟩ : BufTy).Contents (Elt F) → (⟨S16x32x9, .i32⟩ : BufTy).Contents (Elt F)),
  ternary main_call2_v1 main_indices main_call2_v2 main_v65 (select : (⟨S16x32x9, .i1⟩ : BufTy).Contents (Elt F) → (⟨S16x32x9, .i32⟩ : BufTy).Contents (Elt F) → (⟨S16x32x9, .i32⟩ : BufTy).Contents (Elt F) → (⟨S16x32x9, .i32⟩ : BufTy).Contents (Elt F)),
  unary main_v65 main_call3_v0 (broadcastInDim S16x32x9x1 ![0, 1, 2] bcast_S16x32x9_S16x32x9x1_0_1_2 : (⟨S16x32x9, .i32⟩ : BufTy).Contents (Elt F) → (⟨S16x32x9x1, .i32⟩ : BufTy).Contents (Elt F)),
  nullary main_call3_v1 (iotaInDim S1x1x1x2800 32 3 : (⟨S1x1x1x2800, .i32⟩ : BufTy).Contents (Elt F)),
  unary main_call3_v0 main_call3_v2 (broadcastInDim S16x32x9x2800 ![0, 1, 2, 3] bcast_S16x32x9x1_S16x32x9x2800_0_1_2_3 : (⟨S16x32x9x1, .i32⟩ : BufTy).Contents (Elt F) → (⟨S16x32x9x2800, .i32⟩ : BufTy).Contents (Elt F)),
  unary main_call3_v1 main_call3_v3 (broadcastInDim S16x32x9x2800 ![0, 1, 2, 3] bcast_S1x1x1x2800_S16x32x9x2800_0_1_2_3 : (⟨S1x1x1x2800, .i32⟩ : BufTy).Contents (Elt F) → (⟨S16x32x9x2800, .i32⟩ : BufTy).Contents (Elt F)),
  binary main_call3_v2 main_call3_v3 main_call3_v4 (cmpi .eq : (⟨S16x32x9x2800, .i32⟩ : BufTy).Contents (Elt F) → (⟨S16x32x9x2800, .i32⟩ : BufTy).Contents (Elt F) → (⟨S16x32x9x2800, .i1⟩ : BufTy).Contents (Elt F)),
  unary main_call3_v4 main_v66 (uitofp .f32 : (⟨S16x32x9x2800, .i1⟩ : BufTy).Contents (Elt F) → (⟨S16x32x9x2800, .f32⟩ : BufTy).Contents (Elt F)),
  nullary main_cst_8 (constant S_ .f32 0x00000000#32),
  binary main_v66 main_cst_8 main_v67 ((fun x v => Host.reduceAdd x v reducesTo_S16x32x9x2800_S16x32x2800_d2 h_S_) : (⟨S16x32x9x2800, .f32⟩ : BufTy).Contents (Elt F) → (⟨S_, .f32⟩ : BufTy).Contents (Elt F) → (⟨S16x32x2800, .f32⟩ : BufTy).Contents (Elt F)),
  nullary main_cst_9 (constant S_ .f32 0x3F800000#32),
  unary main_cst_9 main_v68 (broadcastInDim S16x32x2800 ![] bcast_S_S16x32x2800 : (⟨S_, .f32⟩ : BufTy).Contents (Elt F) → (⟨S16x32x2800, .f32⟩ : BufTy).Contents (Elt F)),
  binary main_v67 main_v68 main_v69 (cmpf .ogt : (⟨S16x32x2800, .f32⟩ : BufTy).Contents (Elt F) → (⟨S16x32x2800, .f32⟩ : BufTy).Contents (Elt F) → (⟨S16x32x2800, .i1⟩ : BufTy).Contents (Elt F)),
  nullary main_cst_10 (constant S_ .f32 0x00000000#32),
  unary main_cst_10 main_v70 (broadcastInDim S16x32x2800 ![] bcast_S_S16x32x2800 : (⟨S_, .f32⟩ : BufTy).Contents (Elt F) → (⟨S16x32x2800, .f32⟩ : BufTy).Contents (Elt F)),
  ternary main_v69 main_v70 main_v67 main_v71 (select : (⟨S16x32x2800, .i1⟩ : BufTy).Contents (Elt F) → (⟨S16x32x2800, .f32⟩ : BufTy).Contents (Elt F) → (⟨S16x32x2800, .f32⟩ : BufTy).Contents (Elt F) → (⟨S16x32x2800, .f32⟩ : BufTy).Contents (Elt F)),
  unary main_v58 main_v72 ((extractStridedSlice S16x32x2800 ![0, 0, 2800] · slices_S16x32x8400_S16x32x2800_0_0_2800) : (⟨S16x32x8400, .f32⟩ : BufTy).Contents (Elt F) → (⟨S16x32x2800, .f32⟩ : BufTy).Contents (Elt F)),
  unary main_v72 main_v73 (Host.negf : (⟨S16x32x2800, .f32⟩ : BufTy).Contents (Elt F) → (⟨S16x32x2800, .f32⟩ : BufTy).Contents (Elt F)),
  unary main_v73 main_values_11 ((fun x => (Host.topK S16x32x9 2 (FloatOps.cmpfTotal .gt) x sliceFits_S16x32x2800_S16x32x9).1) : (⟨S16x32x2800, .f32⟩ : BufTy).Contents (Elt F) → (⟨S16x32x9, .f32⟩ : BufTy).Contents (Elt F)),
  unary main_v73 main_indices_12 ((fun x => (Host.topK S16x32x9 2 (FloatOps.cmpfTotal .gt) x sliceFits_S16x32x2800_S16x32x9).2) : (⟨S16x32x2800, .f32⟩ : BufTy).Contents (Elt F) → (⟨S16x32x9, .i32⟩ : BufTy).Contents (Elt F)),
  nullary main_c_13 (constantI S_ 32 2800#32),
  unary main_c_13 main_v74 (broadcastInDim S16x32x9 ![] bcast_S_S16x32x9 : (⟨S_, .i32⟩ : BufTy).Contents (Elt F) → (⟨S16x32x9, .i32⟩ : BufTy).Contents (Elt F)),
  binary main_indices_12 main_v74 main_v75 (addi : (⟨S16x32x9, .i32⟩ : BufTy).Contents (Elt F) → (⟨S16x32x9, .i32⟩ : BufTy).Contents (Elt F) → (⟨S16x32x9, .i32⟩ : BufTy).Contents (Elt F)),
  nullary main_c_14 (constantI S_ 32 0#32),
  unary main_c_14 main_call5_v0 (id : (⟨S_, .i32⟩ : BufTy).Contents (Elt F) → (⟨S_, .i32⟩ : BufTy).Contents (Elt F)),
  unary main_v60 main_call5_v1 (broadcastInDim S16x32x9 ![0, 1, 2] bcast_S16x32x1_S16x32x9_0_1_2 : (⟨S16x32x1, .i1⟩ : BufTy).Contents (Elt F) → (⟨S16x32x9, .i1⟩ : BufTy).Contents (Elt F)),
  unary main_call5_v0 main_call5_v2 (broadcastInDim S16x32x9 ![] bcast_S_S16x32x9 : (⟨S_, .i32⟩ : BufTy).Contents (Elt F) → (⟨S16x32x9, .i32⟩ : BufTy).Contents (Elt F)),
  ternary main_call5_v1 main_indices_12 main_call5_v2 main_v76 (select : (⟨S16x32x9, .i1⟩ : BufTy).Contents (Elt F) → (⟨S16x32x9, .i32⟩ : BufTy).Contents (Elt F) → (⟨S16x32x9, .i32⟩ : BufTy).Contents (Elt F) → (⟨S16x32x9, .i32⟩ : BufTy).Contents (Elt F)),
  unary main_v76 main_call6_v0 (broadcastInDim S16x32x9x1 ![0, 1, 2] bcast_S16x32x9_S16x32x9x1_0_1_2 : (⟨S16x32x9, .i32⟩ : BufTy).Contents (Elt F) → (⟨S16x32x9x1, .i32⟩ : BufTy).Contents (Elt F)),
  nullary main_call6_v1 (iotaInDim S1x1x1x2800 32 3 : (⟨S1x1x1x2800, .i32⟩ : BufTy).Contents (Elt F)),
  unary main_call6_v0 main_call6_v2 (broadcastInDim S16x32x9x2800 ![0, 1, 2, 3] bcast_S16x32x9x1_S16x32x9x2800_0_1_2_3 : (⟨S16x32x9x1, .i32⟩ : BufTy).Contents (Elt F) → (⟨S16x32x9x2800, .i32⟩ : BufTy).Contents (Elt F)),
  unary main_call6_v1 main_call6_v3 (broadcastInDim S16x32x9x2800 ![0, 1, 2, 3] bcast_S1x1x1x2800_S16x32x9x2800_0_1_2_3 : (⟨S1x1x1x2800, .i32⟩ : BufTy).Contents (Elt F) → (⟨S16x32x9x2800, .i32⟩ : BufTy).Contents (Elt F)),
  binary main_call6_v2 main_call6_v3 main_call6_v4 (cmpi .eq : (⟨S16x32x9x2800, .i32⟩ : BufTy).Contents (Elt F) → (⟨S16x32x9x2800, .i32⟩ : BufTy).Contents (Elt F) → (⟨S16x32x9x2800, .i1⟩ : BufTy).Contents (Elt F)),
  unary main_call6_v4 main_v77 (uitofp .f32 : (⟨S16x32x9x2800, .i1⟩ : BufTy).Contents (Elt F) → (⟨S16x32x9x2800, .f32⟩ : BufTy).Contents (Elt F)),
  nullary main_cst_15 (constant S_ .f32 0x00000000#32),
  binary main_v77 main_cst_15 main_v78 ((fun x v => Host.reduceAdd x v reducesTo_S16x32x9x2800_S16x32x2800_d2 h_S_) : (⟨S16x32x9x2800, .f32⟩ : BufTy).Contents (Elt F) → (⟨S_, .f32⟩ : BufTy).Contents (Elt F) → (⟨S16x32x2800, .f32⟩ : BufTy).Contents (Elt F)),
  nullary main_cst_16 (constant S_ .f32 0x3F800000#32),
  unary main_cst_16 main_v79 (broadcastInDim S16x32x2800 ![] bcast_S_S16x32x2800 : (⟨S_, .f32⟩ : BufTy).Contents (Elt F) → (⟨S16x32x2800, .f32⟩ : BufTy).Contents (Elt F)),
  binary main_v78 main_v79 main_v80 (cmpf .ogt : (⟨S16x32x2800, .f32⟩ : BufTy).Contents (Elt F) → (⟨S16x32x2800, .f32⟩ : BufTy).Contents (Elt F) → (⟨S16x32x2800, .i1⟩ : BufTy).Contents (Elt F)),
  nullary main_cst_17 (constant S_ .f32 0x00000000#32),
  unary main_cst_17 main_v81 (broadcastInDim S16x32x2800 ![] bcast_S_S16x32x2800 : (⟨S_, .f32⟩ : BufTy).Contents (Elt F) → (⟨S16x32x2800, .f32⟩ : BufTy).Contents (Elt F)),
  ternary main_v80 main_v81 main_v78 main_v82 (select : (⟨S16x32x2800, .i1⟩ : BufTy).Contents (Elt F) → (⟨S16x32x2800, .f32⟩ : BufTy).Contents (Elt F) → (⟨S16x32x2800, .f32⟩ : BufTy).Contents (Elt F) → (⟨S16x32x2800, .f32⟩ : BufTy).Contents (Elt F)),
  unary main_v58 main_v83 ((extractStridedSlice S16x32x2800 ![0, 0, 5600] · slices_S16x32x8400_S16x32x2800_0_0_5600) : (⟨S16x32x8400, .f32⟩ : BufTy).Contents (Elt F) → (⟨S16x32x2800, .f32⟩ : BufTy).Contents (Elt F)),
  unary main_v83 main_v84 (Host.negf : (⟨S16x32x2800, .f32⟩ : BufTy).Contents (Elt F) → (⟨S16x32x2800, .f32⟩ : BufTy).Contents (Elt F)),
  unary main_v84 main_values_18 ((fun x => (Host.topK S16x32x9 2 (FloatOps.cmpfTotal .gt) x sliceFits_S16x32x2800_S16x32x9).1) : (⟨S16x32x2800, .f32⟩ : BufTy).Contents (Elt F) → (⟨S16x32x9, .f32⟩ : BufTy).Contents (Elt F)),
  unary main_v84 main_indices_19 ((fun x => (Host.topK S16x32x9 2 (FloatOps.cmpfTotal .gt) x sliceFits_S16x32x2800_S16x32x9).2) : (⟨S16x32x2800, .f32⟩ : BufTy).Contents (Elt F) → (⟨S16x32x9, .i32⟩ : BufTy).Contents (Elt F)),
  nullary main_c_20 (constantI S_ 32 5600#32),
  unary main_c_20 main_v85 (broadcastInDim S16x32x9 ![] bcast_S_S16x32x9 : (⟨S_, .i32⟩ : BufTy).Contents (Elt F) → (⟨S16x32x9, .i32⟩ : BufTy).Contents (Elt F)),
  binary main_indices_19 main_v85 main_v86 (addi : (⟨S16x32x9, .i32⟩ : BufTy).Contents (Elt F) → (⟨S16x32x9, .i32⟩ : BufTy).Contents (Elt F) → (⟨S16x32x9, .i32⟩ : BufTy).Contents (Elt F)),
  nullary main_c_21 (constantI S_ 32 0#32),
  unary main_c_21 main_call8_v0 (id : (⟨S_, .i32⟩ : BufTy).Contents (Elt F) → (⟨S_, .i32⟩ : BufTy).Contents (Elt F)),
  unary main_v60 main_call8_v1 (broadcastInDim S16x32x9 ![0, 1, 2] bcast_S16x32x1_S16x32x9_0_1_2 : (⟨S16x32x1, .i1⟩ : BufTy).Contents (Elt F) → (⟨S16x32x9, .i1⟩ : BufTy).Contents (Elt F)),
  unary main_call8_v0 main_call8_v2 (broadcastInDim S16x32x9 ![] bcast_S_S16x32x9 : (⟨S_, .i32⟩ : BufTy).Contents (Elt F) → (⟨S16x32x9, .i32⟩ : BufTy).Contents (Elt F)),
  ternary main_call8_v1 main_indices_19 main_call8_v2 main_v87 (select : (⟨S16x32x9, .i1⟩ : BufTy).Contents (Elt F) → (⟨S16x32x9, .i32⟩ : BufTy).Contents (Elt F) → (⟨S16x32x9, .i32⟩ : BufTy).Contents (Elt F) → (⟨S16x32x9, .i32⟩ : BufTy).Contents (Elt F)),
  unary main_v87 main_call9_v0 (broadcastInDim S16x32x9x1 ![0, 1, 2] bcast_S16x32x9_S16x32x9x1_0_1_2 : (⟨S16x32x9, .i32⟩ : BufTy).Contents (Elt F) → (⟨S16x32x9x1, .i32⟩ : BufTy).Contents (Elt F)),
  nullary main_call9_v1 (iotaInDim S1x1x1x2800 32 3 : (⟨S1x1x1x2800, .i32⟩ : BufTy).Contents (Elt F)),
  unary main_call9_v0 main_call9_v2 (broadcastInDim S16x32x9x2800 ![0, 1, 2, 3] bcast_S16x32x9x1_S16x32x9x2800_0_1_2_3 : (⟨S16x32x9x1, .i32⟩ : BufTy).Contents (Elt F) → (⟨S16x32x9x2800, .i32⟩ : BufTy).Contents (Elt F)),
  unary main_call9_v1 main_call9_v3 (broadcastInDim S16x32x9x2800 ![0, 1, 2, 3] bcast_S1x1x1x2800_S16x32x9x2800_0_1_2_3 : (⟨S1x1x1x2800, .i32⟩ : BufTy).Contents (Elt F) → (⟨S16x32x9x2800, .i32⟩ : BufTy).Contents (Elt F)),
  binary main_call9_v2 main_call9_v3 main_call9_v4 (cmpi .eq : (⟨S16x32x9x2800, .i32⟩ : BufTy).Contents (Elt F) → (⟨S16x32x9x2800, .i32⟩ : BufTy).Contents (Elt F) → (⟨S16x32x9x2800, .i1⟩ : BufTy).Contents (Elt F)),
  unary main_call9_v4 main_v88 (uitofp .f32 : (⟨S16x32x9x2800, .i1⟩ : BufTy).Contents (Elt F) → (⟨S16x32x9x2800, .f32⟩ : BufTy).Contents (Elt F)),
  nullary main_cst_22 (constant S_ .f32 0x00000000#32),
  binary main_v88 main_cst_22 main_v89 ((fun x v => Host.reduceAdd x v reducesTo_S16x32x9x2800_S16x32x2800_d2 h_S_) : (⟨S16x32x9x2800, .f32⟩ : BufTy).Contents (Elt F) → (⟨S_, .f32⟩ : BufTy).Contents (Elt F) → (⟨S16x32x2800, .f32⟩ : BufTy).Contents (Elt F)),
  nullary main_cst_23 (constant S_ .f32 0x3F800000#32),
  unary main_cst_23 main_v90 (broadcastInDim S16x32x2800 ![] bcast_S_S16x32x2800 : (⟨S_, .f32⟩ : BufTy).Contents (Elt F) → (⟨S16x32x2800, .f32⟩ : BufTy).Contents (Elt F)),
  binary main_v89 main_v90 main_v91 (cmpf .ogt : (⟨S16x32x2800, .f32⟩ : BufTy).Contents (Elt F) → (⟨S16x32x2800, .f32⟩ : BufTy).Contents (Elt F) → (⟨S16x32x2800, .i1⟩ : BufTy).Contents (Elt F))]

/-- The operations of part 2 of the program. -/
abbrev ops2 : List (HloOp τ sig (Elt F)) := [
  nullary main_cst_24 (constant S_ .f32 0x00000000#32),
  unary main_cst_24 main_v92 (broadcastInDim S16x32x2800 ![] bcast_S_S16x32x2800 : (⟨S_, .f32⟩ : BufTy).Contents (Elt F) → (⟨S16x32x2800, .f32⟩ : BufTy).Contents (Elt F)),
  ternary main_v91 main_v92 main_v89 main_v93 (select : (⟨S16x32x2800, .i1⟩ : BufTy).Contents (Elt F) → (⟨S16x32x2800, .f32⟩ : BufTy).Contents (Elt F) → (⟨S16x32x2800, .f32⟩ : BufTy).Contents (Elt F) → (⟨S16x32x2800, .f32⟩ : BufTy).Contents (Elt F)),
  nary ![main_v71, main_v82, main_v93] main_v94 (fun u => (concatenate S16x32x8400 2 [⟨S16x32x2800, (u 0 : (⟨S16x32x2800, .f32⟩ : BufTy).Contents (Elt F))⟩, ⟨S16x32x2800, (u 1 : (⟨S16x32x2800, .f32⟩ : BufTy).Contents (Elt F))⟩, ⟨S16x32x2800, (u 2 : (⟨S16x32x2800, .f32⟩ : BufTy).Contents (Elt F))⟩] concatenates_S16x32x2800_S16x32x2800_S16x32x2800_S16x32x8400_d2 : (⟨S16x32x8400, .f32⟩ : BufTy).Contents (Elt F))),
  nary ![main_v64, main_v75, main_v86] main_v95 (fun u => (concatenate S16x32x27 2 [⟨S16x32x9, (u 0 : (⟨S16x32x9, .i32⟩ : BufTy).Contents (Elt F))⟩, ⟨S16x32x9, (u 1 : (⟨S16x32x9, .i32⟩ : BufTy).Contents (Elt F))⟩, ⟨S16x32x9, (u 2 : (⟨S16x32x9, .i32⟩ : BufTy).Contents (Elt F))⟩] concatenates_S16x32x9_S16x32x9_S16x32x9_S16x32x27_d2 : (⟨S16x32x27, .i32⟩ : BufTy).Contents (Elt F))),
  nullary main_cst_25 (constant S_ .f32 0x00000000#32),
  unary main_cst_25 main_v96 (broadcastInDim S16x32x8400 ![] bcast_S_S16x32x8400 : (⟨S_, .f32⟩ : BufTy).Contents (Elt F) → (⟨S16x32x8400, .f32⟩ : BufTy).Contents (Elt F)),
  binary main_v94 main_v96 main_v97 (cmpf .ogt : (⟨S16x32x8400, .f32⟩ : BufTy).Contents (Elt F) → (⟨S16x32x8400, .f32⟩ : BufTy).Contents (Elt F) → (⟨S16x32x8400, .i1⟩ : BufTy).Contents (Elt F)),
  nullary main_cst_26 (constant S_ .f32 0x00000000#32),
  unary main_cst_26 main_v98 (broadcastInDim S16x32x8400 ![] bcast_S_S16x32x8400 : (⟨S_, .f32⟩ : BufTy).Contents (Elt F) → (⟨S16x32x8400, .f32⟩ : BufTy).Contents (Elt F)),
  ternary main_v97 main_v45 main_v98 main_v99 (select : (⟨S16x32x8400, .i1⟩ : BufTy).Contents (Elt F) → (⟨S16x32x8400, .f32⟩ : BufTy).Contents (Elt F) → (⟨S16x32x8400, .f32⟩ : BufTy).Contents (Elt F) → (⟨S16x32x8400, .f32⟩ : BufTy).Contents (Elt F)),
  reshape main_v95 main_v100 (rfl : (.i32 : EltTy) = .i32) shapeCasts_S16x32x27_S512x27,
  nullary main_v101 (iotaInDim S512 32 0),
  nullary main_c_27 (constantI S_ 32 8400#32),
  unary main_c_27 main_v102 (broadcastInDim S512 ![] bcast_S_S512 : (⟨S_, .i32⟩ : BufTy).Contents (Elt F) → (⟨S512, .i32⟩ : BufTy).Contents (Elt F)),
  binary main_v102 main_v101 main_v103 (muli : (⟨S512, .i32⟩ : BufTy).Contents (Elt F) → (⟨S512, .i32⟩ : BufTy).Contents (Elt F) → (⟨S512, .i32⟩ : BufTy).Contents (Elt F)),
  unary main_v103 main_v104 (broadcastInDim S512x1 ![0] bcast_S512_S512x1_0 : (⟨S512, .i32⟩ : BufTy).Contents (Elt F) → (⟨S512x1, .i32⟩ : BufTy).Contents (Elt F)),
  unary main_v104 main_v105 (broadcastInDim S512x27 ![0, 1] bcast_S512x1_S512x27_0_1 : (⟨S512x1, .i32⟩ : BufTy).Contents (Elt F) → (⟨S512x27, .i32⟩ : BufTy).Contents (Elt F)),
  binary main_v100 main_v105 main_v106 (addi : (⟨S512x27, .i32⟩ : BufTy).Contents (Elt F) → (⟨S512x27, .i32⟩ : BufTy).Contents (Elt F) → (⟨S512x27, .i32⟩ : BufTy).Contents (Elt F)),
  reshape main_v99 main_v107 (rfl : (.f32 : EltTy) = .f32) shapeCasts_S16x32x8400_S4300800,
  nullary main_c_28 (constantI S_ 32 0#32),
  unary main_c_28 main_v108 (broadcastInDim S512x27 ![] bcast_S_S512x27 : (⟨S_, .i32⟩ : BufTy).Contents (Elt F) → (⟨S512x27, .i32⟩ : BufTy).Contents (Elt F)),
  binary main_v106 main_v108 main_v109 (cmpi .slt : (⟨S512x27, .i32⟩ : BufTy).Contents (Elt F) → (⟨S512x27, .i32⟩ : BufTy).Contents (Elt F) → (⟨S512x27, .i1⟩ : BufTy).Contents (Elt F)),
  nullary main_c_29 (constantI S_ 32 4300800#32),
  unary main_c_29 main_v110 (broadcastInDim S512x27 ![] bcast_S_S512x27 : (⟨S_, .i32⟩ : BufTy).Contents (Elt F) → (⟨S512x27, .i32⟩ : BufTy).Contents (Elt F)),
  binary main_v106 main_v110 main_v111 (addi : (⟨S512x27, .i32⟩ : BufTy).Contents (Elt F) → (⟨S512x27, .i32⟩ : BufTy).Contents (Elt F) → (⟨S512x27, .i32⟩ : BufTy).Contents (Elt F)),
  ternary main_v109 main_v111 main_v106 main_v112 (select : (⟨S512x27, .i1⟩ : BufTy).Contents (Elt F) → (⟨S512x27, .i32⟩ : BufTy).Contents (Elt F) → (⟨S512x27, .i32⟩ : BufTy).Contents (Elt F) → (⟨S512x27, .i32⟩ : BufTy).Contents (Elt F)),
  unary main_v112 main_v113 (broadcastInDim S512x27x1 ![0, 1] bcast_S512x27_S512x27x1_0_1 : (⟨S512x27, .i32⟩ : BufTy).Contents (Elt F) → (⟨S512x27x1, .i32⟩ : BufTy).Contents (Elt F)),
  binary main_v107 main_v113 main_v114 ((fun x i => Host.gather gather_S4300800_S512x27x1_S512x27_n_0_n_n_0_2_1 x i) : (⟨S4300800, .f32⟩ : BufTy).Contents (Elt F) → (⟨S512x27x1, .i32⟩ : BufTy).Contents (Elt F) → (⟨S512x27, .f32⟩ : BufTy).Contents (Elt F)),
  reshape main_v114 main_v115 (rfl : (.f32 : EltTy) = .f32) shapeCasts_S512x27_S16x32x27,
  nullary main_cst_30 (constant S_ .f32 0x00000000#32),
  binary main_v115 main_cst_30 main_v116 ((fun x v => Host.reduceAdd x v reducesTo_S16x32x27_S16x32_d2 h_S_) : (⟨S16x32x27, .f32⟩ : BufTy).Contents (Elt F) → (⟨S_, .f32⟩ : BufTy).Contents (Elt F) → (⟨S16x32, .f32⟩ : BufTy).Contents (Elt F)),
  unary main_v116 main_v117 (broadcastInDim S16x32x1 ![0, 1] bcast_S16x32_S16x32x1_0_1 : (⟨S16x32, .f32⟩ : BufTy).Contents (Elt F) → (⟨S16x32x1, .f32⟩ : BufTy).Contents (Elt F)),
  nullary main_cst_31 (constant S_ .f32 0x41D80000#32),
  unary main_cst_31 main_v118 (broadcastInDim S16x32x1 ![] bcast_S_S16x32x1 : (⟨S_, .f32⟩ : BufTy).Contents (Elt F) → (⟨S16x32x1, .f32⟩ : BufTy).Contents (Elt F)),
  binary main_v117 main_v118 main_v119 (Host.divf : (⟨S16x32x1, .f32⟩ : BufTy).Contents (Elt F) → (⟨S16x32x1, .f32⟩ : BufTy).Contents (Elt F) → (⟨S16x32x1, .f32⟩ : BufTy).Contents (Elt F)),
  nullary main_c_32 (constantI S_ 32 1#32),
  nullary main_call12_call0_cst (constant S_ .f32 0x00000000#32 : (⟨S_, .f32⟩ : BufTy).Contents (Elt F)),
  binary main_v115 main_call12_call0_cst main_call12_call0_v0 (fun x v => Host.reduceAdd x v reducesTo_S16x32x27_S16x32_d2 h_S_ : (⟨S16x32x27, .f32⟩ : BufTy).Contents (Elt F) → (⟨S_, .f32⟩ : BufTy).Contents (Elt F) → (⟨S16x32, .f32⟩ : BufTy).Contents (Elt F)),
  unary main_call12_call0_v0 main_call12_call0_v1 (broadcastInDim S16x32x1 ![0, 1] bcast_S16x32_S16x32x1_0_1 : (⟨S16x32, .f32⟩ : BufTy).Contents (Elt F) → (⟨S16x32x1, .f32⟩ : BufTy).Contents (Elt F)),
  nullary main_call12_call0_cst_0 (constant S_ .f32 0x41D80000#32 : (⟨S_, .f32⟩ : BufTy).Contents (Elt F)),
  unary main_call12_call0_cst_0 main_call12_call0_v2 (broadcastInDim S16x32x1 ![] bcast_S_S16x32x1 : (⟨S_, .f32⟩ : BufTy).Contents (Elt F) → (⟨S16x32x1, .f32⟩ : BufTy).Contents (Elt F)),
  binary main_call12_call0_v1 main_call12_call0_v2 main_call12_call0_v3 (Host.divf : (⟨S16x32x1, .f32⟩ : BufTy).Contents (Elt F) → (⟨S16x32x1, .f32⟩ : BufTy).Contents (Elt F) → (⟨S16x32x1, .f32⟩ : BufTy).Contents (Elt F)),
  unary main_call12_call0_v3 main_call12_call0_v4 (broadcastInDim S16x32x27 ![0, 1, 2] bcast_S16x32x1_S16x32x27_0_1_2 : (⟨S16x32x1, .f32⟩ : BufTy).Contents (Elt F) → (⟨S16x32x27, .f32⟩ : BufTy).Contents (Elt F)),
  binary main_v115 main_call12_call0_v4 main_call12_call0_v5 (subf : (⟨S16x32x27, .f32⟩ : BufTy).Contents (Elt F) → (⟨S16x32x27, .f32⟩ : BufTy).Contents (Elt F) → (⟨S16x32x27, .f32⟩ : BufTy).Contents (Elt F)),
  binary main_call12_call0_v5 main_call12_call0_v5 main_call12_call0_v6 (mulf : (⟨S16x32x27, .f32⟩ : BufTy).Contents (Elt F) → (⟨S16x32x27, .f32⟩ : BufTy).Contents (Elt F) → (⟨S16x32x27, .f32⟩ : BufTy).Contents (Elt F)),
  unary main_c_32 main_call12_call0_v7 (sitofp .f32 : (⟨S_, .i32⟩ : BufTy).Contents (Elt F) → (⟨S_, .f32⟩ : BufTy).Contents (Elt F)),
  nullary main_call12_call0_cst_1 (constant S_ .f32 0x41D80000#32 : (⟨S_, .f32⟩ : BufTy).Contents (Elt F)),
  binary main_call12_call0_cst_1 main_call12_call0_v7 main_call12_call0_v8 (subf : (⟨S_, .f32⟩ : BufTy).Contents (Elt F) → (⟨S_, .f32⟩ : BufTy).Contents (Elt F) → (⟨S_, .f32⟩ : BufTy).Contents (Elt F)),
  nullary main_call12_call0_cst_2 (constant S_ .f32 0x00000000#32 : (⟨S_, .f32⟩ : BufTy).Contents (Elt F)),
  binary main_call12_call0_v6 main_call12_call0_cst_2 main_call12_call0_v9 (fun x v => Host.reduceAdd x v reducesTo_S16x32x27_S16x32_d2 h_S_ : (⟨S16x32x27, .f32⟩ : BufTy).Contents (Elt F) → (⟨S_, .f32⟩ : BufTy).Contents (Elt F) → (⟨S16x32, .f32⟩ : BufTy).Contents (Elt F)),
  unary main_call12_call0_v9 main_call12_call0_v10 (broadcastInDim S16x32x1 ![0, 1] bcast_S16x32_S16x32x1_0_1 : (⟨S16x32, .f32⟩ : BufTy).Contents (Elt F) → (⟨S16x32x1, .f32⟩ : BufTy).Contents (Elt F)),
  unary main_call12_call0_v8 main_call12_call0_v11 (broadcastInDim S16x32x1 ![] bcast_S_S16x32x1 : (⟨S_, .f32⟩ : BufTy).Contents (Elt F) → (⟨S16x32x1, .f32⟩ : BufTy).Contents (Elt F)),
  binary main_call12_call0_v10 main_call12_call0_v11 main_call12_call0_v12 (Host.divf : (⟨S16x32x1, .f32⟩ : BufTy).Contents (Elt F) → (⟨S16x32x1, .f32⟩ : BufTy).Contents (Elt F) → (⟨S16x32x1, .f32⟩ : BufTy).Contents (Elt F)),
  nullary main_call12_call0_cst_3 (constant S_ .f32 0x00000000#32 : (⟨S_, .f32⟩ : BufTy).Contents (Elt F)),
  binary main_call12_call0_v8 main_call12_call0_cst_3 main_call12_call0_v13 (cmpf .ogt : (⟨S_, .f32⟩ : BufTy).Contents (Elt F) → (⟨S_, .f32⟩ : BufTy).Contents (Elt F) → (⟨S_, .i1⟩ : BufTy).Contents (Elt F)),
  nullary main_call12_call0_cst_4 (constant S_ .f32 0x7FC00000#32 : (⟨S_, .f32⟩ : BufTy).Contents (Elt F)),
  unary main_call12_call0_cst_4 main_call12_call0_call0_v0 (id : (⟨S_, .f32⟩ : BufTy).Contents (Elt F) → (⟨S_, .f32⟩ : BufTy).Contents (Elt F)),
  unary main_call12_call0_call0_v0 main_call12_call0_call0_v1 (broadcastInDim S16x32x1 ![] bcast_S_S16x32x1 : (⟨S_, .f32⟩ : BufTy).Contents (Elt F) → (⟨S16x32x1, .f32⟩ : BufTy).Contents (Elt F)),
  ternary main_call12_call0_v13 main_call12_call0_v12 main_call12_call0_call0_v1 main_call12_v0 (fun p a b => select (broadcastInDim S16x32x1 ![] bcast_S_S16x32x1 p) a b : (⟨S_, .i1⟩ : BufTy).Contents (Elt F) → (⟨S16x32x1, .f32⟩ : BufTy).Contents (Elt F) → (⟨S16x32x1, .f32⟩ : BufTy).Contents (Elt F) → (⟨S16x32x1, .f32⟩ : BufTy).Contents (Elt F)),
  unary main_call12_v0 main_v120 (Host.sqrt : (⟨S16x32x1, .f32⟩ : BufTy).Contents (Elt F) → (⟨S16x32x1, .f32⟩ : BufTy).Contents (Elt F)),
  binary main_v119 main_v120 main_v121 (addf : (⟨S16x32x1, .f32⟩ : BufTy).Contents (Elt F) → (⟨S16x32x1, .f32⟩ : BufTy).Contents (Elt F) → (⟨S16x32x1, .f32⟩ : BufTy).Contents (Elt F)),
  unary main_v121 main_v122 (broadcastInDim S16x32x8400 ![0, 1, 2] bcast_S16x32x1_S16x32x8400_0_1_2 : (⟨S16x32x1, .f32⟩ : BufTy).Contents (Elt F) → (⟨S16x32x8400, .f32⟩ : BufTy).Contents (Elt F)),
  binary main_v99 main_v122 main_v123 (cmpf .ogt : (⟨S16x32x8400, .f32⟩ : BufTy).Contents (Elt F) → (⟨S16x32x8400, .f32⟩ : BufTy).Contents (Elt F) → (⟨S16x32x8400, .i1⟩ : BufTy).Contents (Elt F)),
  nullary main_cst_33 (constant S_ .f32 0x00000000#32),
  unary main_cst_33 main_v124 (broadcastInDim S16x32x8400 ![] bcast_S_S16x32x8400 : (⟨S_, .f32⟩ : BufTy).Contents (Elt F) → (⟨S16x32x8400, .f32⟩ : BufTy).Contents (Elt F)),
  ternary main_v123 main_v94 main_v124 main_v125 (select : (⟨S16x32x8400, .i1⟩ : BufTy).Contents (Elt F) → (⟨S16x32x8400, .f32⟩ : BufTy).Contents (Elt F) → (⟨S16x32x8400, .f32⟩ : BufTy).Contents (Elt F) → (⟨S16x32x8400, .f32⟩ : BufTy).Contents (Elt F)),
  unary main_arg2 main_v126 (broadcastInDim S1x1x8400x2 ![2, 3] bcast_S8400x2_S1x1x8400x2_2_3 : (⟨S8400x2, .f32⟩ : BufTy).Contents (Elt F) → (⟨S1x1x8400x2, .f32⟩ : BufTy).Contents (Elt F)),
  unary main_arg4 main_v127 ((extractStridedSlice S16x32x2 ![0, 0, 0] · slices_S16x32x4_S16x32x2_0_0_0) : (⟨S16x32x4, .f32⟩ : BufTy).Contents (Elt F) → (⟨S16x32x2, .f32⟩ : BufTy).Contents (Elt F)),
  unary main_v127 main_v128 (broadcastInDim S16x32x1x2 ![0, 1, 3] bcast_S16x32x2_S16x32x1x2_0_1_3 : (⟨S16x32x2, .f32⟩ : BufTy).Contents (Elt F) → (⟨S16x32x1x2, .f32⟩ : BufTy).Contents (Elt F)),
  unary main_v126 main_v129 (broadcastInDim S16x32x8400x2 ![0, 1, 2, 3] bcast_S1x1x8400x2_S16x32x8400x2_0_1_2_3 : (⟨S1x1x8400x2, .f32⟩ : BufTy).Contents (Elt F) → (⟨S16x32x8400x2, .f32⟩ : BufTy).Contents (Elt F)),
  unary main_v128 main_v130 (broadcastInDim S16x32x8400x2 ![0, 1, 2, 3] bcast_S16x32x1x2_S16x32x8400x2_0_1_2_3 : (⟨S16x32x1x2, .f32⟩ : BufTy).Contents (Elt F) → (⟨S16x32x8400x2, .f32⟩ : BufTy).Contents (Elt F)),
  binary main_v129 main_v130 main_v131 (subf : (⟨S16x32x8400x2, .f32⟩ : BufTy).Contents (Elt F) → (⟨S16x32x8400x2, .f32⟩ : BufTy).Contents (Elt F) → (⟨S16x32x8400x2, .f32⟩ : BufTy).Contents (Elt F)),
  unary main_arg4 main_v132 ((extractStridedSlice S16x32x2 ![0, 0, 2] · slices_S16x32x4_S16x32x2_0_0_2) : (⟨S16x32x4, .f32⟩ : BufTy).Contents (Elt F) → (⟨S16x32x2, .f32⟩ : BufTy).Contents (Elt F)),
  unary main_v132 main_v133 (broadcastInDim S16x32x1x2 ![0, 1, 3] bcast_S16x32x2_S16x32x1x2_0_1_3 : (⟨S16x32x2, .f32⟩ : BufTy).Contents (Elt F) → (⟨S16x32x1x2, .f32⟩ : BufTy).Contents (Elt F)),
  unary main_arg2 main_v134 (broadcastInDim S1x1x8400x2 ![2, 3] bcast_S8400x2_S1x1x8400x2_2_3 : (⟨S8400x2, .f32⟩ : BufTy).Contents (Elt F) → (⟨S1x1x8400x2, .f32⟩ : BufTy).Contents (Elt F)),
  unary main_v133 main_v135 (broadcastInDim S16x32x8400x2 ![0, 1, 2, 3] bcast_S16x32x1x2_S16x32x8400x2_0_1_2_3 : (⟨S16x32x1x2, .f32⟩ : BufTy).Contents (Elt F) → (⟨S16x32x8400x2, .f32⟩ : BufTy).Contents (Elt F)),
  unary main_v134 main_v136 (broadcastInDim S16x32x8400x2 ![0, 1, 2, 3] bcast_S1x1x8400x2_S16x32x8400x2_0_1_2_3 : (⟨S1x1x8400x2, .f32⟩ : BufTy).Contents (Elt F) → (⟨S16x32x8400x2, .f32⟩ : BufTy).Contents (Elt F)),
  binary main_v135 main_v136 main_v137 (subf : (⟨S16x32x8400x2, .f32⟩ : BufTy).Contents (Elt F) → (⟨S16x32x8400x2, .f32⟩ : BufTy).Contents (Elt F) → (⟨S16x32x8400x2, .f32⟩ : BufTy).Contents (Elt F)),
  binary main_v131 main_v137 main_v138 ((fun a b => concatenate S16x32x8400x4 3 [⟨S16x32x8400x2, a⟩, ⟨S16x32x8400x2, b⟩] concatenates_S16x32x8400x2_S16x32x8400x2_S16x32x8400x4_d3) : (⟨S16x32x8400x2, .f32⟩ : BufTy).Contents (Elt F) → (⟨S16x32x8400x2, .f32⟩ : BufTy).Contents (Elt F) → (⟨S16x32x8400x4, .f32⟩ : BufTy).Contents (Elt F)),
  nullary main_cst_34 (constant S_ .f32 0x7F800000#32),
  binary main_v138 main_cst_34 main_v139 ((fun x v => Host.reduce FloatOps.minimumf x v reducesTo_S16x32x8400x4_S16x32x8400_d3 h_S_) : (⟨S16x32x8400x4, .f32⟩ : BufTy).Contents (Elt F) → (⟨S_, .f32⟩ : BufTy).Contents (Elt F) → (⟨S16x32x8400, .f32⟩ : BufTy).Contents (Elt F)),
  nullary main_cst_35 (constant S_ .f32 0x3089705F#32)]

/-- The operations of part 3 of the program. -/
abbrev ops3 : List (HloOp τ sig (Elt F)) := [
  unary main_cst_35 main_v140 (broadcastInDim S16x32x8400 ![] bcast_S_S16x32x8400 : (⟨S_, .f32⟩ : BufTy).Contents (Elt F) → (⟨S16x32x8400, .f32⟩ : BufTy).Contents (Elt F)),
  binary main_v139 main_v140 main_v141 (cmpf .ogt : (⟨S16x32x8400, .f32⟩ : BufTy).Contents (Elt F) → (⟨S16x32x8400, .f32⟩ : BufTy).Contents (Elt F) → (⟨S16x32x8400, .i1⟩ : BufTy).Contents (Elt F)),
  unary main_v141 main_v142 (uitofp .f32 : (⟨S16x32x8400, .i1⟩ : BufTy).Contents (Elt F) → (⟨S16x32x8400, .f32⟩ : BufTy).Contents (Elt F)),
  binary main_v125 main_v142 main_v143 (mulf : (⟨S16x32x8400, .f32⟩ : BufTy).Contents (Elt F) → (⟨S16x32x8400, .f32⟩ : BufTy).Contents (Elt F) → (⟨S16x32x8400, .f32⟩ : BufTy).Contents (Elt F)),
  unary main_arg5 main_v144 (broadcastInDim S16x32x8400 ![0, 1, 2] bcast_S16x32x1_S16x32x8400_0_1_2 : (⟨S16x32x1, .f32⟩ : BufTy).Contents (Elt F) → (⟨S16x32x8400, .f32⟩ : BufTy).Contents (Elt F)),
  binary main_v143 main_v144 main_v145 (mulf : (⟨S16x32x8400, .f32⟩ : BufTy).Contents (Elt F) → (⟨S16x32x8400, .f32⟩ : BufTy).Contents (Elt F) → (⟨S16x32x8400, .f32⟩ : BufTy).Contents (Elt F)),
  nullary main_cst_36 (constant S_ .f32 0x00000000#32),
  binary main_v145 main_cst_36 main_v146 ((fun x v => Host.reduceAdd x v reducesTo_S16x32x8400_S16x8400_d1 h_S_) : (⟨S16x32x8400, .f32⟩ : BufTy).Contents (Elt F) → (⟨S_, .f32⟩ : BufTy).Contents (Elt F) → (⟨S16x8400, .f32⟩ : BufTy).Contents (Elt F)),
  unary main_v146 main_v147 (broadcastInDim S16x1x8400 ![0, 2] bcast_S16x8400_S16x1x8400_0_2 : (⟨S16x8400, .f32⟩ : BufTy).Contents (Elt F) → (⟨S16x1x8400, .f32⟩ : BufTy).Contents (Elt F)),
  nullary main_cst_37 (constant S_ .f32 0x3F800000#32),
  unary main_cst_37 main_v148 (broadcastInDim S16x1x8400 ![] bcast_S_S16x1x8400 : (⟨S_, .f32⟩ : BufTy).Contents (Elt F) → (⟨S16x1x8400, .f32⟩ : BufTy).Contents (Elt F)),
  binary main_v147 main_v148 main_v149 (cmpf .ogt : (⟨S16x1x8400, .f32⟩ : BufTy).Contents (Elt F) → (⟨S16x1x8400, .f32⟩ : BufTy).Contents (Elt F) → (⟨S16x1x8400, .i1⟩ : BufTy).Contents (Elt F)),
  nullary main_call14_v0 (iotaInDim S16x32x8400 32 1 : (⟨S16x32x8400, .i32⟩ : BufTy).Contents (Elt F)),
  nullary main_call14_cst (constant S_ .f32 0xFF800000#32 : (⟨S_, .f32⟩ : BufTy).Contents (Elt F)),
  nullary main_call14_c (constantI S_ 32 0#32 : (⟨S_, .i32⟩ : BufTy).Contents (Elt F)),
  quaternary main_v45 main_call14_v0 main_call14_cst main_call14_c main_call14_v1_0 (fun x y u v j => (Host.argReduce reducer_argmax_f32_i32 x y u v reducesTo_S16x32x8400_S16x8400_d1 h_S_ j).1 : (⟨S16x32x8400, .f32⟩ : BufTy).Contents (Elt F) → (⟨S16x32x8400, .i32⟩ : BufTy).Contents (Elt F) → (⟨S_, .f32⟩ : BufTy).Contents (Elt F) → (⟨S_, .i32⟩ : BufTy).Contents (Elt F) → (⟨S16x8400, .f32⟩ : BufTy).Contents (Elt F)),
  quaternary main_v45 main_call14_v0 main_call14_cst main_call14_c main_v150 (fun x y u v j => (Host.argReduce reducer_argmax_f32_i32 x y u v reducesTo_S16x32x8400_S16x8400_d1 h_S_ j).2 : (⟨S16x32x8400, .f32⟩ : BufTy).Contents (Elt F) → (⟨S16x32x8400, .i32⟩ : BufTy).Contents (Elt F) → (⟨S_, .f32⟩ : BufTy).Contents (Elt F) → (⟨S_, .i32⟩ : BufTy).Contents (Elt F) → (⟨S16x8400, .i32⟩ : BufTy).Contents (Elt F)),
  unary main_v150 main_call15_v0 (broadcastInDim S16x8400x1 ![0, 1] bcast_S16x8400_S16x8400x1_0_1 : (⟨S16x8400, .i32⟩ : BufTy).Contents (Elt F) → (⟨S16x8400x1, .i32⟩ : BufTy).Contents (Elt F)),
  nullary main_call15_v1 (iotaInDim S1x1x32 32 2 : (⟨S1x1x32, .i32⟩ : BufTy).Contents (Elt F)),
  unary main_call15_v0 main_call15_v2 (broadcastInDim S16x8400x32 ![0, 1, 2] bcast_S16x8400x1_S16x8400x32_0_1_2 : (⟨S16x8400x1, .i32⟩ : BufTy).Contents (Elt F) → (⟨S16x8400x32, .i32⟩ : BufTy).Contents (Elt F)),
  unary main_call15_v1 main_call15_v3 (broadcastInDim S16x8400x32 ![0, 1, 2] bcast_S1x1x32_S16x8400x32_0_1_2 : (⟨S1x1x32, .i32⟩ : BufTy).Contents (Elt F) → (⟨S16x8400x32, .i32⟩ : BufTy).Contents (Elt F)),
  binary main_call15_v2 main_call15_v3 main_call15_v4 (cmpi .eq : (⟨S16x8400x32, .i32⟩ : BufTy).Contents (Elt F) → (⟨S16x8400x32, .i32⟩ : BufTy).Contents (Elt F) → (⟨S16x8400x32, .i1⟩ : BufTy).Contents (Elt F)),
  unary main_call15_v4 main_v151 (uitofp .f32 : (⟨S16x8400x32, .i1⟩ : BufTy).Contents (Elt F) → (⟨S16x8400x32, .f32⟩ : BufTy).Contents (Elt F)),
  unary main_v151 main_v152 ((transpose S16x32x8400 [0, 2, 1] · transposes_S16x8400x32_S16x32x8400_0_2_1) : (⟨S16x8400x32, .f32⟩ : BufTy).Contents (Elt F) → (⟨S16x32x8400, .f32⟩ : BufTy).Contents (Elt F)),
  unary main_v149 main_call16_v0 (broadcastInDim S16x32x8400 ![0, 1, 2] bcast_S16x1x8400_S16x32x8400_0_1_2 : (⟨S16x1x8400, .i1⟩ : BufTy).Contents (Elt F) → (⟨S16x32x8400, .i1⟩ : BufTy).Contents (Elt F)),
  ternary main_call16_v0 main_v152 main_v145 main_v153 (select : (⟨S16x32x8400, .i1⟩ : BufTy).Contents (Elt F) → (⟨S16x32x8400, .f32⟩ : BufTy).Contents (Elt F) → (⟨S16x32x8400, .f32⟩ : BufTy).Contents (Elt F) → (⟨S16x32x8400, .f32⟩ : BufTy).Contents (Elt F)),
  nullary main_cst_38 (constant S_ .f32 0x00000000#32),
  binary main_v153 main_cst_38 main_v154 ((fun x v => Host.reduceAdd x v reducesTo_S16x32x8400_S16x8400_d1 h_S_) : (⟨S16x32x8400, .f32⟩ : BufTy).Contents (Elt F) → (⟨S_, .f32⟩ : BufTy).Contents (Elt F) → (⟨S16x8400, .f32⟩ : BufTy).Contents (Elt F)),
  nullary main_call17_v0 (iotaInDim S16x32x8400 32 1 : (⟨S16x32x8400, .i32⟩ : BufTy).Contents (Elt F)),
  nullary main_call17_cst (constant S_ .f32 0xFF800000#32 : (⟨S_, .f32⟩ : BufTy).Contents (Elt F)),
  nullary main_call17_c (constantI S_ 32 0#32 : (⟨S_, .i32⟩ : BufTy).Contents (Elt F)),
  quaternary main_v153 main_call17_v0 main_call17_cst main_call17_c main_call17_v1_0 (fun x y u v j => (Host.argReduce reducer_argmax_f32_i32 x y u v reducesTo_S16x32x8400_S16x8400_d1 h_S_ j).1 : (⟨S16x32x8400, .f32⟩ : BufTy).Contents (Elt F) → (⟨S16x32x8400, .i32⟩ : BufTy).Contents (Elt F) → (⟨S_, .f32⟩ : BufTy).Contents (Elt F) → (⟨S_, .i32⟩ : BufTy).Contents (Elt F) → (⟨S16x8400, .f32⟩ : BufTy).Contents (Elt F)),
  quaternary main_v153 main_call17_v0 main_call17_cst main_call17_c main_v155 (fun x y u v j => (Host.argReduce reducer_argmax_f32_i32 x y u v reducesTo_S16x32x8400_S16x8400_d1 h_S_ j).2 : (⟨S16x32x8400, .f32⟩ : BufTy).Contents (Elt F) → (⟨S16x32x8400, .i32⟩ : BufTy).Contents (Elt F) → (⟨S_, .f32⟩ : BufTy).Contents (Elt F) → (⟨S_, .i32⟩ : BufTy).Contents (Elt F) → (⟨S16x8400, .i32⟩ : BufTy).Contents (Elt F)),
  nullary main_v156 (iotaInDim S16 32 0),
  unary main_v156 main_v157 (broadcastInDim S16x1 ![0] bcast_S16_S16x1_0 : (⟨S16, .i32⟩ : BufTy).Contents (Elt F) → (⟨S16x1, .i32⟩ : BufTy).Contents (Elt F)),
  nullary main_c_39 (constantI S_ 32 32#32),
  unary main_c_39 main_v158 (broadcastInDim S16x1 ![] bcast_S_S16x1 : (⟨S_, .i32⟩ : BufTy).Contents (Elt F) → (⟨S16x1, .i32⟩ : BufTy).Contents (Elt F)),
  binary main_v157 main_v158 main_v159 (muli : (⟨S16x1, .i32⟩ : BufTy).Contents (Elt F) → (⟨S16x1, .i32⟩ : BufTy).Contents (Elt F) → (⟨S16x1, .i32⟩ : BufTy).Contents (Elt F)),
  unary main_v159 main_v160 (broadcastInDim S16x8400 ![0, 1] bcast_S16x1_S16x8400_0_1 : (⟨S16x1, .i32⟩ : BufTy).Contents (Elt F) → (⟨S16x8400, .i32⟩ : BufTy).Contents (Elt F)),
  binary main_v155 main_v160 main_v161 (addi : (⟨S16x8400, .i32⟩ : BufTy).Contents (Elt F) → (⟨S16x8400, .i32⟩ : BufTy).Contents (Elt F) → (⟨S16x8400, .i32⟩ : BufTy).Contents (Elt F)),
  reshape main_arg3 main_v162 (rfl : (.i32 : EltTy) = .i32) shapeCasts_S16x32x1_S512,
  nullary main_c_40 (constantI S_ 32 0#32),
  unary main_c_40 main_v163 (broadcastInDim S16x8400 ![] bcast_S_S16x8400 : (⟨S_, .i32⟩ : BufTy).Contents (Elt F) → (⟨S16x8400, .i32⟩ : BufTy).Contents (Elt F)),
  binary main_v161 main_v163 main_v164 (cmpi .slt : (⟨S16x8400, .i32⟩ : BufTy).Contents (Elt F) → (⟨S16x8400, .i32⟩ : BufTy).Contents (Elt F) → (⟨S16x8400, .i1⟩ : BufTy).Contents (Elt F)),
  nullary main_c_41 (constantI S_ 32 512#32),
  unary main_c_41 main_v165 (broadcastInDim S16x8400 ![] bcast_S_S16x8400 : (⟨S_, .i32⟩ : BufTy).Contents (Elt F) → (⟨S16x8400, .i32⟩ : BufTy).Contents (Elt F)),
  binary main_v161 main_v165 main_v166 (addi : (⟨S16x8400, .i32⟩ : BufTy).Contents (Elt F) → (⟨S16x8400, .i32⟩ : BufTy).Contents (Elt F) → (⟨S16x8400, .i32⟩ : BufTy).Contents (Elt F)),
  ternary main_v164 main_v166 main_v161 main_v167 (select : (⟨S16x8400, .i1⟩ : BufTy).Contents (Elt F) → (⟨S16x8400, .i32⟩ : BufTy).Contents (Elt F) → (⟨S16x8400, .i32⟩ : BufTy).Contents (Elt F) → (⟨S16x8400, .i32⟩ : BufTy).Contents (Elt F)),
  unary main_v167 main_v168 (broadcastInDim S16x8400x1 ![0, 1] bcast_S16x8400_S16x8400x1_0_1 : (⟨S16x8400, .i32⟩ : BufTy).Contents (Elt F) → (⟨S16x8400x1, .i32⟩ : BufTy).Contents (Elt F)),
  binary main_v162 main_v168 main_v169 ((fun x i => Host.gather gather_S512_S16x8400x1_S16x8400_n_0_n_n_0_2_1 x i) : (⟨S512, .i32⟩ : BufTy).Contents (Elt F) → (⟨S16x8400x1, .i32⟩ : BufTy).Contents (Elt F) → (⟨S16x8400, .i32⟩ : BufTy).Contents (Elt F)),
  reshape main_arg4 main_v170 (rfl : (.f32 : EltTy) = .f32) shapeCasts_S16x32x4_S512x4,
  nullary main_c_42 (constantI S_ 32 0#32),
  unary main_c_42 main_v171 (broadcastInDim S16x8400 ![] bcast_S_S16x8400 : (⟨S_, .i32⟩ : BufTy).Contents (Elt F) → (⟨S16x8400, .i32⟩ : BufTy).Contents (Elt F)),
  binary main_v161 main_v171 main_v172 (cmpi .slt : (⟨S16x8400, .i32⟩ : BufTy).Contents (Elt F) → (⟨S16x8400, .i32⟩ : BufTy).Contents (Elt F) → (⟨S16x8400, .i1⟩ : BufTy).Contents (Elt F)),
  nullary main_c_43 (constantI S_ 32 512#32),
  unary main_c_43 main_v173 (broadcastInDim S16x8400 ![] bcast_S_S16x8400 : (⟨S_, .i32⟩ : BufTy).Contents (Elt F) → (⟨S16x8400, .i32⟩ : BufTy).Contents (Elt F)),
  binary main_v161 main_v173 main_v174 (addi : (⟨S16x8400, .i32⟩ : BufTy).Contents (Elt F) → (⟨S16x8400, .i32⟩ : BufTy).Contents (Elt F) → (⟨S16x8400, .i32⟩ : BufTy).Contents (Elt F)),
  ternary main_v172 main_v174 main_v161 main_v175 (select : (⟨S16x8400, .i1⟩ : BufTy).Contents (Elt F) → (⟨S16x8400, .i32⟩ : BufTy).Contents (Elt F) → (⟨S16x8400, .i32⟩ : BufTy).Contents (Elt F) → (⟨S16x8400, .i32⟩ : BufTy).Contents (Elt F)),
  unary main_v175 main_v176 (broadcastInDim S16x8400x1 ![0, 1] bcast_S16x8400_S16x8400x1_0_1 : (⟨S16x8400, .i32⟩ : BufTy).Contents (Elt F) → (⟨S16x8400x1, .i32⟩ : BufTy).Contents (Elt F)),
  binary main_v170 main_v176 main_v177 ((fun x i => Host.gather gather_S512x4_S16x8400x1_S16x8400x4_2_0_n_n_0_2_14 x i) : (⟨S512x4, .f32⟩ : BufTy).Contents (Elt F) → (⟨S16x8400x1, .i32⟩ : BufTy).Contents (Elt F) → (⟨S16x8400x4, .f32⟩ : BufTy).Contents (Elt F)),
  nullary main_cst_44 (constant S_ .f32 0x00000000#32),
  unary main_cst_44 main_v178 (broadcastInDim S16x8400 ![] bcast_S_S16x8400 : (⟨S_, .f32⟩ : BufTy).Contents (Elt F) → (⟨S16x8400, .f32⟩ : BufTy).Contents (Elt F)),
  binary main_v154 main_v178 main_v179 (cmpf .ogt : (⟨S16x8400, .f32⟩ : BufTy).Contents (Elt F) → (⟨S16x8400, .f32⟩ : BufTy).Contents (Elt F) → (⟨S16x8400, .i1⟩ : BufTy).Contents (Elt F)),
  nullary main_c_45 (constantI S_ 32 80#32),
  unary main_c_45 main_call18_v0 (id : (⟨S_, .i32⟩ : BufTy).Contents (Elt F) → (⟨S_, .i32⟩ : BufTy).Contents (Elt F)),
  unary main_call18_v0 main_call18_v1 (broadcastInDim S16x8400 ![] bcast_S_S16x8400 : (⟨S_, .i32⟩ : BufTy).Contents (Elt F) → (⟨S16x8400, .i32⟩ : BufTy).Contents (Elt F)),
  ternary main_v179 main_v169 main_call18_v1 main_v180 (select : (⟨S16x8400, .i1⟩ : BufTy).Contents (Elt F) → (⟨S16x8400, .i32⟩ : BufTy).Contents (Elt F) → (⟨S16x8400, .i32⟩ : BufTy).Contents (Elt F) → (⟨S16x8400, .i32⟩ : BufTy).Contents (Elt F)),
  unary main_v180 main_call19_v0 (broadcastInDim S16x8400x1 ![0, 1] bcast_S16x8400_S16x8400x1_0_1 : (⟨S16x8400, .i32⟩ : BufTy).Contents (Elt F) → (⟨S16x8400x1, .i32⟩ : BufTy).Contents (Elt F)),
  nullary main_call19_v1 (iotaInDim S1x1x81 32 2 : (⟨S1x1x81, .i32⟩ : BufTy).Contents (Elt F)),
  unary main_call19_v0 main_call19_v2 (broadcastInDim S16x8400x81 ![0, 1, 2] bcast_S16x8400x1_S16x8400x81_0_1_2 : (⟨S16x8400x1, .i32⟩ : BufTy).Contents (Elt F) → (⟨S16x8400x81, .i32⟩ : BufTy).Contents (Elt F)),
  unary main_call19_v1 main_call19_v3 (broadcastInDim S16x8400x81 ![0, 1, 2] bcast_S1x1x81_S16x8400x81_0_1_2 : (⟨S1x1x81, .i32⟩ : BufTy).Contents (Elt F) → (⟨S16x8400x81, .i32⟩ : BufTy).Contents (Elt F)),
  binary main_call19_v2 main_call19_v3 main_call19_v4 (cmpi .eq : (⟨S16x8400x81, .i32⟩ : BufTy).Contents (Elt F) → (⟨S16x8400x81, .i32⟩ : BufTy).Contents (Elt F) → (⟨S16x8400x81, .i1⟩ : BufTy).Contents (Elt F)),
  unary main_call19_v4 main_v181 (uitofp .f32 : (⟨S16x8400x81, .i1⟩ : BufTy).Contents (Elt F) → (⟨S16x8400x81, .f32⟩ : BufTy).Contents (Elt F)),
  nullary main_cst_46 (constant S_ .f32 0x00000000#32),
  unary main_cst_46 main_v182 (broadcastInDim S16x8400 ![] bcast_S_S16x8400 : (⟨S_, .f32⟩ : BufTy).Contents (Elt F) → (⟨S16x8400, .f32⟩ : BufTy).Contents (Elt F)),
  binary main_v154 main_v182 main_v183 (cmpf .ogt : (⟨S16x8400, .f32⟩ : BufTy).Contents (Elt F) → (⟨S16x8400, .f32⟩ : BufTy).Contents (Elt F) → (⟨S16x8400, .i1⟩ : BufTy).Contents (Elt F)),
  unary main_v183 main_v184 (broadcastInDim S16x8400x1 ![0, 1] bcast_S16x8400_S16x8400x1_0_1 : (⟨S16x8400, .i1⟩ : BufTy).Contents (Elt F) → (⟨S16x8400x1, .i1⟩ : BufTy).Contents (Elt F)),
  nullary main_cst_47 (constant S_ .f32 0x00000000#32),
  unary main_cst_47 main_v185 (broadcastInDim S16x8400x81 ![] bcast_S_S16x8400x81 : (⟨S_, .f32⟩ : BufTy).Contents (Elt F) → (⟨S16x8400x81, .f32⟩ : BufTy).Contents (Elt F)),
  unary main_v184 main_call20_v0 (broadcastInDim S16x8400x81 ![0, 1, 2] bcast_S16x8400x1_S16x8400x81_0_1_2 : (⟨S16x8400x1, .i1⟩ : BufTy).Contents (Elt F) → (⟨S16x8400x81, .i1⟩ : BufTy).Contents (Elt F)),
  ternary main_call20_v0 main_v181 main_v185 main_v186 (select : (⟨S16x8400x81, .i1⟩ : BufTy).Contents (Elt F) → (⟨S16x8400x81, .f32⟩ : BufTy).Contents (Elt F) → (⟨S16x8400x81, .f32⟩ : BufTy).Contents (Elt F) → (⟨S16x8400x81, .f32⟩ : BufTy).Contents (Elt F)),
  unary main_v186 main_v187 ((extractStridedSlice S16x8400x80 ![0, 0, 0] · slices_S16x8400x81_S16x8400x80_0_0_0) : (⟨S16x8400x81, .f32⟩ : BufTy).Contents (Elt F) → (⟨S16x8400x80, .f32⟩ : BufTy).Contents (Elt F))]

/-- The operations of part 4 of the program. -/
abbrev ops4 : List (HloOp τ sig (Elt F)) := [
  unary main_arg4 main_v188 (broadcastInDim S16x32x1x4 ![0, 1, 3] bcast_S16x32x4_S16x32x1x4_0_1_3 : (⟨S16x32x4, .f32⟩ : BufTy).Contents (Elt F) → (⟨S16x32x1x4, .f32⟩ : BufTy).Contents (Elt F)),
  unary main_arg1 main_v189 (broadcastInDim S16x1x8400x4 ![0, 2, 3] bcast_S16x8400x4_S16x1x8400x4_0_2_3 : (⟨S16x8400x4, .f32⟩ : BufTy).Contents (Elt F) → (⟨S16x1x8400x4, .f32⟩ : BufTy).Contents (Elt F)),
  unary main_v188 main_v190 ((extractStridedSlice S16x32x1x1 ![0, 0, 0, 0] · slices_S16x32x1x4_S16x32x1x1_0_0_0_0) : (⟨S16x32x1x4, .f32⟩ : BufTy).Contents (Elt F) → (⟨S16x32x1x1, .f32⟩ : BufTy).Contents (Elt F)),
  unary main_v188 main_v191 ((extractStridedSlice S16x32x1x1 ![0, 0, 0, 1] · slices_S16x32x1x4_S16x32x1x1_0_0_0_1) : (⟨S16x32x1x4, .f32⟩ : BufTy).Contents (Elt F) → (⟨S16x32x1x1, .f32⟩ : BufTy).Contents (Elt F)),
  unary main_v188 main_v192 ((extractStridedSlice S16x32x1x1 ![0, 0, 0, 2] · slices_S16x32x1x4_S16x32x1x1_0_0_0_2) : (⟨S16x32x1x4, .f32⟩ : BufTy).Contents (Elt F) → (⟨S16x32x1x1, .f32⟩ : BufTy).Contents (Elt F)),
  unary main_v188 main_v193 ((extractStridedSlice S16x32x1x1 ![0, 0, 0, 3] · slices_S16x32x1x4_S16x32x1x1_0_0_0_3) : (⟨S16x32x1x4, .f32⟩ : BufTy).Contents (Elt F) → (⟨S16x32x1x1, .f32⟩ : BufTy).Contents (Elt F)),
  unary main_v189 main_v194 ((extractStridedSlice S16x1x8400x1 ![0, 0, 0, 0] · slices_S16x1x8400x4_S16x1x8400x1_0_0_0_0) : (⟨S16x1x8400x4, .f32⟩ : BufTy).Contents (Elt F) → (⟨S16x1x8400x1, .f32⟩ : BufTy).Contents (Elt F)),
  unary main_v189 main_v195 ((extractStridedSlice S16x1x8400x1 ![0, 0, 0, 1] · slices_S16x1x8400x4_S16x1x8400x1_0_0_0_1) : (⟨S16x1x8400x4, .f32⟩ : BufTy).Contents (Elt F) → (⟨S16x1x8400x1, .f32⟩ : BufTy).Contents (Elt F)),
  unary main_v189 main_v196 ((extractStridedSlice S16x1x8400x1 ![0, 0, 0, 2] · slices_S16x1x8400x4_S16x1x8400x1_0_0_0_2) : (⟨S16x1x8400x4, .f32⟩ : BufTy).Contents (Elt F) → (⟨S16x1x8400x1, .f32⟩ : BufTy).Contents (Elt F)),
  unary main_v189 main_v197 ((extractStridedSlice S16x1x8400x1 ![0, 0, 0, 3] · slices_S16x1x8400x4_S16x1x8400x1_0_0_0_3) : (⟨S16x1x8400x4, .f32⟩ : BufTy).Contents (Elt F) → (⟨S16x1x8400x1, .f32⟩ : BufTy).Contents (Elt F)),
  unary main_v192 main_v198 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v196 main_v199 (broadcastInDim S16x32x8400x1 ![0, 1, 2, 3] bcast_S16x1x8400x1_S16x32x8400x1_0_1_2_3 : (⟨S16x1x8400x1, .f32⟩ : BufTy).Contents (Elt F) → (⟨S16x32x8400x1, .f32⟩ : BufTy).Contents (Elt F)),
  binary main_v198 main_v199 main_v200 (minimumf : (⟨S16x32x8400x1, .f32⟩ : BufTy).Contents (Elt F) → (⟨S16x32x8400x1, .f32⟩ : BufTy).Contents (Elt F) → (⟨S16x32x8400x1, .f32⟩ : BufTy).Contents (Elt F)),
  unary main_v190 main_v201 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v194 main_v202 (broadcastInDim S16x32x8400x1 ![0, 1, 2, 3] bcast_S16x1x8400x1_S16x32x8400x1_0_1_2_3 : (⟨S16x1x8400x1, .f32⟩ : BufTy).Contents (Elt F) → (⟨S16x32x8400x1, .f32⟩ : BufTy).Contents (Elt F)),
  binary main_v201 main_v202 main_v203 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v200 main_v203 main_v204 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_48 (constant S_ .f32 0x00000000#32),
  unary main_cst_48 main_call21_v0 (id : (⟨S_, .f32⟩ : BufTy).Contents (Elt F) → (⟨S_, .f32⟩ : BufTy).Contents (Elt F)),
  unary main_call21_v0 main_call21_v1 (broadcastInDim S16x32x8400x1 ![] bcast_S_S16x32x8400x1 : (⟨S_, .f32⟩ : BufTy).Contents (Elt F) → (⟨S16x32x8400x1, .f32⟩ : BufTy).Contents (Elt F)),
  binary main_call21_v1 main_v204 main_v205 (maximumf : (⟨S16x32x8400x1, .f32⟩ : BufTy).Contents (Elt F) → (⟨S16x32x8400x1, .f32⟩ : BufTy).Contents (Elt F) → (⟨S16x32x8400x1, .f32⟩ : BufTy).Contents (Elt F)),
  unary main_v193 main_v206 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v197 main_v207 (broadcastInDim S16x32x8400x1 ![0, 1, 2, 3] bcast_S16x1x8400x1_S16x32x8400x1_0_1_2_3 : (⟨S16x1x8400x1, .f32⟩ : BufTy).Contents (Elt F) → (⟨S16x32x8400x1, .f32⟩ : BufTy).Contents (Elt F)),
  binary main_v206 main_v207 main_v208 (minimumf : (⟨S16x32x8400x1, .f32⟩ : BufTy).Contents (Elt F) → (⟨S16x32x8400x1, .f32⟩ : BufTy).Contents (Elt F) → (⟨S16x32x8400x1, .f32⟩ : BufTy).Contents (Elt F)),
  unary main_v191 main_v209 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v195 main_v210 (broadcastInDim S16x32x8400x1 ![0, 1, 2, 3] bcast_S16x1x8400x1_S16x32x8400x1_0_1_2_3 : (⟨S16x1x8400x1, .f32⟩ : BufTy).Contents (Elt F) → (⟨S16x32x8400x1, .f32⟩ : BufTy).Contents (Elt F)),
  binary main_v209 main_v210 main_v211 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v208 main_v211 main_v212 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_49 (constant S_ .f32 0x00000000#32),
  unary main_cst_49 main_call22_v0 (id : (⟨S_, .f32⟩ : BufTy).Contents (Elt F) → (⟨S_, .f32⟩ : BufTy).Contents (Elt F)),
  unary main_call22_v0 main_call22_v1 (broadcastInDim S16x32x8400x1 ![] bcast_S_S16x32x8400x1 : (⟨S_, .f32⟩ : BufTy).Contents (Elt F) → (⟨S16x32x8400x1, .f32⟩ : BufTy).Contents (Elt F)),
  binary main_call22_v1 main_v212 main_v213 (maximumf : (⟨S16x32x8400x1, .f32⟩ : BufTy).Contents (Elt F) → (⟨S16x32x8400x1, .f32⟩ : BufTy).Contents (Elt F) → (⟨S16x32x8400x1, .f32⟩ : BufTy).Contents (Elt F)),
  binary main_v205 main_v213 main_v214 (mulf : (⟨S16x32x8400x1, .f32⟩ : BufTy).Contents (Elt F) → (⟨S16x32x8400x1, .f32⟩ : BufTy).Contents (Elt F) → (⟨S16x32x8400x1, .f32⟩ : BufTy).Contents (Elt F)),
  binary main_v192 main_v190 main_v215 (subf : (⟨S16x32x1x1, .f32⟩ : BufTy).Contents (Elt F) → (⟨S16x32x1x1, .f32⟩ : BufTy).Contents (Elt F) → (⟨S16x32x1x1, .f32⟩ : BufTy).Contents (Elt F)),
  binary main_v193 main_v191 main_v216 (subf : (⟨S16x32x1x1, .f32⟩ : BufTy).Contents (Elt F) → (⟨S16x32x1x1, .f32⟩ : BufTy).Contents (Elt F) → (⟨S16x32x1x1, .f32⟩ : BufTy).Contents (Elt F)),
  binary main_v215 main_v216 main_v217 (mulf : (⟨S16x32x1x1, .f32⟩ : BufTy).Contents (Elt F) → (⟨S16x32x1x1, .f32⟩ : BufTy).Contents (Elt F) → (⟨S16x32x1x1, .f32⟩ : BufTy).Contents (Elt F)),
  binary main_v196 main_v194 main_v218 (subf : (⟨S16x1x8400x1, .f32⟩ : BufTy).Contents (Elt F) → (⟨S16x1x8400x1, .f32⟩ : BufTy).Contents (Elt F) → (⟨S16x1x8400x1, .f32⟩ : BufTy).Contents (Elt F)),
  binary main_v197 main_v195 main_v219 (subf : (⟨S16x1x8400x1, .f32⟩ : BufTy).Contents (Elt F) → (⟨S16x1x8400x1, .f32⟩ : BufTy).Contents (Elt F) → (⟨S16x1x8400x1, .f32⟩ : BufTy).Contents (Elt F)),
  binary main_v218 main_v219 main_v220 (mulf : (⟨S16x1x8400x1, .f32⟩ : BufTy).Contents (Elt F) → (⟨S16x1x8400x1, .f32⟩ : BufTy).Contents (Elt F) → (⟨S16x1x8400x1, .f32⟩ : BufTy).Contents (Elt F)),
  unary main_v217 main_v221 (broadcastInDim S16x32x8400x1 ![0, 1, 2, 3] bcast_S16x32x1x1_S16x32x8400x1_0_1_2_3 : (⟨S16x32x1x1, .f32⟩ : BufTy).Contents (Elt F) → (⟨S16x32x8400x1, .f32⟩ : BufTy).Contents (Elt F)),
  unary main_v220 main_v222 (broadcastInDim S16x32x8400x1 ![0, 1, 2, 3] bcast_S16x1x8400x1_S16x32x8400x1_0_1_2_3 : (⟨S16x1x8400x1, .f32⟩ : BufTy).Contents (Elt F) → (⟨S16x32x8400x1, .f32⟩ : BufTy).Contents (Elt F)),
  binary main_v221 main_v222 main_v223 (addf : (⟨S16x32x8400x1, .f32⟩ : BufTy).Contents (Elt F) → (⟨S16x32x8400x1, .f32⟩ : BufTy).Contents (Elt F) → (⟨S16x32x8400x1, .f32⟩ : BufTy).Contents (Elt F)),
  binary main_v223 main_v214 main_v224 (subf : (⟨S16x32x8400x1, .f32⟩ : BufTy).Contents (Elt F) → (⟨S16x32x8400x1, .f32⟩ : BufTy).Contents (Elt F) → (⟨S16x32x8400x1, .f32⟩ : BufTy).Contents (Elt F)),
  nullary main_cst_50 (constant S_ .f32 0x33D6BF95#32),
  unary main_cst_50 main_v225 (broadcastInDim S16x32x8400x1 ![] bcast_S_S16x32x8400x1 : (⟨S_, .f32⟩ : BufTy).Contents (Elt F) → (⟨S16x32x8400x1, .f32⟩ : BufTy).Contents (Elt F)),
  binary main_v224 main_v225 main_v226 (addf : (⟨S16x32x8400x1, .f32⟩ : BufTy).Contents (Elt F) → (⟨S16x32x8400x1, .f32⟩ : BufTy).Contents (Elt F) → (⟨S16x32x8400x1, .f32⟩ : BufTy).Contents (Elt F)),
  binary main_v214 main_v226 main_v227 (Host.divf : (⟨S16x32x8400x1, .f32⟩ : BufTy).Contents (Elt F) → (⟨S16x32x8400x1, .f32⟩ : BufTy).Contents (Elt F) → (⟨S16x32x8400x1, .f32⟩ : BufTy).Contents (Elt F)),
  reshape main_v227 main_v228 (rfl : (.f32 : EltTy) = .f32) shapeCasts_S16x32x8400x1_S16x32x8400,
  binary main_v228 main_v153 main_v229 (mulf : (⟨S16x32x8400, .f32⟩ : BufTy).Contents (Elt F) → (⟨S16x32x8400, .f32⟩ : BufTy).Contents (Elt F) → (⟨S16x32x8400, .f32⟩ : BufTy).Contents (Elt F)),
  nullary main_cst_51 (constant S_ .f32 0xFF800000#32),
  binary main_v229 main_cst_51 main_v230 ((fun x v => Host.reduce FloatOps.maximumf x v reducesTo_S16x32x8400_S16x8400_d1 h_S_) : (⟨S16x32x8400, .f32⟩ : BufTy).Contents (Elt F) → (⟨S_, .f32⟩ : BufTy).Contents (Elt F) → (⟨S16x8400, .f32⟩ : BufTy).Contents (Elt F)),
  unary main_v230 main_v231 (broadcastInDim S16x8400x1 ![0, 1] bcast_S16x8400_S16x8400x1_0_1 : (⟨S16x8400, .f32⟩ : BufTy).Contents (Elt F) → (⟨S16x8400x1, .f32⟩ : BufTy).Contents (Elt F)),
  unary main_v231 main_v232 (broadcastInDim S16x8400x80 ![0, 1, 2] bcast_S16x8400x1_S16x8400x80_0_1_2 : (⟨S16x8400x1, .f32⟩ : BufTy).Contents (Elt F) → (⟨S16x8400x80, .f32⟩ : BufTy).Contents (Elt F)),
  binary main_v187 main_v232 main_v233 (mulf : (⟨S16x8400x80, .f32⟩ : BufTy).Contents (Elt F) → (⟨S16x8400x80, .f32⟩ : BufTy).Contents (Elt F) → (⟨S16x8400x80, .f32⟩ : BufTy).Contents (Elt F)),
  nullary main_cst_52 (constant S_ .f32 0x00000000#32),
  unary main_cst_52 main_v234 (broadcastInDim S16x8400 ![] bcast_S_S16x8400 : (⟨S_, .f32⟩ : BufTy).Contents (Elt F) → (⟨S16x8400, .f32⟩ : BufTy).Contents (Elt F)),
  binary main_v154 main_v234 main_v235 (cmpf .ogt : (⟨S16x8400, .f32⟩ : BufTy).Contents (Elt F) → (⟨S16x8400, .f32⟩ : BufTy).Contents (Elt F) → (⟨S16x8400, .i1⟩ : BufTy).Contents (Elt F))]

/-- The operations of the program. -/
abbrev ops : List (HloOp τ sig (Elt F)) := ops0 ++ (ops1 ++ (ops2 ++ (ops3 ++ ops4)))

set_option maxRecDepth 65536

set_option maxHeartbeats 4000000 in
theorem part0_eq (c : Dev nD) : main_part0 (F := F) c = seq ops0 := rfl

set_option maxHeartbeats 4000000 in
theorem part1_eq (c : Dev nD) : main_part1 (F := F) c = seq ops1 := rfl

set_option maxHeartbeats 4000000 in
theorem part2_eq (c : Dev nD) : main_part2 (F := F) c = seq ops2 := rfl

set_option maxHeartbeats 4000000 in
theorem part3_eq (c : Dev nD) : main_part3 (F := F) c = seq ops3 := rfl

set_option maxHeartbeats 4000000 in
theorem part4_eq (c : Dev nD) : main_part4 (F := F) c = seq ops4 := rfl

theorem main_eq (c : Dev nD) : main (F := F) c = seq ops := by
  simp only [ops, seq_append, ← part0_eq c, ← part1_eq c, ← part2_eq c, ← part3_eq c, ← part4_eq c]
  rfl

theorem sub0 : (ops0 (F := F)).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., binary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., reshape_bufs_sub .., unary_bufs_sub .., unary_bufs_sub .., binary_bufs_sub .., nullary_bufs_sub .., unary_bufs_sub .., binary_bufs_sub .., unary_bufs_sub .., unary_bufs_sub .., unary_bufs_sub ..⟩

theorem fresh0 : (ops0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ordered0 : Ordered 6 (ops0 (F := F)) :=
  (.one (Proc.devRef .tc main_cst) rfl rfl
    (.one (Proc.devRef .tc main_v0) rfl rfl
    (.one (Proc.devRef .tc main_v1) rfl rfl
    (.one (Proc.devRef .tc main_cst_0) rfl rfl
    (.one (Proc.devRef .tc main_v2) rfl rfl
    (.one (Proc.devRef .tc main_v3) rfl rfl
    (.one (Proc.devRef .tc main_v4) rfl rfl
    (.one (Proc.devRef .tc main_v5) rfl rfl
    (.one (Proc.devRef .tc main_v6) rfl rfl
    (.one (Proc.devRef .tc main_v7) rfl rfl
    (.one (Proc.devRef .tc main_v8) rfl rfl
    (.one (Proc.devRef .tc main_v9) rfl rfl
    (.one (Proc.devRef .tc main_v10) rfl rfl
    (.one (Proc.devRef .tc main_v11) rfl rfl
    (.one (Proc.devRef .tc main_v12) rfl rfl
    (.one (Proc.devRef .tc main_v13) rfl rfl
    (.one (Proc.devRef .tc main_v14) rfl rfl
    (.one (Proc.devRef .tc main_v15) rfl rfl
    (.one (Proc.devRef .tc main_v16) rfl rfl
    (.one (Proc.devRef .tc main_v17) rfl rfl
    (.one (Proc.devRef .tc main_v18) rfl rfl
    (.one (Proc.devRef .tc main_v19) rfl rfl
    (.one (Proc.devRef .tc main_v20) rfl rfl
    (.one (Proc.devRef .tc main_v21) rfl rfl
    (.one (Proc.devRef .tc main_cst_1) rfl rfl
    (.one (Proc.devRef .tc main_call0_v0) rfl rfl
    (.one (Proc.devRef .tc main_call0_v1) rfl rfl
    (.one (Proc.devRef .tc main_v22) rfl rfl
    (.one (Proc.devRef .tc main_v23) rfl rfl
    (.one (Proc.devRef .tc main_v24) rfl rfl
    (.one (Proc.devRef .tc main_v25) rfl rfl
    (.one (Proc.devRef .tc main_v26) rfl rfl
    (.one (Proc.devRef .tc main_v27) rfl rfl
    (.one (Proc.devRef .tc main_v28) rfl rfl
    (.one (Proc.devRef .tc main_v29) rfl rfl
    (.one (Proc.devRef .tc main_cst_2) rfl rfl
    (.one (Proc.devRef .tc main_call1_v0) rfl rfl
    (.one (Proc.devRef .tc main_call1_v1) rfl rfl
    (.one (Proc.devRef .tc main_v30) rfl rfl
    (.one (Proc.devRef .tc main_v31) rfl rfl
    (.one (Proc.devRef .tc main_v32) rfl rfl
    (.one (Proc.devRef .tc main_v33) rfl rfl
    (.one (Proc.devRef .tc main_v34) rfl rfl
    (.one (Proc.devRef .tc main_v35) rfl rfl
    (.one (Proc.devRef .tc main_v36) rfl rfl
    (.one (Proc.devRef .tc main_v37) rfl rfl
    (.one (Proc.devRef .tc main_v38) rfl rfl
    (.one (Proc.devRef .tc main_v39) rfl rfl
    (.one (Proc.devRef .tc main_v40) rfl rfl
    (.one (Proc.devRef .tc main_v41) rfl rfl
    (.one (Proc.devRef .tc main_cst_3) rfl rfl
    (.one (Proc.devRef .tc main_v42) rfl rfl
    (.one (Proc.devRef .tc main_v43) rfl rfl
    (.one (Proc.devRef .tc main_v44) rfl rfl
    (.one (Proc.devRef .tc main_v45) rfl rfl
    (.one (Proc.devRef .tc main_v46) rfl rfl
    (.one (Proc.devRef .tc main_v47) rfl rfl
    (.one (Proc.devRef .tc main_v48) rfl rfl
    (.one (Proc.devRef .tc main_cst_4) rfl rfl
    (.one (Proc.devRef .tc main_v49) rfl rfl
    (.one (Proc.devRef .tc main_v50) rfl rfl
    (.one (Proc.devRef .tc main_v51) rfl rfl
    (.one (Proc.devRef .tc main_v52) rfl rfl
    (.one (Proc.devRef .tc main_v53) rfl rfl (.nil _)))))))))))))))))))))))))))))))))))))))))))))))))))))))))))))))))

theorem sub1 : (ops1 (F := F)).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., unary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., ternary_bufs_sub .., unary_bufs_sub .., unary_bufs_sub .., unary_bufs_sub .., unary_bufs_sub .., nullary_bufs_sub .., unary_bufs_sub .., binary_bufs_sub .., nullary_bufs_sub .., unary_bufs_sub .., unary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., ternary_bufs_sub .., unary_bufs_sub .., unary_bufs_sub .., unary_bufs_sub .., unary_bufs_sub .., nullary_bufs_sub .., unary_bufs_sub .., binary_bufs_sub .., nullary_bufs_sub .., unary_bufs_sub .., unary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub ..⟩

theorem fresh1 : (ops1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ordered1 : Ordered 70 (ops1 (F := F)) :=
  (.one (Proc.devRef .tc main_v54) rfl rfl
    (.one (Proc.devRef .tc main_v55) rfl rfl
    (.one (Proc.devRef .tc main_v56) rfl rfl
    (.one (Proc.devRef .tc main_cst_5) rfl rfl
    (.one (Proc.devRef .tc main_v57) rfl rfl
    (.one (Proc.devRef .tc main_v58) rfl rfl
    (.one (Proc.devRef .tc main_cst_6) rfl rfl
    (.one (Proc.devRef .tc main_v59) rfl rfl
    (.one (Proc.devRef .tc main_v60) rfl rfl
    (.one (Proc.devRef .tc main_v61) rfl rfl
    (.one (Proc.devRef .tc main_v62) rfl rfl
    (.one (Proc.devRef .tc main_values) rfl rfl
    (.one (Proc.devRef .tc main_indices) rfl rfl
    (.one (Proc.devRef .tc main_c) rfl rfl
    (.one (Proc.devRef .tc main_v63) rfl rfl
    (.one (Proc.devRef .tc main_v64) rfl rfl
    (.one (Proc.devRef .tc main_c_7) rfl rfl
    (.one (Proc.devRef .tc main_call2_v0) rfl rfl
    (.one (Proc.devRef .tc main_call2_v1) rfl rfl
    (.one (Proc.devRef .tc main_call2_v2) rfl rfl
    (.one (Proc.devRef .tc main_v65) rfl rfl
    (.one (Proc.devRef .tc main_call3_v0) rfl rfl
    (.one (Proc.devRef .tc main_call3_v1) rfl rfl
    (.one (Proc.devRef .tc main_call3_v2) rfl rfl
    (.one (Proc.devRef .tc main_call3_v3) rfl rfl
    (.one (Proc.devRef .tc main_call3_v4) rfl rfl
    (.one (Proc.devRef .tc main_v66) rfl rfl
    (.one (Proc.devRef .tc main_cst_8) rfl rfl
    (.one (Proc.devRef .tc main_v67) rfl rfl
    (.one (Proc.devRef .tc main_cst_9) rfl rfl
    (.one (Proc.devRef .tc main_v68) rfl rfl
    (.one (Proc.devRef .tc main_v69) rfl rfl
    (.one (Proc.devRef .tc main_cst_10) rfl rfl
    (.one (Proc.devRef .tc main_v70) rfl rfl
    (.one (Proc.devRef .tc main_v71) rfl rfl
    (.one (Proc.devRef .tc main_v72) rfl rfl
    (.one (Proc.devRef .tc main_v73) rfl rfl
    (.one (Proc.devRef .tc main_values_11) rfl rfl
    (.one (Proc.devRef .tc main_indices_12) rfl rfl
    (.one (Proc.devRef .tc main_c_13) rfl rfl
    (.one (Proc.devRef .tc main_v74) rfl rfl
    (.one (Proc.devRef .tc main_v75) rfl rfl
    (.one (Proc.devRef .tc main_c_14) rfl rfl
    (.one (Proc.devRef .tc main_call5_v0) rfl rfl
    (.one (Proc.devRef .tc main_call5_v1) rfl rfl
    (.one (Proc.devRef .tc main_call5_v2) rfl rfl
    (.one (Proc.devRef .tc main_v76) rfl rfl
    (.one (Proc.devRef .tc main_call6_v0) rfl rfl
    (.one (Proc.devRef .tc main_call6_v1) rfl rfl
    (.one (Proc.devRef .tc main_call6_v2) rfl rfl
    (.one (Proc.devRef .tc main_call6_v3) rfl rfl
    (.one (Proc.devRef .tc main_call6_v4) rfl rfl
    (.one (Proc.devRef .tc main_v77) rfl rfl
    (.one (Proc.devRef .tc main_cst_15) rfl rfl
    (.one (Proc.devRef .tc main_v78) rfl rfl
    (.one (Proc.devRef .tc main_cst_16) rfl rfl
    (.one (Proc.devRef .tc main_v79) rfl rfl
    (.one (Proc.devRef .tc main_v80) rfl rfl
    (.one (Proc.devRef .tc main_cst_17) rfl rfl
    (.one (Proc.devRef .tc main_v81) rfl rfl
    (.one (Proc.devRef .tc main_v82) rfl rfl
    (.one (Proc.devRef .tc main_v83) rfl rfl
    (.one (Proc.devRef .tc main_v84) rfl rfl
    (.one (Proc.devRef .tc main_values_18) rfl rfl
    (.one (Proc.devRef .tc main_indices_19) rfl rfl
    (.one (Proc.devRef .tc main_c_20) rfl rfl
    (.one (Proc.devRef .tc main_v85) rfl rfl
    (.one (Proc.devRef .tc main_v86) rfl rfl
    (.one (Proc.devRef .tc main_c_21) rfl rfl
    (.one (Proc.devRef .tc main_call8_v0) rfl rfl
    (.one (Proc.devRef .tc main_call8_v1) rfl rfl
    (.one (Proc.devRef .tc main_call8_v2) rfl rfl
    (.one (Proc.devRef .tc main_v87) rfl rfl
    (.one (Proc.devRef .tc main_call9_v0) rfl rfl
    (.one (Proc.devRef .tc main_call9_v1) rfl rfl
    (.one (Proc.devRef .tc main_call9_v2) rfl rfl
    (.one (Proc.devRef .tc main_call9_v3) rfl rfl
    (.one (Proc.devRef .tc main_call9_v4) rfl rfl
    (.one (Proc.devRef .tc main_v88) rfl rfl
    (.one (Proc.devRef .tc main_cst_22) rfl rfl
    (.one (Proc.devRef .tc main_v89) rfl rfl
    (.one (Proc.devRef .tc main_cst_23) rfl rfl
    (.one (Proc.devRef .tc main_v90) rfl rfl
    (.one (Proc.devRef .tc main_v91) rfl rfl (.nil _)))))))))))))))))))))))))))))))))))))))))))))))))))))))))))))))))))))))))))))))))))))

theorem sub2 : (ops2 (F := F)).Forall fun op => op.bufs ⊆ tcRefs τ sig :=
  ⟨nullary_bufs_sub .., unary_bufs_sub .., ternary_bufs_sub .., nary_bufs_sub .., nary_bufs_sub .., nullary_bufs_sub .., unary_bufs_sub .., binary_bufs_sub .., nullary_bufs_sub .., unary_bufs_sub .., ternary_bufs_sub .., reshape_bufs_sub .., nullary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., binary_bufs_sub .., nullary_bufs_sub .., unary_bufs_sub .., ternary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., binary_bufs_sub .., nullary_bufs_sub .., binary_bufs_sub .., nullary_bufs_sub ..⟩

theorem fresh2 : (ops2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ordered2 : Ordered 154 (ops2 (F := F)) :=
  (.one (Proc.devRef .tc main_cst_24) rfl rfl
    (.one (Proc.devRef .tc main_v92) rfl rfl
    (.one (Proc.devRef .tc main_v93) rfl rfl
    (.one (Proc.devRef .tc main_v94) rfl rfl
    (.one (Proc.devRef .tc main_v95) rfl rfl
    (.one (Proc.devRef .tc main_cst_25) rfl rfl
    (.one (Proc.devRef .tc main_v96) rfl rfl
    (.one (Proc.devRef .tc main_v97) rfl rfl
    (.one (Proc.devRef .tc main_cst_26) rfl rfl
    (.one (Proc.devRef .tc main_v98) rfl rfl
    (.one (Proc.devRef .tc main_v99) rfl rfl
    (.one (Proc.devRef .tc main_v100) rfl rfl
    (.one (Proc.devRef .tc main_v101) rfl rfl
    (.one (Proc.devRef .tc main_c_27) rfl rfl
    (.one (Proc.devRef .tc main_v102) rfl rfl
    (.one (Proc.devRef .tc main_v103) rfl rfl
    (.one (Proc.devRef .tc main_v104) rfl rfl
    (.one (Proc.devRef .tc main_v105) rfl rfl
    (.one (Proc.devRef .tc main_v106) rfl rfl
    (.one (Proc.devRef .tc main_v107) rfl rfl
    (.one (Proc.devRef .tc main_c_28) rfl rfl
    (.one (Proc.devRef .tc main_v108) rfl rfl
    (.one (Proc.devRef .tc main_v109) rfl rfl
    (.one (Proc.devRef .tc main_c_29) rfl rfl
    (.one (Proc.devRef .tc main_v110) rfl rfl
    (.one (Proc.devRef .tc main_v111) rfl rfl
    (.one (Proc.devRef .tc main_v112) rfl rfl
    (.one (Proc.devRef .tc main_v113) rfl rfl
    (.one (Proc.devRef .tc main_v114) rfl rfl
    (.one (Proc.devRef .tc main_v115) rfl rfl
    (.one (Proc.devRef .tc main_cst_30) rfl rfl
    (.one (Proc.devRef .tc main_v116) rfl rfl
    (.one (Proc.devRef .tc main_v117) rfl rfl
    (.one (Proc.devRef .tc main_cst_31) rfl rfl
    (.one (Proc.devRef .tc main_v118) rfl rfl
    (.one (Proc.devRef .tc main_v119) rfl rfl
    (.one (Proc.devRef .tc main_c_32) rfl rfl
    (.one (Proc.devRef .tc main_call12_call0_cst) rfl rfl
    (.one (Proc.devRef .tc main_call12_call0_v0) rfl rfl
    (.one (Proc.devRef .tc main_call12_call0_v1) rfl rfl
    (.one (Proc.devRef .tc main_call12_call0_cst_0) rfl rfl
    (.one (Proc.devRef .tc main_call12_call0_v2) rfl rfl
    (.one (Proc.devRef .tc main_call12_call0_v3) rfl rfl
    (.one (Proc.devRef .tc main_call12_call0_v4) rfl rfl
    (.one (Proc.devRef .tc main_call12_call0_v5) rfl rfl
    (.one (Proc.devRef .tc main_call12_call0_v6) rfl rfl
    (.one (Proc.devRef .tc main_call12_call0_v7) rfl rfl
    (.one (Proc.devRef .tc main_call12_call0_cst_1) rfl rfl
    (.one (Proc.devRef .tc main_call12_call0_v8) rfl rfl
    (.one (Proc.devRef .tc main_call12_call0_cst_2) rfl rfl
    (.one (Proc.devRef .tc main_call12_call0_v9) rfl rfl
    (.one (Proc.devRef .tc main_call12_call0_v10) rfl rfl
    (.one (Proc.devRef .tc main_call12_call0_v11) rfl rfl
    (.one (Proc.devRef .tc main_call12_call0_v12) rfl rfl
    (.one (Proc.devRef .tc main_call12_call0_cst_3) rfl rfl
    (.one (Proc.devRef .tc main_call12_call0_v13) rfl rfl
    (.one (Proc.devRef .tc main_call12_call0_cst_4) rfl rfl
    (.one (Proc.devRef .tc main_call12_call0_call0_v0) rfl rfl
    (.one (Proc.devRef .tc main_call12_call0_call0_v1) rfl rfl
    (.one (Proc.devRef .tc main_call12_v0) rfl rfl
    (.one (Proc.devRef .tc main_v120) rfl rfl
    (.one (Proc.devRef .tc main_v121) rfl rfl
    (.one (Proc.devRef .tc main_v122) rfl rfl
    (.one (Proc.devRef .tc main_v123) rfl rfl
    (.one (Proc.devRef .tc main_cst_33) rfl rfl
    (.one (Proc.devRef .tc main_v124) rfl rfl
    (.one (Proc.devRef .tc main_v125) rfl rfl
    (.one (Proc.devRef .tc main_v126) rfl rfl
    (.one (Proc.devRef .tc main_v127) rfl rfl
    (.one (Proc.devRef .tc main_v128) rfl rfl
    (.one (Proc.devRef .tc main_v129) rfl rfl
    (.one (Proc.devRef .tc main_v130) rfl rfl
    (.one (Proc.devRef .tc main_v131) rfl rfl
    (.one (Proc.devRef .tc main_v132) rfl rfl
    (.one (Proc.devRef .tc main_v133) rfl rfl
    (.one (Proc.devRef .tc main_v134) rfl rfl
    (.one (Proc.devRef .tc main_v135) rfl rfl
    (.one (Proc.devRef .tc main_v136) rfl rfl
    (.one (Proc.devRef .tc main_v137) rfl rfl
    (.one (Proc.devRef .tc main_v138) rfl rfl
    (.one (Proc.devRef .tc main_cst_34) rfl rfl
    (.one (Proc.devRef .tc main_v139) rfl rfl
    (.one (Proc.devRef .tc main_cst_35) rfl rfl (.nil _))))))))))))))))))))))))))))))))))))))))))))))))))))))))))))))))))))))))))))))))))))

theorem sub3 : (ops3 (F := F)).Forall fun op => op.bufs ⊆ tcRefs τ sig :=
  ⟨unary_bufs_sub .., binary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., unary_bufs_sub .., ternary_bufs_sub .., nullary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., binary_bufs_sub .., unary_bufs_sub .., nullary_bufs_sub .., unary_bufs_sub .., binary_bufs_sub .., unary_bufs_sub .., nullary_bufs_sub .., unary_bufs_sub .., unary_bufs_sub .., ternary_bufs_sub .., unary_bufs_sub ..⟩

theorem fresh3 : (ops3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ordered3 : Ordered 237 (ops3 (F := F)) :=
  (.one (Proc.devRef .tc main_v140) rfl rfl
    (.one (Proc.devRef .tc main_v141) rfl rfl
    (.one (Proc.devRef .tc main_v142) rfl rfl
    (.one (Proc.devRef .tc main_v143) rfl rfl
    (.one (Proc.devRef .tc main_v144) rfl rfl
    (.one (Proc.devRef .tc main_v145) rfl rfl
    (.one (Proc.devRef .tc main_cst_36) rfl rfl
    (.one (Proc.devRef .tc main_v146) rfl rfl
    (.one (Proc.devRef .tc main_v147) rfl rfl
    (.one (Proc.devRef .tc main_cst_37) rfl rfl
    (.one (Proc.devRef .tc main_v148) rfl rfl
    (.one (Proc.devRef .tc main_v149) rfl rfl
    (.one (Proc.devRef .tc main_call14_v0) rfl rfl
    (.one (Proc.devRef .tc main_call14_cst) rfl rfl
    (.one (Proc.devRef .tc main_call14_c) rfl rfl
    (.one (Proc.devRef .tc main_call14_v1_0) rfl rfl
    (.one (Proc.devRef .tc main_v150) rfl rfl
    (.one (Proc.devRef .tc main_call15_v0) rfl rfl
    (.one (Proc.devRef .tc main_call15_v1) rfl rfl
    (.one (Proc.devRef .tc main_call15_v2) rfl rfl
    (.one (Proc.devRef .tc main_call15_v3) rfl rfl
    (.one (Proc.devRef .tc main_call15_v4) rfl rfl
    (.one (Proc.devRef .tc main_v151) rfl rfl
    (.one (Proc.devRef .tc main_v152) rfl rfl
    (.one (Proc.devRef .tc main_call16_v0) rfl rfl
    (.one (Proc.devRef .tc main_v153) rfl rfl
    (.one (Proc.devRef .tc main_cst_38) rfl rfl
    (.one (Proc.devRef .tc main_v154) rfl rfl
    (.one (Proc.devRef .tc main_call17_v0) rfl rfl
    (.one (Proc.devRef .tc main_call17_cst) rfl rfl
    (.one (Proc.devRef .tc main_call17_c) rfl rfl
    (.one (Proc.devRef .tc main_call17_v1_0) rfl rfl
    (.one (Proc.devRef .tc main_v155) rfl rfl
    (.one (Proc.devRef .tc main_v156) rfl rfl
    (.one (Proc.devRef .tc main_v157) rfl rfl
    (.one (Proc.devRef .tc main_c_39) rfl rfl
    (.one (Proc.devRef .tc main_v158) rfl rfl
    (.one (Proc.devRef .tc main_v159) rfl rfl
    (.one (Proc.devRef .tc main_v160) rfl rfl
    (.one (Proc.devRef .tc main_v161) rfl rfl
    (.one (Proc.devRef .tc main_v162) rfl rfl
    (.one (Proc.devRef .tc main_c_40) rfl rfl
    (.one (Proc.devRef .tc main_v163) rfl rfl
    (.one (Proc.devRef .tc main_v164) rfl rfl
    (.one (Proc.devRef .tc main_c_41) rfl rfl
    (.one (Proc.devRef .tc main_v165) rfl rfl
    (.one (Proc.devRef .tc main_v166) rfl rfl
    (.one (Proc.devRef .tc main_v167) rfl rfl
    (.one (Proc.devRef .tc main_v168) rfl rfl
    (.one (Proc.devRef .tc main_v169) rfl rfl
    (.one (Proc.devRef .tc main_v170) rfl rfl
    (.one (Proc.devRef .tc main_c_42) rfl rfl
    (.one (Proc.devRef .tc main_v171) rfl rfl
    (.one (Proc.devRef .tc main_v172) rfl rfl
    (.one (Proc.devRef .tc main_c_43) rfl rfl
    (.one (Proc.devRef .tc main_v173) rfl rfl
    (.one (Proc.devRef .tc main_v174) rfl rfl
    (.one (Proc.devRef .tc main_v175) rfl rfl
    (.one (Proc.devRef .tc main_v176) rfl rfl
    (.one (Proc.devRef .tc main_v177) rfl rfl
    (.one (Proc.devRef .tc main_cst_44) rfl rfl
    (.one (Proc.devRef .tc main_v178) rfl rfl
    (.one (Proc.devRef .tc main_v179) rfl rfl
    (.one (Proc.devRef .tc main_c_45) rfl rfl
    (.one (Proc.devRef .tc main_call18_v0) rfl rfl
    (.one (Proc.devRef .tc main_call18_v1) rfl rfl
    (.one (Proc.devRef .tc main_v180) rfl rfl
    (.one (Proc.devRef .tc main_call19_v0) rfl rfl
    (.one (Proc.devRef .tc main_call19_v1) rfl rfl
    (.one (Proc.devRef .tc main_call19_v2) rfl rfl
    (.one (Proc.devRef .tc main_call19_v3) rfl rfl
    (.one (Proc.devRef .tc main_call19_v4) rfl rfl
    (.one (Proc.devRef .tc main_v181) rfl rfl
    (.one (Proc.devRef .tc main_cst_46) rfl rfl
    (.one (Proc.devRef .tc main_v182) rfl rfl
    (.one (Proc.devRef .tc main_v183) rfl rfl
    (.one (Proc.devRef .tc main_v184) rfl rfl
    (.one (Proc.devRef .tc main_cst_47) rfl rfl
    (.one (Proc.devRef .tc main_v185) rfl rfl
    (.one (Proc.devRef .tc main_call20_v0) rfl rfl
    (.one (Proc.devRef .tc main_v186) rfl rfl
    (.one (Proc.devRef .tc main_v187) rfl rfl (.nil _)))))))))))))))))))))))))))))))))))))))))))))))))))))))))))))))))))))))))))))))))))

theorem sub4 : (ops4 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., binary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., reshape_bufs_sub .., binary_bufs_sub .., nullary_bufs_sub .., binary_bufs_sub .., unary_bufs_sub .., unary_bufs_sub .., binary_bufs_sub .., nullary_bufs_sub .., unary_bufs_sub .., binary_bufs_sub ..⟩

theorem fresh4 : (ops4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ordered4 : Ordered 319 (ops4 (F := F)) :=
  (.one (Proc.devRef .tc main_v188) rfl rfl
    (.one (Proc.devRef .tc main_v189) rfl rfl
    (.one (Proc.devRef .tc main_v190) rfl rfl
    (.one (Proc.devRef .tc main_v191) rfl rfl
    (.one (Proc.devRef .tc main_v192) rfl rfl
    (.one (Proc.devRef .tc main_v193) rfl rfl
    (.one (Proc.devRef .tc main_v194) rfl rfl
    (.one (Proc.devRef .tc main_v195) rfl rfl
    (.one (Proc.devRef .tc main_v196) rfl rfl
    (.one (Proc.devRef .tc main_v197) rfl rfl
    (.one (Proc.devRef .tc main_v198) rfl rfl
    (.one (Proc.devRef .tc main_v199) rfl rfl
    (.one (Proc.devRef .tc main_v200) rfl rfl
    (.one (Proc.devRef .tc main_v201) rfl rfl
    (.one (Proc.devRef .tc main_v202) rfl rfl
    (.one (Proc.devRef .tc main_v203) rfl rfl
    (.one (Proc.devRef .tc main_v204) rfl rfl
    (.one (Proc.devRef .tc main_cst_48) rfl rfl
    (.one (Proc.devRef .tc main_call21_v0) rfl rfl
    (.one (Proc.devRef .tc main_call21_v1) rfl rfl
    (.one (Proc.devRef .tc main_v205) rfl rfl
    (.one (Proc.devRef .tc main_v206) rfl rfl
    (.one (Proc.devRef .tc main_v207) rfl rfl
    (.one (Proc.devRef .tc main_v208) rfl rfl
    (.one (Proc.devRef .tc main_v209) rfl rfl
    (.one (Proc.devRef .tc main_v210) rfl rfl
    (.one (Proc.devRef .tc main_v211) rfl rfl
    (.one (Proc.devRef .tc main_v212) rfl rfl
    (.one (Proc.devRef .tc main_cst_49) rfl rfl
    (.one (Proc.devRef .tc main_call22_v0) rfl rfl
    (.one (Proc.devRef .tc main_call22_v1) rfl rfl
    (.one (Proc.devRef .tc main_v213) rfl rfl
    (.one (Proc.devRef .tc main_v214) rfl rfl
    (.one (Proc.devRef .tc main_v215) rfl rfl
    (.one (Proc.devRef .tc main_v216) rfl rfl
    (.one (Proc.devRef .tc main_v217) rfl rfl
    (.one (Proc.devRef .tc main_v218) rfl rfl
    (.one (Proc.devRef .tc main_v219) rfl rfl
    (.one (Proc.devRef .tc main_v220) rfl rfl
    (.one (Proc.devRef .tc main_v221) rfl rfl
    (.one (Proc.devRef .tc main_v222) rfl rfl
    (.one (Proc.devRef .tc main_v223) rfl rfl
    (.one (Proc.devRef .tc main_v224) rfl rfl
    (.one (Proc.devRef .tc main_cst_50) rfl rfl
    (.one (Proc.devRef .tc main_v225) rfl rfl
    (.one (Proc.devRef .tc main_v226) rfl rfl
    (.one (Proc.devRef .tc main_v227) rfl rfl
    (.one (Proc.devRef .tc main_v228) rfl rfl
    (.one (Proc.devRef .tc main_v229) rfl rfl
    (.one (Proc.devRef .tc main_cst_51) rfl rfl
    (.one (Proc.devRef .tc main_v230) rfl rfl
    (.one (Proc.devRef .tc main_v231) rfl rfl
    (.one (Proc.devRef .tc main_v232) rfl rfl
    (.one (Proc.devRef .tc main_v233) rfl rfl
    (.one (Proc.devRef .tc main_cst_52) rfl rfl
    (.one (Proc.devRef .tc main_v234) rfl rfl
    (.one (Proc.devRef .tc main_v235) rfl rfl (.nil _))))))))))))))))))))))))))))))))))))))))))))))))))))))))))

theorem ops_ordered : Ordered 6 (ops (F := F)) :=
  ordered0.append (ordered1.append (ordered2.append (ordered3.append ordered4)))

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  rw [List.forall_iff_forall_mem]
  intro op hop
  simp only [ops, List.mem_append] at hop
  rcases hop with h | h | h | h | h
  · exact List.forall_iff_forall_mem.mp sub0 op h
  · exact List.forall_iff_forall_mem.mp sub1 op h
  · exact List.forall_iff_forall_mem.mp sub2 op h
  · exact List.forall_iff_forall_mem.mp sub3 op h
  · exact List.forall_iff_forall_mem.mp sub4 op h

theorem ops_fresh : ∀ op ∈ (ops (F := F)), op.fresh = ∅ := by
  intro op hop
  simp only [ops, List.mem_append] at hop
  rcases hop with h | h | h | h | h
  · exact List.forall_iff_forall_mem.mp fresh0 op h
  · exact List.forall_iff_forall_mem.mp fresh1 op h
  · exact List.forall_iff_forall_mem.mp fresh2 op h
  · exact List.forall_iff_forall_mem.mp fresh3 op h
  · exact List.forall_iff_forall_mem.mp fresh4 op h

/-- The final contents of a buffer are those after the whole list. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = after ops (launchContents m c) (Proc.devRef .tc b) :=
  run_seq scopedRefs_eq scopedSems_eq defs main (fun _ => ops) main_eq (fun _ => ops_sub) m ρ fun _ => ops_fresh

/-- An argument keeps its contents. -/
theorem arg_keep (V : Valuation τ sig (Elt F)) (b : Ref sig .tc) (hb : rank (Proc.devRef .tc b) < 6) :
    after ops V (Proc.devRef .tc b) = V (Proc.devRef .tc b) := ops_ordered.keep hb V

end Cert.Proof.Ref

end
-- ==== Proof.Frames.lean ====
/-
  The frames of the three programs, and the facts the precondition states.
-/
module

public import proofs.«01_k».proof.Defs
public import proofs.«01_k».proof.Proof.Gen.Kernel
public import proofs.«01_k».proof.Proof.Run
public import proofs.«01_k».proof.Proof.RefOps
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The idealized kernel's frame. -/
theorem frame_ideal : Cert.quiescent_KernelIdeal := fun m ρ _ => Body.frame (F := Ideal) m ρ

section same
variable {F : FTy → Type} [FloatOps F]

/-- The kernel and its idealization have the same body. -/
theorem body_same : Cert.Kernel.cc0__atss_kernel (F := F) = Cert.KernelIdeal.cc0__atss_kernel (F := F) := rfl

theorem table_same : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) =>
    exact congrFun (congrFun (congrFun (congrFun (congrFun (congrFun (congrFun (congrFun (congrFun (congrFun
      (congrFun (congrFun (congrFun (congrFun (congrFun (congrFun (congrFun (congrFun (congrFun body_same
        _) _) _) _) _) _) _) _) _) _) _) _) _) _) _) _) _) _) _

theorem defs_same : Cert.Kernel.defs (F := F) = Cert.KernelIdeal.defs (F := F) :=
  congrArg (fun d => Pipeline.defs (Cert.KernelIdeal.pcfgs (F := F)) d) table_same

theorem main_same : Cert.Kernel.main (F := F) = Cert.KernelIdeal.main (F := F) := rfl

end same

/-- The kernel's frame is the same run at the printed floats. -/
theorem frame_kernel : Cert.quiescent_Kernel := fun m ρ _ => by
  rw [defs_same, main_same]
  exact Body.frame (F := Bits) m ρ

/-- The reference's frame: no operation writes an argument, and the program has no semaphore. -/
theorem frame_ref : Cert.quiescent_ReferenceIdeal := fun m ρ _ =>
  (θ_run Cert.ReferenceIdeal.defs _ _).mono
    (fun _ h => ⟨fun c =>
      ⟨(h c _).trans (Ref.arg_keep _ _ (by decide)), (h c _).trans (Ref.arg_keep _ _ (by decide)),
        (h c _).trans (Ref.arg_keep _ _ (by decide)), (h c _).trans (Ref.arg_keep _ _ (by decide)),
        (h c _).trans (Ref.arg_keep _ _ (by decide)), (h c _).trans (Ref.arg_keep _ _ (by decide))⟩,
      sem_eq_zero_of_no_sems (by decide) _⟩)
    (Ref.run (F := Ideal) m ρ)

end Cert.Proof

end
-- ==== Proof.Order.lean ====
module

public import Idealize.ShloMosaic.PureOps
public import Idealize.ShloMosaic.Lib.SortFacts
public import Idealize.ShloMosaic.Lib.IdealHost

@[expose] public section

noncomputable section

namespace Cert.Proof.Order

open Idealize.ShloMosaic

/-! ## Folds over a row or a column -/

/-- The minimum over a row is the value at a least entry. -/
theorem fold_min_eq {n : ℕ} (f : Fin n → EReal) (p : Fin n) (h : ∀ j, f p ≤ f j) :
    Finset.univ.fold min ⊤ f = f p := by
  apply le_antisymm
  · rw [Finset.fold_min_le]; exact Or.inr ⟨p, Finset.mem_univ _, le_refl _⟩
  · rw [Finset.le_fold_min]; exact ⟨le_top, fun j _ => h j⟩

/-- The maximum over a row is the value at a greatest entry. -/
theorem fold_max_eq {n : ℕ} (f : Fin n → EReal) (p : Fin n) (h : ∀ j, f j ≤ f p) :
    Finset.univ.fold max ⊥ f = f p := by
  apply le_antisymm
  · rw [Finset.fold_max_le]; exact ⟨bot_le, fun j _ => h j⟩
  · rw [Finset.le_fold_max]; exact Or.inr ⟨p, Finset.mem_univ _, le_refl _⟩

theorem minsi_le {x y z : BitVec 32} (hx : z.toInt ≤ x.toInt) (hy : z.toInt ≤ y.toInt) :
    z.toInt ≤ (IntOp.minsi x y).toInt := by
  unfold IntOp.minsi; split <;> assumption

theorem minsi_of_le {x y : BitVec 32} (h : x.toInt ≤ y.toInt) : IntOp.minsi x y = x := by
  unfold IntOp.minsi
  split
  · rfl
  · rename_i h'
    rw [BitVec.slt_iff_toInt_lt] at h'
    exact (BitVec.eq_of_toInt_eq (by omega)).symm

theorem ofNat_toInt {k : ℕ} (h : k < 2 ^ 31) : (BitVec.ofNat 32 k).toInt = k := by
  rw [BitVec.toInt_eq_toNat_cond, BitVec.toNat_ofNat]
  have : k % 2 ^ 32 = k := Nat.mod_eq_of_lt (by omega)
  rw [this, if_pos (by omega)]

/-- The least index at which a property holds, as the kernel computes it: the signed minimum of the indices where it
holds and a large number elsewhere. -/
theorem fold_minsi_first {n : ℕ} (hn : n ≤ 2 ^ 30) (P : Fin n → Prop) [DecidablePred P] (p : Fin n) (hp : P p)
    (hmin : ∀ j, P j → p ≤ j) :
    Finset.univ.fold IntOp.minsi 2147483647#32 (fun x : Fin n => if P x then BitVec.ofNat 32 x.val else 1073741824#32)
      = BitVec.ofNat 32 p.val := by
  have hpn := p.isLt
  rw [← Finset.insert_erase (Finset.mem_univ p), Finset.fold_insert (Finset.notMem_erase _ _), if_pos hp]
  apply minsi_of_le
  rw [ofNat_toInt (by omega)]
  have : ∀ s : Finset (Fin n), (p.val : ℤ) ≤
      (s.fold IntOp.minsi 2147483647#32 (fun x : Fin n => if P x then BitVec.ofNat 32 x.val else 1073741824#32)).toInt := by
    intro s
    induction s using Finset.induction_on with
    | empty =>
      rw [Finset.fold_empty]
      have : (2147483647#32).toInt = 2147483647 := by decide
      omega
    | insert a s ha ih =>
      rw [Finset.fold_insert ha]
      have hz : ((BitVec.ofNat 32 p.val).toInt) = (p.val : ℤ) := ofNat_toInt (by omega)
      rw [← hz] at ih ⊢
      refine minsi_le ?_ ih
      rw [hz]
      split
      · rename_i h
        have ha' := a.isLt
        rw [ofNat_toInt (by omega)]
        have := hmin a h
        exact_mod_cast this
      · have : (1073741824#32).toInt = 1073741824 := by decide
        omega
  exact this _

/-- Every row has a first least entry. -/
theorem exists_first_min {n : ℕ} (hn : 0 < n) (f : Fin n → EReal) :
    ∃ p : Fin n, (∀ j, f p ≤ f j) ∧ ∀ j, f j = f p → p ≤ j := by
  classical
  haveI : Nonempty (Fin n) := ⟨⟨0, hn⟩⟩
  obtain ⟨q, hq⟩ := Finite.exists_min f
  have hne : (Finset.univ.filter fun j : Fin n => f j = f q).Nonempty := ⟨q, by simp⟩
  refine ⟨(Finset.univ.filter fun j : Fin n => f j = f q).min' hne, ?_, ?_⟩
  · have h := Finset.min'_mem _ hne
    rw [Finset.mem_filter] at h
    intro j; rw [h.2]; exact hq j
  · have h := Finset.min'_mem _ hne
    rw [Finset.mem_filter] at h
    intro j hj
    exact Finset.min'_le _ _ (by rw [Finset.mem_filter]; exact ⟨Finset.mem_univ _, hj.trans h.2⟩)

/-- Every column has a first greatest entry. -/
theorem exists_first_max {n : ℕ} (hn : 0 < n) (f : Fin n → EReal) :
    ∃ p : Fin n, (∀ j, f j ≤ f p) ∧ ∀ j, f j = f p → p ≤ j := by
  classical
  haveI : Nonempty (Fin n) := ⟨⟨0, hn⟩⟩
  obtain ⟨q, hq⟩ := Finite.exists_max f
  have hne : (Finset.univ.filter fun j : Fin n => f j = f q).Nonempty := ⟨q, by simp⟩
  refine ⟨(Finset.univ.filter fun j : Fin n => f j = f q).min' hne, ?_, ?_⟩
  · have h := Finset.min'_mem _ hne
    rw [Finset.mem_filter] at h
    intro j; rw [h.2]; exact hq j
  · have h := Finset.min'_mem _ hne
    rw [Finset.mem_filter] at h
    intro j hj
    exact Finset.min'_le _ _ (by rw [Finset.mem_filter]; exact ⟨Finset.mem_univ _, hj.trans h.2⟩)

/-- A sum of ones counts. -/
theorem sum_count {ι : Type*} (s : Finset ι) (P : ι → Prop) [DecidablePred P] :
    (∑ x ∈ s, if P x then (1 : EReal) else 0) = (((s.filter P).card : ℝ) : EReal) := by
  classical
  induction s using Finset.induction_on with
  | empty => simp
  | insert a s ha ih =>
    rw [Finset.sum_insert ha, ih, Finset.filter_insert]
    split
    · rw [Finset.card_insert_of_notMem (by simp [ha])]
      push_cast
      rw [add_comm]
    · rw [zero_add]

/-! ## The order of a row: by distance, then by index -/

/-- The positions of a row in order of their values, equal values in order of their positions. -/
def order {n : ℕ} (d : Fin n → EReal) : Fin n → Fin n := sortedFrom fun k k' => decide (d k < d k')

theorem insert_lex {n : ℕ} (d : Fin n → EReal) (a : Fin n) (l : List (Fin n)) (hal : ∀ b ∈ l, a < b)
    (hl : l.Pairwise fun b c => d b < d c ∨ d b = d c ∧ b < c) :
    (insertBefore (fun k k' => decide (d k < d k')) a l).Pairwise fun b c => d b < d c ∨ d b = d c ∧ b < c := by
  induction l with
  | nil => exact List.pairwise_singleton _ _
  | cons b l ih =>
    rw [List.pairwise_cons] at hl
    unfold insertBefore
    split
    · rename_i h
      rw [decide_eq_true_eq] at h
      rw [List.pairwise_cons]
      refine ⟨fun c hc => ?_, ih (fun c hc => hal c (List.mem_cons_of_mem _ hc)) hl.2⟩
      rcases List.mem_cons.mp ((perm_insertBefore _ a l).mem_iff.mp hc) with rfl | hc
      · exact Or.inl h
      · exact hl.1 c hc
    · rename_i h
      rw [decide_eq_true_eq, not_lt] at h
      rw [List.pairwise_cons, List.pairwise_cons]
      refine ⟨fun c hc => ?_, hl⟩
      have hac := hal c hc
      have hdc : d b ≤ d c := by
        rcases List.mem_cons.mp hc with rfl | hc
        · exact le_refl _
        · rcases hl.1 c hc with h' | h'
          · exact h'.le
          · exact h'.1.le
      rcases lt_or_eq_of_le (h.trans hdc) with h' | h'
      · exact Or.inl h'
      · exact Or.inr ⟨h', hac⟩

theorem sort_lex {n : ℕ} (d : Fin n → EReal) (l : List (Fin n)) (hl : l.Pairwise (· < ·)) :
    (stableSort (fun k k' => decide (d k < d k')) l).Pairwise fun b c => d b < d c ∨ d b = d c ∧ b < c := by
  induction l with
  | nil => exact List.Pairwise.nil
  | cons a l ih =>
    rw [List.pairwise_cons] at hl
    unfold stableSort
    exact insert_lex d a _ (fun b hb => hl.1 b ((perm_stableSort _ l).mem_iff.mp hb)) (ih hl.2)

theorem order_lex {n : ℕ} (d : Fin n → EReal) {r s : Fin n} (h : r < s) :
    d (order d r) < d (order d s) ∨ d (order d r) = d (order d s) ∧ order d r < order d s := by
  have hp := List.pairwise_iff_get.mp (sort_lex d (List.finRange n) (List.pairwise_lt_finRange n))
  unfold order sortedFrom
  exact hp _ _ (show r.val < s.val from h)

theorem order_surj {n : ℕ} (d : Fin n → EReal) : Function.Surjective (order d) := sortedFrom_surjective _
theorem order_inj {n : ℕ} (d : Fin n → EReal) : Function.Injective (order d) := sortedFrom_injective _

theorem order_le {n : ℕ} (d : Fin n → EReal) {r s : Fin n} (h : r ≤ s) : d (order d r) ≤ d (order d s) := by
  rcases lt_or_eq_of_le h with h | rfl
  · rcases order_lex d h with h' | h'
    · exact h'.le
    · exact h'.1.le
  · exact le_refl _

/-- The row without its first `r` positions in order: they are at infinity. -/
def without {n : ℕ} (d : Fin n → EReal) (r : ℕ) (j : Fin n) : EReal :=
  open Classical in if ∃ s : Fin n, s.val < r ∧ order d s = j then ⊤ else d j

theorem without_zero {n : ℕ} (d : Fin n → EReal) : without d 0 = d := by
  funext j
  unfold without
  rw [if_neg]
  rintro ⟨s, hs, -⟩
  exact absurd hs (Nat.not_lt_zero _)

theorem without_of_le {n : ℕ} (d : Fin n → EReal) (r : ℕ) (s : Fin n) (h : r ≤ s.val) : without d r (order d s) = d (order d s) := by
  unfold without
  rw [if_neg]
  rintro ⟨t, ht, he⟩
  have := order_inj d he
  subst this
  omega

theorem without_of_lt {n : ℕ} (d : Fin n → EReal) (r : ℕ) (s : Fin n) (h : s.val < r) : without d r (order d s) = ⊤ := by
  unfold without
  rw [if_pos ⟨s, h, rfl⟩]

/-- What the next round removes is the next position in order. -/
theorem without_first {n : ℕ} (d : Fin n → EReal) (hd : ∀ j, d j < ⊤) (r : Fin n) :
    (∀ j, without d r (order d r) ≤ without d r j)
      ∧ ∀ j, without d r j = without d r (order d r) → order d r ≤ j := by
  have hr := without_of_le d r.val r (le_refl _)
  constructor
  · intro j
    obtain ⟨s, rfl⟩ := order_surj d j
    rw [hr]
    rcases lt_or_ge s.val r.val with h | h
    · rw [without_of_lt d _ s h]; exact le_top
    · rw [without_of_le d _ s h]; exact order_le d h
  · intro j hj
    obtain ⟨s, rfl⟩ := order_surj d j
    rw [hr] at hj
    rcases lt_or_ge s.val r.val with h | h
    · rw [without_of_lt d _ s h] at hj
      exact absurd hj.symm (hd _).ne
    · rw [without_of_le d _ s h] at hj
      rcases lt_or_eq_of_le h with h' | h'
      · rcases order_lex d (Fin.lt_def.mpr h') with h'' | h''
        · rw [hj] at h''; exact absurd h'' (lt_irrefl _)
        · exact h''.2.le
      · rw [Fin.ext h']

theorem without_succ {n : ℕ} (d : Fin n → EReal) (r : Fin n) (j : Fin n) :
    without d (r.val + 1) j = if j = order d r then ⊤ else without d r j := by
  obtain ⟨s, rfl⟩ := order_surj d j
  rcases lt_trichotomy s r with h | h | h
  · rw [without_of_lt d _ s (by have := Fin.lt_def.mp h; omega), without_of_lt d _ s h, ite_self]
  · subst h
    rw [without_of_lt d _ s (by omega), if_pos rfl]
  · have := Fin.lt_def.mp h
    rw [without_of_le d _ s (by omega), without_of_le d _ s (by omega), if_neg]
    intro he
    exact absurd (order_inj d he) h.ne'

theorem without_top_iff {n : ℕ} (d : Fin n → EReal) (hd : ∀ j, d j < ⊤) (r : ℕ) (j : Fin n) :
    without d r j = ⊤ ↔ ∃ s : Fin n, s.val < r ∧ order d s = j := by
  unfold without
  split
  · rename_i h; exact ⟨fun _ => h, fun _ => rfl⟩
  · rename_i h; exact ⟨fun h' => absurd h' (hd j).ne, fun h' => absurd h' h⟩

/-! ## Rounds that remove every least entry

If after `k` such rounds exactly `k` entries are at infinity, each round removed one entry only, the next in order. -/

section fast
variable {n : ℕ} (d : Fin n → EReal) (D : ℕ → Fin n → EReal) (m : ℕ → EReal)

/-- The number of entries at infinity. -/
def gone (f : Fin n → EReal) : ℕ := open Classical in (Finset.univ.filter fun j => f j = ⊤).card

theorem gone_mono_step (hm : ∀ r, ∃ p, D r p = m r ∧ ∀ j, m r ≤ D r j)
    (hD : ∀ r j, D (r + 1) j = if D r j = m r then ⊤ else D r j) (k : ℕ) (h : k < n) (r : ℕ) (hr : k < gone (D r)) :
    k + 1 < gone (D (r + 1)) ∨ n ≤ gone (D (r + 1)) := by
  classical
  obtain ⟨p, hp, hmin⟩ := hm r
  have hsub : (Finset.univ.filter fun j => D r j = ⊤) ⊆ Finset.univ.filter fun j => D (r + 1) j = ⊤ := by
    intro j hj
    rw [Finset.mem_filter] at hj ⊢
    refine ⟨hj.1, ?_⟩
    rw [hD]; split
    · rfl
    · exact hj.2
  have hpm : p ∈ Finset.univ.filter fun j => D (r + 1) j = ⊤ := by
    rw [Finset.mem_filter]; exact ⟨Finset.mem_univ _, by rw [hD, if_pos hp]⟩
  by_cases ht : m r = ⊤
  · right
    have : (Finset.univ.filter fun j => D (r + 1) j = ⊤) = Finset.univ := by
      ext j
      simp only [Finset.mem_filter, Finset.mem_univ, true_and, iff_true]
      have := hmin j
      rw [ht, top_le_iff] at this
      rw [hD, if_pos (this.trans ht.symm)]
    unfold gone
    rw [this, Finset.card_univ, Fintype.card_fin]
  · left
    have hpn : p ∉ Finset.univ.filter fun j => D r j = ⊤ := by
      rw [Finset.mem_filter]; rintro ⟨-, h'⟩; exact ht (hp.symm.trans h')
    have h1 : (insert p (Finset.univ.filter fun j => D r j = ⊤)).card ≤ gone (D (r + 1)) :=
      Finset.card_le_card (Finset.insert_subset hpm hsub)
    rw [Finset.card_insert_of_notMem hpn] at h1
    have : gone (D r) + 1 ≤ gone (D (r + 1)) := h1
    omega

theorem fast_rounds (hd : ∀ j, d j < ⊤) (h0 : D 0 = d) (hm : ∀ r, ∃ p, D r p = m r ∧ ∀ j, m r ≤ D r j)
    (hD : ∀ r j, D (r + 1) j = if D r j = m r then ⊤ else D r j) (K : ℕ) (hK : K < n) (hg : gone (D K) = K) :
    (∀ r ≤ K, D r = without d r) ∧ ∀ r : Fin n, r.val < K → ∀ j, D r j = m r ↔ j = order d r := by
  classical
  -- a round that goes wrong leaves too many entries at infinity for good
  have key : ∀ r k, r + k = K → ¬ r < gone (D r) := by
    intro r k hk hlt
    have : ∀ i, r + i ≤ K → r + i < gone (D (r + i)) := by
      intro i
      induction i with
      | zero => intro _; exact hlt
      | succ i ih =>
        intro hi
        have := gone_mono_step D m hm hD (r + i) (by omega) (r + i) (ih (by omega))
        rcases this with h | h
        · show r + (i + 1) < gone (D (r + (i + 1)))
          have he : r + (i + 1) = r + i + 1 := by omega
          rw [he]; exact h
        · have he : r + (i + 1) = r + i + 1 := by omega
          rw [he]; omega
    have := this k (by omega)
    rw [hk] at this
    omega
  have step : ∀ r : Fin n, r.val < K → D r = without d r → (∀ j, D r j = m r ↔ j = order d r) := by
    intro r hr hDr
    obtain ⟨p, hp, hmin⟩ := hm r.val
    obtain ⟨h1, h2⟩ := without_first d hd r
    have hmr : m r.val = without d r (order d r) := by
      apply le_antisymm
      · have := hmin (order d r); rwa [hDr] at this
      · rw [← hp, hDr]; exact h1 p
    intro j
    constructor
    · intro hj
      by_contra hne
      -- then the round removes both the next position and `j`
      apply key (r.val + 1) (K - (r.val + 1)) (by omega)
      have hlt := hd (order d r)
      have hval : without d r (order d r) = d (order d r) := without_of_le d _ r (le_refl _)
      have hcard : ((Finset.univ.filter fun s : Fin n => s.val < r.val + 1).image (order d)).card = r.val + 1 := by
        rw [Finset.card_image_of_injective _ (order_inj d)]
        have : (Finset.univ.filter fun s : Fin n => s.val < r.val + 1) = Finset.Iic r := by
          ext s; simp only [Finset.mem_filter, Finset.mem_univ, true_and, Finset.mem_Iic, Fin.le_def]; omega
        rw [this, Fin.card_Iic]
      have hj' : j ∉ (Finset.univ.filter fun s : Fin n => s.val < r.val + 1).image (order d) := by
        intro hmem
        rw [Finset.mem_image] at hmem
        obtain ⟨s, hs, hsj⟩ := hmem
        rw [Finset.mem_filter] at hs
        rcases Nat.lt_succ_iff_lt_or_eq.mp hs.2 with h | h
        · rw [hmr, hDr, ← hsj, without_of_lt d _ s h, hval] at hj
          exact hlt.ne hj.symm
        · rw [← hsj] at hne
          exact hne (by rw [Fin.ext h])
      have hsub : insert j ((Finset.univ.filter fun s : Fin n => s.val < r.val + 1).image (order d))
          ⊆ Finset.univ.filter fun i => D (r.val + 1) i = ⊤ := by
        intro i hi
        rw [Finset.mem_filter]
        refine ⟨Finset.mem_univ _, ?_⟩
        rw [hD]
        rcases Finset.mem_insert.mp hi with rfl | hi
        · rw [if_pos hj]
        · rw [Finset.mem_image] at hi
          obtain ⟨s, hs, rfl⟩ := hi
          rw [Finset.mem_filter] at hs
          split
          · rfl
          · rename_i hn
            rcases Nat.lt_succ_iff_lt_or_eq.mp hs.2 with h | h
            · rw [hDr]; exact without_of_lt d _ s h
            · exfalso; apply hn; rw [hmr, hDr, Fin.ext h]
      have := Finset.card_le_card hsub
      rw [Finset.card_insert_of_notMem hj', hcard] at this
      exact this
    · rintro rfl
      rw [hmr, hDr]
  have all : ∀ r ≤ K, D r = without d r := by
    intro r
    induction r with
    | zero => intro _; rw [h0, without_zero]
    | succ r ih =>
      intro hr
      have hDr := ih (by omega)
      have hs := step ⟨r, by omega⟩ hr hDr
      funext j
      rw [hD]
      have := without_succ d ⟨r, by omega⟩ j
      simp only at this hs
      rw [this]
      by_cases h : j = order d ⟨r, by omega⟩
      · rw [if_pos h, if_pos ((hs j).mpr h)]
      · rw [if_neg h, if_neg (fun h' => h ((hs j).mp h')), hDr]
  exact ⟨all, fun r hr => step r hr (all r.val hr.le)⟩

end fast

end Cert.Proof.Order

end
-- ==== Proof.Spec.lean ====
/-
  The assignment, in plain mathematics: what each anchor of an image is assigned, from the ground-truth boxes, the
  anchors and the predicted boxes. Both programs are shown to compute it.
-/
module

public import proofs.«01_k».proof.Proof.Order
public import Idealize.ShloMosaic.PureOps

@[expose] public section

noncomputable section

namespace Cert.Proof.Spec

open Idealize.ShloMosaic
open Cert.Proof.Order

/-- One image: the ground-truth boxes with their labels and mask entries, the anchors of three levels and the boxes
predicted at them. -/
structure Img where
  gx1 : Fin 32 → EReal
  gy1 : Fin 32 → EReal
  gx2 : Fin 32 → EReal
  gy2 : Fin 32 → EReal
  lab : Fin 32 → BitVec 32
  mask : Fin 32 → EReal
  ax : Fin 3 → Fin 2800 → EReal
  ay : Fin 3 → Fin 2800 → EReal
  px1 : Fin 3 → Fin 2800 → EReal
  py1 : Fin 3 → Fin 2800 → EReal
  px2 : Fin 3 → Fin 2800 → EReal
  py2 : Fin 3 → Fin 2800 → EReal

/-- One half, the half side of an anchor's box. -/
abbrev half : EReal := Ideal.ofBits .f32 1056964608#32
/-- The small number in an overlap's denominator. -/
abbrev eps : EReal := Ideal.ofBits .f32 869711765#32

/-- The intersection of two boxes. -/
def inter (a1 b1 a2 b2 c1 d1 c2 d2 : EReal) : EReal := max 0 (min a2 c2 - max a1 c1) * max 0 (min b2 d2 - max b1 d1)

/-- The overlap of two boxes: the intersection over the union. -/
def iou (a1 b1 a2 b2 c1 d1 c2 d2 : EReal) : EReal :=
  Ideal.div (inter a1 b1 a2 b2 c1 d1 c2 d2)
    ((a2 - a1) * (b2 - b1) + (c2 - c1) * (d2 - d1) - inter a1 b1 a2 b2 c1 d1 c2 d2 + eps)

variable (I : Img)

/-- The overlap of a ground-truth box with an anchor's box. -/
def ov (l : Fin 3) (g : Fin 32) (n : Fin 2800) : EReal :=
  iou (I.gx1 g) (I.gy1 g) (I.gx2 g) (I.gy2 g) (I.ax l n - half) (I.ay l n - half) (I.ax l n + half) (I.ay l n + half)

/-- The distance of a ground-truth box's centre from an anchor. -/
def dist (l : Fin 3) (g : Fin 32) (n : Fin 2800) : EReal :=
  Ideal.sqrt
    ((Ideal.div (I.gx1 g + I.gx2 g) (Ideal.ofBits .f32 1073741824#32) - I.ax l n)
        * (Ideal.div (I.gx1 g + I.gx2 g) (Ideal.ofBits .f32 1073741824#32) - I.ax l n)
      + (Ideal.div (I.gy1 g + I.gy2 g) (Ideal.ofBits .f32 1073741824#32) - I.ay l n)
        * (Ideal.div (I.gy1 g + I.gy2 g) (Ideal.ofBits .f32 1073741824#32) - I.ay l n))

/-- How far inside a ground-truth box an anchor lies. -/
def inside (l : Fin 3) (g : Fin 32) (n : Fin 2800) : EReal :=
  min (min (I.ax l n - I.gx1 g) (I.ay l n - I.gy1 g)) (min (I.gx2 g - I.ax l n) (I.gy2 g - I.ay l n))

/-- The nine nearest anchors of a level are its candidates. -/
def cand (l : Fin 3) (g : Fin 32) (n : Fin 2800) : Prop := ∃ r : Fin 2800, r.val < 9 ∧ order (dist I l g) r = n

/-- The overlaps of the candidates of the three levels. -/
def vals (g : Fin 32) (k : Fin 27) : EReal :=
  ov I ⟨k.val / 9, by omega⟩ g (order (dist I ⟨k.val / 9, by omega⟩ g) ⟨k.val % 9, by omega⟩)

/-- The mean of twenty-seven numbers and their deviation about it, added: the threshold. -/
def mean (x : Fin 27 → EReal) : EReal := Ideal.div (∑ k, x k) (Ideal.ofBits .f32 1104674816#32)
def threshold (x : Fin 27 → EReal) : EReal :=
  mean x + Ideal.sqrt (Ideal.div (∑ k, (x k - mean x) * (x k - mean x)) (Ideal.ofBits .f32 1104150528#32))

/-- An anchor is positive for a ground-truth box: a candidate whose overlap is over the threshold, inside the box. -/
def pos (l : Fin 3) (g : Fin 32) (n : Fin 2800) : Prop :=
  cand I l g n ∧ threshold (vals I g) < ov I l g n ∧ Ideal.ofBits .f32 814313567#32 < inside I l g n ∧ 0 < I.mask g

/-! ## One anchor's column -/

/-- The number of boxes with a property. -/
def count (P : Fin 32 → Prop) : ℕ := open Classical in (Finset.univ.filter P).card

/-- The first of the boxes with the greatest overlap. -/
def best (o : Fin 32 → EReal) : Fin 32 := Classical.choose (exists_first_max (by norm_num) o)

theorem best_spec (o : Fin 32 → EReal) : (∀ j, o j ≤ o (best o)) ∧ ∀ j, o j = o (best o) → best o ≤ j :=
  Classical.choose_spec (exists_first_max (by norm_num) o)

/-- The box an anchor is assigned: of several, that of the greatest overlap. -/
def pickOf (P : Fin 32 → Prop) (o : Fin 32 → EReal) (g : Fin 32) : Prop :=
  (1 < count P ∧ g = best o) ∨ (¬ 1 < count P ∧ P g)

theorem pickOf_unique {P : Fin 32 → Prop} {o : Fin 32 → EReal} {g g' : Fin 32} (h : pickOf P o g) (h' : pickOf P o g') :
    g = g' := by
  classical
  rcases h with ⟨h1, rfl⟩ | ⟨h1, h2⟩ <;> rcases h' with ⟨h1', rfl⟩ | ⟨h1', h2'⟩
  · rfl
  · exact absurd h1 h1'
  · exact absurd h1' h1
  · by_contra hne
    apply h1
    unfold count
    exact Finset.one_lt_card.mpr ⟨g, by simpa using h2, g', by simpa using h2', hne⟩

/-- One where a property holds and zero where not. -/
def ind (p : Prop) : EReal := open Classical in if p then 1 else 0

theorem ind_true {p : Prop} (h : p) : ind p = 1 := if_pos h
theorem ind_false {p : Prop} (h : ¬ p) : ind p = 0 := if_neg h
theorem ind_congr {p q : Prop} (h : p ↔ q) : ind p = ind q := by rw [propext h]

variable (l : Fin 3) (n : Fin 2800)

/-- The box assigned to an anchor. -/
def pick (g : Fin 32) : Prop := pickOf (fun g => pos I l g n) (fun g => ov I l g n) g

/-- The index of the assigned box, zero when there is none. -/
def target : Fin 32 := open Classical in if h : ∃ g, pick I l n g then Classical.choose h else 0

theorem target_eq {g : Fin 32} (h : pick I l n g) : target I l n = g := by
  unfold target
  rw [dif_pos ⟨g, h⟩]
  exact pickOf_unique (Classical.choose_spec (⟨g, h⟩ : ∃ g, pick I l n g)) h

theorem target_none (h : ¬ ∃ g, pick I l n g) : target I l n = 0 := by
  unfold target
  rw [dif_neg h]

/-- The overlap of an anchor's predicted box with a ground-truth box. -/
def piou (g : Fin 32) : EReal :=
  iou (I.gx1 g) (I.gy1 g) (I.gx2 g) (I.gy2 g) (I.px1 l n) (I.py1 l n) (I.px2 l n) (I.py2 l n)

/-- The greatest overlap of the predicted box with an assigned box. -/
def scale : EReal := Finset.univ.fold max ⊥ fun g => piou I l n g * ind (pick I l n g)

/-- The results: the assigned box's index, label, coordinates and class scores. -/
def label : BitVec 32 := open Classical in if ∃ g, pick I l n g then I.lab (target I l n) else 80#32
def score (c : Fin 80) : EReal :=
  open Classical in if (∃ g, pick I l n g) ∧ BitVec.ofNat 32 c.val = I.lab (target I l n) then scale I l n else 0
def box (c : Fin 4) : EReal :=
  match c with
  | 0 => I.gx1 (target I l n)
  | 1 => I.gy1 (target I l n)
  | 2 => I.gx2 (target I l n)
  | 3 => I.gy2 (target I l n)

/-! ## Sums over a column with at most one entry -/

theorem sum_pick_some (f : Fin 32 → EReal) {g : Fin 32} (h : pick I l n g) :
    ∑ x, ind (pick I l n x) * f x = f g := by
  rw [Finset.sum_eq_single g]
  · have h1 : ind (pick I l n g) = 1 := ind_true h
    rw [h1, one_mul]
  · intro x _ hx
    have hn : ¬ pick I l n x := fun h' => hx (pickOf_unique h' h)
    rw [ind_false hn, zero_mul]
  · intro h'; exact absurd (Finset.mem_univ _) h'

theorem sum_pick_none (f : Fin 32 → EReal) (h : ¬ ∃ g, pick I l n g) : ∑ x, ind (pick I l n x) * f x = 0 := by
  apply Finset.sum_eq_zero
  intro x _
  have hn : ¬ pick I l n x := fun h' => h ⟨x, h'⟩
  rw [ind_false hn, zero_mul]

theorem sum_ind (P : Fin 32 → Prop) : ∑ x, ind (P x) = ((count P : ℝ) : EReal) := by
  classical
  unfold ind count
  rw [sum_count]

theorem sum_pick_pos : 0 < ∑ x, ind (pick I l n x) ↔ ∃ g, pick I l n g := by
  constructor
  · intro h
    by_contra hn
    have := sum_pick_none I l n (fun _ => 1) hn
    simp only [mul_one] at this
    rw [this] at h
    exact lt_irrefl _ h
  · rintro ⟨g, h⟩
    have := sum_pick_some I l n (fun _ => 1) h
    simp only [mul_one] at this
    rw [this]
    exact zero_lt_one

end Cert.Proof.Spec

end
-- ==== Proof.Column.lean ====
/-
  What the kernel's column computations give, in the words of the assignment: the choice among several boxes, the sum of
  indices, the one-hot sums.
-/
module

public import proofs.«01_k».proof.Proof.Spec
public import Idealize.ShloMosaic.Lib.Pointwise
public import Idealize.ShloMosaic.Lib.IdealHost

@[expose] public section

noncomputable section

namespace Cert.Proof.Spec

open Idealize.ShloMosaic
open Cert.Proof.Order

theorem ori_bool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem xori_bool (p : Prop) [Decidable p] :
    IntOp.xori (BitVec.ofBool (decide p)) 1#1 = BitVec.ofBool (decide (¬ p)) := by
  by_cases hp : p <;> simp [hp, IntOp.xori]

theorem select_bool (p : Prop) [Decidable p] (x y : EReal) :
    Scalar.select (BitVec.ofBool (decide p)) x y = if p then x else y := by
  by_cases hp : p
  · rw [if_pos hp, decide_eq_true hp]; rfl
  · rw [if_neg hp, decide_eq_false hp]; rfl

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem cmpi_eq_bool (x y : BitVec 32) : IntOp.cmpi CmpIPredicate.eq x y = BitVec.ofBool (decide (x = y)) := by
  show BitVec.ofBool (x == y) = _
  by_cases h : x = y
  · rw [decide_eq_true h, beq_iff_eq.mpr h]
  · rw [decide_eq_false h, beq_eq_false_iff_ne.mpr h]

/-- Two choices on the same condition, however it is decided. -/
theorem ite_iff {α : Type} {p q : Prop} {dp : Decidable p} {dq : Decidable q} (h : p ↔ q) (x y : α) :
    @ite α p dp x y = @ite α q dq x y := by
  by_cases hp : p
  · rw [if_pos hp, if_pos (h.mp hp)]
  · rw [if_neg hp, if_neg (fun hq => hp (h.mpr hq))]

/-- The sum of ones at the entries with a property. -/
theorem sum_select (w : Fin 32 → BitVec 1) (P : Fin 32 → Prop) (hw : ∀ g, w g = open Classical in BitVec.ofBool (decide (P g))) :
    ∑ x, Scalar.select (w x) (1 : EReal) 0 = ((count P : ℝ) : EReal) := by
  rw [← sum_ind]
  apply Finset.sum_congr rfl
  intro x _
  rw [hw, select_bool]
  rfl

/-- The kernel's choice in one column. -/
theorem column (w : Fin 32 → BitVec 1) (o : Fin 32 → EReal) (P : Fin 32 → Prop)
    (hw : ∀ g, w g = open Classical in BitVec.ofBool (decide (P g))) (i : Fin 32) :
    Scalar.select
      (IntOp.ori
        (IntOp.andi (BitVec.ofBool (decide (1 < ∑ x, Scalar.select (w x) (1 : EReal) 0)))
          (IntOp.cmpi CmpIPredicate.eq (BitVec.ofNat 32 i.val)
            (Finset.univ.fold IntOp.minsi (2147483647#32)
              (fun x => if o x = Finset.univ.fold max ⊥ o then BitVec.ofNat 32 x.val else 1073741824#32))))
        (IntOp.andi (IntOp.xori (BitVec.ofBool (decide (1 < ∑ x, Scalar.select (w x) (1 : EReal) 0))) 1#1) (w i)))
      (1 : EReal) 0 = ind (pickOf P o i) := by
  classical
  have hb := best_spec o
  rw [sum_select w P hw, fold_max_eq o (best o) hb.1,
    fold_minsi_first (by norm_num) (fun x => o x = o (best o)) (best o) rfl hb.2, cmpi_eq_bool, hw i, xori_bool, andi_bool,
    andi_bool, ori_bool, select_bool]
  unfold ind pickOf
  have h1 : (1 : EReal) < ((count P : ℝ) : EReal) ↔ 1 < count P := by
    rw [← EReal.coe_one, EReal.coe_lt_coe_iff]; exact Nat.one_lt_cast
  have h2 : BitVec.ofNat 32 i.val = BitVec.ofNat 32 (best o).val ↔ i = best o := by
    have := i.isLt
    have := (best o).isLt
    rw [ofNat_inj (by omega) (by omega), Fin.ext_iff]
  exact ite_iff (or_congr (and_congr h1 h2) (and_congr (not_congr h1) Iff.rfl)) _ _

theorem sitofp_eq (x : BitVec 32) : (FloatOps.sitofp (F := Ideal) .f32 x : EReal) = ((x.toInt : ℝ) : EReal) := rfl

theorem fptosi_int (x : BitVec 32) : FloatOps.fptosi (F := Ideal) (φ := .f32) 32 (((x.toInt : ℝ) : EReal) : Ideal .f32) = x := by
  have h1 := BitVec.toInt_lt (x := x)
  have h2 := BitVec.le_toInt (x := x)
  have h : FloatOps.fptosi (F := Ideal) (φ := .f32) 32 (((x.toInt : ℝ) : EReal) : Ideal .f32)
      = BitVec.ofInt 32 (max (-(2 ^ (32 - 1) : Nat)) (min ((2 ^ (32 - 1) : Nat) - 1)
          (if (0 : ℝ) ≤ (x.toInt : ℝ) then ⌊(x.toInt : ℝ)⌋ else ⌈(x.toInt : ℝ)⌉))) := rfl
  rw [h, Int.floor_intCast, Int.ceil_intCast, ite_self, min_eq_right (by norm_num; omega),
    max_eq_right (by norm_num; omega), BitVec.ofInt_toInt]

variable (I : Img) (l : Fin 3) (n : Fin 2800)

/-- The sum of the indices of the assigned boxes, as an integer, is the assigned index. -/
theorem index_sum : FloatOps.fptosi (F := Ideal) (φ := .f32) 32
    (∑ x : Fin 32, ind (pick I l n x) * (FloatOps.sitofp (F := Ideal) .f32 (BitVec.ofNat 32 x.val) : EReal))
      = BitVec.ofNat 32 (target I l n).val := by
  by_cases h : ∃ g, pick I l n g
  · obtain ⟨g, hg⟩ := h
    rw [sum_pick_some I l n _ hg, sitofp_eq, fptosi_int, target_eq I l n hg]
  · rw [sum_pick_none I l n _ h, target_none I l n h]
    have := fptosi_int 0#32
    simpa using this

/-- The one-hot column of the assigned index. -/
theorem onehot (x : Fin 32) : Scalar.select (IntOp.cmpi CmpIPredicate.eq (BitVec.ofNat 32 x.val)
    (BitVec.ofNat 32 (target I l n).val)) (1 : EReal) 0 = ind (x = target I l n) := by
  classical
  have := x.isLt
  have := (target I l n).isLt
  rw [cmpi_eq_bool, select_bool]
  unfold ind
  apply ite_iff
  rw [ofNat_inj (by omega) (by omega), Fin.ext_iff]

/-- A one-hot sum is the value at the assigned index. -/
theorem onehot_sum (f : Fin 32 → EReal) : ∑ x, ind (x = target I l n) * f x = f (target I l n) := by
  rw [Finset.sum_eq_single (target I l n)]
  · rw [ind_true rfl, one_mul]
  · intro x _ hx
    rw [ind_false hx, zero_mul]
  · intro h'; exact absurd (Finset.mem_univ _) h'

/-- The class scores of an anchor. -/
theorem score_sum (c : Fin 80) : ∑ x, Scalar.select (IntOp.cmpi CmpIPredicate.eq (BitVec.ofNat 32 c.val) (I.lab x))
    (ind (pick I l n x) * scale I l n) 0 = score I l n c := by
  classical
  by_cases h : ∃ g, pick I l n g
  · obtain ⟨g, hg⟩ := h
    rw [Finset.sum_eq_single g]
    · have h1 : ind (pick I l n g) = 1 := ind_true hg
      rw [h1, one_mul, cmpi_eq_bool, select_bool]
      unfold score
      rw [target_eq I l n hg]
      exact ite_iff (and_iff_right ⟨g, hg⟩).symm _ _
    · intro x _ hx
      have hn : ¬ pick I l n x := fun h' => hx (pickOf_unique h' hg)
      rw [ind_false hn, zero_mul, cmpi_eq_bool, select_bool, ite_self]
    · intro h'; exact absurd (Finset.mem_univ _) h'
  · rw [Finset.sum_eq_zero]
    · unfold score
      rw [if_neg (fun h' => h h'.1)]
    · intro x _
      have hn : ¬ pick I l n x := fun h' => h ⟨x, h'⟩
      rw [ind_false hn, zero_mul, cmpi_eq_bool, select_bool, ite_self]

end Cert.Proof.Spec

end
-- ==== Proof.Rounds.lean ====
/-
  The selection of nine candidates in each row of a level: what the exact and the fast rounds leave.
-/
module
public import proofs.«01_k».proof.Proof.Choice
public import proofs.«01_k».proof.Proof.Order
public import Idealize.ShloMosaic.Lib.Pointwise
public import Idealize.ShloMosaic.Lib.IdealHost

@[expose] public section

set_option maxRecDepth 16384

noncomputable section

namespace Cert.Proof.Body

open Cert.KernelIdeal Cert.KernelIdeal.Gen
open Idealize.ShloMosaic
open Cert.Proof.Order

section rounds
variable {F : FTy → Type} [FloatOps F]
/-- The entry an exact round removes in each row: the first of the row's least. -/
def exSel (D : FVec F S96x2800 .f32) : IVec S96x2800 1 := k0_pay2 D
/-- The entries a fast round removes in each row: all of the row's least. -/
def fsSel (D : FVec F S96x2800 .f32) : IVec S96x2800 1 :=
  cmpf .oeq D (broadcastTo S96x2800 (shapeCast S96x1 (multiReduction .minimumf [1] S96 D 0x7F800000#32 reduces_S96x2800_S96 (.inl rfl) rfl) shapeCasts_S96_S96x1) broadcasts_S96x1_S96x2800)
/-- The sum of the overlaps at the removed entries. -/
def selVal (s : IVec S96x2800 1) (o : FVec F S96x2800 .f32) : FVec F S96x1 .f32 := k0_pay10 o s k0_pay9
/-- The distances, the removed entries at infinity. -/
def selNext (s : IVec S96x2800 1) (D : FVec F S96x2800 .f32) : FVec F S96x2800 .f32 := k0_pay11 D s
/-- The distances after some exact rounds, and the overlap each one takes. -/
def exD (d : FVec F S96x2800 .f32) : ℕ → FVec F S96x2800 .f32
  | 0 => d
  | r + 1 => selNext (exSel (exD d r)) (exD d r)
def exV (d o : FVec F S96x2800 .f32) (r : ℕ) : FVec F S96x1 .f32 := selVal (exSel (exD d r)) o
/-- The distances after some fast rounds, and the overlap each one takes. -/
def fsD (d : FVec F S96x2800 .f32) : ℕ → FVec F S96x2800 .f32
  | 0 => d
  | r + 1 => selNext (fsSel (fsD d r)) (fsD d r)
def fsV (d o : FVec F S96x2800 .f32) (r : ℕ) : FVec F S96x1 .f32 := selVal (fsSel (fsD d r)) o
variable (d o : FVec F S96x2800 .f32)
theorem e710 : v710 d o = exV d o 0 := rfl
theorem e726 : v726 d o = exV d o 1 := rfl
theorem e728 : v728 d o = exD d 2 := rfl
theorem e738 : v738 d o = exSel (exD d 2) := rfl
theorem e742 : v742 d o = exV d o 2 := rfl
theorem e758 : v758 d o = exV d o 3 := by unfold v758; rw [e728, e738]; rfl
theorem e774 : v774 d o = exV d o 4 := by unfold v774; rw [e728, e738]; rfl
theorem e776 : v776 d o = exD d 5 := by unfold v776; rw [e728, e738]; rfl
theorem e790 : v790 d o = exV d o 5 := by unfold v790 v782; rw [e728, e738]; rfl
theorem e806 : v806 d o = exV d o 6 := by unfold v806 v782; rw [e776, e728, e738]; rfl
theorem e822 : v822 d o = exV d o 7 := by unfold v822 v782; rw [e776, e728, e738]; rfl
theorem e824 : v824 d o = exD d 8 := by unfold v824 v782; rw [e776, e728, e738]; rfl
theorem e840 : k0_pay104 (v696 d o) (v824 d o) (v826 d o) = exD d 9 := by
  have : v826 d o = (shapeCast S96x1 (multiReduction .minimumf [1] S96 (exD d 8) 0x7F800000#32 reduces_S96x2800_S96 (.inl rfl) rfl) shapeCasts_S96_S96x1) := by unfold v826 v782; rw [e776, e728, e738]; rfl
  rw [this, e824]; rfl
variable (b : Blk F)
theorem f181 : v181 b = fsV (v172 b) (v173 b) 0 := rfl
theorem f183 : v183 b = fsD (v172 b) 1 := rfl
theorem f187 : v187 b = fsSel (fsD (v172 b) 1) := rfl
theorem f191 : v191 b = fsV (v172 b) (v173 b) 1 := by unfold v191; rw [f187]; rfl
theorem f201 : v201 b = fsV (v172 b) (v173 b) 2 := by unfold v201; rw [f187, f183]; rfl
theorem f211 : v211 b = fsV (v172 b) (v173 b) 3 := by unfold v211; rw [f187, f183]; rfl
theorem f221 : v221 b = fsV (v172 b) (v173 b) 4 := by unfold v221; rw [f187, f183]; rfl
theorem f223 : v223 b = fsD (v172 b) 5 := by unfold v223; rw [f187, f183]; rfl
theorem f227 : v227 b = fsSel (fsD (v172 b) 5) := by unfold v227; rw [f187, f183]; rfl
theorem f231 : v231 b = fsV (v172 b) (v173 b) 5 := by unfold v231; rw [f187, f183]; rfl
theorem f241 : v241 b = fsV (v172 b) (v173 b) 6 := by unfold v241; rw [f227, f223]; rfl
theorem f251 : v251 b = fsV (v172 b) (v173 b) 7 := by unfold v251; rw [f227, f223]; rfl
theorem f261 : v261 b = fsV (v172 b) (v173 b) 8 := by unfold v261; rw [f227, f223]; rfl
/-- How far the number of entries at infinity is from nine, in each row. -/
def devC (D : FVec F S96x2800 .f32) : FVec F S96x1 .f32 :=
  absf (subf (shapeCast S96x1 (multiReduction .add [1] S96 (select (cmpf .oeq D (broadcast S96x2800 (Scalar.ofBits .f32 0x7F800000#32)))
    (broadcast S96x2800 (Scalar.ofBits .f32 0x3F800000#32)) (broadcast S96x2800 (Scalar.ofBits .f32 0x00000000#32))) 0x00000000#32
    reduces_S96x2800_S96 (.inl rfl) rfl) shapeCasts_S96_S96x1) (broadcast S96x1 (Scalar.ofBits .f32 0x41100000#32)))
theorem f263 : v263 b = fsD (v172 b) 9 := by unfold v263; rw [f227, f223]; rfl
theorem f273 : v273 b = devC (v263 b) := rfl
end rounds

/-! ## The rounds, read over the extended reals -/

theorem top_word : Ideal.ofBits .f32 2139095040#32 = ⊤ := by
  simp [Ideal.ofBits, Ideal.ieee]

theorem bot_word : Ideal.ofBits .f32 4286578688#32 = ⊥ := by
  simp [Ideal.ofBits, Ideal.ieee]

/-- A row of the stacked levels. -/
def rowOf (D : FVec Ideal S96x2800 .f32) (i : Fin 96) (n : Fin 2800) : EReal := D (ix2 i n)

theorem exSel_read (D : FVec Ideal S96x2800 .f32) (i : Fin 96) (n p : Fin 2800)
    (hp : (∀ j, rowOf D i p ≤ rowOf D i j) ∧ ∀ j, rowOf D i j = rowOf D i p → p ≤ j) :
    exSel D (ix2 i n) = if n = p then 1#1 else 0#1 := by
  pointwise [exSel, k0_pay2]
  rw [top_word, fold_min_eq (fun x => D (ix2 i x)) p hp.1,
    fold_minsi_first (by norm_num) (fun x => D (ix2 i x) = D (ix2 i p)) p rfl hp.2]
  have hn := n.isLt
  have hpl := p.isLt
  by_cases h : n = p
  · subst h; rw [if_pos rfl]; simp [IntOp.cmpi]
  · rw [if_neg h]
    have : BitVec.ofNat 32 n.val ≠ BitVec.ofNat 32 p.val := by
      intro h'
      have := congrArg BitVec.toNat h'
      rw [BitVec.toNat_ofNat, BitVec.toNat_ofNat, Nat.mod_eq_of_lt (by omega), Nat.mod_eq_of_lt (by omega)] at this
      exact h (Fin.ext this)
    show BitVec.ofBool (BitVec.ofNat 32 n.val == BitVec.ofNat 32 p.val) = 0#1
    rw [beq_eq_false_iff_ne.mpr this]; rfl

theorem fsSel_read (D : FVec Ideal S96x2800 .f32) (i : Fin 96) (n : Fin 2800) :
    fsSel D (ix2 i n) = BitVec.ofBool (decide (rowOf D i n = Finset.univ.fold min ⊤ (rowOf D i))) := by
  pointwise [fsSel]
  rw [top_word]
  rfl

theorem selVal_read (s : IVec S96x2800 1) (o : FVec Ideal S96x2800 .f32) (i : Fin 96) :
    selVal s o (ix2 i 0) = ∑ x : Fin 2800, Scalar.select (s (ix2 i x)) (o (ix2 i x)) 0 := by
  pointwise [selVal, k0_pay10, k0_pay9]

theorem selNext_read (s : IVec S96x2800 1) (D : FVec Ideal S96x2800 .f32) (i : Fin 96) (n : Fin 2800) :
    selNext s D (ix2 i n) = Scalar.select (s (ix2 i n)) ⊤ (D (ix2 i n)) := by
  pointwise [selNext, k0_pay11]
  rw [top_word]

theorem select_one (x y : EReal) : Scalar.select 1#1 x y = x := rfl
theorem select_zero (x y : EReal) : Scalar.select 0#1 x y = y := rfl

/-- Whatever is removed, a row of zero overlaps gives zero. -/
theorem selVal_zero (s : IVec S96x2800 1) (o : FVec Ideal S96x2800 .f32) (i : Fin 96) (ho : ∀ n, rowOf o i n = 0) :
    selVal s o (ix2 i 0) = 0 := by
  rw [selVal_read]
  apply Finset.sum_eq_zero
  intro x _
  have := ho x
  unfold rowOf at this
  rw [this]
  unfold Scalar.select
  split <;> rfl

/-- One entry removed: the overlap at it. -/
theorem selVal_at (s : IVec S96x2800 1) (o : FVec Ideal S96x2800 .f32) (i : Fin 96) (p : Fin 2800)
    (h : ∀ n, s (ix2 i n) = if n = p then 1#1 else 0#1) : selVal s o (ix2 i 0) = rowOf o i p := by
  rw [selVal_read, Finset.sum_eq_single p]
  · rw [h, if_pos rfl]; rfl
  · intro n _ hn
    rw [h, if_neg hn]; rfl
  · intro h'; exact absurd (Finset.mem_univ _) h'

/-- The exact rounds take the positions in order. -/
theorem exD_row (d : FVec Ideal S96x2800 .f32) (i : Fin 96) (hd : ∀ n, rowOf d i n < ⊤) (r : ℕ) (hr : r ≤ 2800) :
    rowOf (exD d r) i = without (rowOf d i) r := by
  induction r with
  | zero => rw [without_zero]; rfl
  | succ r ih =>
    have ih := ih (by omega)
    funext n
    have hf := without_first (rowOf d i) hd ⟨r, by omega⟩
    have hs := exSel_read (exD d r) i n (order (rowOf d i) ⟨r, by omega⟩) (by rw [ih]; exact hf)
    have hw := without_succ (rowOf d i) ⟨r, by omega⟩ n
    simp only at hw
    rw [hw]
    show selNext (exSel (exD d r)) (exD d r) (ix2 i n) = _
    rw [selNext_read, hs]
    have hn : exD d r (ix2 i n) = without (rowOf d i) r n := congrFun ih n
    rw [hn]
    by_cases hh : n = order (rowOf d i) ⟨r, by omega⟩
    · rw [if_pos hh, if_pos hh, select_one]
    · rw [if_neg hh, if_neg hh, select_zero]

theorem exV_row (d o : FVec Ideal S96x2800 .f32) (i : Fin 96) (hd : ∀ n, rowOf d i n < ⊤) (r : Fin 2800) :
    exV d o r (ix2 i 0) = rowOf o i (order (rowOf d i) r) := by
  apply selVal_at
  intro n
  apply exSel_read
  rw [exD_row d i hd r r.isLt.le]
  exact without_first (rowOf d i) hd r

theorem fs_step (d : FVec Ideal S96x2800 .f32) (i : Fin 96) (r : ℕ) (n : Fin 2800) :
    rowOf (fsD d (r + 1)) i n
      = if rowOf (fsD d r) i n = Finset.univ.fold min ⊤ (rowOf (fsD d r) i) then ⊤ else rowOf (fsD d r) i n := by
  show selNext (fsSel (fsD d r)) (fsD d r) (ix2 i n) = _
  rw [selNext_read, fsSel_read]
  by_cases h : rowOf (fsD d r) i n = Finset.univ.fold min ⊤ (rowOf (fsD d r) i)
  · rw [if_pos h, decide_eq_true h]; rfl
  · rw [if_neg h, decide_eq_false h]; rfl

theorem fs_least (d : FVec Ideal S96x2800 .f32) (i : Fin 96) (r : ℕ) :
    ∃ p, rowOf (fsD d r) i p = Finset.univ.fold min ⊤ (rowOf (fsD d r) i)
      ∧ ∀ j, Finset.univ.fold min ⊤ (rowOf (fsD d r) i) ≤ rowOf (fsD d r) i j := by
  obtain ⟨p, hp, -⟩ := exists_first_min (by norm_num) (rowOf (fsD d r) i)
  rw [fold_min_eq _ p hp]
  exact ⟨p, rfl, hp⟩

/-- When nine entries are at infinity after the fast rounds, they took the positions in order. -/
theorem fs_rows (d o : FVec Ideal S96x2800 .f32) (i : Fin 96) (hd : ∀ n, rowOf d i n < ⊤)
    (hg : gone (rowOf (fsD d 9) i) = 9) :
    rowOf (fsD d 9) i = without (rowOf d i) 9
      ∧ ∀ r : Fin 2800, r.val < 9 → fsV d o r (ix2 i 0) = rowOf o i (order (rowOf d i) r) := by
  obtain ⟨h1, h2⟩ := fast_rounds (rowOf d i) (fun r => rowOf (fsD d r) i) (fun r => Finset.univ.fold min ⊤ (rowOf (fsD d r) i)) hd rfl
    (fs_least d i) (fs_step d i) 9 (by norm_num) hg
  refine ⟨h1 9 (le_refl _), fun r hr => ?_⟩
  apply selVal_at
  intro n
  rw [fsSel_read]
  have := h2 r hr n
  by_cases h : n = order (rowOf d i) r
  · rw [if_pos h, decide_eq_true (this.mpr h)]; rfl
  · rw [if_neg h, decide_eq_false (fun h' => h (this.mp h'))]; rfl

/-! ## No tie: nine entries at infinity in every row -/

theorem nine_word : Ideal.ofBits .f32 1091567616#32 = ((9 : ℝ) : EReal) := by
  simp [Ideal.ofBits, Ideal.ieee, -EReal.coe_mul]; norm_num

theorem absf_eq (x : EReal) : (FloatOps.absf (F := Ideal) (φ := .f32) x : EReal) = max x (-x) := rfl

/-- How far the count of a row is from nine. -/
theorem devC_read (D : FVec Ideal S96x2800 .f32) (i : Fin 96) :
    devC D (ix2 i 0) = max (((gone (rowOf D i) : ℝ) : EReal) - ((9 : ℝ) : EReal)) (-(((gone (rowOf D i) : ℝ) : EReal) - ((9 : ℝ) : EReal))) := by
  classical
  pointwise [devC]
  rw [top_word, nine_word, sum_count, absf_eq]
  unfold gone rowOf
  congr!

theorem tie_read (x : FVec Ideal S96x1 .f32) (h : tieWord x ≠ 1#1) (i : Fin 96) : x (ix2 i 0) ≤ 0 := by
  by_contra hc
  rw [not_le] at hc
  apply h
  pointwise [tieWord, k0_pay102]
  have : (0 : EReal) < Finset.fold max (Ideal.ofBits FTy.f32 4286578688#32) (fun x_1 : Fin 96 × Fin 1 => x (ix2 x_1.1 0)) Finset.univ := by
    rw [Finset.lt_fold_max]
    exact Or.inr ⟨(i, 0), Finset.mem_univ _, hc⟩
  rw [decide_eq_true this]
  decide

/-- In a row with more than nine or fewer entries at infinity the distance from nine is positive. -/
theorem gone_nine (D : FVec Ideal S96x2800 .f32) (i : Fin 96) (h : devC D (ix2 i 0) ≤ 0) : gone (rowOf D i) = 9 := by
  rw [devC_read, ← EReal.coe_sub, ← EReal.coe_neg, max_le_iff] at h
  have h1 : (gone (rowOf D i) : ℝ) - 9 ≤ 0 := by exact_mod_cast h.1
  have h2 : -((gone (rowOf D i) : ℝ) - 9) ≤ 0 := by exact_mod_cast h.2
  have : (gone (rowOf D i) : ℝ) = 9 := by linarith
  exact_mod_cast this

/-! ## The conditional's result -/

/-- Where the nine columns of selected overlaps come from. -/
theorem cat9 (f : ℕ → FVec Ideal S96x1 .f32) (i : Fin 96) (k : Fin 9) :
    k0_pay106 (f 0) (f 1) (f 2) (f 3) (f 4) (f 5) (f 6) (f 7) (f 8) (ix2 i k) = f k (ix2 i 0) := by
  fin_cases k <;> pointwise [k0_pay106] <;> rfl

theorem chosenV_eq (b : Blk Ideal) : v281_1 b
    = if tieWord (v273 b) = 1#1 then
        k0_pay106 (exV (v172 b) (v173 b) 0) (exV (v172 b) (v173 b) 1) (exV (v172 b) (v173 b) 2) (exV (v172 b) (v173 b) 3)
          (exV (v172 b) (v173 b) 4) (exV (v172 b) (v173 b) 5) (exV (v172 b) (v173 b) 6) (exV (v172 b) (v173 b) 7) (exV (v172 b) (v173 b) 8)
      else k0_pay106 (fsV (v172 b) (v173 b) 0) (fsV (v172 b) (v173 b) 1) (fsV (v172 b) (v173 b) 2) (fsV (v172 b) (v173 b) 3)
          (fsV (v172 b) (v173 b) 4) (fsV (v172 b) (v173 b) 5) (fsV (v172 b) (v173 b) 6) (fsV (v172 b) (v173 b) 7) (fsV (v172 b) (v173 b) 8) := by
  unfold v281_1 chosenV
  rw [f181, f191, f201, f211, f221, f231, f241, f251, f261, e710, e726, e742, e758, e774, e790, e806, e822]
  refine congrArg (fun x => if tieWord (v273 b) = 1#1 then x else _) ?_
  have : v826 (v172 b) (v173 b) = shapeCast S96x1 (multiReduction .minimumf [1] S96 (exD (v172 b) 8) 0x7F800000#32
      reduces_S96x2800_S96 (.inl rfl) rfl) shapeCasts_S96_S96x1 := by unfold v826 v782; rw [e776, e728, e738]; rfl
  rw [this, e824]; rfl

theorem chosenD_eq (b : Blk Ideal) : v281_0 b
    = if tieWord (v273 b) = 1#1 then exD (v172 b) 9 else fsD (v172 b) 9 := by
  unfold v281_0 chosenD
  rw [f263, e840]

theorem no_tie (b : Blk Ideal) (h : tieWord (v273 b) ≠ 1#1) (i : Fin 96) : gone (rowOf (fsD (v172 b) 9) i) = 9 := by
  apply gone_nine
  rw [← f263, ← f273]
  exact tie_read _ h i

/-- In a row of finite distances the candidates are the first nine positions in order. -/
theorem cand_iff (b : Blk Ideal) (i : Fin 96) (hd : ∀ n, rowOf (v172 b) i n < ⊤) (n : Fin 2800) :
    v281_0 b (ix2 i n) = ⊤ ↔ ∃ r : Fin 2800, r.val < 9 ∧ order (rowOf (v172 b) i) r = n := by
  rw [chosenD_eq, ← without_top_iff _ hd]
  split
  · rw [← exD_row _ i hd 9 (by norm_num)]; rfl
  · rename_i h
    rw [← (fs_rows _ (v173 b) i hd (no_tie b h i)).1]; rfl

/-- In a row of finite distances the selected overlaps are those of the first nine positions in order. -/
theorem vals_eq (b : Blk Ideal) (i : Fin 96) (hd : ∀ n, rowOf (v172 b) i n < ⊤) (k : Fin 9) :
    v281_1 b (ix2 i k) = rowOf (v173 b) i (order (rowOf (v172 b) i) ⟨k.val, by omega⟩) := by
  rw [chosenV_eq]
  split
  · exact (cat9 (exV (v172 b) (v173 b)) i k).trans (exV_row _ _ i hd ⟨k.val, by omega⟩)
  · rename_i h
    exact (cat9 (fsV (v172 b) (v173 b)) i k).trans ((fs_rows _ (v173 b) i hd (no_tie b h i)).2 ⟨k.val, by omega⟩ k.isLt)

/-- In a row of zero overlaps the selected overlaps are zero. -/
theorem vals_zero (b : Blk Ideal) (i : Fin 96) (ho : ∀ n, rowOf (v173 b) i n = 0) (k : Fin 9) : v281_1 b (ix2 i k) = 0 := by
  rw [chosenV_eq]
  split
  · exact (cat9 (exV (v172 b) (v173 b)) i k).trans (selVal_zero _ _ i ho)
  · exact (cat9 (fsV (v172 b) (v173 b)) i k).trans (selVal_zero _ _ i ho)

end Cert.Proof.Body

end
-- ==== Proof.Rows.lean ====
/-
  The kernel's overlaps, distances and thresholds, in the words of the assignment.
-/
module

public import proofs.«01_k».proof.Proof.Column
public import proofs.«01_k».proof.Proof.Rounds

@[expose] public section

set_option maxRecDepth 16384

noncomputable section

namespace Cert.Proof.Body

open Cert.KernelIdeal Cert.KernelIdeal.Gen
open Idealize.ShloMosaic
open Cert.Proof.Order Cert.Proof.Spec

/-- The image a grid point's blocks hold. -/
def img (b : Blk Ideal) : Img where
  gx1 g := b.x2 (ix3 0 g 0)
  gy1 g := b.x2 (ix3 0 g 1)
  gx2 g := b.x2 (ix3 0 g 2)
  gy2 g := b.x2 (ix3 0 g 3)
  lab g := b.x3 (ix3 0 g 0)
  mask g := b.x4 (ix3 0 g 0)
  ax l n := b.x0 (ix2 ⟨l.val, by omega⟩ n)
  ay l n := b.x0 (ix2 ⟨3 + l.val, by omega⟩ n)
  px1 l n := b.x1 (ix3 0 ⟨l.val, by omega⟩ n)
  py1 l n := b.x1 (ix3 0 ⟨3 + l.val, by omega⟩ n)
  px2 l n := b.x1 (ix3 0 ⟨6 + l.val, by omega⟩ n)
  py2 l n := b.x1 (ix3 0 ⟨9 + l.val, by omega⟩ n)

variable (b : Blk Ideal)

theorem ov_zero (g : Fin 32) (n : Fin 2800) : v59 b (ix2 g n) = ov (img b) 0 g n := by
  pointwise [v59, v0, v19, v21, v3, v5, v12, v26, v30, v33, v36, v39, k0_pay48, k0_pay31, k0_pay33, k0_pay36, k0_pay42, k0_pay44, k0_pay45, k0_pay46, k0_pay47, k0_pay39, k0_pay40, k0_pay41, k0_pay43, k0_pay29, k0_pay30, k0_pay32]
  rfl

theorem ov_one (g : Fin 32) (n : Fin 2800) : v110 b (ix2 g n) = ov (img b) 1 g n := by
  pointwise [v110, v0, v70, v72, v2, v4, v3, v5, v12, v75, v77, v81, v84, v87, v88, k0_pay59, k0_pay31, k0_pay33, k0_pay36, k0_pay50, k0_pay51, k0_pay52, k0_pay53, k0_pay54, k0_pay55, k0_pay56, k0_pay57, k0_pay58, k0_pay29, k0_pay30, k0_pay32]
  rfl

theorem ov_two (g : Fin 32) (n : Fin 2800) : v161 b (ix2 g n) = ov (img b) 2 g n := by
  pointwise [v161, v0, v121, v123, v2, v4, v3, v5, v12, v126, v128, v132, v135, v136, v137, k0_pay70, k0_pay31, k0_pay33, k0_pay36, k0_pay61, k0_pay62, k0_pay63, k0_pay64, k0_pay65, k0_pay66, k0_pay67, k0_pay68, k0_pay69, k0_pay29, k0_pay30, k0_pay32]
  rfl

theorem dist_zero (g : Fin 32) (n : Fin 2800) : v69 b (ix2 g n) = dist (img b) 0 g n := by
  pointwise [v69, v0, v15, v18, v20, v22, v19, v21, k0_pay49, k0_pay37, k0_pay38, k0_pay39, k0_pay40, k0_pay29, k0_pay30, k0_pay31, k0_pay32, k0_pay33]
  rfl

theorem dist_one (g : Fin 32) (n : Fin 2800) : v120 b (ix2 g n) = dist (img b) 1 g n := by
  pointwise [v120, v0, v15, v18, v71, v73, v70, v72, k0_pay60, k0_pay37, k0_pay38, k0_pay50, k0_pay51, k0_pay29, k0_pay30, k0_pay31, k0_pay32, k0_pay33]
  rfl

theorem dist_stack (i : Fin 96) (n : Fin 2800) : v172 b (ix2 i n)
    = if h : i.val < 32 then v69 b (ix2 ⟨i.val, h⟩ n) else if h' : i.val - 32 < 32 then v120 b (ix2 ⟨i.val - 32, h'⟩ n)
      else dist (img b) 2 ⟨i.val - 32 - 32, by omega⟩ n := by
  pointwise [v172, k0_pay71, v0, v15, v18, v122, v124, v121, v123, k0_pay37, k0_pay38, k0_pay61, k0_pay62, k0_pay29, k0_pay30, k0_pay31, k0_pay32, k0_pay33]
  rfl

theorem ov_stack (i : Fin 96) (n : Fin 2800) : v173 b (ix2 i n)
    = if h : i.val < 32 then v59 b (ix2 ⟨i.val, h⟩ n) else if h' : i.val - 32 < 32 then v110 b (ix2 ⟨i.val - 32, h'⟩ n)
      else v161 b (ix2 ⟨i.val - 32 - 32, by omega⟩ n) := by
  have h2 : k0_pay70 (v2 b) (v3 b) (v5 b) (v12 b) (v126 b) (v128 b) (v132 b) (v135 b) (v136 b) (v137 b) = v161 b := rfl
  pointwise [v173, k0_pay72, h2]

/-- The row of a level's ground-truth box in the stack of the three levels. -/
def stackRow (l : Fin 3) (g : Fin 32) : Fin 96 := ⟨32 * l.val + g.val, by omega⟩

/-- A choice among the three levels' rows, made at a row of the stack. -/
theorem stack_case {α : Type} (l : Fin 3) (g : Fin 32) (x y z : Fin 32 → α) (w : Fin 3 → Fin 32 → α)
    (hx : ∀ g, x g = w 0 g) (hy : ∀ g, y g = w 1 g) (hz : ∀ g, z g = w 2 g) :
    (if h : (stackRow l g).val < 32 then x ⟨(stackRow l g).val, h⟩
      else if h' : (stackRow l g).val - 32 < 32 then y ⟨(stackRow l g).val - 32, h'⟩
      else z ⟨(stackRow l g).val - 32 - 32, by omega⟩) = w l g := by
  have hg := g.isLt
  unfold stackRow
  match l with
  | 0 =>
    rw [dif_pos (by simp), hx]
    congr 1
    apply Fin.ext; simp
  | 1 =>
    rw [dif_neg (by simp), dif_pos (by simp), hy]
    congr 1
    apply Fin.ext; simp
  | 2 =>
    rw [dif_neg (by simp; omega), dif_neg (by simp; omega), hz]
    congr 1
    apply Fin.ext; simp; omega

/-- A level's row of the stacked distances. -/
theorem dist_rows (l : Fin 3) (g : Fin 32) : rowOf (v172 b) (stackRow l g) = dist (img b) l g := by
  funext n
  unfold rowOf
  rw [dist_stack]
  exact stack_case l g (fun g => v69 b (ix2 g n)) (fun g => v120 b (ix2 g n)) (fun g => dist (img b) 2 g n)
    (fun l g => dist (img b) l g n) (fun g => dist_zero b g n) (fun g => dist_one b g n) (fun g => rfl)

/-- A level's row of the stacked overlaps. -/
theorem ov_rows (l : Fin 3) (g : Fin 32) : rowOf (v173 b) (stackRow l g) = ov (img b) l g := by
  funext n
  unfold rowOf
  rw [ov_stack]
  exact stack_case l g (fun g => v59 b (ix2 g n)) (fun g => v110 b (ix2 g n)) (fun g => v161 b (ix2 g n))
    (fun l g => ov (img b) l g n) (fun g => ov_zero b g n) (fun g => ov_one b g n) (fun g => ov_two b g n)

/-- The twenty-seven overlaps the kernel extracts. -/
def valsK (g : Fin 32) (k : Fin 27) : EReal :=
  v281_1 b (ix2 (stackRow ⟨k.val / 9, by omega⟩ g) ⟨k.val % 9, by omega⟩)

theorem vals_stack (g : Fin 32) (x : Fin 27) :
    (if h : x.val < 9 then v281_1 b (ix2 ⟨g.val, by omega⟩ ⟨x.val, h⟩)
      else if h : x.val - 9 < 9 then v281_1 b (ix2 ⟨32 + g.val, by omega⟩ ⟨x.val - 9, h⟩)
      else v281_1 b (ix2 ⟨64 + g.val, by omega⟩ ⟨x.val - 9 - 9, by omega⟩)) = valsK b g x := by
  have hx := x.isLt
  unfold valsK stackRow
  split
  · congr 2 <;> simp <;> omega
  · split
    · congr 2 <;> simp <;> omega
    · congr 2 <;> simp <;> omega

theorem threshold_read (g : Fin 32) : v307 b (ix2 g 0) = threshold (valsK b g) := by
  have hs : (fun x : Fin 27 => if h : x.val < 9 then v281_1 b (ix2 ⟨g.val, by omega⟩ ⟨x.val, h⟩)
      else if h : x.val - 9 < 9 then v281_1 b (ix2 ⟨32 + g.val, by omega⟩ ⟨x.val - 9, h⟩)
      else v281_1 b (ix2 ⟨64 + g.val, by omega⟩ ⟨x.val - 9 - 9, by omega⟩)) = valsK b g := funext (vals_stack b g)
  rw [← hs]
  pointwise [v307, k0_pay109]
  rfl

/-! ## The rows that can hold an assigned anchor -/

theorem half_eq : half = ((1 / 2 : ℝ) : EReal) := by
  simp [Ideal.ofBits, Ideal.ieee, -EReal.coe_mul]; norm_num
theorem eps_pos : ∃ e : ℝ, 0 < e ∧ eps = (e : EReal) := by
  refine ⟨_, ?_, by simp [Ideal.ofBits, Ideal.ieee, -EReal.coe_mul]; rfl⟩
  norm_num
theorem two_eq : Ideal.ofBits .f32 1073741824#32 = ((2 : ℝ) : EReal) := by
  simp [Ideal.ofBits, Ideal.ieee, -EReal.coe_mul]; norm_num

end Cert.Proof.Body

end
-- ==== Proof.Spread.lean ====
/-
  Ground-truth boxes with an infinite coordinate overlap no anchor's box; those with finite coordinates lie at a finite
  distance from every anchor.
-/
module

public import proofs.«01_k».proof.Proof.Rows

@[expose] public section

noncomputable section

namespace Cert.Proof.Spec

open Idealize.ShloMosaic
open Cert.Proof.Order Cert.Proof.Body

/-- A finite number. -/
def Fin' (x : EReal) : Prop := ∃ r : ℝ, x = (r : EReal)

theorem fin_or (x : EReal) : Fin' x ∨ x = ⊤ ∨ x = ⊥ := by
  induction x with
  | bot => exact Or.inr (Or.inr rfl)
  | top => exact Or.inr (Or.inl rfl)
  | coe r => exact Or.inl ⟨r, rfl⟩

/-- The extent of an intersection along one axis: finite, and positive only when the box's two ends are in order. -/
theorem extent (g1 g2 : EReal) (a c : ℝ) :
    (∃ w : ℝ, 0 ≤ w ∧ max 0 (min g2 (c : EReal) - max g1 (a : EReal)) = (w : EReal)
      ∧ (w ≠ 0 → 0 < g2 - g1 ∧ (¬ (Fin' g1 ∧ Fin' g2) → g2 - g1 = ⊤))) := by
  rcases fin_or g1 with ⟨r, rfl⟩ | rfl | rfl
  · rcases fin_or g2 with ⟨s, rfl⟩ | rfl | rfl
    · refine ⟨max 0 (min s c - max r a), le_max_left _ _, ?_, ?_⟩
      · norm_cast
      · intro hw
        have h0 : 0 < min s c - max r a := by
          by_contra hc
          exact hw (max_eq_left (not_lt.mp hc))
        have h1 := min_le_left s c
        have h2 := le_max_left r a
        refine ⟨?_, fun h => absurd ⟨⟨r, rfl⟩, ⟨s, rfl⟩⟩ h⟩
        norm_cast
        linarith
    · refine ⟨max 0 (c - max r a), le_max_left _ _, ?_, ?_⟩
      · rw [min_eq_right le_top]
        norm_cast
      · intro _
        rw [EReal.top_sub_coe]
        exact ⟨EReal.zero_lt_top, fun _ => rfl⟩
    · refine ⟨0, le_rfl, ?_, fun h => absurd rfl h⟩
      rw [min_eq_left bot_le, EReal.bot_sub, max_eq_left bot_le]
      rfl
  · refine ⟨0, le_rfl, ?_, fun h => absurd rfl h⟩
    rw [max_eq_left le_top, EReal.sub_top, max_eq_left bot_le]
    rfl
  · rcases fin_or g2 with ⟨s, rfl⟩ | rfl | rfl
    · refine ⟨max 0 (min s c - a), le_max_left _ _, ?_, ?_⟩
      · rw [max_eq_right bot_le]
        norm_cast
      · intro _
        rw [EReal.coe_sub_bot]
        exact ⟨EReal.zero_lt_top, fun _ => rfl⟩
    · refine ⟨max 0 (c - a), le_max_left _ _, ?_, ?_⟩
      · rw [max_eq_right bot_le, min_eq_right le_top]
        norm_cast
      · intro _
        rw [EReal.top_sub_bot]
        exact ⟨EReal.zero_lt_top, fun _ => rfl⟩
    · refine ⟨0, le_rfl, ?_, fun h => absurd rfl h⟩
      rw [min_eq_left bot_le, EReal.bot_sub, max_eq_left bot_le]
      rfl

theorem div_top (x : ℝ) : Ideal.div (x : EReal) ⊤ = 0 := by
  simp [Ideal.div]
theorem div_bot (x : ℝ) : Ideal.div (x : EReal) ⊥ = 0 := by
  simp [Ideal.div]
theorem zero_div_real (y : ℝ) (hy : y ≠ 0) : Ideal.div 0 (y : EReal) = 0 := by
  simp [Ideal.div, hy]

/-- A difference with an infinite number is infinite. -/
theorem sub_inf (x y : EReal) (h : ¬ (Fin' x ∧ Fin' y)) : y - x = ⊤ ∨ y - x = ⊥ := by
  rcases fin_or x with ⟨r, rfl⟩ | rfl | rfl
  · rcases fin_or y with ⟨s, rfl⟩ | rfl | rfl
    · exact absurd ⟨⟨r, rfl⟩, ⟨s, rfl⟩⟩ h
    · left; exact EReal.top_sub_coe r
    · right; exact EReal.bot_sub _
  · right; exact EReal.sub_top y
  · rcases fin_or y with ⟨s, rfl⟩ | rfl | rfl
    · left; exact EReal.coe_sub_bot s
    · left; exact EReal.top_sub_bot
    · right; exact EReal.bot_sub _

/-- A product with an infinite number is infinite or zero. -/
theorem mul_inf (x y : EReal) (h : x = ⊤ ∨ x = ⊥) : x * y = ⊤ ∨ x * y = ⊥ ∨ x * y = 0 := by
  rcases lt_trichotomy y 0 with hy | rfl | hy
  · rcases h with rfl | rfl
    · right; left; exact EReal.top_mul_of_neg hy
    · left; exact EReal.bot_mul_of_neg hy
  · right; right; exact mul_zero _
  · rcases h with rfl | rfl
    · left; exact EReal.top_mul_of_pos hy
    · right; left; exact EReal.bot_mul_of_pos hy

/-- All four coordinates of a ground-truth box are finite. -/
def finiteBox (I : Img) (g : Fin 32) : Prop := (Fin' (I.gx1 g) ∧ Fin' (I.gx2 g)) ∧ (Fin' (I.gy1 g) ∧ Fin' (I.gy2 g))

theorem ov_inf (I : Img) (l : Fin 3) (g : Fin 32) (n : Fin 2800) (hx : Fin' (I.ax l n)) (hy : Fin' (I.ay l n))
    (h : ¬ finiteBox I g) : ov I l g n = 0 := by
  obtain ⟨a, ha⟩ := hx
  obtain ⟨c, hc⟩ := hy
  obtain ⟨e, he, hee⟩ := eps_pos
  unfold ov iou inter
  rw [ha, hc, half_eq, hee]
  simp only [← EReal.coe_sub, ← EReal.coe_add, ← EReal.coe_mul]
  obtain ⟨w, hw0, hw, hw1⟩ := extent (I.gx1 g) (I.gx2 g) (a - 1 / 2) (a + 1 / 2)
  obtain ⟨v, hv0, hv, hv1⟩ := extent (I.gy1 g) (I.gy2 g) (c - 1 / 2) (c + 1 / 2)
  rw [hw, hv, ← EReal.coe_mul]
  have hp : ((I.gx2 g - I.gx1 g) * (I.gy2 g - I.gy1 g) = ⊤ ∨ (I.gx2 g - I.gx1 g) * (I.gy2 g - I.gy1 g) = ⊥
      ∨ (I.gx2 g - I.gx1 g) * (I.gy2 g - I.gy1 g) = 0) := by
    unfold finiteBox at h
    by_cases h1 : Fin' (I.gx1 g) ∧ Fin' (I.gx2 g)
    · have h2 : ¬ (Fin' (I.gy1 g) ∧ Fin' (I.gy2 g)) := fun h2 => h ⟨h1, h2⟩
      rw [mul_comm]
      exact mul_inf _ _ (sub_inf _ _ h2)
    · exact mul_inf _ _ (sub_inf _ _ h1)
  rcases hp with hp | hp | hp
  · rw [hp, EReal.top_add_coe, EReal.top_sub_coe, EReal.top_add_coe, div_top]
  · rw [hp, EReal.bot_add, EReal.bot_sub, EReal.bot_add, div_bot]
  · have hz : w * v = 0 := by
      by_contra hne
      have hw' : w ≠ 0 := left_ne_zero_of_mul hne
      have hv' : v ≠ 0 := right_ne_zero_of_mul hne
      have h1 := (hw1 hw').1
      have h2 := (hv1 hv').1
      rcases mul_eq_zero.mp hp with h3 | h3
      · rw [h3] at h1; exact lt_irrefl _ h1
      · rw [h3] at h2; exact lt_irrefl _ h2
    rw [hp, hz, zero_add, ← EReal.coe_sub, ← EReal.coe_add]
    apply zero_div_real
    have : (a + 1 / 2 - (a - 1 / 2)) * (c + 1 / 2 - (c - 1 / 2)) = 1 := by ring
    rw [this]
    linarith

theorem dist_fin (I : Img) (l : Fin 3) (g : Fin 32) (n : Fin 2800) (hx : Fin' (I.ax l n)) (hy : Fin' (I.ay l n))
    (h : finiteBox I g) : ∃ r : ℝ, 0 ≤ r ∧ dist I l g n = (r : EReal) := by
  obtain ⟨a, ha⟩ := hx
  obtain ⟨c, hc⟩ := hy
  obtain ⟨⟨⟨x1, hx1⟩, ⟨x2, hx2⟩⟩, ⟨⟨y1, hy1⟩, ⟨y2, hy2⟩⟩⟩ := h
  unfold dist
  have hd : ∀ r : ℝ, Ideal.div (r : EReal) (Ideal.ofBits .f32 1073741824#32) = ((r / 2 : ℝ) : EReal) := by
    intro r
    rw [two_eq]
    simp [Ideal.div]
    norm_cast
  rw [hx1, hx2, hy1, hy2, ha, hc, ← EReal.coe_add, ← EReal.coe_add, hd, hd]
  simp only [← EReal.coe_sub, ← EReal.coe_add, ← EReal.coe_mul]
  refine ⟨_, Real.sqrt_nonneg (((x1 + x2) / 2 - a) * ((x1 + x2) / 2 - a) + ((y1 + y2) / 2 - c) * ((y1 + y2) / 2 - c)), ?_⟩
  rw [Ideal.sqrt_coe, if_neg (not_lt.mpr (add_nonneg (mul_self_nonneg _) (mul_self_nonneg _)))]

/-- Of twenty-seven zeros the threshold is zero. -/
theorem threshold_zero (x : Fin 27 → EReal) (h : ∀ k, x k = 0) : threshold x = 0 := by
  have h27 : Ideal.ofBits .f32 1104674816#32 = ((27 : ℝ) : EReal) := by
    simp [Ideal.ofBits, Ideal.ieee, -EReal.coe_mul]; norm_num
  have h26 : Ideal.ofBits .f32 1104150528#32 = ((26 : ℝ) : EReal) := by
    simp [Ideal.ofBits, Ideal.ieee, -EReal.coe_mul]; norm_num
  have hm : mean x = 0 := by
    unfold mean
    rw [Finset.sum_eq_zero (fun k _ => h k), h27, zero_div_real _ (by norm_num)]
  unfold threshold
  rw [hm, Finset.sum_eq_zero (fun k _ => by rw [h k]; simp), h26, zero_div_real _ (by norm_num)]
  have : Ideal.sqrt ((0 : ℝ) : EReal) = 0 := by rw [Ideal.sqrt_coe]; simp
  rw [zero_add]
  exact this

end Cert.Proof.Spec

end
-- ==== Proof.Mask.lean ====
/-
  The kernel's three masks mark the assigned boxes.
-/
module

public import proofs.«01_k».proof.Proof.Spread

@[expose] public section

set_option maxRecDepth 16384

noncomputable section

namespace Cert.Proof.Spec

/-- What is asked of an image: finite anchors, and mask entries that are one or not positive. -/
structure Good (I : Img) : Prop where
  ax : ∀ l n, Fin' (I.ax l n)
  ay : ∀ l n, Fin' (I.ay l n)
  mask : ∀ g, I.mask g = 1 ∨ I.mask g ≤ 0

/-- A box with an infinite coordinate is assigned no anchor. -/
theorem not_pos_inf (I : Img) (hg : Good I) (l : Fin 3) (g : Fin 32) (n : Fin 2800) (h : ¬ finiteBox I g) :
    ¬ pos I l g n := by
  rintro ⟨_, ht, _⟩
  have h0 : ∀ l n, ov I l g n = 0 := fun l n => ov_inf I l g n (hg.ax l n) (hg.ay l n) h
  have h1 : threshold (vals I g) = 0 := threshold_zero (vals I g) (fun k => h0 _ _)
  rw [h1, h0] at ht
  exact lt_irrefl _ ht

end Cert.Proof.Spec

namespace Cert.Proof.Body

open Cert.KernelIdeal Cert.KernelIdeal.Gen
open Idealize.ShloMosaic
open Cert.Proof.Order Cert.Proof.Spec

variable (b : Blk Ideal)

theorem dist_lt_top (hb : Good (img b)) (l : Fin 3) (g : Fin 32) (h : finiteBox (img b) g) (n : Fin 2800) :
    rowOf (v172 b) (stackRow l g) n < ⊤ := by
  rw [dist_rows]
  obtain ⟨r, _, hr⟩ := dist_fin (img b) l g n (hb.ax l n) (hb.ay l n) h
  rw [hr]
  exact EReal.coe_lt_top r

/-- The extracted overlaps of a box with finite coordinates. -/
theorem vals_finite (hb : Good (img b)) (g : Fin 32) (h : finiteBox (img b) g) : valsK b g = vals (img b) g := by
  funext k
  unfold valsK vals
  rw [vals_eq b _ (dist_lt_top b hb _ g h), ov_rows, dist_rows]

/-- The extracted overlaps of a box with an infinite coordinate. -/
theorem vals_infinite (hb : Good (img b)) (g : Fin 32) (h : ¬ finiteBox (img b) g) (k : Fin 27) : valsK b g k = 0 := by
  unfold valsK
  apply vals_zero
  intro n
  rw [ov_rows]
  exact ov_inf _ _ _ _ (hb.ax _ _) (hb.ay _ _) h

/-- The kernel's condition on an anchor. -/
theorem pos_iff (hb : Good (img b)) (l : Fin 3) (g : Fin 32) (n : Fin 2800) :
    (v281_0 b (ix2 (stackRow l g) n) = Ideal.ofBits .f32 2139095040#32 ∧ v307 b (ix2 g 0) < ov (img b) l g n
      ∧ Ideal.ofBits .f32 814313567#32 < inside (img b) l g n ∧ 0 < (img b).mask g) ↔ pos (img b) l g n := by
  rw [threshold_read, top_word]
  by_cases h : finiteBox (img b) g
  · rw [vals_finite b hb g h, cand_iff b _ (dist_lt_top b hb l g h), dist_rows]
    rfl
  · constructor
    · rintro ⟨_, ht, _⟩
      rw [threshold_zero _ (vals_infinite b hb g h), ov_inf _ _ _ _ (hb.ax _ _) (hb.ay _ _) h] at ht
      exact absurd ht (lt_irrefl _)
    · intro hp
      exact absurd hp (not_pos_inf (img b) hb l g n h)

theorem ofBool_iff {p q : Prop} {dp : Decidable p} {dq : Decidable q} (h : p ↔ q) :
    BitVec.ofBool (@decide p dp) = BitVec.ofBool (@decide q dq) := by
  by_cases hp : p
  · rw [decide_eq_true hp, decide_eq_true (h.mp hp)]
  · rw [decide_eq_false hp, decide_eq_false (fun hq => hp (h.mpr hq))]

/-- The kernel's four conditions, combined. -/
theorem pos_word (hb : Good (img b)) (l : Fin 3) (g : Fin 32) (n : Fin 2800) (i : Fin 96) (hi : i = stackRow l g) (o : EReal)
    (ho : o = ov (img b) l g n) :
    IntOp.andi (IntOp.andi (IntOp.andi (BitVec.ofBool (decide (v281_0 b (ix2 i n) = Ideal.ofBits .f32 2139095040#32)))
      (BitVec.ofBool (decide (v307 b (ix2 g 0) < o))))
      (BitVec.ofBool (decide (Ideal.ofBits .f32 814313567#32 < inside (img b) l g n))))
      (BitVec.ofBool (decide (0 < (img b).mask g)))
      = open Classical in BitVec.ofBool (decide (pos (img b) l g n)) := by
  subst hi ho
  rw [andi_bool, andi_bool, andi_bool]
  apply ofBool_iff
  rw [and_assoc, and_assoc]
  exact pos_iff b hb l g n

/-- The kernel's choice at an anchor of a level, in the shape the three levels share. -/
theorem level_mask (hb : Good (img b)) (l : Fin 3) (o : FVec Ideal S32x2800 .f32) (row : Fin 32 → Fin 96)
    (hr : ∀ g, row g = stackRow l g) (ho : ∀ g n, o (ix2 g n) = ov (img b) l g n) (g : Fin 32) (n : Fin 2800)
    (w : Fin 32 → BitVec 1)
    (hw : ∀ g, w g = IntOp.andi (IntOp.andi (IntOp.andi
      (BitVec.ofBool (decide (v281_0 b (ix2 (row g) n) = Ideal.ofBits .f32 2139095040#32)))
      (BitVec.ofBool (decide (v307 b (ix2 g 0) < o (ix2 g n)))))
      (BitVec.ofBool (decide (Ideal.ofBits .f32 814313567#32 < inside (img b) l g n))))
      (BitVec.ofBool (decide (0 < (img b).mask g)))) :
    Scalar.select
      (IntOp.ori
        (IntOp.andi (BitVec.ofBool (decide (1 < ∑ x, Scalar.select (w x) (1 : EReal) 0)))
          (IntOp.cmpi CmpIPredicate.eq (BitVec.ofNat 32 g.val)
            (Finset.univ.fold IntOp.minsi (2147483647#32)
              (fun x : Fin 32 => if o (ix2 x n) = Finset.univ.fold max ⊥ (fun x => o (ix2 x n)) then BitVec.ofNat 32 x.val
                else 1073741824#32))))
        (IntOp.andi (IntOp.xori (BitVec.ofBool (decide (1 < ∑ x, Scalar.select (w x) (1 : EReal) 0))) 1#1) (w g)))
      (1 : EReal) 0 = ind (pick (img b) l n g) := by
  unfold pick
  rw [show (fun g => ov (img b) l g n) = fun g => o (ix2 g n) from funext fun g => (ho g n).symm]
  exact column w (fun g => o (ix2 g n)) (fun g => pos (img b) l g n)
    (fun g => (hw g).trans (pos_word b hb l g n _ (hr g) _ (ho g n))) g

theorem mask_zero (hb : Good (img b)) (g : Fin 32) (n : Fin 2800) : v366 b (ix2 g n) = ind (pick (img b) 0 n g) := by
  have h7 : k0_pay109 (v281_1 b) = v307 b := rfl
  rw [← level_mask b hb 0 (v59 b) (fun g => ⟨g.val, by omega⟩) (fun g => by unfold stackRow; apply Fin.ext; simp) (ov_zero b)
    g n _ (fun _ => rfl)]
  pointwise [v366, k0_pay114, v310, v309, v320, k0_pay113, h7, v9, v8, k0_pay110, k0_pay35, v0, v19, v21, v2, v3, v4, v5, v20, v22, k0_pay30, k0_pay31, k0_pay32, k0_pay33, k0_pay39, k0_pay40, k0_pay29]
  rw [bot_word]
  rfl

theorem mask_one (hb : Good (img b)) (g : Fin 32) (n : Fin 2800) : v492 b (ix2 g n) = ind (pick (img b) 1 n g) := by
  rw [← level_mask b hb 1 (v110 b) (fun g => ⟨32 + g.val, by omega⟩) (fun g => by unfold stackRow; apply Fin.ext; simp)
    (ov_one b) g n _ (fun _ => rfl)]
  pointwise [v492, k0_pay129, v310, v309, v444, k0_pay128, v287, k0_pay107, v9, v8, k0_pay110, k0_pay35, v0, v70, v72, v2, v3, v4, v5, v71, v73, k0_pay30, k0_pay31, k0_pay32, k0_pay33, k0_pay50, k0_pay51, k0_pay29]
  rw [bot_word]
  rfl

theorem mask_two (hb : Good (img b)) (g : Fin 32) (n : Fin 2800) : v618 b (ix2 g n) = ind (pick (img b) 2 n g) := by
  rw [← level_mask b hb 2 (v161 b) (fun g => ⟨64 + g.val, by omega⟩) (fun g => by unfold stackRow; apply Fin.ext; simp)
    (ov_two b) g n _ (fun _ => rfl)]
  pointwise [v618, k0_pay147, v615, v616, v617, k0_pay144, k0_pay145, k0_pay146, v310, v309, v290, k0_pay108, v9, v8, k0_pay110, k0_pay35, v0, v121, v123, v2, v3, v4, v5, v122, v124, k0_pay30, k0_pay31, k0_pay32, k0_pay33, k0_pay61, k0_pay62, k0_pay29]
  rw [bot_word]
  rfl

end Cert.Proof.Body

end
-- ==== Proof.Outs.lean ====
/-
  What the kernel stores at each level: the assigned box's label, coordinates, class scores and index.
-/
module

public import proofs.«01_k».proof.Proof.Mask

@[expose] public section

set_option maxRecDepth 16384

noncomputable section

namespace Cert.Proof.Body

open Cert.KernelIdeal Cert.KernelIdeal.Gen
open Idealize.ShloMosaic
open Cert.Proof.Order Cert.Proof.Spec

variable (b : Blk Ideal)

/-! ## The assigned index -/

theorem index_zero (hb : Good (img b)) (n : Fin 2800) :
    v373 b (ix2 0 n) = BitVec.ofNat 32 (target (img b) 0 n).val := by
  pointwise [v373, k0_pay116, v310, mask_zero b hb]
  exact index_sum (img b) 0 n

theorem index_one (hb : Good (img b)) (n : Fin 2800) :
    v499 b (ix2 0 n) = BitVec.ofNat 32 (target (img b) 1 n).val := by
  pointwise [v499, k0_pay131, v310, mask_one b hb]
  exact index_sum (img b) 1 n

theorem index_two (hb : Good (img b)) (n : Fin 2800) :
    v625 b (ix2 0 n) = BitVec.ofNat 32 (target (img b) 2 n).val := by
  have h : k0_pay147 (v615 b) (v616 b) (v617 b) = v618 b := rfl
  pointwise [v625, k0_pay149, v310, h, mask_two b hb]
  exact index_sum (img b) 2 n

/-! ## Its one-hot column -/

theorem hot_zero (hb : Good (img b)) (g : Fin 32) (n : Fin 2800) : v378 b (ix2 g n) = ind (g = target (img b) 0 n) := by
  pointwise [v378, k0_pay117, v310, k0_pay116, mask_zero b hb]
  rw [index_sum (img b) 0 n, onehot]

theorem hot_one (hb : Good (img b)) (g : Fin 32) (n : Fin 2800) : v504 b (ix2 g n) = ind (g = target (img b) 1 n) := by
  pointwise [v504, k0_pay132, v310, k0_pay131, mask_one b hb]
  rw [index_sum (img b) 1 n, onehot]

theorem hot_two (hb : Good (img b)) (g : Fin 32) (n : Fin 2800) : v630 b (ix2 g n) = ind (g = target (img b) 2 n) := by
  have h : k0_pay147 (v615 b) (v616 b) (v617 b) = v618 b := rfl
  pointwise [v630, k0_pay150, v310, k0_pay149, h, mask_two b hb]
  rw [index_sum (img b) 2 n, onehot]

/-! ## The four outputs of a level -/

/-- The label of an anchor, as the kernel computes it. -/
theorem label_of (I : Img) (l : Fin 3) (n : Fin 2800) :
    (if 0 < ∑ x, ind (pick I l n x) then
      FloatOps.fptosi (F := Ideal) (φ := .f32) 32 (∑ x, ind (x = target I l n) * (FloatOps.sitofp (F := Ideal) .f32 (I.lab x) : EReal))
      else 80#32) = label I l n := by
  rw [onehot_sum I l n (fun x => FloatOps.sitofp (F := Ideal) .f32 (I.lab x)), sitofp_eq, fptosi_int]
  exact ite_iff (sum_pick_pos I l n) _ _

theorem label_zero (hb : Good (img b)) (n : Fin 2800) : out5_0 b (ix4 0 0 0 n) = label (img b) 0 n := by
  have h : k0_pay114 (v2 b) (v3 b) (v4 b) (v5 b) (v20 b) (v22 b) (v59 b) (v309 b) (v310 b) (v320 b) = v366 b := rfl
  pointwise [out5_0, k0_pay124, v317, k0_pay112, v7, k0_pay34, v6, v368, k0_pay115, h, mask_zero b hb, hot_zero b hb]
  exact label_of (img b) 0 n

theorem label_one (hb : Good (img b)) (n : Fin 2800) : out5_1 b (ix4 0 0 0 n) = label (img b) 1 n := by
  pointwise [out5_1, k0_pay140, v317, k0_pay112, v7, k0_pay34, v6, v494, k0_pay130, mask_one b hb, hot_one b hb]
  exact label_of (img b) 1 n

theorem label_two (hb : Good (img b)) (n : Fin 2800) : out5_2 b (ix4 0 0 0 n) = label (img b) 2 n := by
  have h : k0_pay147 (v615 b) (v616 b) (v617 b) = v618 b := rfl
  pointwise [out5_2, k0_pay159, v317, k0_pay112, v7, k0_pay34, v6, v620, k0_pay148, h, mask_two b hb, hot_two b hb]
  exact label_of (img b) 2 n

/-- The coordinates of an anchor's box, as the kernel computes them. -/
theorem box_of (l : Fin 3) (n : Fin 2800) (c : Fin 4) :
    ∑ x, ind (x = target (img b) l n) * b.x2 (ix3 0 x c) = box (img b) l n c := by
  rw [onehot_sum (img b) l n (fun x => b.x2 (ix3 0 x c))]
  match c with
  | 0 => rfl
  | 1 => rfl
  | 2 => rfl
  | 3 => rfl

theorem box_zero (hb : Good (img b)) (n : Fin 2800) (c : Fin 4) : out6_0 b (ix4 0 0 n c) = box (img b) 0 n c := by
  pointwise [out6_0, k0_pay126, v1, k0_pay29, v0, hot_zero b hb]
  exact box_of b 0 n c

theorem box_one (hb : Good (img b)) (n : Fin 2800) (c : Fin 4) : out6_1 b (ix4 0 0 n c) = box (img b) 1 n c := by
  pointwise [out6_1, k0_pay142, v1, k0_pay29, v0, hot_one b hb]
  exact box_of b 1 n c

theorem box_two (hb : Good (img b)) (n : Fin 2800) (c : Fin 4) : out6_2 b (ix4 0 0 n c) = box (img b) 2 n c := by
  pointwise [out6_2, k0_pay161, v1, k0_pay29, v0, hot_two b hb]
  exact box_of b 2 n c

theorem score_zero (hb : Good (img b)) (n : Fin 2800) (c : Fin 80) : out7_0 b (ix4 0 0 n c) = score (img b) 0 n c := by
  rw [← score_sum]
  pointwise [out7_0, k0_pay127, v316, k0_pay111, v7, k0_pay34, v6, mask_zero b hb, v405, v411, k0_pay122, k0_pay123, k0_pay118, k0_pay119, k0_pay120, k0_pay121, v379, v381, v383, v385, v12, v2, v3, v4, v5, k0_pay36, k0_pay30, k0_pay31, k0_pay32, k0_pay33, v0, k0_pay29]
  rw [bot_word]
  rfl

theorem score_one (hb : Good (img b)) (n : Fin 2800) (c : Fin 80) : out7_1 b (ix4 0 0 n c) = score (img b) 1 n c := by
  rw [← score_sum]
  pointwise [out7_1, v569, k0_pay143, v316, k0_pay111, v7, k0_pay34, v6, mask_one b hb, v531, v534, v535, k0_pay137, k0_pay138, k0_pay139, k0_pay133, k0_pay134, k0_pay135, k0_pay136, v505, v507, v509, v511, v12, v2, v3, v4, v5, k0_pay36, k0_pay30, k0_pay31, k0_pay32, k0_pay33, v0, k0_pay29]
  rw [bot_word]
  rfl

theorem score_two (hb : Good (img b)) (n : Fin 2800) (c : Fin 80) : out7_2 b (ix4 0 0 n c) = score (img b) 2 n c := by
  rw [← score_sum]
  pointwise [out7_2, k0_pay1, v683, k0_pay158, v316, k0_pay111, v7, k0_pay34, v6, mask_two b hb, v657, v658, v659, k0_pay155, k0_pay156, k0_pay157, k0_pay151, k0_pay152, k0_pay153, k0_pay154, v631, v633, v635, v637, v12, v2, v3, v4, v5, k0_pay36, k0_pay30, k0_pay31, k0_pay32, k0_pay33, v0, k0_pay29]
  rw [bot_word]
  rfl

theorem number_zero (hb : Good (img b)) (n : Fin 2800) :
    out8_0 b (ix4 0 0 0 n) = BitVec.ofNat 32 (target (img b) 0 n).val := by
  pointwise [out8_0, k0_pay125, index_zero b hb]

theorem number_one (hb : Good (img b)) (n : Fin 2800) :
    out8_1 b (ix4 0 0 0 n) = BitVec.ofNat 32 (target (img b) 1 n).val := by
  pointwise [out8_1, k0_pay141, index_one b hb]

theorem number_two (hb : Good (img b)) (n : Fin 2800) :
    out8_2 b (ix4 0 0 0 n) = BitVec.ofNat 32 (target (img b) 2 n).val := by
  pointwise [out8_2, k0_pay160, index_two b hb]

end Cert.Proof.Body

end
-- ==== Proof.Whole.lean ====
/-
  The images of the argument arrays, and the result arrays they are assigned.
-/
module

public import proofs.«01_k».proof.Proof.Spec
public import proofs.«01_k».proof.KernelIdeal
public import Idealize.ShloMosaic.Lib.Pointwise

@[expose] public section

noncomputable section

namespace Cert.Proof.Spec

open Cert.KernelIdeal (S16x8400x4 S8400x2 S16x32x1 S16x32x4 S16x8400 S16x8400x80)
open Idealize.ShloMosaic

variable (P : FVec Ideal S16x8400x4 .f32) (A : FVec Ideal S8400x2 .f32) (L : IVec S16x32x1 32)
  (G : FVec Ideal S16x32x4 .f32) (M : FVec Ideal S16x32x1 .f32)

/-- The anchor of a level and a position in it. -/
def spot (l : Fin 3) (n : Fin 2800) : Fin 8400 := ⟨2800 * l.val + n.val, by omega⟩
def levelOf (a : Fin 8400) : Fin 3 := ⟨a.val / 2800, by omega⟩
def placeOf (a : Fin 8400) : Fin 2800 := ⟨a.val % 2800, by omega⟩

theorem spot_of (a : Fin 8400) : spot (levelOf a) (placeOf a) = a := by
  unfold spot levelOf placeOf; apply Fin.ext; simp; omega
theorem level_spot (l : Fin 3) (n : Fin 2800) : levelOf (spot l n) = l := by
  unfold spot levelOf; apply Fin.ext; simp; omega
theorem place_spot (l : Fin 3) (n : Fin 2800) : placeOf (spot l n) = n := by
  unfold spot placeOf; apply Fin.ext; simp

/-- The image of a batch entry. -/
def imgOf (b : Fin 16) : Img where
  gx1 g := G (ix3 b g 0)
  gy1 g := G (ix3 b g 1)
  gx2 g := G (ix3 b g 2)
  gy2 g := G (ix3 b g 3)
  lab g := L (ix3 b g 0)
  mask g := M (ix3 b g 0)
  ax l n := A (ix2 (spot l n) 0)
  ay l n := A (ix2 (spot l n) 1)
  px1 l n := P (ix3 b (spot l n) 0)
  py1 l n := P (ix3 b (spot l n) 1)
  px2 l n := P (ix3 b (spot l n) 2)
  py2 l n := P (ix3 b (spot l n) 3)

def labelAt (b : Fin 16) (a : Fin 8400) : BitVec 32 := label (imgOf P A L G M b) (levelOf a) (placeOf a)
def boxAt (b : Fin 16) (a : Fin 8400) (c : Fin 4) : EReal := box (imgOf P A L G M b) (levelOf a) (placeOf a) c
def scoreAt (b : Fin 16) (a : Fin 8400) (c : Fin 80) : EReal := score (imgOf P A L G M b) (levelOf a) (placeOf a) c
def foundAt (b : Fin 16) (a : Fin 8400) : BitVec 1 :=
  open Classical in BitVec.ofBool (decide (∃ g, pick (imgOf P A L G M b) (levelOf a) (placeOf a) g))
def numberAt (b : Fin 16) (a : Fin 8400) : BitVec 32 :=
  BitVec.ofNat 32 (target (imgOf P A L G M b) (levelOf a) (placeOf a)).val

end Cert.Proof.Spec

end
-- ==== Proof.Finals.lean ====
/-
  The kernel's output blocks, and the arrays its run leaves.
-/
module

public import proofs.«01_k».proof.Proof.Outs
public import proofs.«01_k».proof.Proof.Whole
public import proofs.«01_k».proof.Proof.Run
public import Idealize.ShloMosaic.Lib.Pipeline.ValueKit

@[expose] public section

set_option maxRecDepth 16384

noncomputable section

namespace Cert.Proof.Body

open Cert.KernelIdeal Cert.KernelIdeal.Gen
open Idealize.ShloMosaic Idealize.ShloMosaic.TcCoe Idealize.SL.Sem
open Idealize.ShloMosaic.Pipeline (Dat)
open Cert.Proof.Order Cert.Proof.Spec

/-! ## The stored blocks -/

section
variable (b : Blk Ideal)

/-- An index of a level's block of [1, 1, 1, 2800] values. -/
theorem row_idx (l : Fin 3) (n : Fin 2800) (k : ℕ) (x : S1x1x1x2800.Idx) (h1 : l.val = k + (x 1).val) (h3 : n.val = (x 3).val) :
    l.val = k ∧ x = ix4 0 0 0 n := by
  have e0 := (x 0).isLt
  have e1 := (x 1).isLt
  have e2 := (x 2).isLt
  change (x 0).val < 1 at e0
  change (x 1).val < 1 at e1
  change (x 2).val < 1 at e2
  refine ⟨by omega, ?_⟩
  funext a
  match a with
  | 0 => apply Fin.ext; show (x 0).val = 0; omega
  | 1 => apply Fin.ext; show (x 1).val = 0; omega
  | 2 => apply Fin.ext; show (x 2).val = 0; omega
  | 3 => apply Fin.ext; exact h3.symm

theorem out5_at (hb : Good (img b)) (l : Fin 3) (n : Fin 2800) : out5 b (ix4 0 l 0 n) = label (img b) l n := by
  unfold out5
  canon_tiles x h
  · obtain ⟨hl, rfl⟩ := row_idx l n 2 x h1 h3
    rw [show l = 2 from Fin.ext hl, label_two b hb]
  · obtain ⟨hl, rfl⟩ := row_idx l n 1 x h1 h3
    rw [show l = 1 from Fin.ext hl, label_one b hb]
  · obtain ⟨hl, rfl⟩ := row_idx l n 0 x (by rw [Nat.zero_add]; exact h1) h3
    rw [show l = 0 from Fin.ext hl, label_zero b hb]

theorem out8_at (hb : Good (img b)) (l : Fin 3) (n : Fin 2800) :
    out8 b (ix4 0 l 0 n) = BitVec.ofNat 32 (target (img b) l n).val := by
  unfold out8
  canon_tiles x h
  · obtain ⟨hl, rfl⟩ := row_idx l n 2 x h1 h3
    rw [show l = 2 from Fin.ext hl, number_two b hb]
  · obtain ⟨hl, rfl⟩ := row_idx l n 1 x h1 h3
    rw [show l = 1 from Fin.ext hl, number_one b hb]
  · obtain ⟨hl, rfl⟩ := row_idx l n 0 x (by rw [Nat.zero_add]; exact h1) h3
    rw [show l = 0 from Fin.ext hl, number_zero b hb]

/-- An index of a level's block of [1, 1, 2800, 4] values. -/
theorem box_idx (l : Fin 3) (n : Fin 2800) (c : Fin 4) (k : ℕ) (x : S1x1x2800x4.Idx) (h1 : l.val = k + (x 1).val)
    (h2 : n.val = (x 2).val) (h3 : c.val = (x 3).val) : l.val = k ∧ x = ix4 0 0 n c := by
  have e0 := (x 0).isLt
  have e1 := (x 1).isLt
  change (x 0).val < 1 at e0
  change (x 1).val < 1 at e1
  refine ⟨by omega, ?_⟩
  funext a
  match a with
  | 0 => apply Fin.ext; show (x 0).val = 0; omega
  | 1 => apply Fin.ext; show (x 1).val = 0; omega
  | 2 => apply Fin.ext; exact h2.symm
  | 3 => apply Fin.ext; exact h3.symm

theorem out6_at (hb : Good (img b)) (l : Fin 3) (n : Fin 2800) (c : Fin 4) :
    out6 b (ix4 0 l n c) = box (img b) l n c := by
  unfold out6
  canon_tiles x h
  · obtain ⟨hl, rfl⟩ := box_idx l n c 2 x h1 h2 h3
    rw [show l = 2 from Fin.ext hl, box_two b hb]
  · obtain ⟨hl, rfl⟩ := box_idx l n c 1 x h1 h2 h3
    rw [show l = 1 from Fin.ext hl, box_one b hb]
  · obtain ⟨hl, rfl⟩ := box_idx l n c 0 x (by rw [Nat.zero_add]; exact h1) h2 h3
    rw [show l = 0 from Fin.ext hl, box_zero b hb]

/-- An index of a level's block of [1, 1, 2800, 80] values. -/
theorem score_idx (l : Fin 3) (n : Fin 2800) (c : Fin 80) (k : ℕ) (x : S1x1x2800x80.Idx) (h1 : l.val = k + (x 1).val)
    (h2 : n.val = (x 2).val) (h3 : c.val = (x 3).val) : l.val = k ∧ x = ix4 0 0 n c := by
  have e0 := (x 0).isLt
  have e1 := (x 1).isLt
  change (x 0).val < 1 at e0
  change (x 1).val < 1 at e1
  refine ⟨by omega, ?_⟩
  funext a
  match a with
  | 0 => apply Fin.ext; show (x 0).val = 0; omega
  | 1 => apply Fin.ext; show (x 1).val = 0; omega
  | 2 => apply Fin.ext; exact h2.symm
  | 3 => apply Fin.ext; exact h3.symm

theorem out7_at (hb : Good (img b)) (l : Fin 3) (n : Fin 2800) (c : Fin 80) :
    out7 b (ix4 0 l n c) = score (img b) l n c := by
  unfold out7
  canon_tiles x h
  · obtain ⟨hl, rfl⟩ := score_idx l n c 2 x h1 h2 h3
    rw [show l = 2 from Fin.ext hl, score_two b hb]
  · obtain ⟨hl, rfl⟩ := score_idx l n c 1 x h1 h2 h3
    rw [show l = 1 from Fin.ext hl, score_one b hb]
  · obtain ⟨hl, rfl⟩ := score_idx l n c 0 x (by rw [Nat.zero_add]; exact h1) h2 h3
    rw [show l = 0 from Fin.ext hl, score_zero b hb]
end

/-! ## The blocks of a grid point -/

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0]
    ∧ win0_6.index t = ![t.val, 0, 0, 0] ∧ win0_7.index t = ![t.val, 0, 0, 0] ∧ win0_8.index t = ![t.val, 0, 0, 0] :=
  (by decide +kernel : ∀ t : Fin grid0.N, _)

/-- The anchors as the region finds them: a coordinate and a level to a row. -/
theorem anchors_entry (c : Dev nD) : V m c main_v1
    = shapeCast S6x2800 (transpose S2x8400 [1, 0] (m ((c : Thread nD τ).loc main_arg2) : FVec Ideal S8400x2 .f32)
        transposes_S8400x2_S2x8400_1_0) shapeCasts_S2x8400_S6x2800 := by
  show StableHlo.after hostOps0 _ _ = _
  simp only [StableHlo.after_cons, StableHlo.after_nil]
  after_results_simp
  rfl

theorem preds_entry (c : Dev nD) : V m c main_v3
    = shapeCast S16x12x2800 (transpose S16x4x8400 [0, 2, 1] (m ((c : Thread nD τ).loc main_arg1) : FVec Ideal S16x8400x4 .f32)
        transposes_S16x8400x4_S16x4x8400_0_2_1) shapeCasts_S16x4x8400_S16x12x2800 := by
  show StableHlo.after hostOps0 _ _ = _
  simp only [StableHlo.after_cons, StableHlo.after_nil]
  after_results_simp
  rfl

theorem anchors_read (X : FVec Ideal S8400x2 .f32) (k : Fin 2) (l : Fin 3) (n : Fin 2800) (i : Fin 6) (hi : i.val = 3 * k.val + l.val) :
    shapeCast S6x2800 (transpose S2x8400 [1, 0] X transposes_S8400x2_S2x8400_1_0) shapeCasts_S2x8400_S6x2800 (ix2 i n)
      = X (ix2 (spot l n) k) := by
  rw [show i = ⟨3 * k.val + l.val, by omega⟩ from Fin.ext hi]
  pointwise
  congr 2
  unfold spot
  apply Fin.ext
  show (3 * k.val + l.val) % 3 * 2800 + n.val = 2800 * l.val + n.val
  omega

theorem preds_read (X : FVec Ideal S16x8400x4 .f32) (b : Fin 16) (k : Fin 4) (l : Fin 3) (n : Fin 2800) (i : Fin 12)
    (hi : i.val = 3 * k.val + l.val) :
    shapeCast S16x12x2800 (transpose S16x4x8400 [0, 2, 1] X transposes_S16x8400x4_S16x4x8400_0_2_1)
      shapeCasts_S16x4x8400_S16x12x2800 (ix3 b i n) = X (ix3 b (spot l n) k) := by
  rw [show i = ⟨3 * k.val + l.val, by omega⟩ from Fin.ext hi]
  pointwise
  congr 2
  unfold spot
  apply Fin.ext
  show (3 * k.val + l.val) % 3 * 2800 + n.val = 2800 * l.val + n.val
  omega

section
variable (c : Dev nD) (t : Fin cfg0.N) (b : Fin 16) (hb : t.val = b.val)

theorem blk0 (i : Fin 6) (n : Fin 2800) : iblk m c 0 t (ix2 i n) = V m c main_v1 (ix2 i n) := by
  blk_ext [iblk, idx t]

include hb in
theorem blk1 (i : Fin 12) (n : Fin 2800) : iblk m c 1 t (ix3 0 i n) = V m c main_v3 (ix3 b i n) := by
  blk_ext [iblk, idx t]

include hb in
theorem blk2 (g : Fin 32) (k : Fin 4) : iblk m c 2 t (ix3 0 g k) = V m c main_arg4 (ix3 b g k) := by
  blk_ext [iblk, idx t]

include hb in
theorem blk3 (g : Fin 32) : iblk m c 3 t (ix3 0 g 0) = V m c main_arg3 (ix3 b g 0) := by
  blk_ext [iblk, idx t]

include hb in
theorem blk4 (g : Fin 32) : iblk m c 4 t (ix3 0 g 0) = V m c main_arg5 (ix3 b g 0) := by
  blk_ext [iblk, idx t]

/-- The image of a batch entry of the arguments in memory. -/
abbrev imgAt : Img := imgOf (m ((c : Thread nD τ).loc main_arg1)) (m ((c : Thread nD τ).loc main_arg2))
  (m ((c : Thread nD τ).loc main_arg3)) (m ((c : Thread nD τ).loc main_arg4)) (m ((c : Thread nD τ).loc main_arg5)) b

/-- A grid point's blocks hold the image of its batch entry. -/
theorem blk_img (t : Fin cfg0.N) (b : Fin 16) (hb : t.val = b.val) : img (blkAt m c t) = imgAt m c b := by
  have e0 : ∀ (k : Fin 2) (l : Fin 3) (n : Fin 2800) (i : Fin 6), i.val = 3 * k.val + l.val →
      iblk m c 0 t (ix2 i n) = m ((c : Thread nD τ).loc main_arg2) (ix2 (spot l n) k) := fun k l n i hi =>
    (blk0 m c t i n).trans ((congrFun (anchors_entry m c) _).trans (anchors_read _ k l n i hi))
  have e1 : ∀ (k : Fin 4) (l : Fin 3) (n : Fin 2800) (i : Fin 12), i.val = 3 * k.val + l.val →
      iblk m c 1 t (ix3 0 i n) = m ((c : Thread nD τ).loc main_arg1) (ix3 b (spot l n) k) := fun k l n i hi =>
    (blk1 m c t b hb i n).trans ((congrFun (preds_entry m c) _).trans (preds_read _ b k l n i hi))
  have e2 : ∀ g k, iblk m c 2 t (ix3 0 g k) = m ((c : Thread nD τ).loc main_arg4) (ix3 b g k) := fun g k =>
    (blk2 m c t b hb g k).trans (congrFun (V_main_arg4 m c) _)
  have e3 : ∀ g, iblk m c 3 t (ix3 0 g 0) = m ((c : Thread nD τ).loc main_arg3) (ix3 b g 0) := fun g =>
    (blk3 m c t b hb g).trans (congrFun (V_main_arg3 m c) _)
  have e4 : ∀ g, iblk m c 4 t (ix3 0 g 0) = m ((c : Thread nD τ).loc main_arg5) (ix3 b g 0) := fun g =>
    (blk4 m c t b hb g).trans (congrFun (V_main_arg5 m c) _)
  unfold img imgAt imgOf blkAt
  congr 1
  · funext g; exact e2 g 0
  · funext g; exact e2 g 1
  · funext g; exact e2 g 2
  · funext g; exact e2 g 3
  · funext g; exact e3 g
  · funext g; exact e4 g
  · funext l n; exact e0 0 l n _ (by simp)
  · funext l n; exact e0 1 l n _ (by simp)
  · funext l n; exact e1 0 l n _ (by simp)
  · funext l n; exact e1 1 l n _ (by simp)
  · funext l n; exact e1 2 l n _ (by simp)
  · funext l n; exact e1 3 l n _ (by simp)
end

/-! ## The arrays after the region -/

/-- The grid point of a batch entry. -/
def pt (b : Fin 16) : Fin cfg0.N := ⟨b.val, by rw [show cfg0.N = 16 from N_0]; exact b.isLt⟩

variable (c : Dev nD)

/-- An index is the tuple of its coordinates. -/
theorem idx_eta {a b c d : ℕ} (y : (⟨4, ![a, b, c, d]⟩ : Shape).Idx) : y = ix4 (y 0) (y 1) (y 2) (y 3) := by
  funext k
  match k with
  | 0 => rfl
  | 1 => rfl
  | 2 => rfl
  | 3 => rfl

theorem final5 (hg : ∀ b, Good (imgAt m c b)) : (dat m 0 c).arrAt 5 (cfgs 0).N
    = fun i : S16x3x1x2800.Idx => label (imgAt m c (i 0)) (i 1) (i 3) := by
  refine (dat m 0 c).arrAt_eq_of_covers 5 (fun i : S16x3x1x2800.Idx => label (imgAt m c (i 0)) (i 1) (i 3))
    (by decide +kernel) fun t _ y => ?_
  blk_simp
  rw [dat_after_5]
  obtain ⟨y0, y1, y2, y3, rfl⟩ : ∃ y0 y1 y2 y3, y = (ix4 y0 y1 y2 y3 : S1x3x1x2800.Idx) := ⟨_, _, _, _, idx_eta y⟩
  obtain rfl := Subsingleton.elim y0 0
  obtain rfl := Subsingleton.elim y2 0
  have hb : t.val = ((win0_5.blk t).view.emb (ix4 0 y1 0 y3 : S1x3x1x2800.Idx) 0).val := by
    show t.val = win0_5.index t 0 * 1 + 0
    simp [idx t]
  have h1 : ((win0_5.blk t).view.emb (ix4 0 y1 0 y3 : S1x3x1x2800.Idx) 1) = y1 := by
    apply Fin.ext
    show win0_5.index t 1 * 3 + 1 * y1.val = y1.val
    simp [idx t]
  have h3 : ((win0_5.blk t).view.emb (ix4 0 y1 0 y3 : S1x3x1x2800.Idx) 3) = y3 := by
    apply Fin.ext
    show win0_5.index t 3 * 2800 + 1 * y3.val = y3.val
    simp [idx t]
  have e := blk_img m c t _ hb
  rw [h1, h3, ← e]
  exact out5_at _ (e ▸ hg _) y1 y3

theorem final8 (hg : ∀ b, Good (imgAt m c b)) : (dat m 0 c).arrAt 8 (cfgs 0).N
    = fun i : S16x3x1x2800.Idx => BitVec.ofNat 32 (target (imgAt m c (i 0)) (i 1) (i 3)).val := by
  refine (dat m 0 c).arrAt_eq_of_covers 8
    (fun i : S16x3x1x2800.Idx => BitVec.ofNat 32 (target (imgAt m c (i 0)) (i 1) (i 3)).val)
    (by decide +kernel) fun t _ y => ?_
  blk_simp
  rw [dat_after_8]
  obtain ⟨y0, y1, y2, y3, rfl⟩ : ∃ y0 y1 y2 y3, y = (ix4 y0 y1 y2 y3 : S1x3x1x2800.Idx) := ⟨_, _, _, _, idx_eta y⟩
  obtain rfl := Subsingleton.elim y0 0
  obtain rfl := Subsingleton.elim y2 0
  have hb : t.val = ((win0_8.blk t).view.emb (ix4 0 y1 0 y3 : S1x3x1x2800.Idx) 0).val := by
    show t.val = win0_8.index t 0 * 1 + 0
    simp [idx t]
  have h1 : ((win0_8.blk t).view.emb (ix4 0 y1 0 y3 : S1x3x1x2800.Idx) 1) = y1 := by
    apply Fin.ext
    show win0_8.index t 1 * 3 + 1 * y1.val = y1.val
    simp [idx t]
  have h3 : ((win0_8.blk t).view.emb (ix4 0 y1 0 y3 : S1x3x1x2800.Idx) 3) = y3 := by
    apply Fin.ext
    show win0_8.index t 3 * 2800 + 1 * y3.val = y3.val
    simp [idx t]
  have e := blk_img m c t _ hb
  rw [h1, h3, ← e]
  exact out8_at _ (e ▸ hg _) y1 y3

theorem final6 (hg : ∀ b, Good (imgAt m c b)) : (dat m 0 c).arrAt 6 (cfgs 0).N
    = fun i : S16x3x2800x4.Idx => box (imgAt m c (i 0)) (i 1) (i 2) (i 3) := by
  refine (dat m 0 c).arrAt_eq_of_covers 6 (fun i : S16x3x2800x4.Idx => box (imgAt m c (i 0)) (i 1) (i 2) (i 3))
    (by decide +kernel) fun t _ y => ?_
  blk_simp
  rw [dat_after_6]
  obtain ⟨y0, y1, y2, y3, rfl⟩ : ∃ y0 y1 y2 y3, y = (ix4 y0 y1 y2 y3 : S1x3x2800x4.Idx) := ⟨_, _, _, _, idx_eta y⟩
  obtain rfl := Subsingleton.elim y0 0
  have hb : t.val = ((win0_6.blk t).view.emb (ix4 0 y1 y2 y3 : S1x3x2800x4.Idx) 0).val := by
    show t.val = win0_6.index t 0 * 1 + 0
    simp [idx t]
  have h1 : ((win0_6.blk t).view.emb (ix4 0 y1 y2 y3 : S1x3x2800x4.Idx) 1) = y1 := by
    apply Fin.ext
    show win0_6.index t 1 * 3 + 1 * y1.val = y1.val
    simp [idx t]
  have h2 : ((win0_6.blk t).view.emb (ix4 0 y1 y2 y3 : S1x3x2800x4.Idx) 2) = y2 := by
    apply Fin.ext
    show win0_6.index t 2 * 2800 + 1 * y2.val = y2.val
    simp [idx t]
  have h3 : ((win0_6.blk t).view.emb (ix4 0 y1 y2 y3 : S1x3x2800x4.Idx) 3) = y3 := by
    apply Fin.ext
    show win0_6.index t 3 * 4 + 1 * y3.val = y3.val
    simp [idx t]
  have e := blk_img m c t _ hb
  rw [h1, h2, h3, ← e]
  exact out6_at _ (e ▸ hg _) y1 y2 y3

theorem final7 (hg : ∀ b, Good (imgAt m c b)) : (dat m 0 c).arrAt 7 (cfgs 0).N
    = fun i : S16x3x2800x80.Idx => score (imgAt m c (i 0)) (i 1) (i 2) (i 3) := by
  refine (dat m 0 c).arrAt_eq_of_covers 7 (fun i : S16x3x2800x80.Idx => score (imgAt m c (i 0)) (i 1) (i 2) (i 3))
    (by decide +kernel) fun t _ y => ?_
  blk_simp
  rw [dat_after_7]
  obtain ⟨y0, y1, y2, y3, rfl⟩ : ∃ y0 y1 y2 y3, y = (ix4 y0 y1 y2 y3 : S1x3x2800x80.Idx) := ⟨_, _, _, _, idx_eta y⟩
  obtain rfl := Subsingleton.elim y0 0
  have hb : t.val = ((win0_7.blk t).view.emb (ix4 0 y1 y2 y3 : S1x3x2800x80.Idx) 0).val := by
    show t.val = win0_7.index t 0 * 1 + 0
    simp [idx t]
  have h1 : ((win0_7.blk t).view.emb (ix4 0 y1 y2 y3 : S1x3x2800x80.Idx) 1) = y1 := by
    apply Fin.ext
    show win0_7.index t 1 * 3 + 1 * y1.val = y1.val
    simp [idx t]
  have h2 : ((win0_7.blk t).view.emb (ix4 0 y1 y2 y3 : S1x3x2800x80.Idx) 2) = y2 := by
    apply Fin.ext
    show win0_7.index t 2 * 2800 + 1 * y2.val = y2.val
    simp [idx t]
  have h3 : ((win0_7.blk t).view.emb (ix4 0 y1 y2 y3 : S1x3x2800x80.Idx) 3) = y3 := by
    apply Fin.ext
    show win0_7.index t 3 * 80 + 1 * y3.val = y3.val
    simp [idx t]
  have e := blk_img m c t _ hb
  rw [h1, h2, h3, ← e]
  exact out7_at _ (e ▸ hg _) y1 y2 y3

/-! ## The results after the whole program -/

/-- The contents of a buffer after the whole program. -/
abbrev tail (b : Ref sig .tc) : Buf (Elt Ideal) ((c : Thread nD τ).loc b) :=
  Pipeline.afterTail₀ cfgs (dat m) 0 (V0 m) [hostOps1] c b

theorem arrs (w : Fin 9) : Pipeline.withArrays (cfgs 0).spec c (V0 m c) (fun w => (dat m 0 c).arrAt w (cfgs 0).N)
    (Proc.devRef .tc (Pipeline.arrRef (cfgs 0).spec w)) = (dat m 0 c).arrAt w (cfgs 0).N :=
  Pipeline.withArrays_arr _ winFacts0.arr_inj c _ _ w

theorem tail5 : tail m c main_v5 = shapeCast S16x8400 ((dat m 0 c).arrAt 5 (cfgs 0).N) shapeCasts_S16x3x1x2800_S16x8400 := by
  rw [← arrs m c 5]
  unfold tail Pipeline.afterTail₀
  show StableHlo.after hostOps1 _ _ = _
  simp only [StableHlo.after_cons, StableHlo.after_nil]
  after_results_simp
  rfl

theorem tail6 : tail m c main_v6 = shapeCast S16x8400x4 ((dat m 0 c).arrAt 6 (cfgs 0).N) shapeCasts_S16x3x2800x4_S16x8400x4 := by
  rw [← arrs m c 6]
  unfold tail Pipeline.afterTail₀
  show StableHlo.after hostOps1 _ _ = _
  simp only [StableHlo.after_cons, StableHlo.after_nil]
  after_results_simp
  rfl

theorem tail7 : tail m c main_v7 = shapeCast S16x8400x80 ((dat m 0 c).arrAt 7 (cfgs 0).N) shapeCasts_S16x3x2800x80_S16x8400x80 := by
  rw [← arrs m c 7]
  unfold tail Pipeline.afterTail₀
  show StableHlo.after hostOps1 _ _ = _
  simp only [StableHlo.after_cons, StableHlo.after_nil]
  after_results_simp
  rfl

theorem tail9 : tail m c main_v9 = cmpi .ne (shapeCast S16x8400 ((dat m 0 c).arrAt 5 (cfgs 0).N) shapeCasts_S16x3x1x2800_S16x8400)
    (broadcastInDim S16x8400 ![] bcast_S_S16x8400 (constantI S_ 32 80#32)) := by
  rw [← arrs m c 5]
  unfold tail Pipeline.afterTail₀
  show StableHlo.after hostOps1 _ _ = _
  simp only [StableHlo.after_cons, StableHlo.after_nil]
  after_results_simp
  rfl

theorem tail10 : tail m c main_v10 = shapeCast S16x8400 ((dat m 0 c).arrAt 8 (cfgs 0).N) shapeCasts_S16x3x1x2800_S16x8400 := by
  rw [← arrs m c 8]
  unfold tail Pipeline.afterTail₀
  show StableHlo.after hostOps1 _ _ = _
  simp only [StableHlo.after_cons, StableHlo.after_nil]
  after_results_simp
  rfl

/-- A result of one value to an anchor, read through the levels. -/
theorem levels_read {α : Type} (X : S16x3x1x2800.Idx → α) (b : Fin 16) (a : Fin 8400) :
    shapeCast S16x8400 X shapeCasts_S16x3x1x2800_S16x8400 (ix2 b a) = X (ix4 b (levelOf a) 0 (placeOf a)) := by
  pointwise
  rfl

theorem levels_read4 {α : Type} (X : S16x3x2800x4.Idx → α) (b : Fin 16) (a : Fin 8400) (k : Fin 4) :
    shapeCast S16x8400x4 X shapeCasts_S16x3x2800x4_S16x8400x4 (ix3 b a k) = X (ix4 b (levelOf a) (placeOf a) k) := by
  pointwise
  rfl

theorem levels_read80 {α : Type} (X : S16x3x2800x80.Idx → α) (b : Fin 16) (a : Fin 8400) (k : Fin 80) :
    shapeCast S16x8400x80 X shapeCasts_S16x3x2800x80_S16x8400x80 (ix3 b a k) = X (ix4 b (levelOf a) (placeOf a) k) := by
  pointwise
  rfl

variable (hg : ∀ b, Good (imgAt m c b))
include hg

theorem value5 (b : Fin 16) (a : Fin 8400) : tail m c main_v5 (ix2 b a) = label (imgAt m c b) (levelOf a) (placeOf a) := by
  rw [tail5, final5 m c hg]
  exact levels_read _ b a

theorem value6 (b : Fin 16) (a : Fin 8400) (k : Fin 4) :
    tail m c main_v6 (ix3 b a k) = box (imgAt m c b) (levelOf a) (placeOf a) k := by
  rw [tail6, final6 m c hg]
  exact levels_read4 _ b a k

theorem value7 (b : Fin 16) (a : Fin 8400) (k : Fin 80) :
    tail m c main_v7 (ix3 b a k) = score (imgAt m c b) (levelOf a) (placeOf a) k := by
  rw [tail7, final7 m c hg]
  exact levels_read80 _ b a k

theorem value10 (b : Fin 16) (a : Fin 8400) :
    tail m c main_v10 (ix2 b a) = BitVec.ofNat 32 (target (imgAt m c b) (levelOf a) (placeOf a)).val := by
  rw [tail10, final8 m c hg]
  exact levels_read _ b a

theorem value9 (hl : ∀ b g, (imgAt m c b).lab g ≠ 80#32) (b : Fin 16) (a : Fin 8400) :
    tail m c main_v9 (ix2 b a)
      = open Classical in BitVec.ofBool (decide (∃ g, pick (imgAt m c b) (levelOf a) (placeOf a) g)) := by
  rw [tail9, final5 m c hg]
  show IntOp.cmpi .ne (shapeCast S16x8400 _ _ (ix2 b a)) (80#32) = _
  rw [levels_read _ b a]
  show BitVec.ofBool (label (imgAt m c b) (levelOf a) (placeOf a) != 80#32) = _
  classical
  by_cases h : ∃ g, pick (imgAt m c b) (levelOf a) (placeOf a) g
  · have e : label (imgAt m c b) (levelOf a) (placeOf a) = (imgAt m c b).lab (target (imgAt m c b) (levelOf a) (placeOf a)) :=
      if_pos h
    rw [e, decide_eq_true h]
    exact congrArg BitVec.ofBool (bne_iff_ne.mpr (hl b _))
  · have e : label (imgAt m c b) (levelOf a) (placeOf a) = 80#32 := if_neg h
    rw [e, decide_eq_false h]
    rfl

end Cert.Proof.Body

end
-- ==== Proof.RefVals.lean ====
module

public import proofs.«01_k».proof.Proof.RefOps

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! Every value of the reference as a vector, and the equation of the operation that computes it. -/

def r_arg1 (V : Valuation τ sig (Elt F)) : FVec F S16x8400x4 .f32 := after ops V (Proc.devRef .tc main_arg1)
def r_arg2 (V : Valuation τ sig (Elt F)) : FVec F S8400x2 .f32 := after ops V (Proc.devRef .tc main_arg2)
def r_arg3 (V : Valuation τ sig (Elt F)) : IVec S16x32x1 32 := after ops V (Proc.devRef .tc main_arg3)
def r_arg4 (V : Valuation τ sig (Elt F)) : FVec F S16x32x4 .f32 := after ops V (Proc.devRef .tc main_arg4)
def r_arg5 (V : Valuation τ sig (Elt F)) : FVec F S16x32x1 .f32 := after ops V (Proc.devRef .tc main_arg5)
def r_cst (V : Valuation τ sig (Elt F)) : FVec F S_ .f32 := after ops V (Proc.devRef .tc main_cst)
def r_v0 (V : Valuation τ sig (Elt F)) : FVec F S8400x2 .f32 := after ops V (Proc.devRef .tc main_v0)
def r_v1 (V : Valuation τ sig (Elt F)) : FVec F S8400x2 .f32 := after ops V (Proc.devRef .tc main_v1)
def r_cst_0 (V : Valuation τ sig (Elt F)) : FVec F S_ .f32 := after ops V (Proc.devRef .tc main_cst_0)
def r_v2 (V : Valuation τ sig (Elt F)) : FVec F S8400x2 .f32 := after ops V (Proc.devRef .tc main_v2)
def r_v3 (V : Valuation τ sig (Elt F)) : FVec F S8400x2 .f32 := after ops V (Proc.devRef .tc main_v3)
def r_v4 (V : Valuation τ sig (Elt F)) : FVec F S8400x4 .f32 := after ops V (Proc.devRef .tc main_v4)
def r_v5 (V : Valuation τ sig (Elt F)) : FVec F S16x32x1x4 .f32 := after ops V (Proc.devRef .tc main_v5)
def r_v6 (V : Valuation τ sig (Elt F)) : FVec F S1x1x8400x4 .f32 := after ops V (Proc.devRef .tc main_v6)
def r_v7 (V : Valuation τ sig (Elt F)) : FVec F S16x32x1x1 .f32 := after ops V (Proc.devRef .tc main_v7)
def r_v8 (V : Valuation τ sig (Elt F)) : FVec F S16x32x1x1 .f32 := after ops V (Proc.devRef .tc main_v8)
def r_v9 (V : Valuation τ sig (Elt F)) : FVec F S16x32x1x1 .f32 := after ops V (Proc.devRef .tc main_v9)
def r_v10 (V : Valuation τ sig (Elt F)) : FVec F S16x32x1x1 .f32 := after ops V (Proc.devRef .tc main_v10)
def r_v11 (V : Valuation τ sig (Elt F)) : FVec F S1x1x8400x1 .f32 := after ops V (Proc.devRef .tc main_v11)
def r_v12 (V : Valuation τ sig (Elt F)) : FVec F S1x1x8400x1 .f32 := after ops V (Proc.devRef .tc main_v12)
def r_v13 (V : Valuation τ sig (Elt F)) : FVec F S1x1x8400x1 .f32 := after ops V (Proc.devRef .tc main_v13)
def r_v14 (V : Valuation τ sig (Elt F)) : FVec F S1x1x8400x1 .f32 := after ops V (Proc.devRef .tc main_v14)
def r_v15 (V : Valuation τ sig (Elt F)) : FVec F S16x32x8400x1 .f32 := after ops V (Proc.devRef .tc main_v15)
def r_v16 (V : Valuation τ sig (Elt F)) : FVec F S16x32x8400x1 .f32 := after ops V (Proc.devRef .tc main_v16)
def r_v17 (V : Valuation τ sig (Elt F)) : FVec F S16x32x8400x1 .f32 := after ops V (Proc.devRef .tc main_v17)
def r_v18 (V : Valuation τ sig (Elt F)) : FVec F S16x32x8400x1 .f32 := after ops V (Proc.devRef .tc main_v18)
def r_v19 (V : Valuation τ sig (Elt F)) : FVec F S16x32x8400x1 .f32 := after ops V (Proc.devRef .tc main_v19)
def r_v20 (V : Valuation τ sig (Elt F)) : FVec F S16x32x8400x1 .f32 := after ops V (Proc.devRef .tc main_v20)
def r_v21 (V : Valuation τ sig (Elt F)) : FVec F S16x32x8400x1 .f32 := after ops V (Proc.devRef .tc main_v21)
def r_cst_1 (V : Valuation τ sig (Elt F)) : FVec F S_ .f32 := after ops V (Proc.devRef .tc main_cst_1)
def r_call0_v0 (V : Valuation τ sig (Elt F)) : FVec F S_ .f32 := after ops V (Proc.devRef .tc main_call0_v0)
def r_call0_v1 (V : Valuation τ sig (Elt F)) : FVec F S16x32x8400x1 .f32 := after ops V (Proc.devRef .tc main_call0_v1)
def r_v22 (V : Valuation τ sig (Elt F)) : FVec F S16x32x8400x1 .f32 := after ops V (Proc.devRef .tc main_v22)
def r_v23 (V : Valuation τ sig (Elt F)) : FVec F S16x32x8400x1 .f32 := after ops V (Proc.devRef .tc main_v23)
def r_v24 (V : Valuation τ sig (Elt F)) : FVec F S16x32x8400x1 .f32 := after ops V (Proc.devRef .tc main_v24)
def r_v25 (V : Valuation τ sig (Elt F)) : FVec F S16x32x8400x1 .f32 := after ops V (Proc.devRef .tc main_v25)
def r_v26 (V : Valuation τ sig (Elt F)) : FVec F S16x32x8400x1 .f32 := after ops V (Proc.devRef .tc main_v26)
def r_v27 (V : Valuation τ sig (Elt F)) : FVec F S16x32x8400x1 .f32 := after ops V (Proc.devRef .tc main_v27)
def r_v28 (V : Valuation τ sig (Elt F)) : FVec F S16x32x8400x1 .f32 := after ops V (Proc.devRef .tc main_v28)
def r_v29 (V : Valuation τ sig (Elt F)) : FVec F S16x32x8400x1 .f32 := after ops V (Proc.devRef .tc main_v29)
def r_cst_2 (V : Valuation τ sig (Elt F)) : FVec F S_ .f32 := after ops V (Proc.devRef .tc main_cst_2)
def r_call1_v0 (V : Valuation τ sig (Elt F)) : FVec F S_ .f32 := after ops V (Proc.devRef .tc main_call1_v0)
def r_call1_v1 (V : Valuation τ sig (Elt F)) : FVec F S16x32x8400x1 .f32 := after ops V (Proc.devRef .tc main_call1_v1)
def r_v30 (V : Valuation τ sig (Elt F)) : FVec F S16x32x8400x1 .f32 := after ops V (Proc.devRef .tc main_v30)
def r_v31 (V : Valuation τ sig (Elt F)) : FVec F S16x32x8400x1 .f32 := after ops V (Proc.devRef .tc main_v31)
def r_v32 (V : Valuation τ sig (Elt F)) : FVec F S16x32x1x1 .f32 := after ops V (Proc.devRef .tc main_v32)
def r_v33 (V : Valuation τ sig (Elt F)) : FVec F S16x32x1x1 .f32 := after ops V (Proc.devRef .tc main_v33)
def r_v34 (V : Valuation τ sig (Elt F)) : FVec F S16x32x1x1 .f32 := after ops V (Proc.devRef .tc main_v34)
def r_v35 (V : Valuation τ sig (Elt F)) : FVec F S1x1x8400x1 .f32 := after ops V (Proc.devRef .tc main_v35)
def r_v36 (V : Valuation τ sig (Elt F)) : FVec F S1x1x8400x1 .f32 := after ops V (Proc.devRef .tc main_v36)
def r_v37 (V : Valuation τ sig (Elt F)) : FVec F S1x1x8400x1 .f32 := after ops V (Proc.devRef .tc main_v37)
def r_v38 (V : Valuation τ sig (Elt F)) : FVec F S16x32x8400x1 .f32 := after ops V (Proc.devRef .tc main_v38)
def r_v39 (V : Valuation τ sig (Elt F)) : FVec F S16x32x8400x1 .f32 := after ops V (Proc.devRef .tc main_v39)
def r_v40 (V : Valuation τ sig (Elt F)) : FVec F S16x32x8400x1 .f32 := after ops V (Proc.devRef .tc main_v40)
def r_v41 (V : Valuation τ sig (Elt F)) : FVec F S16x32x8400x1 .f32 := after ops V (Proc.devRef .tc main_v41)
def r_cst_3 (V : Valuation τ sig (Elt F)) : FVec F S_ .f32 := after ops V (Proc.devRef .tc main_cst_3)
def r_v42 (V : Valuation τ sig (Elt F)) : FVec F S16x32x8400x1 .f32 := after ops V (Proc.devRef .tc main_v42)
def r_v43 (V : Valuation τ sig (Elt F)) : FVec F S16x32x8400x1 .f32 := after ops V (Proc.devRef .tc main_v43)
def r_v44 (V : Valuation τ sig (Elt F)) : FVec F S16x32x8400x1 .f32 := after ops V (Proc.devRef .tc main_v44)
def r_v45 (V : Valuation τ sig (Elt F)) : FVec F S16x32x8400 .f32 := after ops V (Proc.devRef .tc main_v45)
def r_v46 (V : Valuation τ sig (Elt F)) : FVec F S16x32x2 .f32 := after ops V (Proc.devRef .tc main_v46)
def r_v47 (V : Valuation τ sig (Elt F)) : FVec F S16x32x2 .f32 := after ops V (Proc.devRef .tc main_v47)
def r_v48 (V : Valuation τ sig (Elt F)) : FVec F S16x32x2 .f32 := after ops V (Proc.devRef .tc main_v48)
def r_cst_4 (V : Valuation τ sig (Elt F)) : FVec F S_ .f32 := after ops V (Proc.devRef .tc main_cst_4)
def r_v49 (V : Valuation τ sig (Elt F)) : FVec F S16x32x2 .f32 := after ops V (Proc.devRef .tc main_v49)
def r_v50 (V : Valuation τ sig (Elt F)) : FVec F S16x32x2 .f32 := after ops V (Proc.devRef .tc main_v50)
def r_v51 (V : Valuation τ sig (Elt F)) : FVec F S16x32x1x2 .f32 := after ops V (Proc.devRef .tc main_v51)
def r_v52 (V : Valuation τ sig (Elt F)) : FVec F S1x1x8400x2 .f32 := after ops V (Proc.devRef .tc main_v52)
def r_v53 (V : Valuation τ sig (Elt F)) : FVec F S16x32x8400x2 .f32 := after ops V (Proc.devRef .tc main_v53)
def r_v54 (V : Valuation τ sig (Elt F)) : FVec F S16x32x8400x2 .f32 := after ops V (Proc.devRef .tc main_v54)
def r_v55 (V : Valuation τ sig (Elt F)) : FVec F S16x32x8400x2 .f32 := after ops V (Proc.devRef .tc main_v55)
def r_v56 (V : Valuation τ sig (Elt F)) : FVec F S16x32x8400x2 .f32 := after ops V (Proc.devRef .tc main_v56)
def r_cst_5 (V : Valuation τ sig (Elt F)) : FVec F S_ .f32 := after ops V (Proc.devRef .tc main_cst_5)
def r_v57 (V : Valuation τ sig (Elt F)) : FVec F S16x32x8400 .f32 := after ops V (Proc.devRef .tc main_v57)
def r_v58 (V : Valuation τ sig (Elt F)) : FVec F S16x32x8400 .f32 := after ops V (Proc.devRef .tc main_v58)
def r_cst_6 (V : Valuation τ sig (Elt F)) : FVec F S_ .f32 := after ops V (Proc.devRef .tc main_cst_6)
def r_v59 (V : Valuation τ sig (Elt F)) : FVec F S16x32x1 .f32 := after ops V (Proc.devRef .tc main_v59)
def r_v60 (V : Valuation τ sig (Elt F)) : IVec S16x32x1 1 := after ops V (Proc.devRef .tc main_v60)
def r_v61 (V : Valuation τ sig (Elt F)) : FVec F S16x32x2800 .f32 := after ops V (Proc.devRef .tc main_v61)
def r_v62 (V : Valuation τ sig (Elt F)) : FVec F S16x32x2800 .f32 := after ops V (Proc.devRef .tc main_v62)
def r_values (V : Valuation τ sig (Elt F)) : FVec F S16x32x9 .f32 := after ops V (Proc.devRef .tc main_values)
def r_indices (V : Valuation τ sig (Elt F)) : IVec S16x32x9 32 := after ops V (Proc.devRef .tc main_indices)
def r_c (V : Valuation τ sig (Elt F)) : IVec S_ 32 := after ops V (Proc.devRef .tc main_c)
def r_v63 (V : Valuation τ sig (Elt F)) : IVec S16x32x9 32 := after ops V (Proc.devRef .tc main_v63)
def r_v64 (V : Valuation τ sig (Elt F)) : IVec S16x32x9 32 := after ops V (Proc.devRef .tc main_v64)
def r_c_7 (V : Valuation τ sig (Elt F)) : IVec S_ 32 := after ops V (Proc.devRef .tc main_c_7)
def r_call2_v0 (V : Valuation τ sig (Elt F)) : IVec S_ 32 := after ops V (Proc.devRef .tc main_call2_v0)
def r_call2_v1 (V : Valuation τ sig (Elt F)) : IVec S16x32x9 1 := after ops V (Proc.devRef .tc main_call2_v1)
def r_call2_v2 (V : Valuation τ sig (Elt F)) : IVec S16x32x9 32 := after ops V (Proc.devRef .tc main_call2_v2)
def r_v65 (V : Valuation τ sig (Elt F)) : IVec S16x32x9 32 := after ops V (Proc.devRef .tc main_v65)
def r_call3_v0 (V : Valuation τ sig (Elt F)) : IVec S16x32x9x1 32 := after ops V (Proc.devRef .tc main_call3_v0)
def r_call3_v1 (V : Valuation τ sig (Elt F)) : IVec S1x1x1x2800 32 := after ops V (Proc.devRef .tc main_call3_v1)
def r_call3_v2 (V : Valuation τ sig (Elt F)) : IVec S16x32x9x2800 32 := after ops V (Proc.devRef .tc main_call3_v2)
def r_call3_v3 (V : Valuation τ sig (Elt F)) : IVec S16x32x9x2800 32 := after ops V (Proc.devRef .tc main_call3_v3)
def r_call3_v4 (V : Valuation τ sig (Elt F)) : IVec S16x32x9x2800 1 := after ops V (Proc.devRef .tc main_call3_v4)
def r_v66 (V : Valuation τ sig (Elt F)) : FVec F S16x32x9x2800 .f32 := after ops V (Proc.devRef .tc main_v66)
def r_cst_8 (V : Valuation τ sig (Elt F)) : FVec F S_ .f32 := after ops V (Proc.devRef .tc main_cst_8)
def r_v67 (V : Valuation τ sig (Elt F)) : FVec F S16x32x2800 .f32 := after ops V (Proc.devRef .tc main_v67)
def r_cst_9 (V : Valuation τ sig (Elt F)) : FVec F S_ .f32 := after ops V (Proc.devRef .tc main_cst_9)
def r_v68 (V : Valuation τ sig (Elt F)) : FVec F S16x32x2800 .f32 := after ops V (Proc.devRef .tc main_v68)
def r_v69 (V : Valuation τ sig (Elt F)) : IVec S16x32x2800 1 := after ops V (Proc.devRef .tc main_v69)
def r_cst_10 (V : Valuation τ sig (Elt F)) : FVec F S_ .f32 := after ops V (Proc.devRef .tc main_cst_10)
def r_v70 (V : Valuation τ sig (Elt F)) : FVec F S16x32x2800 .f32 := after ops V (Proc.devRef .tc main_v70)
def r_v71 (V : Valuation τ sig (Elt F)) : FVec F S16x32x2800 .f32 := after ops V (Proc.devRef .tc main_v71)
def r_v72 (V : Valuation τ sig (Elt F)) : FVec F S16x32x2800 .f32 := after ops V (Proc.devRef .tc main_v72)
def r_v73 (V : Valuation τ sig (Elt F)) : FVec F S16x32x2800 .f32 := after ops V (Proc.devRef .tc main_v73)
def r_values_11 (V : Valuation τ sig (Elt F)) : FVec F S16x32x9 .f32 := after ops V (Proc.devRef .tc main_values_11)
def r_indices_12 (V : Valuation τ sig (Elt F)) : IVec S16x32x9 32 := after ops V (Proc.devRef .tc main_indices_12)
def r_c_13 (V : Valuation τ sig (Elt F)) : IVec S_ 32 := after ops V (Proc.devRef .tc main_c_13)
def r_v74 (V : Valuation τ sig (Elt F)) : IVec S16x32x9 32 := after ops V (Proc.devRef .tc main_v74)
def r_v75 (V : Valuation τ sig (Elt F)) : IVec S16x32x9 32 := after ops V (Proc.devRef .tc main_v75)
def r_c_14 (V : Valuation τ sig (Elt F)) : IVec S_ 32 := after ops V (Proc.devRef .tc main_c_14)
def r_call5_v0 (V : Valuation τ sig (Elt F)) : IVec S_ 32 := after ops V (Proc.devRef .tc main_call5_v0)
def r_call5_v1 (V : Valuation τ sig (Elt F)) : IVec S16x32x9 1 := after ops V (Proc.devRef .tc main_call5_v1)
def r_call5_v2 (V : Valuation τ sig (Elt F)) : IVec S16x32x9 32 := after ops V (Proc.devRef .tc main_call5_v2)
def r_v76 (V : Valuation τ sig (Elt F)) : IVec S16x32x9 32 := after ops V (Proc.devRef .tc main_v76)
def r_call6_v0 (V : Valuation τ sig (Elt F)) : IVec S16x32x9x1 32 := after ops V (Proc.devRef .tc main_call6_v0)
def r_call6_v1 (V : Valuation τ sig (Elt F)) : IVec S1x1x1x2800 32 := after ops V (Proc.devRef .tc main_call6_v1)
def r_call6_v2 (V : Valuation τ sig (Elt F)) : IVec S16x32x9x2800 32 := after ops V (Proc.devRef .tc main_call6_v2)
def r_call6_v3 (V : Valuation τ sig (Elt F)) : IVec S16x32x9x2800 32 := after ops V (Proc.devRef .tc main_call6_v3)
def r_call6_v4 (V : Valuation τ sig (Elt F)) : IVec S16x32x9x2800 1 := after ops V (Proc.devRef .tc main_call6_v4)
def r_v77 (V : Valuation τ sig (Elt F)) : FVec F S16x32x9x2800 .f32 := after ops V (Proc.devRef .tc main_v77)
def r_cst_15 (V : Valuation τ sig (Elt F)) : FVec F S_ .f32 := after ops V (Proc.devRef .tc main_cst_15)
def r_v78 (V : Valuation τ sig (Elt F)) : FVec F S16x32x2800 .f32 := after ops V (Proc.devRef .tc main_v78)
def r_cst_16 (V : Valuation τ sig (Elt F)) : FVec F S_ .f32 := after ops V (Proc.devRef .tc main_cst_16)
def r_v79 (V : Valuation τ sig (Elt F)) : FVec F S16x32x2800 .f32 := after ops V (Proc.devRef .tc main_v79)
def r_v80 (V : Valuation τ sig (Elt F)) : IVec S16x32x2800 1 := after ops V (Proc.devRef .tc main_v80)
def r_cst_17 (V : Valuation τ sig (Elt F)) : FVec F S_ .f32 := after ops V (Proc.devRef .tc main_cst_17)
def r_v81 (V : Valuation τ sig (Elt F)) : FVec F S16x32x2800 .f32 := after ops V (Proc.devRef .tc main_v81)
def r_v82 (V : Valuation τ sig (Elt F)) : FVec F S16x32x2800 .f32 := after ops V (Proc.devRef .tc main_v82)
def r_v83 (V : Valuation τ sig (Elt F)) : FVec F S16x32x2800 .f32 := after ops V (Proc.devRef .tc main_v83)
def r_v84 (V : Valuation τ sig (Elt F)) : FVec F S16x32x2800 .f32 := after ops V (Proc.devRef .tc main_v84)
def r_values_18 (V : Valuation τ sig (Elt F)) : FVec F S16x32x9 .f32 := after ops V (Proc.devRef .tc main_values_18)
def r_indices_19 (V : Valuation τ sig (Elt F)) : IVec S16x32x9 32 := after ops V (Proc.devRef .tc main_indices_19)
def r_c_20 (V : Valuation τ sig (Elt F)) : IVec S_ 32 := after ops V (Proc.devRef .tc main_c_20)
def r_v85 (V : Valuation τ sig (Elt F)) : IVec S16x32x9 32 := after ops V (Proc.devRef .tc main_v85)
def r_v86 (V : Valuation τ sig (Elt F)) : IVec S16x32x9 32 := after ops V (Proc.devRef .tc main_v86)
def r_c_21 (V : Valuation τ sig (Elt F)) : IVec S_ 32 := after ops V (Proc.devRef .tc main_c_21)
def r_call8_v0 (V : Valuation τ sig (Elt F)) : IVec S_ 32 := after ops V (Proc.devRef .tc main_call8_v0)
def r_call8_v1 (V : Valuation τ sig (Elt F)) : IVec S16x32x9 1 := after ops V (Proc.devRef .tc main_call8_v1)
def r_call8_v2 (V : Valuation τ sig (Elt F)) : IVec S16x32x9 32 := after ops V (Proc.devRef .tc main_call8_v2)
def r_v87 (V : Valuation τ sig (Elt F)) : IVec S16x32x9 32 := after ops V (Proc.devRef .tc main_v87)
def r_call9_v0 (V : Valuation τ sig (Elt F)) : IVec S16x32x9x1 32 := after ops V (Proc.devRef .tc main_call9_v0)
def r_call9_v1 (V : Valuation τ sig (Elt F)) : IVec S1x1x1x2800 32 := after ops V (Proc.devRef .tc main_call9_v1)
def r_call9_v2 (V : Valuation τ sig (Elt F)) : IVec S16x32x9x2800 32 := after ops V (Proc.devRef .tc main_call9_v2)
def r_call9_v3 (V : Valuation τ sig (Elt F)) : IVec S16x32x9x2800 32 := after ops V (Proc.devRef .tc main_call9_v3)
def r_call9_v4 (V : Valuation τ sig (Elt F)) : IVec S16x32x9x2800 1 := after ops V (Proc.devRef .tc main_call9_v4)
def r_v88 (V : Valuation τ sig (Elt F)) : FVec F S16x32x9x2800 .f32 := after ops V (Proc.devRef .tc main_v88)
def r_cst_22 (V : Valuation τ sig (Elt F)) : FVec F S_ .f32 := after ops V (Proc.devRef .tc main_cst_22)
def r_v89 (V : Valuation τ sig (Elt F)) : FVec F S16x32x2800 .f32 := after ops V (Proc.devRef .tc main_v89)
def r_cst_23 (V : Valuation τ sig (Elt F)) : FVec F S_ .f32 := after ops V (Proc.devRef .tc main_cst_23)
def r_v90 (V : Valuation τ sig (Elt F)) : FVec F S16x32x2800 .f32 := after ops V (Proc.devRef .tc main_v90)
def r_v91 (V : Valuation τ sig (Elt F)) : IVec S16x32x2800 1 := after ops V (Proc.devRef .tc main_v91)
def r_cst_24 (V : Valuation τ sig (Elt F)) : FVec F S_ .f32 := after ops V (Proc.devRef .tc main_cst_24)
def r_v92 (V : Valuation τ sig (Elt F)) : FVec F S16x32x2800 .f32 := after ops V (Proc.devRef .tc main_v92)
def r_v93 (V : Valuation τ sig (Elt F)) : FVec F S16x32x2800 .f32 := after ops V (Proc.devRef .tc main_v93)
def r_v94 (V : Valuation τ sig (Elt F)) : FVec F S16x32x8400 .f32 := after ops V (Proc.devRef .tc main_v94)
def r_v95 (V : Valuation τ sig (Elt F)) : IVec S16x32x27 32 := after ops V (Proc.devRef .tc main_v95)
def r_cst_25 (V : Valuation τ sig (Elt F)) : FVec F S_ .f32 := after ops V (Proc.devRef .tc main_cst_25)
def r_v96 (V : Valuation τ sig (Elt F)) : FVec F S16x32x8400 .f32 := after ops V (Proc.devRef .tc main_v96)
def r_v97 (V : Valuation τ sig (Elt F)) : IVec S16x32x8400 1 := after ops V (Proc.devRef .tc main_v97)
def r_cst_26 (V : Valuation τ sig (Elt F)) : FVec F S_ .f32 := after ops V (Proc.devRef .tc main_cst_26)
def r_v98 (V : Valuation τ sig (Elt F)) : FVec F S16x32x8400 .f32 := after ops V (Proc.devRef .tc main_v98)
def r_v99 (V : Valuation τ sig (Elt F)) : FVec F S16x32x8400 .f32 := after ops V (Proc.devRef .tc main_v99)
def r_v100 (V : Valuation τ sig (Elt F)) : IVec S512x27 32 := after ops V (Proc.devRef .tc main_v100)
def r_v101 (V : Valuation τ sig (Elt F)) : IVec S512 32 := after ops V (Proc.devRef .tc main_v101)
def r_c_27 (V : Valuation τ sig (Elt F)) : IVec S_ 32 := after ops V (Proc.devRef .tc main_c_27)
def r_v102 (V : Valuation τ sig (Elt F)) : IVec S512 32 := after ops V (Proc.devRef .tc main_v102)
def r_v103 (V : Valuation τ sig (Elt F)) : IVec S512 32 := after ops V (Proc.devRef .tc main_v103)
def r_v104 (V : Valuation τ sig (Elt F)) : IVec S512x1 32 := after ops V (Proc.devRef .tc main_v104)
def r_v105 (V : Valuation τ sig (Elt F)) : IVec S512x27 32 := after ops V (Proc.devRef .tc main_v105)
def r_v106 (V : Valuation τ sig (Elt F)) : IVec S512x27 32 := after ops V (Proc.devRef .tc main_v106)
def r_v107 (V : Valuation τ sig (Elt F)) : FVec F S4300800 .f32 := after ops V (Proc.devRef .tc main_v107)
def r_c_28 (V : Valuation τ sig (Elt F)) : IVec S_ 32 := after ops V (Proc.devRef .tc main_c_28)
def r_v108 (V : Valuation τ sig (Elt F)) : IVec S512x27 32 := after ops V (Proc.devRef .tc main_v108)
def r_v109 (V : Valuation τ sig (Elt F)) : IVec S512x27 1 := after ops V (Proc.devRef .tc main_v109)
def r_c_29 (V : Valuation τ sig (Elt F)) : IVec S_ 32 := after ops V (Proc.devRef .tc main_c_29)
def r_v110 (V : Valuation τ sig (Elt F)) : IVec S512x27 32 := after ops V (Proc.devRef .tc main_v110)
def r_v111 (V : Valuation τ sig (Elt F)) : IVec S512x27 32 := after ops V (Proc.devRef .tc main_v111)
def r_v112 (V : Valuation τ sig (Elt F)) : IVec S512x27 32 := after ops V (Proc.devRef .tc main_v112)
def r_v113 (V : Valuation τ sig (Elt F)) : IVec S512x27x1 32 := after ops V (Proc.devRef .tc main_v113)
def r_v114 (V : Valuation τ sig (Elt F)) : FVec F S512x27 .f32 := after ops V (Proc.devRef .tc main_v114)
def r_v115 (V : Valuation τ sig (Elt F)) : FVec F S16x32x27 .f32 := after ops V (Proc.devRef .tc main_v115)
def r_cst_30 (V : Valuation τ sig (Elt F)) : FVec F S_ .f32 := after ops V (Proc.devRef .tc main_cst_30)
def r_v116 (V : Valuation τ sig (Elt F)) : FVec F S16x32 .f32 := after ops V (Proc.devRef .tc main_v116)
def r_v117 (V : Valuation τ sig (Elt F)) : FVec F S16x32x1 .f32 := after ops V (Proc.devRef .tc main_v117)
def r_cst_31 (V : Valuation τ sig (Elt F)) : FVec F S_ .f32 := after ops V (Proc.devRef .tc main_cst_31)
def r_v118 (V : Valuation τ sig (Elt F)) : FVec F S16x32x1 .f32 := after ops V (Proc.devRef .tc main_v118)
def r_v119 (V : Valuation τ sig (Elt F)) : FVec F S16x32x1 .f32 := after ops V (Proc.devRef .tc main_v119)
def r_c_32 (V : Valuation τ sig (Elt F)) : IVec S_ 32 := after ops V (Proc.devRef .tc main_c_32)
def r_call12_call0_cst (V : Valuation τ sig (Elt F)) : FVec F S_ .f32 := after ops V (Proc.devRef .tc main_call12_call0_cst)
def r_call12_call0_v0 (V : Valuation τ sig (Elt F)) : FVec F S16x32 .f32 := after ops V (Proc.devRef .tc main_call12_call0_v0)
def r_call12_call0_v1 (V : Valuation τ sig (Elt F)) : FVec F S16x32x1 .f32 := after ops V (Proc.devRef .tc main_call12_call0_v1)
def r_call12_call0_cst_0 (V : Valuation τ sig (Elt F)) : FVec F S_ .f32 := after ops V (Proc.devRef .tc main_call12_call0_cst_0)
def r_call12_call0_v2 (V : Valuation τ sig (Elt F)) : FVec F S16x32x1 .f32 := after ops V (Proc.devRef .tc main_call12_call0_v2)
def r_call12_call0_v3 (V : Valuation τ sig (Elt F)) : FVec F S16x32x1 .f32 := after ops V (Proc.devRef .tc main_call12_call0_v3)
def r_call12_call0_v4 (V : Valuation τ sig (Elt F)) : FVec F S16x32x27 .f32 := after ops V (Proc.devRef .tc main_call12_call0_v4)
def r_call12_call0_v5 (V : Valuation τ sig (Elt F)) : FVec F S16x32x27 .f32 := after ops V (Proc.devRef .tc main_call12_call0_v5)
def r_call12_call0_v6 (V : Valuation τ sig (Elt F)) : FVec F S16x32x27 .f32 := after ops V (Proc.devRef .tc main_call12_call0_v6)
def r_call12_call0_v7 (V : Valuation τ sig (Elt F)) : FVec F S_ .f32 := after ops V (Proc.devRef .tc main_call12_call0_v7)
def r_call12_call0_cst_1 (V : Valuation τ sig (Elt F)) : FVec F S_ .f32 := after ops V (Proc.devRef .tc main_call12_call0_cst_1)
def r_call12_call0_v8 (V : Valuation τ sig (Elt F)) : FVec F S_ .f32 := after ops V (Proc.devRef .tc main_call12_call0_v8)
def r_call12_call0_cst_2 (V : Valuation τ sig (Elt F)) : FVec F S_ .f32 := after ops V (Proc.devRef .tc main_call12_call0_cst_2)
def r_call12_call0_v9 (V : Valuation τ sig (Elt F)) : FVec F S16x32 .f32 := after ops V (Proc.devRef .tc main_call12_call0_v9)
def r_call12_call0_v10 (V : Valuation τ sig (Elt F)) : FVec F S16x32x1 .f32 := after ops V (Proc.devRef .tc main_call12_call0_v10)
def r_call12_call0_v11 (V : Valuation τ sig (Elt F)) : FVec F S16x32x1 .f32 := after ops V (Proc.devRef .tc main_call12_call0_v11)
def r_call12_call0_v12 (V : Valuation τ sig (Elt F)) : FVec F S16x32x1 .f32 := after ops V (Proc.devRef .tc main_call12_call0_v12)
def r_call12_call0_cst_3 (V : Valuation τ sig (Elt F)) : FVec F S_ .f32 := after ops V (Proc.devRef .tc main_call12_call0_cst_3)
def r_call12_call0_v13 (V : Valuation τ sig (Elt F)) : IVec S_ 1 := after ops V (Proc.devRef .tc main_call12_call0_v13)
def r_call12_call0_cst_4 (V : Valuation τ sig (Elt F)) : FVec F S_ .f32 := after ops V (Proc.devRef .tc main_call12_call0_cst_4)
def r_call12_call0_call0_v0 (V : Valuation τ sig (Elt F)) : FVec F S_ .f32 := after ops V (Proc.devRef .tc main_call12_call0_call0_v0)
def r_call12_call0_call0_v1 (V : Valuation τ sig (Elt F)) : FVec F S16x32x1 .f32 := after ops V (Proc.devRef .tc main_call12_call0_call0_v1)
def r_call12_v0 (V : Valuation τ sig (Elt F)) : FVec F S16x32x1 .f32 := after ops V (Proc.devRef .tc main_call12_v0)
def r_v120 (V : Valuation τ sig (Elt F)) : FVec F S16x32x1 .f32 := after ops V (Proc.devRef .tc main_v120)
def r_v121 (V : Valuation τ sig (Elt F)) : FVec F S16x32x1 .f32 := after ops V (Proc.devRef .tc main_v121)
def r_v122 (V : Valuation τ sig (Elt F)) : FVec F S16x32x8400 .f32 := after ops V (Proc.devRef .tc main_v122)
def r_v123 (V : Valuation τ sig (Elt F)) : IVec S16x32x8400 1 := after ops V (Proc.devRef .tc main_v123)
def r_cst_33 (V : Valuation τ sig (Elt F)) : FVec F S_ .f32 := after ops V (Proc.devRef .tc main_cst_33)
def r_v124 (V : Valuation τ sig (Elt F)) : FVec F S16x32x8400 .f32 := after ops V (Proc.devRef .tc main_v124)
def r_v125 (V : Valuation τ sig (Elt F)) : FVec F S16x32x8400 .f32 := after ops V (Proc.devRef .tc main_v125)
def r_v126 (V : Valuation τ sig (Elt F)) : FVec F S1x1x8400x2 .f32 := after ops V (Proc.devRef .tc main_v126)
def r_v127 (V : Valuation τ sig (Elt F)) : FVec F S16x32x2 .f32 := after ops V (Proc.devRef .tc main_v127)
def r_v128 (V : Valuation τ sig (Elt F)) : FVec F S16x32x1x2 .f32 := after ops V (Proc.devRef .tc main_v128)
def r_v129 (V : Valuation τ sig (Elt F)) : FVec F S16x32x8400x2 .f32 := after ops V (Proc.devRef .tc main_v129)
def r_v130 (V : Valuation τ sig (Elt F)) : FVec F S16x32x8400x2 .f32 := after ops V (Proc.devRef .tc main_v130)
def r_v131 (V : Valuation τ sig (Elt F)) : FVec F S16x32x8400x2 .f32 := after ops V (Proc.devRef .tc main_v131)
def r_v132 (V : Valuation τ sig (Elt F)) : FVec F S16x32x2 .f32 := after ops V (Proc.devRef .tc main_v132)
def r_v133 (V : Valuation τ sig (Elt F)) : FVec F S16x32x1x2 .f32 := after ops V (Proc.devRef .tc main_v133)
def r_v134 (V : Valuation τ sig (Elt F)) : FVec F S1x1x8400x2 .f32 := after ops V (Proc.devRef .tc main_v134)
def r_v135 (V : Valuation τ sig (Elt F)) : FVec F S16x32x8400x2 .f32 := after ops V (Proc.devRef .tc main_v135)
def r_v136 (V : Valuation τ sig (Elt F)) : FVec F S16x32x8400x2 .f32 := after ops V (Proc.devRef .tc main_v136)
def r_v137 (V : Valuation τ sig (Elt F)) : FVec F S16x32x8400x2 .f32 := after ops V (Proc.devRef .tc main_v137)
def r_v138 (V : Valuation τ sig (Elt F)) : FVec F S16x32x8400x4 .f32 := after ops V (Proc.devRef .tc main_v138)
def r_cst_34 (V : Valuation τ sig (Elt F)) : FVec F S_ .f32 := after ops V (Proc.devRef .tc main_cst_34)
def r_v139 (V : Valuation τ sig (Elt F)) : FVec F S16x32x8400 .f32 := after ops V (Proc.devRef .tc main_v139)
def r_cst_35 (V : Valuation τ sig (Elt F)) : FVec F S_ .f32 := after ops V (Proc.devRef .tc main_cst_35)
def r_v140 (V : Valuation τ sig (Elt F)) : FVec F S16x32x8400 .f32 := after ops V (Proc.devRef .tc main_v140)
def r_v141 (V : Valuation τ sig (Elt F)) : IVec S16x32x8400 1 := after ops V (Proc.devRef .tc main_v141)
def r_v142 (V : Valuation τ sig (Elt F)) : FVec F S16x32x8400 .f32 := after ops V (Proc.devRef .tc main_v142)
def r_v143 (V : Valuation τ sig (Elt F)) : FVec F S16x32x8400 .f32 := after ops V (Proc.devRef .tc main_v143)
def r_v144 (V : Valuation τ sig (Elt F)) : FVec F S16x32x8400 .f32 := after ops V (Proc.devRef .tc main_v144)
def r_v145 (V : Valuation τ sig (Elt F)) : FVec F S16x32x8400 .f32 := after ops V (Proc.devRef .tc main_v145)
def r_cst_36 (V : Valuation τ sig (Elt F)) : FVec F S_ .f32 := after ops V (Proc.devRef .tc main_cst_36)
def r_v146 (V : Valuation τ sig (Elt F)) : FVec F S16x8400 .f32 := after ops V (Proc.devRef .tc main_v146)
def r_v147 (V : Valuation τ sig (Elt F)) : FVec F S16x1x8400 .f32 := after ops V (Proc.devRef .tc main_v147)
def r_cst_37 (V : Valuation τ sig (Elt F)) : FVec F S_ .f32 := after ops V (Proc.devRef .tc main_cst_37)
def r_v148 (V : Valuation τ sig (Elt F)) : FVec F S16x1x8400 .f32 := after ops V (Proc.devRef .tc main_v148)
def r_v149 (V : Valuation τ sig (Elt F)) : IVec S16x1x8400 1 := after ops V (Proc.devRef .tc main_v149)
def r_call14_v0 (V : Valuation τ sig (Elt F)) : IVec S16x32x8400 32 := after ops V (Proc.devRef .tc main_call14_v0)
def r_call14_cst (V : Valuation τ sig (Elt F)) : FVec F S_ .f32 := after ops V (Proc.devRef .tc main_call14_cst)
def r_call14_c (V : Valuation τ sig (Elt F)) : IVec S_ 32 := after ops V (Proc.devRef .tc main_call14_c)
def r_call14_v1_0 (V : Valuation τ sig (Elt F)) : FVec F S16x8400 .f32 := after ops V (Proc.devRef .tc main_call14_v1_0)
def r_v150 (V : Valuation τ sig (Elt F)) : IVec S16x8400 32 := after ops V (Proc.devRef .tc main_v150)
def r_call15_v0 (V : Valuation τ sig (Elt F)) : IVec S16x8400x1 32 := after ops V (Proc.devRef .tc main_call15_v0)
def r_call15_v1 (V : Valuation τ sig (Elt F)) : IVec S1x1x32 32 := after ops V (Proc.devRef .tc main_call15_v1)
def r_call15_v2 (V : Valuation τ sig (Elt F)) : IVec S16x8400x32 32 := after ops V (Proc.devRef .tc main_call15_v2)
def r_call15_v3 (V : Valuation τ sig (Elt F)) : IVec S16x8400x32 32 := after ops V (Proc.devRef .tc main_call15_v3)
def r_call15_v4 (V : Valuation τ sig (Elt F)) : IVec S16x8400x32 1 := after ops V (Proc.devRef .tc main_call15_v4)
def r_v151 (V : Valuation τ sig (Elt F)) : FVec F S16x8400x32 .f32 := after ops V (Proc.devRef .tc main_v151)
def r_v152 (V : Valuation τ sig (Elt F)) : FVec F S16x32x8400 .f32 := after ops V (Proc.devRef .tc main_v152)
def r_call16_v0 (V : Valuation τ sig (Elt F)) : IVec S16x32x8400 1 := after ops V (Proc.devRef .tc main_call16_v0)
def r_v153 (V : Valuation τ sig (Elt F)) : FVec F S16x32x8400 .f32 := after ops V (Proc.devRef .tc main_v153)
def r_cst_38 (V : Valuation τ sig (Elt F)) : FVec F S_ .f32 := after ops V (Proc.devRef .tc main_cst_38)
def r_v154 (V : Valuation τ sig (Elt F)) : FVec F S16x8400 .f32 := after ops V (Proc.devRef .tc main_v154)
def r_call17_v0 (V : Valuation τ sig (Elt F)) : IVec S16x32x8400 32 := after ops V (Proc.devRef .tc main_call17_v0)
def r_call17_cst (V : Valuation τ sig (Elt F)) : FVec F S_ .f32 := after ops V (Proc.devRef .tc main_call17_cst)
def r_call17_c (V : Valuation τ sig (Elt F)) : IVec S_ 32 := after ops V (Proc.devRef .tc main_call17_c)
def r_call17_v1_0 (V : Valuation τ sig (Elt F)) : FVec F S16x8400 .f32 := after ops V (Proc.devRef .tc main_call17_v1_0)
def r_v155 (V : Valuation τ sig (Elt F)) : IVec S16x8400 32 := after ops V (Proc.devRef .tc main_v155)
def r_v156 (V : Valuation τ sig (Elt F)) : IVec S16 32 := after ops V (Proc.devRef .tc main_v156)
def r_v157 (V : Valuation τ sig (Elt F)) : IVec S16x1 32 := after ops V (Proc.devRef .tc main_v157)
def r_c_39 (V : Valuation τ sig (Elt F)) : IVec S_ 32 := after ops V (Proc.devRef .tc main_c_39)
def r_v158 (V : Valuation τ sig (Elt F)) : IVec S16x1 32 := after ops V (Proc.devRef .tc main_v158)
def r_v159 (V : Valuation τ sig (Elt F)) : IVec S16x1 32 := after ops V (Proc.devRef .tc main_v159)
def r_v160 (V : Valuation τ sig (Elt F)) : IVec S16x8400 32 := after ops V (Proc.devRef .tc main_v160)
def r_v161 (V : Valuation τ sig (Elt F)) : IVec S16x8400 32 := after ops V (Proc.devRef .tc main_v161)
def r_v162 (V : Valuation τ sig (Elt F)) : IVec S512 32 := after ops V (Proc.devRef .tc main_v162)
def r_c_40 (V : Valuation τ sig (Elt F)) : IVec S_ 32 := after ops V (Proc.devRef .tc main_c_40)
def r_v163 (V : Valuation τ sig (Elt F)) : IVec S16x8400 32 := after ops V (Proc.devRef .tc main_v163)
def r_v164 (V : Valuation τ sig (Elt F)) : IVec S16x8400 1 := after ops V (Proc.devRef .tc main_v164)
def r_c_41 (V : Valuation τ sig (Elt F)) : IVec S_ 32 := after ops V (Proc.devRef .tc main_c_41)
def r_v165 (V : Valuation τ sig (Elt F)) : IVec S16x8400 32 := after ops V (Proc.devRef .tc main_v165)
def r_v166 (V : Valuation τ sig (Elt F)) : IVec S16x8400 32 := after ops V (Proc.devRef .tc main_v166)
def r_v167 (V : Valuation τ sig (Elt F)) : IVec S16x8400 32 := after ops V (Proc.devRef .tc main_v167)
def r_v168 (V : Valuation τ sig (Elt F)) : IVec S16x8400x1 32 := after ops V (Proc.devRef .tc main_v168)
def r_v169 (V : Valuation τ sig (Elt F)) : IVec S16x8400 32 := after ops V (Proc.devRef .tc main_v169)
def r_v170 (V : Valuation τ sig (Elt F)) : FVec F S512x4 .f32 := after ops V (Proc.devRef .tc main_v170)
def r_c_42 (V : Valuation τ sig (Elt F)) : IVec S_ 32 := after ops V (Proc.devRef .tc main_c_42)
def r_v171 (V : Valuation τ sig (Elt F)) : IVec S16x8400 32 := after ops V (Proc.devRef .tc main_v171)
def r_v172 (V : Valuation τ sig (Elt F)) : IVec S16x8400 1 := after ops V (Proc.devRef .tc main_v172)
def r_c_43 (V : Valuation τ sig (Elt F)) : IVec S_ 32 := after ops V (Proc.devRef .tc main_c_43)
def r_v173 (V : Valuation τ sig (Elt F)) : IVec S16x8400 32 := after ops V (Proc.devRef .tc main_v173)
def r_v174 (V : Valuation τ sig (Elt F)) : IVec S16x8400 32 := after ops V (Proc.devRef .tc main_v174)
def r_v175 (V : Valuation τ sig (Elt F)) : IVec S16x8400 32 := after ops V (Proc.devRef .tc main_v175)
def r_v176 (V : Valuation τ sig (Elt F)) : IVec S16x8400x1 32 := after ops V (Proc.devRef .tc main_v176)
def r_v177 (V : Valuation τ sig (Elt F)) : FVec F S16x8400x4 .f32 := after ops V (Proc.devRef .tc main_v177)
def r_cst_44 (V : Valuation τ sig (Elt F)) : FVec F S_ .f32 := after ops V (Proc.devRef .tc main_cst_44)
def r_v178 (V : Valuation τ sig (Elt F)) : FVec F S16x8400 .f32 := after ops V (Proc.devRef .tc main_v178)
def r_v179 (V : Valuation τ sig (Elt F)) : IVec S16x8400 1 := after ops V (Proc.devRef .tc main_v179)
def r_c_45 (V : Valuation τ sig (Elt F)) : IVec S_ 32 := after ops V (Proc.devRef .tc main_c_45)
def r_call18_v0 (V : Valuation τ sig (Elt F)) : IVec S_ 32 := after ops V (Proc.devRef .tc main_call18_v0)
def r_call18_v1 (V : Valuation τ sig (Elt F)) : IVec S16x8400 32 := after ops V (Proc.devRef .tc main_call18_v1)
def r_v180 (V : Valuation τ sig (Elt F)) : IVec S16x8400 32 := after ops V (Proc.devRef .tc main_v180)
def r_call19_v0 (V : Valuation τ sig (Elt F)) : IVec S16x8400x1 32 := after ops V (Proc.devRef .tc main_call19_v0)
def r_call19_v1 (V : Valuation τ sig (Elt F)) : IVec S1x1x81 32 := after ops V (Proc.devRef .tc main_call19_v1)
def r_call19_v2 (V : Valuation τ sig (Elt F)) : IVec S16x8400x81 32 := after ops V (Proc.devRef .tc main_call19_v2)
def r_call19_v3 (V : Valuation τ sig (Elt F)) : IVec S16x8400x81 32 := after ops V (Proc.devRef .tc main_call19_v3)
def r_call19_v4 (V : Valuation τ sig (Elt F)) : IVec S16x8400x81 1 := after ops V (Proc.devRef .tc main_call19_v4)
def r_v181 (V : Valuation τ sig (Elt F)) : FVec F S16x8400x81 .f32 := after ops V (Proc.devRef .tc main_v181)
def r_cst_46 (V : Valuation τ sig (Elt F)) : FVec F S_ .f32 := after ops V (Proc.devRef .tc main_cst_46)
def r_v182 (V : Valuation τ sig (Elt F)) : FVec F S16x8400 .f32 := after ops V (Proc.devRef .tc main_v182)
def r_v183 (V : Valuation τ sig (Elt F)) : IVec S16x8400 1 := after ops V (Proc.devRef .tc main_v183)
def r_v184 (V : Valuation τ sig (Elt F)) : IVec S16x8400x1 1 := after ops V (Proc.devRef .tc main_v184)
def r_cst_47 (V : Valuation τ sig (Elt F)) : FVec F S_ .f32 := after ops V (Proc.devRef .tc main_cst_47)
def r_v185 (V : Valuation τ sig (Elt F)) : FVec F S16x8400x81 .f32 := after ops V (Proc.devRef .tc main_v185)
def r_call20_v0 (V : Valuation τ sig (Elt F)) : IVec S16x8400x81 1 := after ops V (Proc.devRef .tc main_call20_v0)
def r_v186 (V : Valuation τ sig (Elt F)) : FVec F S16x8400x81 .f32 := after ops V (Proc.devRef .tc main_v186)
def r_v187 (V : Valuation τ sig (Elt F)) : FVec F S16x8400x80 .f32 := after ops V (Proc.devRef .tc main_v187)
def r_v188 (V : Valuation τ sig (Elt F)) : FVec F S16x32x1x4 .f32 := after ops V (Proc.devRef .tc main_v188)
def r_v189 (V : Valuation τ sig (Elt F)) : FVec F S16x1x8400x4 .f32 := after ops V (Proc.devRef .tc main_v189)
def r_v190 (V : Valuation τ sig (Elt F)) : FVec F S16x32x1x1 .f32 := after ops V (Proc.devRef .tc main_v190)
def r_v191 (V : Valuation τ sig (Elt F)) : FVec F S16x32x1x1 .f32 := after ops V (Proc.devRef .tc main_v191)
def r_v192 (V : Valuation τ sig (Elt F)) : FVec F S16x32x1x1 .f32 := after ops V (Proc.devRef .tc main_v192)
def r_v193 (V : Valuation τ sig (Elt F)) : FVec F S16x32x1x1 .f32 := after ops V (Proc.devRef .tc main_v193)
def r_v194 (V : Valuation τ sig (Elt F)) : FVec F S16x1x8400x1 .f32 := after ops V (Proc.devRef .tc main_v194)
def r_v195 (V : Valuation τ sig (Elt F)) : FVec F S16x1x8400x1 .f32 := after ops V (Proc.devRef .tc main_v195)
def r_v196 (V : Valuation τ sig (Elt F)) : FVec F S16x1x8400x1 .f32 := after ops V (Proc.devRef .tc main_v196)
def r_v197 (V : Valuation τ sig (Elt F)) : FVec F S16x1x8400x1 .f32 := after ops V (Proc.devRef .tc main_v197)
def r_v198 (V : Valuation τ sig (Elt F)) : FVec F S16x32x8400x1 .f32 := after ops V (Proc.devRef .tc main_v198)
def r_v199 (V : Valuation τ sig (Elt F)) : FVec F S16x32x8400x1 .f32 := after ops V (Proc.devRef .tc main_v199)
def r_v200 (V : Valuation τ sig (Elt F)) : FVec F S16x32x8400x1 .f32 := after ops V (Proc.devRef .tc main_v200)
def r_v201 (V : Valuation τ sig (Elt F)) : FVec F S16x32x8400x1 .f32 := after ops V (Proc.devRef .tc main_v201)
def r_v202 (V : Valuation τ sig (Elt F)) : FVec F S16x32x8400x1 .f32 := after ops V (Proc.devRef .tc main_v202)
def r_v203 (V : Valuation τ sig (Elt F)) : FVec F S16x32x8400x1 .f32 := after ops V (Proc.devRef .tc main_v203)
def r_v204 (V : Valuation τ sig (Elt F)) : FVec F S16x32x8400x1 .f32 := after ops V (Proc.devRef .tc main_v204)
def r_cst_48 (V : Valuation τ sig (Elt F)) : FVec F S_ .f32 := after ops V (Proc.devRef .tc main_cst_48)
def r_call21_v0 (V : Valuation τ sig (Elt F)) : FVec F S_ .f32 := after ops V (Proc.devRef .tc main_call21_v0)
def r_call21_v1 (V : Valuation τ sig (Elt F)) : FVec F S16x32x8400x1 .f32 := after ops V (Proc.devRef .tc main_call21_v1)
def r_v205 (V : Valuation τ sig (Elt F)) : FVec F S16x32x8400x1 .f32 := after ops V (Proc.devRef .tc main_v205)
def r_v206 (V : Valuation τ sig (Elt F)) : FVec F S16x32x8400x1 .f32 := after ops V (Proc.devRef .tc main_v206)
def r_v207 (V : Valuation τ sig (Elt F)) : FVec F S16x32x8400x1 .f32 := after ops V (Proc.devRef .tc main_v207)
def r_v208 (V : Valuation τ sig (Elt F)) : FVec F S16x32x8400x1 .f32 := after ops V (Proc.devRef .tc main_v208)
def r_v209 (V : Valuation τ sig (Elt F)) : FVec F S16x32x8400x1 .f32 := after ops V (Proc.devRef .tc main_v209)
def r_v210 (V : Valuation τ sig (Elt F)) : FVec F S16x32x8400x1 .f32 := after ops V (Proc.devRef .tc main_v210)
def r_v211 (V : Valuation τ sig (Elt F)) : FVec F S16x32x8400x1 .f32 := after ops V (Proc.devRef .tc main_v211)
def r_v212 (V : Valuation τ sig (Elt F)) : FVec F S16x32x8400x1 .f32 := after ops V (Proc.devRef .tc main_v212)
def r_cst_49 (V : Valuation τ sig (Elt F)) : FVec F S_ .f32 := after ops V (Proc.devRef .tc main_cst_49)
def r_call22_v0 (V : Valuation τ sig (Elt F)) : FVec F S_ .f32 := after ops V (Proc.devRef .tc main_call22_v0)
def r_call22_v1 (V : Valuation τ sig (Elt F)) : FVec F S16x32x8400x1 .f32 := after ops V (Proc.devRef .tc main_call22_v1)
def r_v213 (V : Valuation τ sig (Elt F)) : FVec F S16x32x8400x1 .f32 := after ops V (Proc.devRef .tc main_v213)
def r_v214 (V : Valuation τ sig (Elt F)) : FVec F S16x32x8400x1 .f32 := after ops V (Proc.devRef .tc main_v214)
def r_v215 (V : Valuation τ sig (Elt F)) : FVec F S16x32x1x1 .f32 := after ops V (Proc.devRef .tc main_v215)
def r_v216 (V : Valuation τ sig (Elt F)) : FVec F S16x32x1x1 .f32 := after ops V (Proc.devRef .tc main_v216)
def r_v217 (V : Valuation τ sig (Elt F)) : FVec F S16x32x1x1 .f32 := after ops V (Proc.devRef .tc main_v217)
def r_v218 (V : Valuation τ sig (Elt F)) : FVec F S16x1x8400x1 .f32 := after ops V (Proc.devRef .tc main_v218)
def r_v219 (V : Valuation τ sig (Elt F)) : FVec F S16x1x8400x1 .f32 := after ops V (Proc.devRef .tc main_v219)
def r_v220 (V : Valuation τ sig (Elt F)) : FVec F S16x1x8400x1 .f32 := after ops V (Proc.devRef .tc main_v220)
def r_v221 (V : Valuation τ sig (Elt F)) : FVec F S16x32x8400x1 .f32 := after ops V (Proc.devRef .tc main_v221)
def r_v222 (V : Valuation τ sig (Elt F)) : FVec F S16x32x8400x1 .f32 := after ops V (Proc.devRef .tc main_v222)
def r_v223 (V : Valuation τ sig (Elt F)) : FVec F S16x32x8400x1 .f32 := after ops V (Proc.devRef .tc main_v223)
def r_v224 (V : Valuation τ sig (Elt F)) : FVec F S16x32x8400x1 .f32 := after ops V (Proc.devRef .tc main_v224)
def r_cst_50 (V : Valuation τ sig (Elt F)) : FVec F S_ .f32 := after ops V (Proc.devRef .tc main_cst_50)
def r_v225 (V : Valuation τ sig (Elt F)) : FVec F S16x32x8400x1 .f32 := after ops V (Proc.devRef .tc main_v225)
def r_v226 (V : Valuation τ sig (Elt F)) : FVec F S16x32x8400x1 .f32 := after ops V (Proc.devRef .tc main_v226)
def r_v227 (V : Valuation τ sig (Elt F)) : FVec F S16x32x8400x1 .f32 := after ops V (Proc.devRef .tc main_v227)
def r_v228 (V : Valuation τ sig (Elt F)) : FVec F S16x32x8400 .f32 := after ops V (Proc.devRef .tc main_v228)
def r_v229 (V : Valuation τ sig (Elt F)) : FVec F S16x32x8400 .f32 := after ops V (Proc.devRef .tc main_v229)
def r_cst_51 (V : Valuation τ sig (Elt F)) : FVec F S_ .f32 := after ops V (Proc.devRef .tc main_cst_51)
def r_v230 (V : Valuation τ sig (Elt F)) : FVec F S16x8400 .f32 := after ops V (Proc.devRef .tc main_v230)
def r_v231 (V : Valuation τ sig (Elt F)) : FVec F S16x8400x1 .f32 := after ops V (Proc.devRef .tc main_v231)
def r_v232 (V : Valuation τ sig (Elt F)) : FVec F S16x8400x80 .f32 := after ops V (Proc.devRef .tc main_v232)
def r_v233 (V : Valuation τ sig (Elt F)) : FVec F S16x8400x80 .f32 := after ops V (Proc.devRef .tc main_v233)
def r_cst_52 (V : Valuation τ sig (Elt F)) : FVec F S_ .f32 := after ops V (Proc.devRef .tc main_cst_52)
def r_v234 (V : Valuation τ sig (Elt F)) : FVec F S16x8400 .f32 := after ops V (Proc.devRef .tc main_v234)
def r_v235 (V : Valuation τ sig (Elt F)) : IVec S16x8400 1 := after ops V (Proc.devRef .tc main_v235)

/-! One equation per number of operands. -/

theorem eq_nullary (V : Valuation τ sig (Elt F)) (k : ℕ) (y : Ref sig .tc) (f : y.ty.Contents (Elt F)) (hy)
    (h : (ops (F := F))[k]? = some (nullary y f hy)) (ky : rank (Proc.devRef .tc y : DevRef τ sig) = 6 + k) :
    after ops V (Proc.devRef .tc y) = f := by
  obtain ⟨W, -, h2⟩ := ops_ordered.split V k _ h
  rw [h2 _ (by omega)]
  exact nullary_result' ..

theorem eq_unary (V : Valuation τ sig (Elt F)) (k : ℕ) (x y : Ref sig .tc)
    (f : x.ty.Contents (Elt F) → y.ty.Contents (Elt F)) (hx hy)
    (h : (ops (F := F))[k]? = some (unary x y f hx hy)) (kx : rank (Proc.devRef .tc x : DevRef τ sig) < 6 + k)
    (ky : rank (Proc.devRef .tc y : DevRef τ sig) = 6 + k) :
    after ops V (Proc.devRef .tc y) = f (after ops V (Proc.devRef .tc x)) := by
  obtain ⟨W, h1, h2⟩ := ops_ordered.split V k _ h
  rw [h2 _ (by omega), h1 _ kx]
  exact unary_result' ..

theorem eq_reshape (V : Valuation τ sig (Elt F)) (k : ℕ) (x y : Ref sig .tc) (he : x.ty.elt = y.ty.elt)
    (hn : x.ty.shape.ShapeCasts y.ty.shape) (hx hy)
    (h : (ops (F := F))[k]? = some (reshape x y he hn hx hy)) (kx : rank (Proc.devRef .tc x : DevRef τ sig) < 6 + k)
    (ky : rank (Proc.devRef .tc y : DevRef τ sig) = 6 + k) :
    after ops V (Proc.devRef .tc y) = fun i => he ▸ shapeCast y.ty.shape (after ops V (Proc.devRef .tc x)) hn i := by
  obtain ⟨W, h1, h2⟩ := ops_ordered.split V k _ h
  rw [h2 _ (by omega), h1 _ kx]
  exact reshape_result' ..

theorem eq_binary (V : Valuation τ sig (Elt F)) (k : ℕ) (a b y : Ref sig .tc)
    (f : a.ty.Contents (Elt F) → b.ty.Contents (Elt F) → y.ty.Contents (Elt F)) (ha hb hy)
    (h : (ops (F := F))[k]? = some (binary a b y f ha hb hy)) (ka : rank (Proc.devRef .tc a : DevRef τ sig) < 6 + k)
    (kb : rank (Proc.devRef .tc b : DevRef τ sig) < 6 + k) (ky : rank (Proc.devRef .tc y : DevRef τ sig) = 6 + k) :
    after ops V (Proc.devRef .tc y) = f (after ops V (Proc.devRef .tc a)) (after ops V (Proc.devRef .tc b)) := by
  obtain ⟨W, h1, h2⟩ := ops_ordered.split V k _ h
  rw [h2 _ (by omega), h1 _ ka, h1 _ kb]
  exact binary_result' ..

theorem eq_ternary (V : Valuation τ sig (Elt F)) (k : ℕ) (a b c y : Ref sig .tc)
    (f : a.ty.Contents (Elt F) → b.ty.Contents (Elt F) → c.ty.Contents (Elt F) → y.ty.Contents (Elt F)) (ha hb hc hy)
    (h : (ops (F := F))[k]? = some (ternary a b c y f ha hb hc hy)) (ka : rank (Proc.devRef .tc a : DevRef τ sig) < 6 + k)
    (kb : rank (Proc.devRef .tc b : DevRef τ sig) < 6 + k) (kc : rank (Proc.devRef .tc c : DevRef τ sig) < 6 + k)
    (ky : rank (Proc.devRef .tc y : DevRef τ sig) = 6 + k) :
    after ops V (Proc.devRef .tc y)
      = f (after ops V (Proc.devRef .tc a)) (after ops V (Proc.devRef .tc b)) (after ops V (Proc.devRef .tc c)) := by
  obtain ⟨W, h1, h2⟩ := ops_ordered.split V k _ h
  rw [h2 _ (by omega), h1 _ ka, h1 _ kb, h1 _ kc]
  exact ternary_result' ..

theorem eq_quaternary (V : Valuation τ sig (Elt F)) (k : ℕ) (a b c e y : Ref sig .tc)
    (f : a.ty.Contents (Elt F) → b.ty.Contents (Elt F) → c.ty.Contents (Elt F) → e.ty.Contents (Elt F) → y.ty.Contents (Elt F))
    (ha hb hc he hy)
    (h : (ops (F := F))[k]? = some (quaternary a b c e y f ha hb hc he hy))
    (ka : rank (Proc.devRef .tc a : DevRef τ sig) < 6 + k)
    (kb : rank (Proc.devRef .tc b : DevRef τ sig) < 6 + k) (kc : rank (Proc.devRef .tc c : DevRef τ sig) < 6 + k)
    (ke : rank (Proc.devRef .tc e : DevRef τ sig) < 6 + k) (ky : rank (Proc.devRef .tc y : DevRef τ sig) = 6 + k) :
    after ops V (Proc.devRef .tc y) = f (after ops V (Proc.devRef .tc a)) (after ops V (Proc.devRef .tc b))
      (after ops V (Proc.devRef .tc c)) (after ops V (Proc.devRef .tc e)) := by
  obtain ⟨W, h1, h2⟩ := ops_ordered.split V k _ h
  rw [h2 _ (by omega), h1 _ ka, h1 _ kb, h1 _ kc, h1 _ ke]
  exact quaternary_result' ..

theorem eq_nary3 (V : Valuation τ sig (Elt F)) (k : ℕ) (xs : Fin 3 → Ref sig .tc) (y : Ref sig .tc)
    (f : ((i : Fin 3) → (xs i).ty.Contents (Elt F)) → y.ty.Contents (Elt F)) (hx hy)
    (h : (ops (F := F))[k]? = some (nary xs y f hx hy))
    (kx : ∀ i, rank (Proc.devRef .tc (xs i) : DevRef τ sig) < 6 + k)
    (ky : rank (Proc.devRef .tc y : DevRef τ sig) = 6 + k) :
    after ops V (Proc.devRef .tc y) = f fun i => after ops V (Proc.devRef .tc (xs i)) := by
  obtain ⟨W, h1, h2⟩ := ops_ordered.split V k _ h
  rw [h2 _ (by omega), (funext fun i => h1 _ (kx i) : (fun i => after ops V (Proc.devRef .tc (xs i))) = fun i => W (Proc.devRef .tc (xs i)))]
  exact nary_result ..

end Cert.Proof.Ref

end
-- ==== Proof.RefEqs0.lean ====
module

public import proofs.«01_k».proof.Proof.RefVals

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! The equations of the operations of the reference. -/

theorem r_cst_eq (V : Valuation τ sig (Elt F)) : r_cst V = constant S_ .f32 0x3F000000#32 := eq_nullary V 0 _ _ _ rfl rfl

theorem r_v0_eq (V : Valuation τ sig (Elt F)) : r_v0 V = broadcastInDim S8400x2 ![] bcast_S_S8400x2 (r_cst V) := eq_unary V 1 _ _ _ _ _ rfl (by decide) rfl

theorem r_v1_eq (V : Valuation τ sig (Elt F)) : r_v1 V = subf (r_arg2 V) (r_v0 V) := eq_binary V 2 _ _ _ _ _ _ _ rfl (by decide) (by decide) rfl

theorem r_cst_0_eq (V : Valuation τ sig (Elt F)) : r_cst_0 V = constant S_ .f32 0x3F000000#32 := eq_nullary V 3 _ _ _ rfl rfl

theorem r_v2_eq (V : Valuation τ sig (Elt F)) : r_v2 V = broadcastInDim S8400x2 ![] bcast_S_S8400x2 (r_cst_0 V) := eq_unary V 4 _ _ _ _ _ rfl (by decide) rfl

theorem r_v3_eq (V : Valuation τ sig (Elt F)) : r_v3 V = addf (r_arg2 V) (r_v2 V) := eq_binary V 5 _ _ _ _ _ _ _ rfl (by decide) (by decide) rfl

theorem r_v4_eq (V : Valuation τ sig (Elt F)) : r_v4 V = concatenate S8400x4 1 [⟨S8400x2, (r_v1 V)⟩, ⟨S8400x2, (r_v3 V)⟩] concatenates_S8400x2_S8400x2_S8400x4_d1 := eq_binary V 6 _ _ _ _ _ _ _ rfl (by decide) (by decide) rfl

theorem r_v5_eq (V : Valuation τ sig (Elt F)) : r_v5 V = broadcastInDim S16x32x1x4 ![0, 1, 3] bcast_S16x32x4_S16x32x1x4_0_1_3 (r_arg4 V) := eq_unary V 7 _ _ _ _ _ rfl (by decide) rfl

theorem r_v6_eq (V : Valuation τ sig (Elt F)) : r_v6 V = broadcastInDim S1x1x8400x4 ![2, 3] bcast_S8400x4_S1x1x8400x4_2_3 (r_v4 V) := eq_unary V 8 _ _ _ _ _ rfl (by decide) rfl

theorem r_v7_eq (V : Valuation τ sig (Elt F)) : r_v7 V = extractStridedSlice S16x32x1x1 ![0, 0, 0, 0] (r_v5 V) slices_S16x32x1x4_S16x32x1x1_0_0_0_0 := eq_unary V 9 _ _ _ _ _ rfl (by decide) rfl

theorem r_v8_eq (V : Valuation τ sig (Elt F)) : r_v8 V = extractStridedSlice S16x32x1x1 ![0, 0, 0, 1] (r_v5 V) slices_S16x32x1x4_S16x32x1x1_0_0_0_1 := eq_unary V 10 _ _ _ _ _ rfl (by decide) rfl

theorem r_v9_eq (V : Valuation τ sig (Elt F)) : r_v9 V = extractStridedSlice S16x32x1x1 ![0, 0, 0, 2] (r_v5 V) slices_S16x32x1x4_S16x32x1x1_0_0_0_2 := eq_unary V 11 _ _ _ _ _ rfl (by decide) rfl

theorem r_v10_eq (V : Valuation τ sig (Elt F)) : r_v10 V = extractStridedSlice S16x32x1x1 ![0, 0, 0, 3] (r_v5 V) slices_S16x32x1x4_S16x32x1x1_0_0_0_3 := eq_unary V 12 _ _ _ _ _ rfl (by decide) rfl

theorem r_v11_eq (V : Valuation τ sig (Elt F)) : r_v11 V = extractStridedSlice S1x1x8400x1 ![0, 0, 0, 0] (r_v6 V) slices_S1x1x8400x4_S1x1x8400x1_0_0_0_0 := eq_unary V 13 _ _ _ _ _ rfl (by decide) rfl

theorem r_v12_eq (V : Valuation τ sig (Elt F)) : r_v12 V = extractStridedSlice S1x1x8400x1 ![0, 0, 0, 1] (r_v6 V) slices_S1x1x8400x4_S1x1x8400x1_0_0_0_1 := eq_unary V 14 _ _ _ _ _ rfl (by decide) rfl

theorem r_v13_eq (V : Valuation τ sig (Elt F)) : r_v13 V = extractStridedSlice S1x1x8400x1 ![0, 0, 0, 2] (r_v6 V) slices_S1x1x8400x4_S1x1x8400x1_0_0_0_2 := eq_unary V 15 _ _ _ _ _ rfl (by decide) rfl

theorem r_v14_eq (V : Valuation τ sig (Elt F)) : r_v14 V = extractStridedSlice S1x1x8400x1 ![0, 0, 0, 3] (r_v6 V) slices_S1x1x8400x4_S1x1x8400x1_0_0_0_3 := eq_unary V 16 _ _ _ _ _ rfl (by decide) rfl

theorem r_v15_eq (V : Valuation τ sig (Elt F)) : r_v15 V = broadcastInDim S16x32x8400x1 ![0, 1, 2, 3] bcast_S16x32x1x1_S16x32x8400x1_0_1_2_3 (r_v9 V) := eq_unary V 17 _ _ _ _ _ rfl (by decide) rfl

theorem r_v16_eq (V : Valuation τ sig (Elt F)) : r_v16 V = broadcastInDim S16x32x8400x1 ![0, 1, 2, 3] bcast_S1x1x8400x1_S16x32x8400x1_0_1_2_3 (r_v13 V) := eq_unary V 18 _ _ _ _ _ rfl (by decide) rfl

theorem r_v17_eq (V : Valuation τ sig (Elt F)) : r_v17 V = minimumf (r_v15 V) (r_v16 V) := eq_binary V 19 _ _ _ _ _ _ _ rfl (by decide) (by decide) rfl

theorem r_v18_eq (V : Valuation τ sig (Elt F)) : r_v18 V = broadcastInDim S16x32x8400x1 ![0, 1, 2, 3] bcast_S16x32x1x1_S16x32x8400x1_0_1_2_3 (r_v7 V) := eq_unary V 20 _ _ _ _ _ rfl (by decide) rfl

theorem r_v19_eq (V : Valuation τ sig (Elt F)) : r_v19 V = broadcastInDim S16x32x8400x1 ![0, 1, 2, 3] bcast_S1x1x8400x1_S16x32x8400x1_0_1_2_3 (r_v11 V) := eq_unary V 21 _ _ _ _ _ rfl (by decide) rfl

theorem r_v20_eq (V : Valuation τ sig (Elt F)) : r_v20 V = maximumf (r_v18 V) (r_v19 V) := eq_binary V 22 _ _ _ _ _ _ _ rfl (by decide) (by decide) rfl

theorem r_v21_eq (V : Valuation τ sig (Elt F)) : r_v21 V = subf (r_v17 V) (r_v20 V) := eq_binary V 23 _ _ _ _ _ _ _ rfl (by decide) (by decide) rfl

theorem r_cst_1_eq (V : Valuation τ sig (Elt F)) : r_cst_1 V = constant S_ .f32 0x00000000#32 := eq_nullary V 24 _ _ _ rfl rfl

theorem r_call0_v0_eq (V : Valuation τ sig (Elt F)) : r_call0_v0 V = (r_cst_1 V) := eq_unary V 25 main_cst_1 main_call0_v0 id _ _ rfl (by decide) rfl

theorem r_call0_v1_eq (V : Valuation τ sig (Elt F)) : r_call0_v1 V = broadcastInDim S16x32x8400x1 ![] bcast_S_S16x32x8400x1 (r_call0_v0 V) := eq_unary V 26 _ _ _ _ _ rfl (by decide) rfl

theorem r_v22_eq (V : Valuation τ sig (Elt F)) : r_v22 V = maximumf (r_call0_v1 V) (r_v21 V) := eq_binary V 27 _ _ _ _ _ _ _ rfl (by decide) (by decide) rfl

theorem r_v23_eq (V : Valuation τ sig (Elt F)) : r_v23 V = broadcastInDim S16x32x8400x1 ![0, 1, 2, 3] bcast_S16x32x1x1_S16x32x8400x1_0_1_2_3 (r_v10 V) := eq_unary V 28 _ _ _ _ _ rfl (by decide) rfl

theorem r_v24_eq (V : Valuation τ sig (Elt F)) : r_v24 V = broadcastInDim S16x32x8400x1 ![0, 1, 2, 3] bcast_S1x1x8400x1_S16x32x8400x1_0_1_2_3 (r_v14 V) := eq_unary V 29 _ _ _ _ _ rfl (by decide) rfl

theorem r_v25_eq (V : Valuation τ sig (Elt F)) : r_v25 V = minimumf (r_v23 V) (r_v24 V) := eq_binary V 30 _ _ _ _ _ _ _ rfl (by decide) (by decide) rfl

theorem r_v26_eq (V : Valuation τ sig (Elt F)) : r_v26 V = broadcastInDim S16x32x8400x1 ![0, 1, 2, 3] bcast_S16x32x1x1_S16x32x8400x1_0_1_2_3 (r_v8 V) := eq_unary V 31 _ _ _ _ _ rfl (by decide) rfl

theorem r_v27_eq (V : Valuation τ sig (Elt F)) : r_v27 V = broadcastInDim S16x32x8400x1 ![0, 1, 2, 3] bcast_S1x1x8400x1_S16x32x8400x1_0_1_2_3 (r_v12 V) := eq_unary V 32 _ _ _ _ _ rfl (by decide) rfl

theorem r_v28_eq (V : Valuation τ sig (Elt F)) : r_v28 V = maximumf (r_v26 V) (r_v27 V) := eq_binary V 33 _ _ _ _ _ _ _ rfl (by decide) (by decide) rfl

theorem r_v29_eq (V : Valuation τ sig (Elt F)) : r_v29 V = subf (r_v25 V) (r_v28 V) := eq_binary V 34 _ _ _ _ _ _ _ rfl (by decide) (by decide) rfl

theorem r_cst_2_eq (V : Valuation τ sig (Elt F)) : r_cst_2 V = constant S_ .f32 0x00000000#32 := eq_nullary V 35 _ _ _ rfl rfl

theorem r_call1_v0_eq (V : Valuation τ sig (Elt F)) : r_call1_v0 V = (r_cst_2 V) := eq_unary V 36 main_cst_2 main_call1_v0 id _ _ rfl (by decide) rfl

theorem r_call1_v1_eq (V : Valuation τ sig (Elt F)) : r_call1_v1 V = broadcastInDim S16x32x8400x1 ![] bcast_S_S16x32x8400x1 (r_call1_v0 V) := eq_unary V 37 _ _ _ _ _ rfl (by decide) rfl

theorem r_v30_eq (V : Valuation τ sig (Elt F)) : r_v30 V = maximumf (r_call1_v1 V) (r_v29 V) := eq_binary V 38 _ _ _ _ _ _ _ rfl (by decide) (by decide) rfl

theorem r_v31_eq (V : Valuation τ sig (Elt F)) : r_v31 V = mulf (r_v22 V) (r_v30 V) := eq_binary V 39 _ _ _ _ _ _ _ rfl (by decide) (by decide) rfl

theorem r_v32_eq (V : Valuation τ sig (Elt F)) : r_v32 V = subf (r_v9 V) (r_v7 V) := eq_binary V 40 _ _ _ _ _ _ _ rfl (by decide) (by decide) rfl

theorem r_v33_eq (V : Valuation τ sig (Elt F)) : r_v33 V = subf (r_v10 V) (r_v8 V) := eq_binary V 41 _ _ _ _ _ _ _ rfl (by decide) (by decide) rfl

theorem r_v34_eq (V : Valuation τ sig (Elt F)) : r_v34 V = mulf (r_v32 V) (r_v33 V) := eq_binary V 42 _ _ _ _ _ _ _ rfl (by decide) (by decide) rfl

theorem r_v35_eq (V : Valuation τ sig (Elt F)) : r_v35 V = subf (r_v13 V) (r_v11 V) := eq_binary V 43 _ _ _ _ _ _ _ rfl (by decide) (by decide) rfl

theorem r_v36_eq (V : Valuation τ sig (Elt F)) : r_v36 V = subf (r_v14 V) (r_v12 V) := eq_binary V 44 _ _ _ _ _ _ _ rfl (by decide) (by decide) rfl

theorem r_v37_eq (V : Valuation τ sig (Elt F)) : r_v37 V = mulf (r_v35 V) (r_v36 V) := eq_binary V 45 _ _ _ _ _ _ _ rfl (by decide) (by decide) rfl

theorem r_v38_eq (V : Valuation τ sig (Elt F)) : r_v38 V = broadcastInDim S16x32x8400x1 ![0, 1, 2, 3] bcast_S16x32x1x1_S16x32x8400x1_0_1_2_3 (r_v34 V) := eq_unary V 46 _ _ _ _ _ rfl (by decide) rfl

theorem r_v39_eq (V : Valuation τ sig (Elt F)) : r_v39 V = broadcastInDim S16x32x8400x1 ![0, 1, 2, 3] bcast_S1x1x8400x1_S16x32x8400x1_0_1_2_3 (r_v37 V) := eq_unary V 47 _ _ _ _ _ rfl (by decide) rfl

theorem r_v40_eq (V : Valuation τ sig (Elt F)) : r_v40 V = addf (r_v38 V) (r_v39 V) := eq_binary V 48 _ _ _ _ _ _ _ rfl (by decide) (by decide) rfl

theorem r_v41_eq (V : Valuation τ sig (Elt F)) : r_v41 V = subf (r_v40 V) (r_v31 V) := eq_binary V 49 _ _ _ _ _ _ _ rfl (by decide) (by decide) rfl

theorem r_cst_3_eq (V : Valuation τ sig (Elt F)) : r_cst_3 V = constant S_ .f32 0x33D6BF95#32 := eq_nullary V 50 _ _ _ rfl rfl

theorem r_v42_eq (V : Valuation τ sig (Elt F)) : r_v42 V = broadcastInDim S16x32x8400x1 ![] bcast_S_S16x32x8400x1 (r_cst_3 V) := eq_unary V 51 _ _ _ _ _ rfl (by decide) rfl

theorem r_v43_eq (V : Valuation τ sig (Elt F)) : r_v43 V = addf (r_v41 V) (r_v42 V) := eq_binary V 52 _ _ _ _ _ _ _ rfl (by decide) (by decide) rfl

theorem r_v44_eq (V : Valuation τ sig (Elt F)) : r_v44 V = Host.divf (r_v31 V) (r_v43 V) := eq_binary V 53 _ _ _ _ _ _ _ rfl (by decide) (by decide) rfl

theorem r_v45_eq (V : Valuation τ sig (Elt F)) : r_v45 V = shapeCast _ (r_v44 V) shapeCasts_S16x32x8400x1_S16x32x8400 := eq_reshape V 54 main_v44 main_v45 rfl shapeCasts_S16x32x8400x1_S16x32x8400 _ _ rfl (by decide) rfl

theorem r_v46_eq (V : Valuation τ sig (Elt F)) : r_v46 V = extractStridedSlice S16x32x2 ![0, 0, 0] (r_arg4 V) slices_S16x32x4_S16x32x2_0_0_0 := eq_unary V 55 _ _ _ _ _ rfl (by decide) rfl

theorem r_v47_eq (V : Valuation τ sig (Elt F)) : r_v47 V = extractStridedSlice S16x32x2 ![0, 0, 2] (r_arg4 V) slices_S16x32x4_S16x32x2_0_0_2 := eq_unary V 56 _ _ _ _ _ rfl (by decide) rfl

theorem r_v48_eq (V : Valuation τ sig (Elt F)) : r_v48 V = addf (r_v46 V) (r_v47 V) := eq_binary V 57 _ _ _ _ _ _ _ rfl (by decide) (by decide) rfl

theorem r_cst_4_eq (V : Valuation τ sig (Elt F)) : r_cst_4 V = constant S_ .f32 0x40000000#32 := eq_nullary V 58 _ _ _ rfl rfl

theorem r_v49_eq (V : Valuation τ sig (Elt F)) : r_v49 V = broadcastInDim S16x32x2 ![] bcast_S_S16x32x2 (r_cst_4 V) := eq_unary V 59 _ _ _ _ _ rfl (by decide) rfl

theorem r_v50_eq (V : Valuation τ sig (Elt F)) : r_v50 V = Host.divf (r_v48 V) (r_v49 V) := eq_binary V 60 _ _ _ _ _ _ _ rfl (by decide) (by decide) rfl

theorem r_v51_eq (V : Valuation τ sig (Elt F)) : r_v51 V = broadcastInDim S16x32x1x2 ![0, 1, 3] bcast_S16x32x2_S16x32x1x2_0_1_3 (r_v50 V) := eq_unary V 61 _ _ _ _ _ rfl (by decide) rfl

theorem r_v52_eq (V : Valuation τ sig (Elt F)) : r_v52 V = broadcastInDim S1x1x8400x2 ![2, 3] bcast_S8400x2_S1x1x8400x2_2_3 (r_arg2 V) := eq_unary V 62 _ _ _ _ _ rfl (by decide) rfl

theorem r_v53_eq (V : Valuation τ sig (Elt F)) : r_v53 V = broadcastInDim S16x32x8400x2 ![0, 1, 2, 3] bcast_S16x32x1x2_S16x32x8400x2_0_1_2_3 (r_v51 V) := eq_unary V 63 _ _ _ _ _ rfl (by decide) rfl

theorem r_v54_eq (V : Valuation τ sig (Elt F)) : r_v54 V = broadcastInDim S16x32x8400x2 ![0, 1, 2, 3] bcast_S1x1x8400x2_S16x32x8400x2_0_1_2_3 (r_v52 V) := eq_unary V 64 _ _ _ _ _ rfl (by decide) rfl

theorem r_v55_eq (V : Valuation τ sig (Elt F)) : r_v55 V = subf (r_v53 V) (r_v54 V) := eq_binary V 65 _ _ _ _ _ _ _ rfl (by decide) (by decide) rfl

theorem r_v56_eq (V : Valuation τ sig (Elt F)) : r_v56 V = mulf (r_v55 V) (r_v55 V) := eq_binary V 66 _ _ _ _ _ _ _ rfl (by decide) (by decide) rfl

theorem r_cst_5_eq (V : Valuation τ sig (Elt F)) : r_cst_5 V = constant S_ .f32 0x00000000#32 := eq_nullary V 67 _ _ _ rfl rfl

theorem r_v57_eq (V : Valuation τ sig (Elt F)) : r_v57 V = Host.reduceAdd (r_v56 V) (r_cst_5 V) reducesTo_S16x32x8400x2_S16x32x8400_d3 h_S_ := eq_binary V 68 _ _ _ _ _ _ _ rfl (by decide) (by decide) rfl

theorem r_v58_eq (V : Valuation τ sig (Elt F)) : r_v58 V = Host.sqrt (r_v57 V) := eq_unary V 69 _ _ _ _ _ rfl (by decide) rfl

theorem r_cst_6_eq (V : Valuation τ sig (Elt F)) : r_cst_6 V = constant S_ .f32 0x00000000#32 := eq_nullary V 70 _ _ _ rfl rfl

theorem r_v59_eq (V : Valuation τ sig (Elt F)) : r_v59 V = broadcastInDim S16x32x1 ![] bcast_S_S16x32x1 (r_cst_6 V) := eq_unary V 71 _ _ _ _ _ rfl (by decide) rfl

theorem r_v60_eq (V : Valuation τ sig (Elt F)) : r_v60 V = cmpf .ogt (r_arg5 V) (r_v59 V) := eq_binary V 72 _ _ _ _ _ _ _ rfl (by decide) (by decide) rfl

theorem r_v61_eq (V : Valuation τ sig (Elt F)) : r_v61 V = extractStridedSlice S16x32x2800 ![0, 0, 0] (r_v58 V) slices_S16x32x8400_S16x32x2800_0_0_0 := eq_unary V 73 _ _ _ _ _ rfl (by decide) rfl

theorem r_v62_eq (V : Valuation τ sig (Elt F)) : r_v62 V = Host.negf (r_v61 V) := eq_unary V 74 _ _ _ _ _ rfl (by decide) rfl

theorem r_values_eq (V : Valuation τ sig (Elt F)) : r_values V = (Host.topK S16x32x9 2 (FloatOps.cmpfTotal .gt) (r_v62 V) sliceFits_S16x32x2800_S16x32x9).1 := eq_unary V 75 _ _ _ _ _ rfl (by decide) rfl

theorem r_indices_eq (V : Valuation τ sig (Elt F)) : r_indices V = (Host.topK S16x32x9 2 (FloatOps.cmpfTotal .gt) (r_v62 V) sliceFits_S16x32x2800_S16x32x9).2 := eq_unary V 76 _ _ _ _ _ rfl (by decide) rfl

theorem r_c_eq (V : Valuation τ sig (Elt F)) : r_c V = constantI S_ 32 0#32 := eq_nullary V 77 _ _ _ rfl rfl

theorem r_v63_eq (V : Valuation τ sig (Elt F)) : r_v63 V = broadcastInDim S16x32x9 ![] bcast_S_S16x32x9 (r_c V) := eq_unary V 78 _ _ _ _ _ rfl (by decide) rfl

theorem r_v64_eq (V : Valuation τ sig (Elt F)) : r_v64 V = addi (r_indices V) (r_v63 V) := eq_binary V 79 _ _ _ _ _ _ _ rfl (by decide) (by decide) rfl

theorem r_c_7_eq (V : Valuation τ sig (Elt F)) : r_c_7 V = constantI S_ 32 0#32 := eq_nullary V 80 _ _ _ rfl rfl

theorem r_call2_v0_eq (V : Valuation τ sig (Elt F)) : r_call2_v0 V = (r_c_7 V) := eq_unary V 81 main_c_7 main_call2_v0 id _ _ rfl (by decide) rfl

theorem r_call2_v1_eq (V : Valuation τ sig (Elt F)) : r_call2_v1 V = broadcastInDim S16x32x9 ![0, 1, 2] bcast_S16x32x1_S16x32x9_0_1_2 (r_v60 V) := eq_unary V 82 _ _ _ _ _ rfl (by decide) rfl

theorem r_call2_v2_eq (V : Valuation τ sig (Elt F)) : r_call2_v2 V = broadcastInDim S16x32x9 ![] bcast_S_S16x32x9 (r_call2_v0 V) := eq_unary V 83 _ _ _ _ _ rfl (by decide) rfl

theorem r_v65_eq (V : Valuation τ sig (Elt F)) : r_v65 V = select (r_call2_v1 V) (r_indices V) (r_call2_v2 V) := eq_ternary V 84 _ _ _ _ _ _ _ _ _ rfl (by decide) (by decide) (by decide) rfl

theorem r_call3_v0_eq (V : Valuation τ sig (Elt F)) : r_call3_v0 V = broadcastInDim S16x32x9x1 ![0, 1, 2] bcast_S16x32x9_S16x32x9x1_0_1_2 (r_v65 V) := eq_unary V 85 _ _ _ _ _ rfl (by decide) rfl

theorem r_call3_v1_eq (V : Valuation τ sig (Elt F)) : r_call3_v1 V = iotaInDim S1x1x1x2800 32 3 := eq_nullary V 86 _ _ _ rfl rfl

theorem r_call3_v2_eq (V : Valuation τ sig (Elt F)) : r_call3_v2 V = broadcastInDim S16x32x9x2800 ![0, 1, 2, 3] bcast_S16x32x9x1_S16x32x9x2800_0_1_2_3 (r_call3_v0 V) := eq_unary V 87 _ _ _ _ _ rfl (by decide) rfl

theorem r_call3_v3_eq (V : Valuation τ sig (Elt F)) : r_call3_v3 V = broadcastInDim S16x32x9x2800 ![0, 1, 2, 3] bcast_S1x1x1x2800_S16x32x9x2800_0_1_2_3 (r_call3_v1 V) := eq_unary V 88 _ _ _ _ _ rfl (by decide) rfl

theorem r_call3_v4_eq (V : Valuation τ sig (Elt F)) : r_call3_v4 V = cmpi .eq (r_call3_v2 V) (r_call3_v3 V) := eq_binary V 89 _ _ _ _ _ _ _ rfl (by decide) (by decide) rfl

theorem r_v66_eq (V : Valuation τ sig (Elt F)) : r_v66 V = uitofp .f32 (r_call3_v4 V) := eq_unary V 90 _ _ _ _ _ rfl (by decide) rfl

theorem r_cst_8_eq (V : Valuation τ sig (Elt F)) : r_cst_8 V = constant S_ .f32 0x00000000#32 := eq_nullary V 91 _ _ _ rfl rfl

theorem r_v67_eq (V : Valuation τ sig (Elt F)) : r_v67 V = Host.reduceAdd (r_v66 V) (r_cst_8 V) reducesTo_S16x32x9x2800_S16x32x2800_d2 h_S_ := eq_binary V 92 _ _ _ _ _ _ _ rfl (by decide) (by decide) rfl

theorem r_cst_9_eq (V : Valuation τ sig (Elt F)) : r_cst_9 V = constant S_ .f32 0x3F800000#32 := eq_nullary V 93 _ _ _ rfl rfl

theorem r_v68_eq (V : Valuation τ sig (Elt F)) : r_v68 V = broadcastInDim S16x32x2800 ![] bcast_S_S16x32x2800 (r_cst_9 V) := eq_unary V 94 _ _ _ _ _ rfl (by decide) rfl

theorem r_v69_eq (V : Valuation τ sig (Elt F)) : r_v69 V = cmpf .ogt (r_v67 V) (r_v68 V) := eq_binary V 95 _ _ _ _ _ _ _ rfl (by decide) (by decide) rfl

theorem r_cst_10_eq (V : Valuation τ sig (Elt F)) : r_cst_10 V = constant S_ .f32 0x00000000#32 := eq_nullary V 96 _ _ _ rfl rfl

theorem r_v70_eq (V : Valuation τ sig (Elt F)) : r_v70 V = broadcastInDim S16x32x2800 ![] bcast_S_S16x32x2800 (r_cst_10 V) := eq_unary V 97 _ _ _ _ _ rfl (by decide) rfl

theorem r_v71_eq (V : Valuation τ sig (Elt F)) : r_v71 V = select (r_v69 V) (r_v70 V) (r_v67 V) := eq_ternary V 98 _ _ _ _ _ _ _ _ _ rfl (by decide) (by decide) (by decide) rfl

theorem r_v72_eq (V : Valuation τ sig (Elt F)) : r_v72 V = extractStridedSlice S16x32x2800 ![0, 0, 2800] (r_v58 V) slices_S16x32x8400_S16x32x2800_0_0_2800 := eq_unary V 99 _ _ _ _ _ rfl (by decide) rfl

theorem r_v73_eq (V : Valuation τ sig (Elt F)) : r_v73 V = Host.negf (r_v72 V) := eq_unary V 100 _ _ _ _ _ rfl (by decide) rfl

theorem r_values_11_eq (V : Valuation τ sig (Elt F)) : r_values_11 V = (Host.topK S16x32x9 2 (FloatOps.cmpfTotal .gt) (r_v73 V) sliceFits_S16x32x2800_S16x32x9).1 := eq_unary V 101 _ _ _ _ _ rfl (by decide) rfl

theorem r_indices_12_eq (V : Valuation τ sig (Elt F)) : r_indices_12 V = (Host.topK S16x32x9 2 (FloatOps.cmpfTotal .gt) (r_v73 V) sliceFits_S16x32x2800_S16x32x9).2 := eq_unary V 102 _ _ _ _ _ rfl (by decide) rfl

theorem r_c_13_eq (V : Valuation τ sig (Elt F)) : r_c_13 V = constantI S_ 32 2800#32 := eq_nullary V 103 _ _ _ rfl rfl

theorem r_v74_eq (V : Valuation τ sig (Elt F)) : r_v74 V = broadcastInDim S16x32x9 ![] bcast_S_S16x32x9 (r_c_13 V) := eq_unary V 104 _ _ _ _ _ rfl (by decide) rfl

theorem r_v75_eq (V : Valuation τ sig (Elt F)) : r_v75 V = addi (r_indices_12 V) (r_v74 V) := eq_binary V 105 _ _ _ _ _ _ _ rfl (by decide) (by decide) rfl

theorem r_c_14_eq (V : Valuation τ sig (Elt F)) : r_c_14 V = constantI S_ 32 0#32 := eq_nullary V 106 _ _ _ rfl rfl

theorem r_call5_v0_eq (V : Valuation τ sig (Elt F)) : r_call5_v0 V = (r_c_14 V) := eq_unary V 107 main_c_14 main_call5_v0 id _ _ rfl (by decide) rfl

theorem r_call5_v1_eq (V : Valuation τ sig (Elt F)) : r_call5_v1 V = broadcastInDim S16x32x9 ![0, 1, 2] bcast_S16x32x1_S16x32x9_0_1_2 (r_v60 V) := eq_unary V 108 _ _ _ _ _ rfl (by decide) rfl

theorem r_call5_v2_eq (V : Valuation τ sig (Elt F)) : r_call5_v2 V = broadcastInDim S16x32x9 ![] bcast_S_S16x32x9 (r_call5_v0 V) := eq_unary V 109 _ _ _ _ _ rfl (by decide) rfl

theorem r_v76_eq (V : Valuation τ sig (Elt F)) : r_v76 V = select (r_call5_v1 V) (r_indices_12 V) (r_call5_v2 V) := eq_ternary V 110 _ _ _ _ _ _ _ _ _ rfl (by decide) (by decide) (by decide) rfl

theorem r_call6_v0_eq (V : Valuation τ sig (Elt F)) : r_call6_v0 V = broadcastInDim S16x32x9x1 ![0, 1, 2] bcast_S16x32x9_S16x32x9x1_0_1_2 (r_v76 V) := eq_unary V 111 _ _ _ _ _ rfl (by decide) rfl

theorem r_call6_v1_eq (V : Valuation τ sig (Elt F)) : r_call6_v1 V = iotaInDim S1x1x1x2800 32 3 := eq_nullary V 112 _ _ _ rfl rfl

theorem r_call6_v2_eq (V : Valuation τ sig (Elt F)) : r_call6_v2 V = broadcastInDim S16x32x9x2800 ![0, 1, 2, 3] bcast_S16x32x9x1_S16x32x9x2800_0_1_2_3 (r_call6_v0 V) := eq_unary V 113 _ _ _ _ _ rfl (by decide) rfl

theorem r_call6_v3_eq (V : Valuation τ sig (Elt F)) : r_call6_v3 V = broadcastInDim S16x32x9x2800 ![0, 1, 2, 3] bcast_S1x1x1x2800_S16x32x9x2800_0_1_2_3 (r_call6_v1 V) := eq_unary V 114 _ _ _ _ _ rfl (by decide) rfl

theorem r_call6_v4_eq (V : Valuation τ sig (Elt F)) : r_call6_v4 V = cmpi .eq (r_call6_v2 V) (r_call6_v3 V) := eq_binary V 115 _ _ _ _ _ _ _ rfl (by decide) (by decide) rfl

theorem r_v77_eq (V : Valuation τ sig (Elt F)) : r_v77 V = uitofp .f32 (r_call6_v4 V) := eq_unary V 116 _ _ _ _ _ rfl (by decide) rfl

theorem r_cst_15_eq (V : Valuation τ sig (Elt F)) : r_cst_15 V = constant S_ .f32 0x00000000#32 := eq_nullary V 117 _ _ _ rfl rfl

theorem r_v78_eq (V : Valuation τ sig (Elt F)) : r_v78 V = Host.reduceAdd (r_v77 V) (r_cst_15 V) reducesTo_S16x32x9x2800_S16x32x2800_d2 h_S_ := eq_binary V 118 _ _ _ _ _ _ _ rfl (by decide) (by decide) rfl

theorem r_cst_16_eq (V : Valuation τ sig (Elt F)) : r_cst_16 V = constant S_ .f32 0x3F800000#32 := eq_nullary V 119 _ _ _ rfl rfl

theorem r_v79_eq (V : Valuation τ sig (Elt F)) : r_v79 V = broadcastInDim S16x32x2800 ![] bcast_S_S16x32x2800 (r_cst_16 V) := eq_unary V 120 _ _ _ _ _ rfl (by decide) rfl

theorem r_v80_eq (V : Valuation τ sig (Elt F)) : r_v80 V = cmpf .ogt (r_v78 V) (r_v79 V) := eq_binary V 121 _ _ _ _ _ _ _ rfl (by decide) (by decide) rfl

theorem r_cst_17_eq (V : Valuation τ sig (Elt F)) : r_cst_17 V = constant S_ .f32 0x00000000#32 := eq_nullary V 122 _ _ _ rfl rfl

theorem r_v81_eq (V : Valuation τ sig (Elt F)) : r_v81 V = broadcastInDim S16x32x2800 ![] bcast_S_S16x32x2800 (r_cst_17 V) := eq_unary V 123 _ _ _ _ _ rfl (by decide) rfl

theorem r_v82_eq (V : Valuation τ sig (Elt F)) : r_v82 V = select (r_v80 V) (r_v81 V) (r_v78 V) := eq_ternary V 124 _ _ _ _ _ _ _ _ _ rfl (by decide) (by decide) (by decide) rfl

theorem r_v83_eq (V : Valuation τ sig (Elt F)) : r_v83 V = extractStridedSlice S16x32x2800 ![0, 0, 5600] (r_v58 V) slices_S16x32x8400_S16x32x2800_0_0_5600 := eq_unary V 125 _ _ _ _ _ rfl (by decide) rfl

theorem r_v84_eq (V : Valuation τ sig (Elt F)) : r_v84 V = Host.negf (r_v83 V) := eq_unary V 126 _ _ _ _ _ rfl (by decide) rfl

theorem r_values_18_eq (V : Valuation τ sig (Elt F)) : r_values_18 V = (Host.topK S16x32x9 2 (FloatOps.cmpfTotal .gt) (r_v84 V) sliceFits_S16x32x2800_S16x32x9).1 := eq_unary V 127 _ _ _ _ _ rfl (by decide) rfl

theorem r_indices_19_eq (V : Valuation τ sig (Elt F)) : r_indices_19 V = (Host.topK S16x32x9 2 (FloatOps.cmpfTotal .gt) (r_v84 V) sliceFits_S16x32x2800_S16x32x9).2 := eq_unary V 128 _ _ _ _ _ rfl (by decide) rfl

theorem r_c_20_eq (V : Valuation τ sig (Elt F)) : r_c_20 V = constantI S_ 32 5600#32 := eq_nullary V 129 _ _ _ rfl rfl

theorem r_v85_eq (V : Valuation τ sig (Elt F)) : r_v85 V = broadcastInDim S16x32x9 ![] bcast_S_S16x32x9 (r_c_20 V) := eq_unary V 130 _ _ _ _ _ rfl (by decide) rfl

theorem r_v86_eq (V : Valuation τ sig (Elt F)) : r_v86 V = addi (r_indices_19 V) (r_v85 V) := eq_binary V 131 _ _ _ _ _ _ _ rfl (by decide) (by decide) rfl

theorem r_c_21_eq (V : Valuation τ sig (Elt F)) : r_c_21 V = constantI S_ 32 0#32 := eq_nullary V 132 _ _ _ rfl rfl

theorem r_call8_v0_eq (V : Valuation τ sig (Elt F)) : r_call8_v0 V = (r_c_21 V) := eq_unary V 133 main_c_21 main_call8_v0 id _ _ rfl (by decide) rfl

theorem r_call8_v1_eq (V : Valuation τ sig (Elt F)) : r_call8_v1 V = broadcastInDim S16x32x9 ![0, 1, 2] bcast_S16x32x1_S16x32x9_0_1_2 (r_v60 V) := eq_unary V 134 _ _ _ _ _ rfl (by decide) rfl

theorem r_call8_v2_eq (V : Valuation τ sig (Elt F)) : r_call8_v2 V = broadcastInDim S16x32x9 ![] bcast_S_S16x32x9 (r_call8_v0 V) := eq_unary V 135 _ _ _ _ _ rfl (by decide) rfl

theorem r_v87_eq (V : Valuation τ sig (Elt F)) : r_v87 V = select (r_call8_v1 V) (r_indices_19 V) (r_call8_v2 V) := eq_ternary V 136 _ _ _ _ _ _ _ _ _ rfl (by decide) (by decide) (by decide) rfl

theorem r_call9_v0_eq (V : Valuation τ sig (Elt F)) : r_call9_v0 V = broadcastInDim S16x32x9x1 ![0, 1, 2] bcast_S16x32x9_S16x32x9x1_0_1_2 (r_v87 V) := eq_unary V 137 _ _ _ _ _ rfl (by decide) rfl

theorem r_call9_v1_eq (V : Valuation τ sig (Elt F)) : r_call9_v1 V = iotaInDim S1x1x1x2800 32 3 := eq_nullary V 138 _ _ _ rfl rfl

theorem r_call9_v2_eq (V : Valuation τ sig (Elt F)) : r_call9_v2 V = broadcastInDim S16x32x9x2800 ![0, 1, 2, 3] bcast_S16x32x9x1_S16x32x9x2800_0_1_2_3 (r_call9_v0 V) := eq_unary V 139 _ _ _ _ _ rfl (by decide) rfl

theorem r_call9_v3_eq (V : Valuation τ sig (Elt F)) : r_call9_v3 V = broadcastInDim S16x32x9x2800 ![0, 1, 2, 3] bcast_S1x1x1x2800_S16x32x9x2800_0_1_2_3 (r_call9_v1 V) := eq_unary V 140 _ _ _ _ _ rfl (by decide) rfl

theorem r_call9_v4_eq (V : Valuation τ sig (Elt F)) : r_call9_v4 V = cmpi .eq (r_call9_v2 V) (r_call9_v3 V) := eq_binary V 141 _ _ _ _ _ _ _ rfl (by decide) (by decide) rfl

theorem r_v88_eq (V : Valuation τ sig (Elt F)) : r_v88 V = uitofp .f32 (r_call9_v4 V) := eq_unary V 142 _ _ _ _ _ rfl (by decide) rfl

theorem r_cst_22_eq (V : Valuation τ sig (Elt F)) : r_cst_22 V = constant S_ .f32 0x00000000#32 := eq_nullary V 143 _ _ _ rfl rfl

theorem r_v89_eq (V : Valuation τ sig (Elt F)) : r_v89 V = Host.reduceAdd (r_v88 V) (r_cst_22 V) reducesTo_S16x32x9x2800_S16x32x2800_d2 h_S_ := eq_binary V 144 _ _ _ _ _ _ _ rfl (by decide) (by decide) rfl

theorem r_cst_23_eq (V : Valuation τ sig (Elt F)) : r_cst_23 V = constant S_ .f32 0x3F800000#32 := eq_nullary V 145 _ _ _ rfl rfl

theorem r_v90_eq (V : Valuation τ sig (Elt F)) : r_v90 V = broadcastInDim S16x32x2800 ![] bcast_S_S16x32x2800 (r_cst_23 V) := eq_unary V 146 _ _ _ _ _ rfl (by decide) rfl

theorem r_v91_eq (V : Valuation τ sig (Elt F)) : r_v91 V = cmpf .ogt (r_v89 V) (r_v90 V) := eq_binary V 147 _ _ _ _ _ _ _ rfl (by decide) (by decide) rfl

theorem r_cst_24_eq (V : Valuation τ sig (Elt F)) : r_cst_24 V = constant S_ .f32 0x00000000#32 := eq_nullary V 148 _ _ _ rfl rfl

theorem r_v92_eq (V : Valuation τ sig (Elt F)) : r_v92 V = broadcastInDim S16x32x2800 ![] bcast_S_S16x32x2800 (r_cst_24 V) := eq_unary V 149 _ _ _ _ _ rfl (by decide) rfl

theorem r_v93_eq (V : Valuation τ sig (Elt F)) : r_v93 V = select (r_v91 V) (r_v92 V) (r_v89 V) := eq_ternary V 150 _ _ _ _ _ _ _ _ _ rfl (by decide) (by decide) (by decide) rfl

theorem r_v94_eq (V : Valuation τ sig (Elt F)) : r_v94 V = (concatenate S16x32x8400 2 [⟨S16x32x2800, (r_v71 V : (⟨S16x32x2800, .f32⟩ : BufTy).Contents (Elt F))⟩, ⟨S16x32x2800, (r_v82 V : (⟨S16x32x2800, .f32⟩ : BufTy).Contents (Elt F))⟩, ⟨S16x32x2800, (r_v93 V : (⟨S16x32x2800, .f32⟩ : BufTy).Contents (Elt F))⟩] concatenates_S16x32x2800_S16x32x2800_S16x32x2800_S16x32x8400_d2 : (⟨S16x32x8400, .f32⟩ : BufTy).Contents (Elt F)) := eq_nary3 V 151 ![main_v71, main_v82, main_v93] main_v94 (fun u => (concatenate S16x32x8400 2 [⟨S16x32x2800, (u 0 : (⟨S16x32x2800, .f32⟩ : BufTy).Contents (Elt F))⟩, ⟨S16x32x2800, (u 1 : (⟨S16x32x2800, .f32⟩ : BufTy).Contents (Elt F))⟩, ⟨S16x32x2800, (u 2 : (⟨S16x32x2800, .f32⟩ : BufTy).Contents (Elt F))⟩] concatenates_S16x32x2800_S16x32x2800_S16x32x2800_S16x32x8400_d2 : (⟨S16x32x8400, .f32⟩ : BufTy).Contents (Elt F))) _ _ rfl (by decide) rfl

theorem r_v95_eq (V : Valuation τ sig (Elt F)) : r_v95 V = (concatenate S16x32x27 2 [⟨S16x32x9, (r_v64 V : (⟨S16x32x9, .i32⟩ : BufTy).Contents (Elt F))⟩, ⟨S16x32x9, (r_v75 V : (⟨S16x32x9, .i32⟩ : BufTy).Contents (Elt F))⟩, ⟨S16x32x9, (r_v86 V : (⟨S16x32x9, .i32⟩ : BufTy).Contents (Elt F))⟩] concatenates_S16x32x9_S16x32x9_S16x32x9_S16x32x27_d2 : (⟨S16x32x27, .i32⟩ : BufTy).Contents (Elt F)) := eq_nary3 V 152 ![main_v64, main_v75, main_v86] main_v95 (fun u => (concatenate S16x32x27 2 [⟨S16x32x9, (u 0 : (⟨S16x32x9, .i32⟩ : BufTy).Contents (Elt F))⟩, ⟨S16x32x9, (u 1 : (⟨S16x32x9, .i32⟩ : BufTy).Contents (Elt F))⟩, ⟨S16x32x9, (u 2 : (⟨S16x32x9, .i32⟩ : BufTy).Contents (Elt F))⟩] concatenates_S16x32x9_S16x32x9_S16x32x9_S16x32x27_d2 : (⟨S16x32x27, .i32⟩ : BufTy).Contents (Elt F))) _ _ rfl (by decide) rfl

theorem r_cst_25_eq (V : Valuation τ sig (Elt F)) : r_cst_25 V = constant S_ .f32 0x00000000#32 := eq_nullary V 153 _ _ _ rfl rfl

theorem r_v96_eq (V : Valuation τ sig (Elt F)) : r_v96 V = broadcastInDim S16x32x8400 ![] bcast_S_S16x32x8400 (r_cst_25 V) := eq_unary V 154 _ _ _ _ _ rfl (by decide) rfl

theorem r_v97_eq (V : Valuation τ sig (Elt F)) : r_v97 V = cmpf .ogt (r_v94 V) (r_v96 V) := eq_binary V 155 _ _ _ _ _ _ _ rfl (by decide) (by decide) rfl

theorem r_cst_26_eq (V : Valuation τ sig (Elt F)) : r_cst_26 V = constant S_ .f32 0x00000000#32 := eq_nullary V 156 _ _ _ rfl rfl

theorem r_v98_eq (V : Valuation τ sig (Elt F)) : r_v98 V = broadcastInDim S16x32x8400 ![] bcast_S_S16x32x8400 (r_cst_26 V) := eq_unary V 157 _ _ _ _ _ rfl (by decide) rfl

theorem r_v99_eq (V : Valuation τ sig (Elt F)) : r_v99 V = select (r_v97 V) (r_v45 V) (r_v98 V) := eq_ternary V 158 _ _ _ _ _ _ _ _ _ rfl (by decide) (by decide) (by decide) rfl

theorem r_v100_eq (V : Valuation τ sig (Elt F)) : r_v100 V = shapeCast _ (r_v95 V) shapeCasts_S16x32x27_S512x27 := eq_reshape V 159 main_v95 main_v100 rfl shapeCasts_S16x32x27_S512x27 _ _ rfl (by decide) rfl

theorem r_v101_eq (V : Valuation τ sig (Elt F)) : r_v101 V = iotaInDim S512 32 0 := eq_nullary V 160 _ _ _ rfl rfl

theorem r_c_27_eq (V : Valuation τ sig (Elt F)) : r_c_27 V = constantI S_ 32 8400#32 := eq_nullary V 161 _ _ _ rfl rfl

theorem r_v102_eq (V : Valuation τ sig (Elt F)) : r_v102 V = broadcastInDim S512 ![] bcast_S_S512 (r_c_27 V) := eq_unary V 162 _ _ _ _ _ rfl (by decide) rfl

theorem r_v103_eq (V : Valuation τ sig (Elt F)) : r_v103 V = muli (r_v102 V) (r_v101 V) := eq_binary V 163 _ _ _ _ _ _ _ rfl (by decide) (by decide) rfl

theorem r_v104_eq (V : Valuation τ sig (Elt F)) : r_v104 V = broadcastInDim S512x1 ![0] bcast_S512_S512x1_0 (r_v103 V) := eq_unary V 164 _ _ _ _ _ rfl (by decide) rfl

theorem r_v105_eq (V : Valuation τ sig (Elt F)) : r_v105 V = broadcastInDim S512x27 ![0, 1] bcast_S512x1_S512x27_0_1 (r_v104 V) := eq_unary V 165 _ _ _ _ _ rfl (by decide) rfl

theorem r_v106_eq (V : Valuation τ sig (Elt F)) : r_v106 V = addi (r_v100 V) (r_v105 V) := eq_binary V 166 _ _ _ _ _ _ _ rfl (by decide) (by decide) rfl

theorem r_v107_eq (V : Valuation τ sig (Elt F)) : r_v107 V = shapeCast _ (r_v99 V) shapeCasts_S16x32x8400_S4300800 := eq_reshape V 167 main_v99 main_v107 rfl shapeCasts_S16x32x8400_S4300800 _ _ rfl (by decide) rfl

theorem r_c_28_eq (V : Valuation τ sig (Elt F)) : r_c_28 V = constantI S_ 32 0#32 := eq_nullary V 168 _ _ _ rfl rfl

theorem r_v108_eq (V : Valuation τ sig (Elt F)) : r_v108 V = broadcastInDim S512x27 ![] bcast_S_S512x27 (r_c_28 V) := eq_unary V 169 _ _ _ _ _ rfl (by decide) rfl

theorem r_v109_eq (V : Valuation τ sig (Elt F)) : r_v109 V = cmpi .slt (r_v106 V) (r_v108 V) := eq_binary V 170 _ _ _ _ _ _ _ rfl (by decide) (by decide) rfl

theorem r_c_29_eq (V : Valuation τ sig (Elt F)) : r_c_29 V = constantI S_ 32 4300800#32 := eq_nullary V 171 _ _ _ rfl rfl

theorem r_v110_eq (V : Valuation τ sig (Elt F)) : r_v110 V = broadcastInDim S512x27 ![] bcast_S_S512x27 (r_c_29 V) := eq_unary V 172 _ _ _ _ _ rfl (by decide) rfl

theorem r_v111_eq (V : Valuation τ sig (Elt F)) : r_v111 V = addi (r_v106 V) (r_v110 V) := eq_binary V 173 _ _ _ _ _ _ _ rfl (by decide) (by decide) rfl

theorem r_v112_eq (V : Valuation τ sig (Elt F)) : r_v112 V = select (r_v109 V) (r_v111 V) (r_v106 V) := eq_ternary V 174 _ _ _ _ _ _ _ _ _ rfl (by decide) (by decide) (by decide) rfl

theorem r_v113_eq (V : Valuation τ sig (Elt F)) : r_v113 V = broadcastInDim S512x27x1 ![0, 1] bcast_S512x27_S512x27x1_0_1 (r_v112 V) := eq_unary V 175 _ _ _ _ _ rfl (by decide) rfl

theorem r_v114_eq (V : Valuation τ sig (Elt F)) : r_v114 V = Host.gather gather_S4300800_S512x27x1_S512x27_n_0_n_n_0_2_1 (r_v107 V) (r_v113 V) := eq_binary V 176 _ _ _ _ _ _ _ rfl (by decide) (by decide) rfl

theorem r_v115_eq (V : Valuation τ sig (Elt F)) : r_v115 V = shapeCast _ (r_v114 V) shapeCasts_S512x27_S16x32x27 := eq_reshape V 177 main_v114 main_v115 rfl shapeCasts_S512x27_S16x32x27 _ _ rfl (by decide) rfl

theorem r_cst_30_eq (V : Valuation τ sig (Elt F)) : r_cst_30 V = constant S_ .f32 0x00000000#32 := eq_nullary V 178 _ _ _ rfl rfl

theorem r_v116_eq (V : Valuation τ sig (Elt F)) : r_v116 V = Host.reduceAdd (r_v115 V) (r_cst_30 V) reducesTo_S16x32x27_S16x32_d2 h_S_ := eq_binary V 179 _ _ _ _ _ _ _ rfl (by decide) (by decide) rfl

theorem r_v117_eq (V : Valuation τ sig (Elt F)) : r_v117 V = broadcastInDim S16x32x1 ![0, 1] bcast_S16x32_S16x32x1_0_1 (r_v116 V) := eq_unary V 180 _ _ _ _ _ rfl (by decide) rfl

theorem r_cst_31_eq (V : Valuation τ sig (Elt F)) : r_cst_31 V = constant S_ .f32 0x41D80000#32 := eq_nullary V 181 _ _ _ rfl rfl

theorem r_v118_eq (V : Valuation τ sig (Elt F)) : r_v118 V = broadcastInDim S16x32x1 ![] bcast_S_S16x32x1 (r_cst_31 V) := eq_unary V 182 _ _ _ _ _ rfl (by decide) rfl

theorem r_v119_eq (V : Valuation τ sig (Elt F)) : r_v119 V = Host.divf (r_v117 V) (r_v118 V) := eq_binary V 183 _ _ _ _ _ _ _ rfl (by decide) (by decide) rfl

theorem r_c_32_eq (V : Valuation τ sig (Elt F)) : r_c_32 V = constantI S_ 32 1#32 := eq_nullary V 184 _ _ _ rfl rfl

end Cert.Proof.Ref

end
-- ==== Proof.RefEqs1.lean ====
module

public import proofs.«01_k».proof.Proof.RefVals

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! The equations of the operations of the reference. -/

theorem r_call12_call0_cst_eq (V : Valuation τ sig (Elt F)) : r_call12_call0_cst V = constant S_ .f32 0x00000000#32 := eq_nullary V 185 _ _ _ rfl rfl

theorem r_call12_call0_v0_eq (V : Valuation τ sig (Elt F)) : r_call12_call0_v0 V = Host.reduceAdd (r_v115 V) (r_call12_call0_cst V) reducesTo_S16x32x27_S16x32_d2 h_S_ := eq_binary V 186 _ _ _ _ _ _ _ rfl (by decide) (by decide) rfl

theorem r_call12_call0_v1_eq (V : Valuation τ sig (Elt F)) : r_call12_call0_v1 V = broadcastInDim S16x32x1 ![0, 1] bcast_S16x32_S16x32x1_0_1 (r_call12_call0_v0 V) := eq_unary V 187 _ _ _ _ _ rfl (by decide) rfl

theorem r_call12_call0_cst_0_eq (V : Valuation τ sig (Elt F)) : r_call12_call0_cst_0 V = constant S_ .f32 0x41D80000#32 := eq_nullary V 188 _ _ _ rfl rfl

theorem r_call12_call0_v2_eq (V : Valuation τ sig (Elt F)) : r_call12_call0_v2 V = broadcastInDim S16x32x1 ![] bcast_S_S16x32x1 (r_call12_call0_cst_0 V) := eq_unary V 189 _ _ _ _ _ rfl (by decide) rfl

theorem r_call12_call0_v3_eq (V : Valuation τ sig (Elt F)) : r_call12_call0_v3 V = Host.divf (r_call12_call0_v1 V) (r_call12_call0_v2 V) := eq_binary V 190 _ _ _ _ _ _ _ rfl (by decide) (by decide) rfl

theorem r_call12_call0_v4_eq (V : Valuation τ sig (Elt F)) : r_call12_call0_v4 V = broadcastInDim S16x32x27 ![0, 1, 2] bcast_S16x32x1_S16x32x27_0_1_2 (r_call12_call0_v3 V) := eq_unary V 191 _ _ _ _ _ rfl (by decide) rfl

theorem r_call12_call0_v5_eq (V : Valuation τ sig (Elt F)) : r_call12_call0_v5 V = subf (r_v115 V) (r_call12_call0_v4 V) := eq_binary V 192 _ _ _ _ _ _ _ rfl (by decide) (by decide) rfl

theorem r_call12_call0_v6_eq (V : Valuation τ sig (Elt F)) : r_call12_call0_v6 V = mulf (r_call12_call0_v5 V) (r_call12_call0_v5 V) := eq_binary V 193 _ _ _ _ _ _ _ rfl (by decide) (by decide) rfl

theorem r_call12_call0_v7_eq (V : Valuation τ sig (Elt F)) : r_call12_call0_v7 V = sitofp .f32 (r_c_32 V) := eq_unary V 194 _ _ _ _ _ rfl (by decide) rfl

theorem r_call12_call0_cst_1_eq (V : Valuation τ sig (Elt F)) : r_call12_call0_cst_1 V = constant S_ .f32 0x41D80000#32 := eq_nullary V 195 _ _ _ rfl rfl

theorem r_call12_call0_v8_eq (V : Valuation τ sig (Elt F)) : r_call12_call0_v8 V = subf (r_call12_call0_cst_1 V) (r_call12_call0_v7 V) := eq_binary V 196 _ _ _ _ _ _ _ rfl (by decide) (by decide) rfl

theorem r_call12_call0_cst_2_eq (V : Valuation τ sig (Elt F)) : r_call12_call0_cst_2 V = constant S_ .f32 0x00000000#32 := eq_nullary V 197 _ _ _ rfl rfl

theorem r_call12_call0_v9_eq (V : Valuation τ sig (Elt F)) : r_call12_call0_v9 V = Host.reduceAdd (r_call12_call0_v6 V) (r_call12_call0_cst_2 V) reducesTo_S16x32x27_S16x32_d2 h_S_ := eq_binary V 198 _ _ _ _ _ _ _ rfl (by decide) (by decide) rfl

theorem r_call12_call0_v10_eq (V : Valuation τ sig (Elt F)) : r_call12_call0_v10 V = broadcastInDim S16x32x1 ![0, 1] bcast_S16x32_S16x32x1_0_1 (r_call12_call0_v9 V) := eq_unary V 199 _ _ _ _ _ rfl (by decide) rfl

theorem r_call12_call0_v11_eq (V : Valuation τ sig (Elt F)) : r_call12_call0_v11 V = broadcastInDim S16x32x1 ![] bcast_S_S16x32x1 (r_call12_call0_v8 V) := eq_unary V 200 _ _ _ _ _ rfl (by decide) rfl

theorem r_call12_call0_v12_eq (V : Valuation τ sig (Elt F)) : r_call12_call0_v12 V = Host.divf (r_call12_call0_v10 V) (r_call12_call0_v11 V) := eq_binary V 201 _ _ _ _ _ _ _ rfl (by decide) (by decide) rfl

theorem r_call12_call0_cst_3_eq (V : Valuation τ sig (Elt F)) : r_call12_call0_cst_3 V = constant S_ .f32 0x00000000#32 := eq_nullary V 202 _ _ _ rfl rfl

theorem r_call12_call0_v13_eq (V : Valuation τ sig (Elt F)) : r_call12_call0_v13 V = cmpf .ogt (r_call12_call0_v8 V) (r_call12_call0_cst_3 V) := eq_binary V 203 _ _ _ _ _ _ _ rfl (by decide) (by decide) rfl

theorem r_call12_call0_cst_4_eq (V : Valuation τ sig (Elt F)) : r_call12_call0_cst_4 V = constant S_ .f32 0x7FC00000#32 := eq_nullary V 204 _ _ _ rfl rfl

theorem r_call12_call0_call0_v0_eq (V : Valuation τ sig (Elt F)) : r_call12_call0_call0_v0 V = (r_call12_call0_cst_4 V) := eq_unary V 205 main_call12_call0_cst_4 main_call12_call0_call0_v0 id _ _ rfl (by decide) rfl

theorem r_call12_call0_call0_v1_eq (V : Valuation τ sig (Elt F)) : r_call12_call0_call0_v1 V = broadcastInDim S16x32x1 ![] bcast_S_S16x32x1 (r_call12_call0_call0_v0 V) := eq_unary V 206 _ _ _ _ _ rfl (by decide) rfl

theorem r_call12_v0_eq (V : Valuation τ sig (Elt F)) : r_call12_v0 V = select (broadcastInDim S16x32x1 ![] bcast_S_S16x32x1 (r_call12_call0_v13 V)) (r_call12_call0_v12 V) (r_call12_call0_call0_v1 V) := eq_ternary V 207 _ _ _ _ _ _ _ _ _ rfl (by decide) (by decide) (by decide) rfl

theorem r_v120_eq (V : Valuation τ sig (Elt F)) : r_v120 V = Host.sqrt (r_call12_v0 V) := eq_unary V 208 _ _ _ _ _ rfl (by decide) rfl

theorem r_v121_eq (V : Valuation τ sig (Elt F)) : r_v121 V = addf (r_v119 V) (r_v120 V) := eq_binary V 209 _ _ _ _ _ _ _ rfl (by decide) (by decide) rfl

theorem r_v122_eq (V : Valuation τ sig (Elt F)) : r_v122 V = broadcastInDim S16x32x8400 ![0, 1, 2] bcast_S16x32x1_S16x32x8400_0_1_2 (r_v121 V) := eq_unary V 210 _ _ _ _ _ rfl (by decide) rfl

theorem r_v123_eq (V : Valuation τ sig (Elt F)) : r_v123 V = cmpf .ogt (r_v99 V) (r_v122 V) := eq_binary V 211 _ _ _ _ _ _ _ rfl (by decide) (by decide) rfl

theorem r_cst_33_eq (V : Valuation τ sig (Elt F)) : r_cst_33 V = constant S_ .f32 0x00000000#32 := eq_nullary V 212 _ _ _ rfl rfl

theorem r_v124_eq (V : Valuation τ sig (Elt F)) : r_v124 V = broadcastInDim S16x32x8400 ![] bcast_S_S16x32x8400 (r_cst_33 V) := eq_unary V 213 _ _ _ _ _ rfl (by decide) rfl

theorem r_v125_eq (V : Valuation τ sig (Elt F)) : r_v125 V = select (r_v123 V) (r_v94 V) (r_v124 V) := eq_ternary V 214 _ _ _ _ _ _ _ _ _ rfl (by decide) (by decide) (by decide) rfl

theorem r_v126_eq (V : Valuation τ sig (Elt F)) : r_v126 V = broadcastInDim S1x1x8400x2 ![2, 3] bcast_S8400x2_S1x1x8400x2_2_3 (r_arg2 V) := eq_unary V 215 _ _ _ _ _ rfl (by decide) rfl

theorem r_v127_eq (V : Valuation τ sig (Elt F)) : r_v127 V = extractStridedSlice S16x32x2 ![0, 0, 0] (r_arg4 V) slices_S16x32x4_S16x32x2_0_0_0 := eq_unary V 216 _ _ _ _ _ rfl (by decide) rfl

theorem r_v128_eq (V : Valuation τ sig (Elt F)) : r_v128 V = broadcastInDim S16x32x1x2 ![0, 1, 3] bcast_S16x32x2_S16x32x1x2_0_1_3 (r_v127 V) := eq_unary V 217 _ _ _ _ _ rfl (by decide) rfl

theorem r_v129_eq (V : Valuation τ sig (Elt F)) : r_v129 V = broadcastInDim S16x32x8400x2 ![0, 1, 2, 3] bcast_S1x1x8400x2_S16x32x8400x2_0_1_2_3 (r_v126 V) := eq_unary V 218 _ _ _ _ _ rfl (by decide) rfl

theorem r_v130_eq (V : Valuation τ sig (Elt F)) : r_v130 V = broadcastInDim S16x32x8400x2 ![0, 1, 2, 3] bcast_S16x32x1x2_S16x32x8400x2_0_1_2_3 (r_v128 V) := eq_unary V 219 _ _ _ _ _ rfl (by decide) rfl

theorem r_v131_eq (V : Valuation τ sig (Elt F)) : r_v131 V = subf (r_v129 V) (r_v130 V) := eq_binary V 220 _ _ _ _ _ _ _ rfl (by decide) (by decide) rfl

theorem r_v132_eq (V : Valuation τ sig (Elt F)) : r_v132 V = extractStridedSlice S16x32x2 ![0, 0, 2] (r_arg4 V) slices_S16x32x4_S16x32x2_0_0_2 := eq_unary V 221 _ _ _ _ _ rfl (by decide) rfl

theorem r_v133_eq (V : Valuation τ sig (Elt F)) : r_v133 V = broadcastInDim S16x32x1x2 ![0, 1, 3] bcast_S16x32x2_S16x32x1x2_0_1_3 (r_v132 V) := eq_unary V 222 _ _ _ _ _ rfl (by decide) rfl

theorem r_v134_eq (V : Valuation τ sig (Elt F)) : r_v134 V = broadcastInDim S1x1x8400x2 ![2, 3] bcast_S8400x2_S1x1x8400x2_2_3 (r_arg2 V) := eq_unary V 223 _ _ _ _ _ rfl (by decide) rfl

theorem r_v135_eq (V : Valuation τ sig (Elt F)) : r_v135 V = broadcastInDim S16x32x8400x2 ![0, 1, 2, 3] bcast_S16x32x1x2_S16x32x8400x2_0_1_2_3 (r_v133 V) := eq_unary V 224 _ _ _ _ _ rfl (by decide) rfl

theorem r_v136_eq (V : Valuation τ sig (Elt F)) : r_v136 V = broadcastInDim S16x32x8400x2 ![0, 1, 2, 3] bcast_S1x1x8400x2_S16x32x8400x2_0_1_2_3 (r_v134 V) := eq_unary V 225 _ _ _ _ _ rfl (by decide) rfl

theorem r_v137_eq (V : Valuation τ sig (Elt F)) : r_v137 V = subf (r_v135 V) (r_v136 V) := eq_binary V 226 _ _ _ _ _ _ _ rfl (by decide) (by decide) rfl

theorem r_v138_eq (V : Valuation τ sig (Elt F)) : r_v138 V = concatenate S16x32x8400x4 3 [⟨S16x32x8400x2, (r_v131 V)⟩, ⟨S16x32x8400x2, (r_v137 V)⟩] concatenates_S16x32x8400x2_S16x32x8400x2_S16x32x8400x4_d3 := eq_binary V 227 _ _ _ _ _ _ _ rfl (by decide) (by decide) rfl

theorem r_cst_34_eq (V : Valuation τ sig (Elt F)) : r_cst_34 V = constant S_ .f32 0x7F800000#32 := eq_nullary V 228 _ _ _ rfl rfl

theorem r_v139_eq (V : Valuation τ sig (Elt F)) : r_v139 V = Host.reduce FloatOps.minimumf (r_v138 V) (r_cst_34 V) reducesTo_S16x32x8400x4_S16x32x8400_d3 h_S_ := eq_binary V 229 _ _ _ _ _ _ _ rfl (by decide) (by decide) rfl

theorem r_cst_35_eq (V : Valuation τ sig (Elt F)) : r_cst_35 V = constant S_ .f32 0x3089705F#32 := eq_nullary V 230 _ _ _ rfl rfl

theorem r_v140_eq (V : Valuation τ sig (Elt F)) : r_v140 V = broadcastInDim S16x32x8400 ![] bcast_S_S16x32x8400 (r_cst_35 V) := eq_unary V 231 _ _ _ _ _ rfl (by decide) rfl

theorem r_v141_eq (V : Valuation τ sig (Elt F)) : r_v141 V = cmpf .ogt (r_v139 V) (r_v140 V) := eq_binary V 232 _ _ _ _ _ _ _ rfl (by decide) (by decide) rfl

theorem r_v142_eq (V : Valuation τ sig (Elt F)) : r_v142 V = uitofp .f32 (r_v141 V) := eq_unary V 233 _ _ _ _ _ rfl (by decide) rfl

theorem r_v143_eq (V : Valuation τ sig (Elt F)) : r_v143 V = mulf (r_v125 V) (r_v142 V) := eq_binary V 234 _ _ _ _ _ _ _ rfl (by decide) (by decide) rfl

theorem r_v144_eq (V : Valuation τ sig (Elt F)) : r_v144 V = broadcastInDim S16x32x8400 ![0, 1, 2] bcast_S16x32x1_S16x32x8400_0_1_2 (r_arg5 V) := eq_unary V 235 _ _ _ _ _ rfl (by decide) rfl

theorem r_v145_eq (V : Valuation τ sig (Elt F)) : r_v145 V = mulf (r_v143 V) (r_v144 V) := eq_binary V 236 _ _ _ _ _ _ _ rfl (by decide) (by decide) rfl

theorem r_cst_36_eq (V : Valuation τ sig (Elt F)) : r_cst_36 V = constant S_ .f32 0x00000000#32 := eq_nullary V 237 _ _ _ rfl rfl

theorem r_v146_eq (V : Valuation τ sig (Elt F)) : r_v146 V = Host.reduceAdd (r_v145 V) (r_cst_36 V) reducesTo_S16x32x8400_S16x8400_d1 h_S_ := eq_binary V 238 _ _ _ _ _ _ _ rfl (by decide) (by decide) rfl

theorem r_v147_eq (V : Valuation τ sig (Elt F)) : r_v147 V = broadcastInDim S16x1x8400 ![0, 2] bcast_S16x8400_S16x1x8400_0_2 (r_v146 V) := eq_unary V 239 _ _ _ _ _ rfl (by decide) rfl

theorem r_cst_37_eq (V : Valuation τ sig (Elt F)) : r_cst_37 V = constant S_ .f32 0x3F800000#32 := eq_nullary V 240 _ _ _ rfl rfl

theorem r_v148_eq (V : Valuation τ sig (Elt F)) : r_v148 V = broadcastInDim S16x1x8400 ![] bcast_S_S16x1x8400 (r_cst_37 V) := eq_unary V 241 _ _ _ _ _ rfl (by decide) rfl

theorem r_v149_eq (V : Valuation τ sig (Elt F)) : r_v149 V = cmpf .ogt (r_v147 V) (r_v148 V) := eq_binary V 242 _ _ _ _ _ _ _ rfl (by decide) (by decide) rfl

theorem r_call14_v0_eq (V : Valuation τ sig (Elt F)) : r_call14_v0 V = iotaInDim S16x32x8400 32 1 := eq_nullary V 243 _ _ _ rfl rfl

theorem r_call14_cst_eq (V : Valuation τ sig (Elt F)) : r_call14_cst V = constant S_ .f32 0xFF800000#32 := eq_nullary V 244 _ _ _ rfl rfl

theorem r_call14_c_eq (V : Valuation τ sig (Elt F)) : r_call14_c V = constantI S_ 32 0#32 := eq_nullary V 245 _ _ _ rfl rfl

theorem r_call14_v1_0_eq (V : Valuation τ sig (Elt F)) : r_call14_v1_0 V = fun j => (Host.argReduce reducer_argmax_f32_i32 (r_v45 V) (r_call14_v0 V) (r_call14_cst V) (r_call14_c V) reducesTo_S16x32x8400_S16x8400_d1 h_S_ j).1 := eq_quaternary V 246 _ _ _ _ _ _ _ _ _ _ _ rfl (by decide) (by decide) (by decide) (by decide) rfl

theorem r_v150_eq (V : Valuation τ sig (Elt F)) : r_v150 V = fun j => (Host.argReduce reducer_argmax_f32_i32 (r_v45 V) (r_call14_v0 V) (r_call14_cst V) (r_call14_c V) reducesTo_S16x32x8400_S16x8400_d1 h_S_ j).2 := eq_quaternary V 247 _ _ _ _ _ _ _ _ _ _ _ rfl (by decide) (by decide) (by decide) (by decide) rfl

theorem r_call15_v0_eq (V : Valuation τ sig (Elt F)) : r_call15_v0 V = broadcastInDim S16x8400x1 ![0, 1] bcast_S16x8400_S16x8400x1_0_1 (r_v150 V) := eq_unary V 248 _ _ _ _ _ rfl (by decide) rfl

theorem r_call15_v1_eq (V : Valuation τ sig (Elt F)) : r_call15_v1 V = iotaInDim S1x1x32 32 2 := eq_nullary V 249 _ _ _ rfl rfl

theorem r_call15_v2_eq (V : Valuation τ sig (Elt F)) : r_call15_v2 V = broadcastInDim S16x8400x32 ![0, 1, 2] bcast_S16x8400x1_S16x8400x32_0_1_2 (r_call15_v0 V) := eq_unary V 250 _ _ _ _ _ rfl (by decide) rfl

theorem r_call15_v3_eq (V : Valuation τ sig (Elt F)) : r_call15_v3 V = broadcastInDim S16x8400x32 ![0, 1, 2] bcast_S1x1x32_S16x8400x32_0_1_2 (r_call15_v1 V) := eq_unary V 251 _ _ _ _ _ rfl (by decide) rfl

theorem r_call15_v4_eq (V : Valuation τ sig (Elt F)) : r_call15_v4 V = cmpi .eq (r_call15_v2 V) (r_call15_v3 V) := eq_binary V 252 _ _ _ _ _ _ _ rfl (by decide) (by decide) rfl

theorem r_v151_eq (V : Valuation τ sig (Elt F)) : r_v151 V = uitofp .f32 (r_call15_v4 V) := eq_unary V 253 _ _ _ _ _ rfl (by decide) rfl

theorem r_v152_eq (V : Valuation τ sig (Elt F)) : r_v152 V = transpose S16x32x8400 [0, 2, 1] (r_v151 V) transposes_S16x8400x32_S16x32x8400_0_2_1 := eq_unary V 254 _ _ _ _ _ rfl (by decide) rfl

theorem r_call16_v0_eq (V : Valuation τ sig (Elt F)) : r_call16_v0 V = broadcastInDim S16x32x8400 ![0, 1, 2] bcast_S16x1x8400_S16x32x8400_0_1_2 (r_v149 V) := eq_unary V 255 _ _ _ _ _ rfl (by decide) rfl

theorem r_v153_eq (V : Valuation τ sig (Elt F)) : r_v153 V = select (r_call16_v0 V) (r_v152 V) (r_v145 V) := eq_ternary V 256 _ _ _ _ _ _ _ _ _ rfl (by decide) (by decide) (by decide) rfl

theorem r_cst_38_eq (V : Valuation τ sig (Elt F)) : r_cst_38 V = constant S_ .f32 0x00000000#32 := eq_nullary V 257 _ _ _ rfl rfl

theorem r_v154_eq (V : Valuation τ sig (Elt F)) : r_v154 V = Host.reduceAdd (r_v153 V) (r_cst_38 V) reducesTo_S16x32x8400_S16x8400_d1 h_S_ := eq_binary V 258 _ _ _ _ _ _ _ rfl (by decide) (by decide) rfl

theorem r_call17_v0_eq (V : Valuation τ sig (Elt F)) : r_call17_v0 V = iotaInDim S16x32x8400 32 1 := eq_nullary V 259 _ _ _ rfl rfl

theorem r_call17_cst_eq (V : Valuation τ sig (Elt F)) : r_call17_cst V = constant S_ .f32 0xFF800000#32 := eq_nullary V 260 _ _ _ rfl rfl

theorem r_call17_c_eq (V : Valuation τ sig (Elt F)) : r_call17_c V = constantI S_ 32 0#32 := eq_nullary V 261 _ _ _ rfl rfl

theorem r_call17_v1_0_eq (V : Valuation τ sig (Elt F)) : r_call17_v1_0 V = fun j => (Host.argReduce reducer_argmax_f32_i32 (r_v153 V) (r_call17_v0 V) (r_call17_cst V) (r_call17_c V) reducesTo_S16x32x8400_S16x8400_d1 h_S_ j).1 := eq_quaternary V 262 _ _ _ _ _ _ _ _ _ _ _ rfl (by decide) (by decide) (by decide) (by decide) rfl

theorem r_v155_eq (V : Valuation τ sig (Elt F)) : r_v155 V = fun j => (Host.argReduce reducer_argmax_f32_i32 (r_v153 V) (r_call17_v0 V) (r_call17_cst V) (r_call17_c V) reducesTo_S16x32x8400_S16x8400_d1 h_S_ j).2 := eq_quaternary V 263 _ _ _ _ _ _ _ _ _ _ _ rfl (by decide) (by decide) (by decide) (by decide) rfl

theorem r_v156_eq (V : Valuation τ sig (Elt F)) : r_v156 V = iotaInDim S16 32 0 := eq_nullary V 264 _ _ _ rfl rfl

theorem r_v157_eq (V : Valuation τ sig (Elt F)) : r_v157 V = broadcastInDim S16x1 ![0] bcast_S16_S16x1_0 (r_v156 V) := eq_unary V 265 _ _ _ _ _ rfl (by decide) rfl

theorem r_c_39_eq (V : Valuation τ sig (Elt F)) : r_c_39 V = constantI S_ 32 32#32 := eq_nullary V 266 _ _ _ rfl rfl

theorem r_v158_eq (V : Valuation τ sig (Elt F)) : r_v158 V = broadcastInDim S16x1 ![] bcast_S_S16x1 (r_c_39 V) := eq_unary V 267 _ _ _ _ _ rfl (by decide) rfl

theorem r_v159_eq (V : Valuation τ sig (Elt F)) : r_v159 V = muli (r_v157 V) (r_v158 V) := eq_binary V 268 _ _ _ _ _ _ _ rfl (by decide) (by decide) rfl

theorem r_v160_eq (V : Valuation τ sig (Elt F)) : r_v160 V = broadcastInDim S16x8400 ![0, 1] bcast_S16x1_S16x8400_0_1 (r_v159 V) := eq_unary V 269 _ _ _ _ _ rfl (by decide) rfl

theorem r_v161_eq (V : Valuation τ sig (Elt F)) : r_v161 V = addi (r_v155 V) (r_v160 V) := eq_binary V 270 _ _ _ _ _ _ _ rfl (by decide) (by decide) rfl

theorem r_v162_eq (V : Valuation τ sig (Elt F)) : r_v162 V = shapeCast _ (r_arg3 V) shapeCasts_S16x32x1_S512 := eq_reshape V 271 main_arg3 main_v162 rfl shapeCasts_S16x32x1_S512 _ _ rfl (by decide) rfl

theorem r_c_40_eq (V : Valuation τ sig (Elt F)) : r_c_40 V = constantI S_ 32 0#32 := eq_nullary V 272 _ _ _ rfl rfl

theorem r_v163_eq (V : Valuation τ sig (Elt F)) : r_v163 V = broadcastInDim S16x8400 ![] bcast_S_S16x8400 (r_c_40 V) := eq_unary V 273 _ _ _ _ _ rfl (by decide) rfl

theorem r_v164_eq (V : Valuation τ sig (Elt F)) : r_v164 V = cmpi .slt (r_v161 V) (r_v163 V) := eq_binary V 274 _ _ _ _ _ _ _ rfl (by decide) (by decide) rfl

theorem r_c_41_eq (V : Valuation τ sig (Elt F)) : r_c_41 V = constantI S_ 32 512#32 := eq_nullary V 275 _ _ _ rfl rfl

theorem r_v165_eq (V : Valuation τ sig (Elt F)) : r_v165 V = broadcastInDim S16x8400 ![] bcast_S_S16x8400 (r_c_41 V) := eq_unary V 276 _ _ _ _ _ rfl (by decide) rfl

theorem r_v166_eq (V : Valuation τ sig (Elt F)) : r_v166 V = addi (r_v161 V) (r_v165 V) := eq_binary V 277 _ _ _ _ _ _ _ rfl (by decide) (by decide) rfl

theorem r_v167_eq (V : Valuation τ sig (Elt F)) : r_v167 V = select (r_v164 V) (r_v166 V) (r_v161 V) := eq_ternary V 278 _ _ _ _ _ _ _ _ _ rfl (by decide) (by decide) (by decide) rfl

theorem r_v168_eq (V : Valuation τ sig (Elt F)) : r_v168 V = broadcastInDim S16x8400x1 ![0, 1] bcast_S16x8400_S16x8400x1_0_1 (r_v167 V) := eq_unary V 279 _ _ _ _ _ rfl (by decide) rfl

theorem r_v169_eq (V : Valuation τ sig (Elt F)) : r_v169 V = Host.gather gather_S512_S16x8400x1_S16x8400_n_0_n_n_0_2_1 (r_v162 V) (r_v168 V) := eq_binary V 280 _ _ _ _ _ _ _ rfl (by decide) (by decide) rfl

theorem r_v170_eq (V : Valuation τ sig (Elt F)) : r_v170 V = shapeCast _ (r_arg4 V) shapeCasts_S16x32x4_S512x4 := eq_reshape V 281 main_arg4 main_v170 rfl shapeCasts_S16x32x4_S512x4 _ _ rfl (by decide) rfl

theorem r_c_42_eq (V : Valuation τ sig (Elt F)) : r_c_42 V = constantI S_ 32 0#32 := eq_nullary V 282 _ _ _ rfl rfl

theorem r_v171_eq (V : Valuation τ sig (Elt F)) : r_v171 V = broadcastInDim S16x8400 ![] bcast_S_S16x8400 (r_c_42 V) := eq_unary V 283 _ _ _ _ _ rfl (by decide) rfl

theorem r_v172_eq (V : Valuation τ sig (Elt F)) : r_v172 V = cmpi .slt (r_v161 V) (r_v171 V) := eq_binary V 284 _ _ _ _ _ _ _ rfl (by decide) (by decide) rfl

theorem r_c_43_eq (V : Valuation τ sig (Elt F)) : r_c_43 V = constantI S_ 32 512#32 := eq_nullary V 285 _ _ _ rfl rfl

theorem r_v173_eq (V : Valuation τ sig (Elt F)) : r_v173 V = broadcastInDim S16x8400 ![] bcast_S_S16x8400 (r_c_43 V) := eq_unary V 286 _ _ _ _ _ rfl (by decide) rfl

theorem r_v174_eq (V : Valuation τ sig (Elt F)) : r_v174 V = addi (r_v161 V) (r_v173 V) := eq_binary V 287 _ _ _ _ _ _ _ rfl (by decide) (by decide) rfl

theorem r_v175_eq (V : Valuation τ sig (Elt F)) : r_v175 V = select (r_v172 V) (r_v174 V) (r_v161 V) := eq_ternary V 288 _ _ _ _ _ _ _ _ _ rfl (by decide) (by decide) (by decide) rfl

theorem r_v176_eq (V : Valuation τ sig (Elt F)) : r_v176 V = broadcastInDim S16x8400x1 ![0, 1] bcast_S16x8400_S16x8400x1_0_1 (r_v175 V) := eq_unary V 289 _ _ _ _ _ rfl (by decide) rfl

theorem r_v177_eq (V : Valuation τ sig (Elt F)) : r_v177 V = Host.gather gather_S512x4_S16x8400x1_S16x8400x4_2_0_n_n_0_2_14 (r_v170 V) (r_v176 V) := eq_binary V 290 _ _ _ _ _ _ _ rfl (by decide) (by decide) rfl

theorem r_cst_44_eq (V : Valuation τ sig (Elt F)) : r_cst_44 V = constant S_ .f32 0x00000000#32 := eq_nullary V 291 _ _ _ rfl rfl

theorem r_v178_eq (V : Valuation τ sig (Elt F)) : r_v178 V = broadcastInDim S16x8400 ![] bcast_S_S16x8400 (r_cst_44 V) := eq_unary V 292 _ _ _ _ _ rfl (by decide) rfl

theorem r_v179_eq (V : Valuation τ sig (Elt F)) : r_v179 V = cmpf .ogt (r_v154 V) (r_v178 V) := eq_binary V 293 _ _ _ _ _ _ _ rfl (by decide) (by decide) rfl

theorem r_c_45_eq (V : Valuation τ sig (Elt F)) : r_c_45 V = constantI S_ 32 80#32 := eq_nullary V 294 _ _ _ rfl rfl

theorem r_call18_v0_eq (V : Valuation τ sig (Elt F)) : r_call18_v0 V = (r_c_45 V) := eq_unary V 295 main_c_45 main_call18_v0 id _ _ rfl (by decide) rfl

theorem r_call18_v1_eq (V : Valuation τ sig (Elt F)) : r_call18_v1 V = broadcastInDim S16x8400 ![] bcast_S_S16x8400 (r_call18_v0 V) := eq_unary V 296 _ _ _ _ _ rfl (by decide) rfl

theorem r_v180_eq (V : Valuation τ sig (Elt F)) : r_v180 V = select (r_v179 V) (r_v169 V) (r_call18_v1 V) := eq_ternary V 297 _ _ _ _ _ _ _ _ _ rfl (by decide) (by decide) (by decide) rfl

theorem r_call19_v0_eq (V : Valuation τ sig (Elt F)) : r_call19_v0 V = broadcastInDim S16x8400x1 ![0, 1] bcast_S16x8400_S16x8400x1_0_1 (r_v180 V) := eq_unary V 298 _ _ _ _ _ rfl (by decide) rfl

theorem r_call19_v1_eq (V : Valuation τ sig (Elt F)) : r_call19_v1 V = iotaInDim S1x1x81 32 2 := eq_nullary V 299 _ _ _ rfl rfl

theorem r_call19_v2_eq (V : Valuation τ sig (Elt F)) : r_call19_v2 V = broadcastInDim S16x8400x81 ![0, 1, 2] bcast_S16x8400x1_S16x8400x81_0_1_2 (r_call19_v0 V) := eq_unary V 300 _ _ _ _ _ rfl (by decide) rfl

theorem r_call19_v3_eq (V : Valuation τ sig (Elt F)) : r_call19_v3 V = broadcastInDim S16x8400x81 ![0, 1, 2] bcast_S1x1x81_S16x8400x81_0_1_2 (r_call19_v1 V) := eq_unary V 301 _ _ _ _ _ rfl (by decide) rfl

theorem r_call19_v4_eq (V : Valuation τ sig (Elt F)) : r_call19_v4 V = cmpi .eq (r_call19_v2 V) (r_call19_v3 V) := eq_binary V 302 _ _ _ _ _ _ _ rfl (by decide) (by decide) rfl

theorem r_v181_eq (V : Valuation τ sig (Elt F)) : r_v181 V = uitofp .f32 (r_call19_v4 V) := eq_unary V 303 _ _ _ _ _ rfl (by decide) rfl

theorem r_cst_46_eq (V : Valuation τ sig (Elt F)) : r_cst_46 V = constant S_ .f32 0x00000000#32 := eq_nullary V 304 _ _ _ rfl rfl

theorem r_v182_eq (V : Valuation τ sig (Elt F)) : r_v182 V = broadcastInDim S16x8400 ![] bcast_S_S16x8400 (r_cst_46 V) := eq_unary V 305 _ _ _ _ _ rfl (by decide) rfl

theorem r_v183_eq (V : Valuation τ sig (Elt F)) : r_v183 V = cmpf .ogt (r_v154 V) (r_v182 V) := eq_binary V 306 _ _ _ _ _ _ _ rfl (by decide) (by decide) rfl

theorem r_v184_eq (V : Valuation τ sig (Elt F)) : r_v184 V = broadcastInDim S16x8400x1 ![0, 1] bcast_S16x8400_S16x8400x1_0_1 (r_v183 V) := eq_unary V 307 _ _ _ _ _ rfl (by decide) rfl

theorem r_cst_47_eq (V : Valuation τ sig (Elt F)) : r_cst_47 V = constant S_ .f32 0x00000000#32 := eq_nullary V 308 _ _ _ rfl rfl

theorem r_v185_eq (V : Valuation τ sig (Elt F)) : r_v185 V = broadcastInDim S16x8400x81 ![] bcast_S_S16x8400x81 (r_cst_47 V) := eq_unary V 309 _ _ _ _ _ rfl (by decide) rfl

theorem r_call20_v0_eq (V : Valuation τ sig (Elt F)) : r_call20_v0 V = broadcastInDim S16x8400x81 ![0, 1, 2] bcast_S16x8400x1_S16x8400x81_0_1_2 (r_v184 V) := eq_unary V 310 _ _ _ _ _ rfl (by decide) rfl

theorem r_v186_eq (V : Valuation τ sig (Elt F)) : r_v186 V = select (r_call20_v0 V) (r_v181 V) (r_v185 V) := eq_ternary V 311 _ _ _ _ _ _ _ _ _ rfl (by decide) (by decide) (by decide) rfl

theorem r_v187_eq (V : Valuation τ sig (Elt F)) : r_v187 V = extractStridedSlice S16x8400x80 ![0, 0, 0] (r_v186 V) slices_S16x8400x81_S16x8400x80_0_0_0 := eq_unary V 312 _ _ _ _ _ rfl (by decide) rfl

theorem r_v188_eq (V : Valuation τ sig (Elt F)) : r_v188 V = broadcastInDim S16x32x1x4 ![0, 1, 3] bcast_S16x32x4_S16x32x1x4_0_1_3 (r_arg4 V) := eq_unary V 313 _ _ _ _ _ rfl (by decide) rfl

theorem r_v189_eq (V : Valuation τ sig (Elt F)) : r_v189 V = broadcastInDim S16x1x8400x4 ![0, 2, 3] bcast_S16x8400x4_S16x1x8400x4_0_2_3 (r_arg1 V) := eq_unary V 314 _ _ _ _ _ rfl (by decide) rfl

theorem r_v190_eq (V : Valuation τ sig (Elt F)) : r_v190 V = extractStridedSlice S16x32x1x1 ![0, 0, 0, 0] (r_v188 V) slices_S16x32x1x4_S16x32x1x1_0_0_0_0 := eq_unary V 315 _ _ _ _ _ rfl (by decide) rfl

theorem r_v191_eq (V : Valuation τ sig (Elt F)) : r_v191 V = extractStridedSlice S16x32x1x1 ![0, 0, 0, 1] (r_v188 V) slices_S16x32x1x4_S16x32x1x1_0_0_0_1 := eq_unary V 316 _ _ _ _ _ rfl (by decide) rfl

theorem r_v192_eq (V : Valuation τ sig (Elt F)) : r_v192 V = extractStridedSlice S16x32x1x1 ![0, 0, 0, 2] (r_v188 V) slices_S16x32x1x4_S16x32x1x1_0_0_0_2 := eq_unary V 317 _ _ _ _ _ rfl (by decide) rfl

theorem r_v193_eq (V : Valuation τ sig (Elt F)) : r_v193 V = extractStridedSlice S16x32x1x1 ![0, 0, 0, 3] (r_v188 V) slices_S16x32x1x4_S16x32x1x1_0_0_0_3 := eq_unary V 318 _ _ _ _ _ rfl (by decide) rfl

theorem r_v194_eq (V : Valuation τ sig (Elt F)) : r_v194 V = extractStridedSlice S16x1x8400x1 ![0, 0, 0, 0] (r_v189 V) slices_S16x1x8400x4_S16x1x8400x1_0_0_0_0 := eq_unary V 319 _ _ _ _ _ rfl (by decide) rfl

theorem r_v195_eq (V : Valuation τ sig (Elt F)) : r_v195 V = extractStridedSlice S16x1x8400x1 ![0, 0, 0, 1] (r_v189 V) slices_S16x1x8400x4_S16x1x8400x1_0_0_0_1 := eq_unary V 320 _ _ _ _ _ rfl (by decide) rfl

theorem r_v196_eq (V : Valuation τ sig (Elt F)) : r_v196 V = extractStridedSlice S16x1x8400x1 ![0, 0, 0, 2] (r_v189 V) slices_S16x1x8400x4_S16x1x8400x1_0_0_0_2 := eq_unary V 321 _ _ _ _ _ rfl (by decide) rfl

theorem r_v197_eq (V : Valuation τ sig (Elt F)) : r_v197 V = extractStridedSlice S16x1x8400x1 ![0, 0, 0, 3] (r_v189 V) slices_S16x1x8400x4_S16x1x8400x1_0_0_0_3 := eq_unary V 322 _ _ _ _ _ rfl (by decide) rfl

theorem r_v198_eq (V : Valuation τ sig (Elt F)) : r_v198 V = broadcastInDim S16x32x8400x1 ![0, 1, 2, 3] bcast_S16x32x1x1_S16x32x8400x1_0_1_2_3 (r_v192 V) := eq_unary V 323 _ _ _ _ _ rfl (by decide) rfl

theorem r_v199_eq (V : Valuation τ sig (Elt F)) : r_v199 V = broadcastInDim S16x32x8400x1 ![0, 1, 2, 3] bcast_S16x1x8400x1_S16x32x8400x1_0_1_2_3 (r_v196 V) := eq_unary V 324 _ _ _ _ _ rfl (by decide) rfl

theorem r_v200_eq (V : Valuation τ sig (Elt F)) : r_v200 V = minimumf (r_v198 V) (r_v199 V) := eq_binary V 325 _ _ _ _ _ _ _ rfl (by decide) (by decide) rfl

theorem r_v201_eq (V : Valuation τ sig (Elt F)) : r_v201 V = broadcastInDim S16x32x8400x1 ![0, 1, 2, 3] bcast_S16x32x1x1_S16x32x8400x1_0_1_2_3 (r_v190 V) := eq_unary V 326 _ _ _ _ _ rfl (by decide) rfl

theorem r_v202_eq (V : Valuation τ sig (Elt F)) : r_v202 V = broadcastInDim S16x32x8400x1 ![0, 1, 2, 3] bcast_S16x1x8400x1_S16x32x8400x1_0_1_2_3 (r_v194 V) := eq_unary V 327 _ _ _ _ _ rfl (by decide) rfl

theorem r_v203_eq (V : Valuation τ sig (Elt F)) : r_v203 V = maximumf (r_v201 V) (r_v202 V) := eq_binary V 328 _ _ _ _ _ _ _ rfl (by decide) (by decide) rfl

theorem r_v204_eq (V : Valuation τ sig (Elt F)) : r_v204 V = subf (r_v200 V) (r_v203 V) := eq_binary V 329 _ _ _ _ _ _ _ rfl (by decide) (by decide) rfl

theorem r_cst_48_eq (V : Valuation τ sig (Elt F)) : r_cst_48 V = constant S_ .f32 0x00000000#32 := eq_nullary V 330 _ _ _ rfl rfl

theorem r_call21_v0_eq (V : Valuation τ sig (Elt F)) : r_call21_v0 V = (r_cst_48 V) := eq_unary V 331 main_cst_48 main_call21_v0 id _ _ rfl (by decide) rfl

theorem r_call21_v1_eq (V : Valuation τ sig (Elt F)) : r_call21_v1 V = broadcastInDim S16x32x8400x1 ![] bcast_S_S16x32x8400x1 (r_call21_v0 V) := eq_unary V 332 _ _ _ _ _ rfl (by decide) rfl

theorem r_v205_eq (V : Valuation τ sig (Elt F)) : r_v205 V = maximumf (r_call21_v1 V) (r_v204 V) := eq_binary V 333 _ _ _ _ _ _ _ rfl (by decide) (by decide) rfl

theorem r_v206_eq (V : Valuation τ sig (Elt F)) : r_v206 V = broadcastInDim S16x32x8400x1 ![0, 1, 2, 3] bcast_S16x32x1x1_S16x32x8400x1_0_1_2_3 (r_v193 V) := eq_unary V 334 _ _ _ _ _ rfl (by decide) rfl

theorem r_v207_eq (V : Valuation τ sig (Elt F)) : r_v207 V = broadcastInDim S16x32x8400x1 ![0, 1, 2, 3] bcast_S16x1x8400x1_S16x32x8400x1_0_1_2_3 (r_v197 V) := eq_unary V 335 _ _ _ _ _ rfl (by decide) rfl

theorem r_v208_eq (V : Valuation τ sig (Elt F)) : r_v208 V = minimumf (r_v206 V) (r_v207 V) := eq_binary V 336 _ _ _ _ _ _ _ rfl (by decide) (by decide) rfl

theorem r_v209_eq (V : Valuation τ sig (Elt F)) : r_v209 V = broadcastInDim S16x32x8400x1 ![0, 1, 2, 3] bcast_S16x32x1x1_S16x32x8400x1_0_1_2_3 (r_v191 V) := eq_unary V 337 _ _ _ _ _ rfl (by decide) rfl

theorem r_v210_eq (V : Valuation τ sig (Elt F)) : r_v210 V = broadcastInDim S16x32x8400x1 ![0, 1, 2, 3] bcast_S16x1x8400x1_S16x32x8400x1_0_1_2_3 (r_v195 V) := eq_unary V 338 _ _ _ _ _ rfl (by decide) rfl

theorem r_v211_eq (V : Valuation τ sig (Elt F)) : r_v211 V = maximumf (r_v209 V) (r_v210 V) := eq_binary V 339 _ _ _ _ _ _ _ rfl (by decide) (by decide) rfl

theorem r_v212_eq (V : Valuation τ sig (Elt F)) : r_v212 V = subf (r_v208 V) (r_v211 V) := eq_binary V 340 _ _ _ _ _ _ _ rfl (by decide) (by decide) rfl

theorem r_cst_49_eq (V : Valuation τ sig (Elt F)) : r_cst_49 V = constant S_ .f32 0x00000000#32 := eq_nullary V 341 _ _ _ rfl rfl

theorem r_call22_v0_eq (V : Valuation τ sig (Elt F)) : r_call22_v0 V = (r_cst_49 V) := eq_unary V 342 main_cst_49 main_call22_v0 id _ _ rfl (by decide) rfl

theorem r_call22_v1_eq (V : Valuation τ sig (Elt F)) : r_call22_v1 V = broadcastInDim S16x32x8400x1 ![] bcast_S_S16x32x8400x1 (r_call22_v0 V) := eq_unary V 343 _ _ _ _ _ rfl (by decide) rfl

theorem r_v213_eq (V : Valuation τ sig (Elt F)) : r_v213 V = maximumf (r_call22_v1 V) (r_v212 V) := eq_binary V 344 _ _ _ _ _ _ _ rfl (by decide) (by decide) rfl

theorem r_v214_eq (V : Valuation τ sig (Elt F)) : r_v214 V = mulf (r_v205 V) (r_v213 V) := eq_binary V 345 _ _ _ _ _ _ _ rfl (by decide) (by decide) rfl

theorem r_v215_eq (V : Valuation τ sig (Elt F)) : r_v215 V = subf (r_v192 V) (r_v190 V) := eq_binary V 346 _ _ _ _ _ _ _ rfl (by decide) (by decide) rfl

theorem r_v216_eq (V : Valuation τ sig (Elt F)) : r_v216 V = subf (r_v193 V) (r_v191 V) := eq_binary V 347 _ _ _ _ _ _ _ rfl (by decide) (by decide) rfl

theorem r_v217_eq (V : Valuation τ sig (Elt F)) : r_v217 V = mulf (r_v215 V) (r_v216 V) := eq_binary V 348 _ _ _ _ _ _ _ rfl (by decide) (by decide) rfl

theorem r_v218_eq (V : Valuation τ sig (Elt F)) : r_v218 V = subf (r_v196 V) (r_v194 V) := eq_binary V 349 _ _ _ _ _ _ _ rfl (by decide) (by decide) rfl

theorem r_v219_eq (V : Valuation τ sig (Elt F)) : r_v219 V = subf (r_v197 V) (r_v195 V) := eq_binary V 350 _ _ _ _ _ _ _ rfl (by decide) (by decide) rfl

theorem r_v220_eq (V : Valuation τ sig (Elt F)) : r_v220 V = mulf (r_v218 V) (r_v219 V) := eq_binary V 351 _ _ _ _ _ _ _ rfl (by decide) (by decide) rfl

theorem r_v221_eq (V : Valuation τ sig (Elt F)) : r_v221 V = broadcastInDim S16x32x8400x1 ![0, 1, 2, 3] bcast_S16x32x1x1_S16x32x8400x1_0_1_2_3 (r_v217 V) := eq_unary V 352 _ _ _ _ _ rfl (by decide) rfl

theorem r_v222_eq (V : Valuation τ sig (Elt F)) : r_v222 V = broadcastInDim S16x32x8400x1 ![0, 1, 2, 3] bcast_S16x1x8400x1_S16x32x8400x1_0_1_2_3 (r_v220 V) := eq_unary V 353 _ _ _ _ _ rfl (by decide) rfl

theorem r_v223_eq (V : Valuation τ sig (Elt F)) : r_v223 V = addf (r_v221 V) (r_v222 V) := eq_binary V 354 _ _ _ _ _ _ _ rfl (by decide) (by decide) rfl

theorem r_v224_eq (V : Valuation τ sig (Elt F)) : r_v224 V = subf (r_v223 V) (r_v214 V) := eq_binary V 355 _ _ _ _ _ _ _ rfl (by decide) (by decide) rfl

theorem r_cst_50_eq (V : Valuation τ sig (Elt F)) : r_cst_50 V = constant S_ .f32 0x33D6BF95#32 := eq_nullary V 356 _ _ _ rfl rfl

theorem r_v225_eq (V : Valuation τ sig (Elt F)) : r_v225 V = broadcastInDim S16x32x8400x1 ![] bcast_S_S16x32x8400x1 (r_cst_50 V) := eq_unary V 357 _ _ _ _ _ rfl (by decide) rfl

theorem r_v226_eq (V : Valuation τ sig (Elt F)) : r_v226 V = addf (r_v224 V) (r_v225 V) := eq_binary V 358 _ _ _ _ _ _ _ rfl (by decide) (by decide) rfl

theorem r_v227_eq (V : Valuation τ sig (Elt F)) : r_v227 V = Host.divf (r_v214 V) (r_v226 V) := eq_binary V 359 _ _ _ _ _ _ _ rfl (by decide) (by decide) rfl

theorem r_v228_eq (V : Valuation τ sig (Elt F)) : r_v228 V = shapeCast _ (r_v227 V) shapeCasts_S16x32x8400x1_S16x32x8400 := eq_reshape V 360 main_v227 main_v228 rfl shapeCasts_S16x32x8400x1_S16x32x8400 _ _ rfl (by decide) rfl

theorem r_v229_eq (V : Valuation τ sig (Elt F)) : r_v229 V = mulf (r_v228 V) (r_v153 V) := eq_binary V 361 _ _ _ _ _ _ _ rfl (by decide) (by decide) rfl

theorem r_cst_51_eq (V : Valuation τ sig (Elt F)) : r_cst_51 V = constant S_ .f32 0xFF800000#32 := eq_nullary V 362 _ _ _ rfl rfl

theorem r_v230_eq (V : Valuation τ sig (Elt F)) : r_v230 V = Host.reduce FloatOps.maximumf (r_v229 V) (r_cst_51 V) reducesTo_S16x32x8400_S16x8400_d1 h_S_ := eq_binary V 363 _ _ _ _ _ _ _ rfl (by decide) (by decide) rfl

theorem r_v231_eq (V : Valuation τ sig (Elt F)) : r_v231 V = broadcastInDim S16x8400x1 ![0, 1] bcast_S16x8400_S16x8400x1_0_1 (r_v230 V) := eq_unary V 364 _ _ _ _ _ rfl (by decide) rfl

theorem r_v232_eq (V : Valuation τ sig (Elt F)) : r_v232 V = broadcastInDim S16x8400x80 ![0, 1, 2] bcast_S16x8400x1_S16x8400x80_0_1_2 (r_v231 V) := eq_unary V 365 _ _ _ _ _ rfl (by decide) rfl

theorem r_v233_eq (V : Valuation τ sig (Elt F)) : r_v233 V = mulf (r_v187 V) (r_v232 V) := eq_binary V 366 _ _ _ _ _ _ _ rfl (by decide) (by decide) rfl

theorem r_cst_52_eq (V : Valuation τ sig (Elt F)) : r_cst_52 V = constant S_ .f32 0x00000000#32 := eq_nullary V 367 _ _ _ rfl rfl

theorem r_v234_eq (V : Valuation τ sig (Elt F)) : r_v234 V = broadcastInDim S16x8400 ![] bcast_S_S16x8400 (r_cst_52 V) := eq_unary V 368 _ _ _ _ _ rfl (by decide) rfl

theorem r_v235_eq (V : Valuation τ sig (Elt F)) : r_v235 V = cmpf .ogt (r_v154 V) (r_v234 V) := eq_binary V 369 _ _ _ _ _ _ _ rfl (by decide) (by decide) rfl

end Cert.Proof.Ref

end
-- ==== Proof.RefBoxes.lean ====
/-
  The reference's overlaps, distances and insideness, entry by entry.
-/
module

public import proofs.«01_k».proof.Proof.RefEqs0
public import proofs.«01_k».proof.Proof.RefEqs1
public import proofs.«01_k».proof.Proof.Whole
public import Idealize.ShloMosaic.Lib.Pointwise
public import Idealize.ShloMosaic.Lib.IdealHost

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo
open Cert.Proof.Spec

variable (V : Valuation τ sig (Elt Ideal))

/-- The image of a batch entry of the reference's arguments. -/
abbrev im (b : Fin 16) : Img := imgOf (r_arg1 V) (r_arg2 V) (r_arg3 V) (r_arg4 V) (r_arg5 V) b

theorem fold_min_four (f : Fin 4 → EReal) :
    Finset.fold min ⊤ f Finset.univ = min (min (f 0) (f 1)) (min (f 2) (f 3)) := by
  have h : (Finset.univ : Finset (Fin 4)) = {0, 1, 2, 3} := by decide
  rw [h, Finset.fold_insert (by decide), Finset.fold_insert (by decide), Finset.fold_insert (by decide),
    Finset.fold_singleton, min_eq_left (le_top : f 3 ≤ ⊤), min_assoc]

theorem inf_word : Ideal.ofBits .f32 2139095040#32 = ⊤ := by simp [Ideal.ofBits, Ideal.ieee]

theorem overlap_read (b : Fin 16) (g : Fin 32) (a : Fin 8400) : r_v45 V (ix3 b g a) = ov (im V b) (levelOf a) g (placeOf a) := by
  unfold ov im imgOf
  simp only [spot_of]
  rw [r_v45_eq, r_v44_eq, r_v43_eq, r_v42_eq, r_cst_3_eq, r_v41_eq, r_v40_eq, r_v39_eq, r_v38_eq, r_v37_eq, r_v36_eq, r_v35_eq, r_v34_eq, r_v33_eq, r_v32_eq, r_v31_eq, r_v30_eq, r_call1_v1_eq, r_call1_v0_eq, r_cst_2_eq, r_v29_eq, r_v28_eq, r_v27_eq, r_v26_eq, r_v25_eq, r_v24_eq, r_v23_eq, r_v22_eq, r_call0_v1_eq, r_call0_v0_eq, r_cst_1_eq, r_v21_eq, r_v20_eq, r_v19_eq, r_v18_eq, r_v17_eq, r_v16_eq, r_v15_eq, r_v14_eq, r_v13_eq, r_v12_eq, r_v11_eq, r_v10_eq, r_v9_eq, r_v8_eq, r_v7_eq, r_v6_eq, r_v5_eq, r_v4_eq, r_v3_eq, r_v2_eq, r_cst_0_eq, r_v1_eq, r_v0_eq, r_cst_eq]
  pointwise
  rfl

theorem distance_read (b : Fin 16) (g : Fin 32) (a : Fin 8400) : r_v58 V (ix3 b g a) = dist (im V b) (levelOf a) g (placeOf a) := by
  unfold Spec.dist im imgOf
  simp only [spot_of]
  rw [r_v58_eq, r_v57_eq, r_cst_5_eq, r_v56_eq, r_v55_eq, r_v54_eq, r_v53_eq, r_v52_eq, r_v51_eq, r_v50_eq, r_v49_eq, r_cst_4_eq, r_v48_eq, r_v47_eq, r_v46_eq]
  pointwise
  rw [Fin.sum_univ_two]
  rfl

theorem inside_read (b : Fin 16) (g : Fin 32) (a : Fin 8400) : r_v139 V (ix3 b g a) = inside (im V b) (levelOf a) g (placeOf a) := by
  unfold inside im imgOf
  simp only [spot_of]
  rw [r_v139_eq, r_cst_34_eq, r_v138_eq, r_v137_eq, r_v136_eq, r_v135_eq, r_v134_eq, r_v133_eq, r_v132_eq, r_v131_eq, r_v130_eq, r_v129_eq, r_v128_eq, r_v127_eq, r_v126_eq]
  pointwise
  rw [inf_word, fold_min_four]
  rfl

theorem predicted_read (b : Fin 16) (g : Fin 32) (a : Fin 8400) : r_v228 V (ix3 b g a) = piou (im V b) (levelOf a) (placeOf a) g := by
  show _ = iou _ _ _ _ _ _ _ _
  unfold im imgOf
  simp only [spot_of]
  rw [r_v228_eq, r_v227_eq, r_v226_eq, r_v225_eq, r_cst_50_eq, r_v224_eq, r_v223_eq, r_v222_eq, r_v221_eq, r_v220_eq, r_v219_eq, r_v218_eq, r_v217_eq, r_v216_eq, r_v215_eq, r_v214_eq, r_v213_eq, r_call22_v1_eq, r_call22_v0_eq, r_cst_49_eq, r_v212_eq, r_v211_eq, r_v210_eq, r_v209_eq, r_v208_eq, r_v207_eq, r_v206_eq, r_v205_eq, r_call21_v1_eq, r_call21_v0_eq, r_cst_48_eq, r_v204_eq, r_v203_eq, r_v202_eq, r_v201_eq, r_v200_eq, r_v199_eq, r_v198_eq, r_v197_eq, r_v196_eq, r_v195_eq, r_v194_eq, r_v193_eq, r_v192_eq, r_v191_eq, r_v190_eq, r_v189_eq, r_v188_eq]
  pointwise
  rfl

end Cert.Proof.Ref

end
-- ==== Proof.RefCand.lean ====
/-
  The reference's candidates: the nine nearest anchors of each level, by its sorts, and the overlaps it gathers at
  them.
-/
module

public import proofs.«01_k».proof.Proof.RefBoxes
public import Idealize.ShloMosaic.Lib.ValueIdxCore

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo
open Cert.Proof.Spec Cert.Proof.Order

/-! ## Words -/

theorem ofNat_eq {a b : ℕ} (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

theorem slt_zero {n : ℕ} (h : n < 2 ^ 31) : IntOp.cmpi CmpIPredicate.slt (BitVec.ofNat 32 n) 0#32 = 0#1 := by
  show BitVec.ofBool (decide ((BitVec.ofNat 32 n).toInt < (0#32).toInt)) = 0#1
  rw [ofNat_toInt h, decide_eq_false (by rw [BitVec.toInt_zero]; omega)]
  rfl

theorem bit_real (p : Prop) [Decidable p] : (FloatOps.uitofp (F := Ideal) .f32 (BitVec.ofBool (decide p)) : EReal) = ind p := by
  show (((BitVec.ofBool (decide p)).toNat : ℝ) : EReal) = _
  by_cases h : p
  · rw [ind_true h, decide_eq_true h]; simp
  · rw [ind_false h, decide_eq_false h]; simp

theorem eq_word (x y : BitVec 32) : IntOp.cmpi CmpIPredicate.eq x y = BitVec.ofBool (decide (x = y)) := by
  show BitVec.ofBool (x == y) = _
  rw [beq_eq_decide]

theorem eq_real (x y : BitVec 32) : (FloatOps.uitofp (F := Ideal) .f32 (IntOp.cmpi CmpIPredicate.eq x y) : EReal) = ind (x = y) := by
  rw [eq_word, bit_real]

/-! ## One level -/

/-- The nine nearest anchors of a level. -/
def near (I : Img) (l : Fin 3) (g : Fin 32) (r : Fin 9) : Fin 2800 := order (Spec.dist I l g) ⟨r.val, by omega⟩

theorem near_inj (I : Img) (l : Fin 3) (g : Fin 32) : Function.Injective (near I l g) := by
  intro r s h
  have := order_inj _ h
  exact Fin.ext (Fin.mk.inj this)

theorem cand_near (I : Img) (l : Fin 3) (g : Fin 32) (n : Fin 2800) : cand I l g n ↔ ∃ r, near I l g r = n :=
  ⟨fun ⟨r, h, e⟩ => ⟨⟨r.val, h⟩, e⟩, fun ⟨r, e⟩ => ⟨⟨r.val, by omega⟩, r.isLt, e⟩⟩

/-- The first positions of a stable sort of negated numbers, greatest first, are the least numbers in order. -/
theorem topK_index (X : FVec Ideal S16x32x2800 .f32) (h : S16x32x2800.Slices (fun _ => 0) S16x32x9) (d : Fin 2800 → EReal)
    (b : Fin 16) (g : Fin 32) (r : Fin 9) (hX : ∀ n, X (ix3 b g n) = -d n) :
    (Host.topK S16x32x9 2 (FloatOps.cmpfTotal (F := Ideal) .gt) X h).2 (ix3 b g r)
      = BitVec.ofNat 32 (order d ⟨r.val, by omega⟩).val := by
  unfold Host.topK Host.sort2 order
  pointwise
  have ha : ∀ (r k : Fin 2800), (ix3 b g r).along 2 k = (ix3 b g k : S16x32x2800.Idx) := fun r k => by
    funext a
    match a with
    | 0 => rfl
    | 1 => rfl
    | 2 => rfl
  have hc : (fun k k' : Fin 2800 => FloatOps.cmpfTotal (F := Ideal) (φ := .f32) CmpDirection.gt (X ((ix3 b g ⟨r.val, by omega⟩).along 2 k))
      (X ((ix3 b g ⟨r.val, by omega⟩).along 2 k')) == 1#1) = fun k k' => decide (d k < d k') := by
    funext k k'
    rw [ha, ha, hX, hX]
    show (BitVec.ofBool (decide (-d k' < -d k)) == 1#1) = _
    by_cases hlt : d k < d k'
    · rw [decide_eq_true hlt, decide_eq_true (EReal.neg_lt_neg_iff.mpr hlt)]; rfl
    · rw [decide_eq_false hlt, decide_eq_false (fun h => hlt (EReal.neg_lt_neg_iff.mp h))]; rfl
  rw [ha]
  exact congrArg (fun f => BitVec.ofNat 32 (sortedFrom f ⟨r.val, by omega⟩).val) hc

/-- The indicator of an entry that occurs among nine of a masked row: nine equal entries count as none. -/
theorem nine_sum (M : EReal) (p : Fin 9 → Fin 2800) (hp : Function.Injective p) (n : Fin 2800) :
    (if 1 < ∑ x, ind ((if 0 < M then BitVec.ofNat 32 (p x).val else 0#32) = BitVec.ofNat 32 n.val) then 0
      else ∑ x, ind ((if 0 < M then BitVec.ofNat 32 (p x).val else 0#32) = BitVec.ofNat 32 n.val))
      = ind (0 < M ∧ ∃ x, p x = n) := by
  by_cases hM : 0 < M
  · have e : ∀ x, ind ((if 0 < M then BitVec.ofNat 32 (p x).val else 0#32) = BitVec.ofNat 32 n.val) = ind (p x = n) := fun x => by
      rw [if_pos hM]
      exact ind_congr ((ofNat_eq (by omega) (by omega)).trans Fin.ext_iff.symm)
    simp only [e]
    have s : ∑ x, ind (p x = n) = ind (0 < M ∧ ∃ x, p x = n) := by
      by_cases h : ∃ x, p x = n
      · obtain ⟨x, hx⟩ := h
        rw [ind_true ⟨hM, x, hx⟩, Finset.sum_eq_single x]
        · exact ind_true hx
        · intro y _ hy; exact ind_false fun h => hy (hp (h.trans hx.symm))
        · intro h; exact absurd (Finset.mem_univ _) h
      · rw [ind_false fun h' => h h'.2]
        exact Finset.sum_eq_zero fun x _ => ind_false fun h' => h ⟨x, h'⟩
    rw [s, if_neg]
    by_cases h : 0 < M ∧ ∃ x, p x = n
    · rw [ind_true h]; exact lt_irrefl _
    · rw [ind_false h]; exact not_lt.mpr zero_le_one
  · rw [ind_false fun h => hM h.1]
    simp only [if_neg hM]
    by_cases hn : 0#32 = BitVec.ofNat 32 n.val
    · rw [if_pos]
      simp only [ind_true hn]
      have h9 := sum_count (Finset.univ : Finset (Fin 9)) (fun _ => True)
      simp only [if_true, Finset.filter_true, Finset.card_univ, Fintype.card_fin] at h9
      rw [h9]
      exact_mod_cast (by norm_num : (1 : ℝ) < 9)
    · simp only [ind_false hn, Finset.sum_const_zero]
      rw [ite_self]

variable (V : Valuation τ sig (Elt Ideal))

theorem slice_zero (b : Fin 16) (g : Fin 32) (n : Fin 2800) : r_v62 V (ix3 b g n) = - Spec.dist (im V b) 0 g n := by
  rw [r_v62_eq, r_v61_eq]
  pointwise [distance_read V]
  rw [show (⟨n.val, by omega⟩ : Fin 8400) = spot 0 n from Fin.ext (by simp [spot]), level_spot, place_spot]

theorem slice_one (b : Fin 16) (g : Fin 32) (n : Fin 2800) : r_v73 V (ix3 b g n) = - Spec.dist (im V b) 1 g n := by
  rw [r_v73_eq, r_v72_eq]
  pointwise [distance_read V]
  rw [show (⟨2800 + n.val, by omega⟩ : Fin 8400) = spot 1 n from Fin.ext (by simp [spot]), level_spot, place_spot]

theorem slice_two (b : Fin 16) (g : Fin 32) (n : Fin 2800) : r_v84 V (ix3 b g n) = - Spec.dist (im V b) 2 g n := by
  rw [r_v84_eq, r_v83_eq]
  pointwise [distance_read V]
  rw [show (⟨5600 + n.val, by omega⟩ : Fin 8400) = spot 2 n from Fin.ext (by simp [spot]), level_spot, place_spot]

theorem index_zero (b : Fin 16) (g : Fin 32) (r : Fin 9) : r_indices V (ix3 b g r) = BitVec.ofNat 32 (near (im V b) 0 g r).val := by
  rw [r_indices_eq]
  exact topK_index _ _ _ b g r (slice_zero V b g)

theorem index_one (b : Fin 16) (g : Fin 32) (r : Fin 9) : r_indices_12 V (ix3 b g r) = BitVec.ofNat 32 (near (im V b) 1 g r).val := by
  rw [r_indices_12_eq]
  exact topK_index _ _ _ b g r (slice_one V b g)

theorem index_two (b : Fin 16) (g : Fin 32) (r : Fin 9) : r_indices_19 V (ix3 b g r) = BitVec.ofNat 32 (near (im V b) 2 g r).val := by
  rw [r_indices_19_eq]
  exact topK_index _ _ _ b g r (slice_two V b g)

theorem in_zero (b : Fin 16) (g : Fin 32) (n : Fin 2800) : r_v71 V (ix3 b g n) = ind (0 < (im V b).mask g ∧ cand (im V b) 0 g n) := by
  rw [r_v71_eq, r_v70_eq, r_cst_10_eq, r_v69_eq, r_v68_eq, r_cst_9_eq, r_v67_eq, r_cst_8_eq, r_v66_eq, r_call3_v4_eq,
    r_call3_v3_eq, r_call3_v2_eq, r_call3_v1_eq, r_call3_v0_eq, r_v65_eq, r_call2_v2_eq, r_call2_v1_eq, r_call2_v0_eq,
    r_c_7_eq, r_v60_eq, r_v59_eq, r_cst_6_eq, cand_near]
  pointwise [index_zero V, eq_real]
  exact nine_sum _ _ (near_inj _ 0 g) n

theorem in_one (b : Fin 16) (g : Fin 32) (n : Fin 2800) : r_v82 V (ix3 b g n) = ind (0 < (im V b).mask g ∧ cand (im V b) 1 g n) := by
  rw [r_v82_eq, r_v81_eq, r_cst_17_eq, r_v80_eq, r_v79_eq, r_cst_16_eq, r_v78_eq, r_cst_15_eq, r_v77_eq, r_call6_v4_eq,
    r_call6_v3_eq, r_call6_v2_eq, r_call6_v1_eq, r_call6_v0_eq, r_v76_eq, r_call5_v2_eq, r_call5_v1_eq, r_call5_v0_eq,
    r_c_14_eq, r_v60_eq, r_v59_eq, r_cst_6_eq, cand_near]
  pointwise [index_one V, eq_real]
  exact nine_sum _ _ (near_inj _ 1 g) n

theorem in_two (b : Fin 16) (g : Fin 32) (n : Fin 2800) : r_v93 V (ix3 b g n) = ind (0 < (im V b).mask g ∧ cand (im V b) 2 g n) := by
  rw [r_v93_eq, r_v92_eq, r_cst_24_eq, r_v91_eq, r_v90_eq, r_cst_23_eq, r_v89_eq, r_cst_22_eq, r_v88_eq, r_call9_v4_eq,
    r_call9_v3_eq, r_call9_v2_eq, r_call9_v1_eq, r_call9_v0_eq, r_v87_eq, r_call8_v2_eq, r_call8_v1_eq, r_call8_v0_eq,
    r_c_21_eq, r_v60_eq, r_v59_eq, r_cst_6_eq, cand_near]
  pointwise [index_two V, eq_real]
  exact nine_sum _ _ (near_inj _ 2 g) n

/-! ## The three levels together -/

theorem in_read (b : Fin 16) (g : Fin 32) (a : Fin 8400) :
    r_v94 V (ix3 b g a) = ind (0 < (im V b).mask g ∧ cand (im V b) (levelOf a) g (placeOf a)) := by
  rw [r_v94_eq]
  pointwise
  obtain ⟨l, n, rfl⟩ : ∃ l n, a = spot l n := ⟨_, _, (spot_of a).symm⟩
  rw [level_spot, place_spot]
  match l with
  | 0 =>
    rw [dif_pos (show (spot 0 n).val < 2800 by simp [spot])]
    rw [show (⟨(spot 0 n).val, by simp [spot]⟩ : Fin 2800) = n from Fin.ext (by simp [spot])]
    exact in_zero V b g n
  | 1 =>
    rw [dif_neg (show ¬ (spot 1 n).val < 2800 by simp [spot]), dif_pos (show (spot 1 n).val - 2800 < 2800 by simp [spot])]
    rw [show (⟨(spot 1 n).val - 2800, by simp [spot]⟩ : Fin 2800) = n from Fin.ext (by simp [spot])]
    exact in_one V b g n
  | 2 =>
    rw [dif_neg (show ¬ (spot 2 n).val < 2800 by simp [spot]; omega), dif_neg (show ¬ (spot 2 n).val - 2800 < 2800 by simp [spot]; omega)]
    rw [show (⟨(spot 2 n).val - 2800 - 2800, by simp [spot]; omega⟩ : Fin 2800) = n from Fin.ext (by simp [spot]; omega)]
    exact in_two V b g n

/-- The level and the rank of one of the twenty-seven candidates. -/
def lv (k : Fin 27) : Fin 3 := ⟨k.val / 9, by omega⟩
def rk (k : Fin 27) : Fin 9 := ⟨k.val % 9, by omega⟩
/-- The anchor of a candidate. -/
def at27 (I : Img) (g : Fin 32) (k : Fin 27) : Fin 8400 := spot (lv k) (near I (lv k) g (rk k))

/-- Three blocks of nine laid side by side, read at one place. -/
theorem three_blocks (X Y Z : IVec S16x32x9 32) (f : Fin 3 → Fin 9 → BitVec 32) (b : Fin 16) (g : Fin 32)
    (hX : ∀ r, X (ix3 b g r) = f 0 r) (hY : ∀ r, Y (ix3 b g r) = f 1 r) (hZ : ∀ r, Z (ix3 b g r) = f 2 r) (k : Fin 27) :
    concatenate S16x32x27 2 [⟨S16x32x9, X⟩, ⟨S16x32x9, Y⟩, ⟨S16x32x9, Z⟩]
      concatenates_S16x32x9_S16x32x9_S16x32x9_S16x32x27_d2 (ix3 b g k) = f (lv k) (rk k) := by
  pointwise
  by_cases h : k.val < 9
  · rw [dif_pos h, show lv k = 0 from Fin.ext (by simp only [lv]; omega)]
    exact (hX _).trans (congrArg (f 0) (Fin.ext (by simp only [rk]; omega)))
  · rw [dif_neg h]
    by_cases h' : k.val - 9 < 9
    · rw [dif_pos h', show lv k = 1 from Fin.ext (by simp only [lv]; omega)]
      exact (hY _).trans (congrArg (f 1) (Fin.ext (by simp only [rk]; omega)))
    · rw [dif_neg h', show lv k = 2 from Fin.ext (by simp only [lv]; omega)]
      exact (hZ _).trans (congrArg (f 2) (Fin.ext (by simp only [rk]; omega)))

theorem shift_read (n c : ℕ) : IntOp.addi (BitVec.ofNat 32 n) (BitVec.ofNat 32 c) = BitVec.ofNat 32 (c + n) := by
  rw [Nat.add_comm]
  exact (BitVec.ofNat_add n c).symm

theorem start_zero (b : Fin 16) (g : Fin 32) (r : Fin 9) :
    r_v64 V (ix3 b g r) = BitVec.ofNat 32 (2800 * 0 + (near (im V b) 0 g r).val) := by
  rw [r_v64_eq, r_v63_eq, r_c_eq, ← shift_read, ← index_zero]
  pointwise

theorem start_one (b : Fin 16) (g : Fin 32) (r : Fin 9) :
    r_v75 V (ix3 b g r) = BitVec.ofNat 32 (2800 * 1 + (near (im V b) 1 g r).val) := by
  rw [r_v75_eq, r_v74_eq, r_c_13_eq, ← shift_read, ← index_one]
  pointwise

theorem start_two (b : Fin 16) (g : Fin 32) (r : Fin 9) :
    r_v86 V (ix3 b g r) = BitVec.ofNat 32 (2800 * 2 + (near (im V b) 2 g r).val) := by
  rw [r_v86_eq, r_v85_eq, r_c_20_eq, ← shift_read, ← index_two]
  pointwise

theorem where_read (b : Fin 16) (g : Fin 32) (k : Fin 27) : r_v95 V (ix3 b g k) = BitVec.ofNat 32 (at27 (im V b) g k).val := by
  rw [r_v95_eq]
  exact three_blocks _ _ _ (fun l r => BitVec.ofNat 32 (2800 * l.val + (near (im V b) l g r).val)) b g
    (start_zero V b g) (start_one V b g) (start_two V b g) k

theorem flat_read (b : Fin 16) (g : Fin 32) (k : Fin 27) :
    r_v112 V (ix2 ⟨b.val * 32 + g.val, by omega⟩ k) = BitVec.ofNat 32 (8400 * (b.val * 32 + g.val) + (at27 (im V b) g k).val) := by
  rw [r_v112_eq, r_v111_eq, r_v110_eq, r_c_29_eq, r_v109_eq, r_v108_eq, r_c_28_eq, r_v106_eq, r_v105_eq, r_v104_eq, r_v103_eq, r_v102_eq, r_c_27_eq, r_v101_eq, r_v100_eq]
  pointwise [where_read V]
  simp only [IntOp.addi, IntOp.muli]
  rw [← BitVec.ofNat_mul, ← BitVec.ofNat_add, Nat.add_comm (at27 (im V b) g k).val]
  rw [slt_zero (by omega)]
  rfl

theorem over_read (b : Fin 16) (g : Fin 32) (a : Fin 8400) :
    r_v99 V (ix3 b g a) = if 0 < ind (0 < (im V b).mask g ∧ cand (im V b) (levelOf a) g (placeOf a)) then ov (im V b) (levelOf a) g (placeOf a) else 0 := by
  rw [r_v99_eq, r_v98_eq, r_cst_26_eq, r_v97_eq, r_v96_eq, r_cst_25_eq]
  pointwise [overlap_read V, in_read V]

theorem flat_index (X : FVec Ideal S16x32x8400 .f32) (b : Fin 16) (g : Fin 32) (a : Fin 8400)
    (h : 8400 * (b.val * 32 + g.val) + a.val < 4300800) :
    shapeCast S4300800 X shapeCasts_S16x32x8400_S4300800 (ValueIdx.ix1 ⟨8400 * (b.val * 32 + g.val) + a.val, h⟩) = X (ix3 b g a) := by
  show shapeCast S4300800 X shapeCasts_S16x32x8400_S4300800 (ix1 ⟨8400 * (b.val * 32 + g.val) + a.val, h⟩) = _
  pointwise

theorem gathered (b : Fin 16) (g : Fin 32) (k : Fin 27) : r_v115 V (ix3 b g k) = r_v99 V (ix3 b g (at27 (im V b) g k)) := by
  rw [r_v115_eq]
  pointwise
  rw [r_v114_eq]
  refine (ValueIdx.gather_take_apply (by norm_num) gather_S4300800_S512x27x1_S512x27_n_0_n_n_0_2_1_wf _ _ _).trans ?_
  have h113 : r_v113 V (ValueIdx.takeIdx (ix2 ⟨b.val * 32 + g.val, by omega⟩ k))
      = BitVec.ofNat 32 (8400 * (b.val * 32 + g.val) + (at27 (im V b) g k).val) := by
    rw [show ValueIdx.takeIdx (ix2 ⟨b.val * 32 + g.val, by omega⟩ k) = (ix3 ⟨b.val * 32 + g.val, by omega⟩ k 0 : S512x27x1.Idx) from by
      funext i
      match i with
      | 0 => rfl
      | 1 => rfl
      | 2 => rfl, r_v113_eq]
    pointwise [flat_read V]
  have hm : min (r_v113 V (ValueIdx.takeIdx (ix2 ⟨b.val * 32 + g.val, by omega⟩ k))).toInt.toNat (4300800 - 1)
      = 8400 * (b.val * 32 + g.val) + (at27 (im V b) g k).val := by
    rw [h113, ofNat_toInt (by omega), Int.toNat_natCast]
    omega
  simp only [hm]
  rw [r_v107_eq]
  exact flat_index _ b g _ _

end Cert.Proof.Ref

end
-- ==== Proof.RefArg.lean ====
/-
  The reference's two searches for a greatest entry down a column, and its reads of a row at a computed index.
-/
module

public import proofs.«01_k».proof.Proof.RefCand

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo
open Cert.Proof.Spec Cert.Proof.Order

/-! ## The greatest entry and the least place it is at -/

/-- A pair of a number and a place comes before another: a greater number, or the same at a place no later. -/
def Before (p q : EReal × BitVec 32) : Prop := q.1 < p.1 ∨ q.1 = p.1 ∧ p.2.toInt ≤ q.2.toInt

theorem Before.refl (p : EReal × BitVec 32) : Before p p := Or.inr ⟨rfl, le_refl _⟩

theorem Before.trans {p q r : EReal × BitVec 32} (h : Before p q) (h' : Before q r) : Before p r := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- One step keeps the pair that comes before the other. -/
theorem step_eq (p q : EReal × BitVec 32) :
    reducer_argmax_f32_i32 (F := Ideal) p q = p ∧ Before p q ∨ reducer_argmax_f32_i32 (F := Ideal) p q = q ∧ Before q p := by
  obtain ⟨x, i⟩ := p
  obtain ⟨y, j⟩ := q
  have hred : reducer_argmax_f32_i32 (F := Ideal) (x, i) (y, j)
      = (Scalar.select (IntOp.ori (BitVec.ofBool (decide (y < x))) (BitVec.ofBool (decide (x ≠ x)))) x y,
         Scalar.select (IntOp.ori (IntOp.ori (BitVec.ofBool (decide (y < x))) (BitVec.ofBool (decide (x ≠ x))))
          (IntOp.andi (BitVec.ofBool (decide (x = y))) (BitVec.ofBool (decide (i.toInt < j.toInt))))) i j) := rfl
  rw [hred, decide_eq_false (fun h : x ≠ x => h rfl)]
  rcases lt_trichotomy x y with h | h | h
  · rw [decide_eq_false (not_lt.mpr h.le), decide_eq_false h.ne]
    refine Or.inr ⟨?_, Or.inl h⟩
    cases decide (i.toInt < j.toInt) <;> rfl
  · subst h
    rw [decide_eq_false (lt_irrefl x), decide_eq_true (rfl : x = x)]
    by_cases hk : i.toInt < j.toInt
    · rw [decide_eq_true hk]
      exact Or.inl ⟨rfl, Or.inr ⟨rfl, hk.le⟩⟩
    · rw [decide_eq_false hk]
      exact Or.inr ⟨rfl, Or.inr ⟨rfl, not_lt.mp hk⟩⟩
  · rw [decide_eq_true h, decide_eq_false h.ne']
    refine Or.inl ⟨?_, Or.inl h⟩
    cases decide (i.toInt < j.toInt) <;> rfl

/-- A whole list of steps keeps a pair of the list, or the first one, that comes before all of them. -/
theorem steps_first (L : List (EReal × BitVec 32)) (p : EReal × BitVec 32) :
    L.foldl (reducer_argmax_f32_i32 (F := Ideal)) p ∈ p :: L
      ∧ ∀ q ∈ p :: L, Before (L.foldl (reducer_argmax_f32_i32 (F := Ideal)) p) q := by
  induction L generalizing p with
  | nil => exact ⟨List.mem_singleton.mpr rfl, fun q hq => by rw [List.mem_singleton.mp hq]; exact Before.refl p⟩
  | cons x L ih =>
    obtain ⟨h1, h2⟩ := ih (reducer_argmax_f32_i32 (F := Ideal) p x)
    rw [List.foldl_cons]
    have h0 := h2 _ (List.mem_cons_self ..)
    rcases step_eq p x with ⟨e, hb⟩ | ⟨e, hb⟩ <;> rw [e] at h0 h1 h2 ⊢
    · refine ⟨?_, fun q hq => ?_⟩
      · rcases List.mem_cons.mp h1 with h | h
        · rw [h]; exact List.mem_cons_self ..
        · exact List.mem_cons_of_mem _ (List.mem_cons_of_mem _ h)
      · rcases List.mem_cons.mp hq with h | h
        · rw [h]; exact h0
        · rcases List.mem_cons.mp h with h | h
          · rw [h]; exact h0.trans hb
          · exact h2 q (List.mem_cons_of_mem _ h)
    · refine ⟨List.mem_cons_of_mem _ h1, fun q hq => ?_⟩
      rcases List.mem_cons.mp hq with h | h
      · rw [h]; exact h0.trans hb
      · exact h2 q h

/-- A cell of the array of overlaps lies in the column its first and last coordinates name. -/
theorem drop_read (i : S16x32x8400.Idx) :
    reducesTo_S16x32x8400_S16x8400_d1.drop i = (ix2 (i 0) (i 2) : S16x8400.Idx) := by
  funext k
  match k with
  | 0 => rfl
  | 1 => rfl

theorem cell_eta (i : S16x32x8400.Idx) : i = (ix3 (i 0) (i 1) (i 2) : S16x32x8400.Idx) := by
  funext k
  match k with
  | 0 => rfl
  | 1 => rfl
  | 2 => rfl

/-- The place of the greatest entry of a column, the first of several. -/
theorem first_max (X : FVec Ideal S16x32x8400 .f32) (b : Fin 16) (a : Fin 8400) :
    (Host.argReduce (reducer_argmax_f32_i32 (F := Ideal)) X (iotaInDim S16x32x8400 32 1) (constant S_ .f32 0xFF800000#32)
      (constantI S_ 32 0#32) reducesTo_S16x32x8400_S16x8400_d1 h_S_ (ix2 b a)).2
      = BitVec.ofNat 32 (best fun g => X (ix3 b g a)).val := by
  rw [Ideal.argReduce_eq_reduce2, Host.reduce2_eq_foldl_fiber]
  have hmem : ∀ q, q ∈ Host.argReduceFiber X (iotaInDim S16x32x8400 32 1) reducesTo_S16x32x8400_S16x8400_d1 (ix2 b a)
      ↔ ∃ g : Fin 32, q = (X (ix3 b g a), BitVec.ofNat 32 g.val) := by
    intro q
    unfold Host.argReduceFiber
    rw [List.mem_map]
    constructor
    · rintro ⟨n, hn, rfl⟩
      have hd := of_decide_eq_true (List.mem_filter.mp hn).2
      rw [drop_read] at hd
      have e0 : (S16x32x8400.rowMajor.symm n) 0 = b := congrFun hd 0
      have e2 : (S16x32x8400.rowMajor.symm n) 2 = a := congrFun hd 1
      refine ⟨(S16x32x8400.rowMajor.symm n) 1, ?_⟩
      have e := cell_eta (S16x32x8400.rowMajor.symm n)
      rw [e0, e2] at e
      exact Prod.ext (congrArg X e) rfl
    · rintro ⟨g, rfl⟩
      refine ⟨S16x32x8400.rowMajor (ix3 b g a), List.mem_filter.mpr ⟨List.mem_finRange _, ?_⟩, ?_⟩
      · rw [Equiv.symm_apply_apply]
        exact decide_eq_true (drop_read _)
      · rw [Equiv.symm_apply_apply]
        rfl
  obtain ⟨h1, h2⟩ := steps_first (Host.argReduceFiber X (iotaInDim S16x32x8400 32 1) reducesTo_S16x32x8400_S16x8400_d1 (ix2 b a))
    ((constant (F := Ideal) S_ .f32 0xFF800000#32) (Shape.Idx.first h_S_), (constantI S_ 32 0#32) (Shape.Idx.first h_S_))
  generalize hR : List.foldl (reducer_argmax_f32_i32 (F := Ideal)) _ _ = R at h1 h2 ⊢
  have hinit : ((constant (F := Ideal) S_ .f32 0xFF800000#32) (Shape.Idx.first h_S_), (constantI S_ 32 0#32) (Shape.Idx.first h_S_))
      = ((⊥ : EReal), 0#32) := by
    refine Prod.ext ?_ rfl
    show Ideal.ofBits .f32 4286578688#32 = ⊥
    simp [Ideal.ofBits, Ideal.ieee]
  rw [hinit] at h1 h2
  obtain ⟨b1, b2⟩ := best_spec fun g => X (ix3 b g a)
  have all : ∀ g : Fin 32, Before R (X (ix3 b g a), BitVec.ofNat 32 g.val) := fun g =>
    h2 _ (List.mem_cons_of_mem _ ((hmem _).mpr ⟨g, rfl⟩))
  rcases List.mem_cons.mp h1 with h | h
  · have hbot : ∀ g : Fin 32, X (ix3 b g a) = ⊥ := fun g => by
      rcases all g with k | ⟨k, _⟩
      · rw [h] at k; exact absurd k not_lt_bot
      · rw [h] at k; exact k
    have hz : best (fun g => X (ix3 b g a)) = 0 := by
      have := b2 0 ((hbot 0).trans (hbot _).symm)
      exact le_antisymm this (Fin.zero_le _)
    rw [hz, h]
    rfl
  · obtain ⟨g, rfl⟩ := (hmem _).mp h
    have hle : ∀ j : Fin 32, X (ix3 b j a) < X (ix3 b g a) ∨ X (ix3 b j a) = X (ix3 b g a) ∧ g ≤ j := fun j => by
      rcases all j with k | ⟨k, k'⟩
      · exact Or.inl k
      · refine Or.inr ⟨k, ?_⟩
        have k'' : (BitVec.ofNat 32 g.val).toInt ≤ (BitVec.ofNat 32 j.val).toInt := k'
        rw [ofNat_toInt (by omega), ofNat_toInt (by omega)] at k''
        exact Fin.le_def.mpr (by omega)
    have hg : best (fun g => X (ix3 b g a)) = g := by
      rcases hle (best fun g => X (ix3 b g a)) with k | ⟨k, k'⟩
      · exact absurd k (not_lt.mpr (b1 g))
      · exact le_antisymm (b2 g k.symm) k'
    rw [hg]

/-! ## A row at a computed index -/

/-- A coordinate of a row at a computed index, when the index is in range. -/
theorem row_at (X : FVec Ideal S512x4 .f32) (Y : IVec S16x8400x1 32) (b : Fin 16) (a : Fin 8400) (k : Fin 4) (r : Fin 512)
    (h : Y (ix3 b a 0) = BitVec.ofNat 32 r.val) :
    Host.gather gather_S512x4_S16x8400x1_S16x8400x4_2_0_n_n_0_2_14 X Y (ix3 b a k) = X (ix2 r k) := by
  unfold Host.gather
  refine congrArg X ?_
  have hsi : gather_S512x4_S16x8400x1_S16x8400x4_2_0_n_n_0_2_14.siIdx (ix3 b a k : S16x8400x4.Idx)
      ⟨List.idxOf (0 : Fin 2) gather_S512x4_S16x8400x1_S16x8400x4_2_0_n_n_0_2_14.startIndexMap,
        List.idxOf_lt_length_iff.2 (List.mem_singleton.mpr rfl)⟩ = (ix3 b a 0 : S16x8400x1.Idx) := by
    funext i
    refine Fin.ext ?_
    match i with
    | 0 => rfl
    | 1 => rfl
    | 2 => rfl
  funext i
  refine Fin.ext ?_
  show gather_S512x4_S16x8400x1_S16x8400x4_2_0_n_n_0_2_14.start (ix3 b a k : S16x8400x4.Idx) Y i
    + gather_S512x4_S16x8400x1_S16x8400x4_2_0_n_n_0_2_14.batchCoord (ix3 b a k : S16x8400x4.Idx) i
    + gather_S512x4_S16x8400x1_S16x8400x4_2_0_n_n_0_2_14.offCoord (ix3 b a k : S16x8400x4.Idx) i = _
  rw [GatherDims.batchCoord_eq_zero _ _ _ List.not_mem_nil]
  match i with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x4_S16x8400x1_S16x8400x4_2_0_n_n_0_2_14.startIndexMap from List.mem_singleton.mpr rfl)]
    rw [hsi, h, ofNat_toInt (by omega), Int.toNat_natCast]
    show min r.val (512 - 1) = r.val
    omega
  | 1 =>
    unfold GatherDims.start
    rw [dif_neg (show (1 : Fin 2) ∉ gather_S512x4_S16x8400x1_S16x8400x4_2_0_n_n_0_2_14.startIndexMap from fun h =>
      absurd (List.mem_singleton.mp h) (by decide))]
    simp only [Nat.zero_add, Nat.add_zero]
    rfl

/-- An entry at a computed index, when the index is in range. -/
theorem entry_at (X : IVec S512 32) (Y : IVec S16x8400x1 32) (b : Fin 16) (a : Fin 8400) (r : Fin 512)
    (h : Y (ix3 b a 0) = BitVec.ofNat 32 r.val) :
    Host.gather gather_S512_S16x8400x1_S16x8400_n_0_n_n_0_2_1 X Y (ix2 b a) = X (ix1 r) := by
  refine (ValueIdx.gather_take_apply (by norm_num) gather_S512_S16x8400x1_S16x8400_n_0_n_n_0_2_1_wf X Y (ix2 b a)).trans ?_
  have hi : ValueIdx.takeIdx (ix2 b a) = (ix3 b a 0 : S16x8400x1.Idx) := by
    funext i
    match i with
    | 0 => rfl
    | 1 => rfl
    | 2 => rfl
  have hm : min (Y (ValueIdx.takeIdx (ix2 b a))).toInt.toNat (512 - 1) = r.val := by
    rw [hi, h, ofNat_toInt (by omega), Int.toNat_natCast]
    omega
  exact congrArg (fun q : Fin 512 => X (ix1 q)) (Fin.ext hm)

end Cert.Proof.Ref

end
-- ==== Proof.RefMask.lean ====
/-
  The reference's threshold, its positive anchors and the boxes it assigns.
-/
module

public import proofs.«01_k».proof.Proof.RefArg
public import proofs.«01_k».proof.Proof.Mask

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.StableHlo
open Cert.Proof.Spec Cert.Proof.Order

variable (V : Valuation τ sig (Elt Ideal))

/-! ## The threshold -/

theorem ind_pos {p : Prop} : 0 < ind p ↔ p := by
  constructor
  · intro h
    by_contra hp
    rw [ind_false hp] at h
    exact lt_irrefl _ h
  · intro h
    rw [ind_true h]
    exact zero_lt_one

/-- A candidate's overlap: its own where the box is there, and nothing where not. -/
theorem column_read (b : Fin 16) (g : Fin 32) (h : 0 < (im V b).mask g) (k : Fin 27) : r_v115 V (ix3 b g k) = vals (im V b) g k := by
  rw [gathered, over_read]
  have e1 : levelOf (at27 (im V b) g k) = lv k := level_spot _ _
  have e2 : placeOf (at27 (im V b) g k) = near (im V b) (lv k) g (rk k) := place_spot _ _
  rw [e1, e2, if_pos (ind_pos.mpr ⟨h, (cand_near _ _ _ _).mpr ⟨rk k, rfl⟩⟩)]
  rfl

theorem one_less : Ideal.ofBits .f32 1104674816#32 - (FloatOps.sitofp (F := Ideal) .f32 1#32 : EReal) = Ideal.ofBits .f32 1104150528#32 := by
  have h1 : (FloatOps.sitofp (F := Ideal) .f32 1#32 : EReal) = ((1 : ℝ) : EReal) := by
    show ((((1#32 : BitVec 32).toInt : ℤ) : ℝ) : EReal) = _
    rw [show (1#32 : BitVec 32).toInt = 1 from rfl]
    norm_num
  have h2 : Ideal.ofBits .f32 1104674816#32 = ((27 : ℝ) : EReal) := by
    simp [Ideal.ofBits, Ideal.ieee, -EReal.coe_mul]; norm_num
  have h3 : Ideal.ofBits .f32 1104150528#32 = ((26 : ℝ) : EReal) := by
    simp [Ideal.ofBits, Ideal.ieee, -EReal.coe_mul]; norm_num
  rw [h1, h2, h3, ← EReal.coe_sub]
  norm_num

theorem rest_pos : (0 : EReal) < Ideal.ofBits .f32 1104150528#32 := by
  have h3 : Ideal.ofBits .f32 1104150528#32 = ((26 : ℝ) : EReal) := by
    simp [Ideal.ofBits, Ideal.ieee, -EReal.coe_mul]; norm_num
  rw [h3]
  exact_mod_cast (by norm_num : (0 : ℝ) < 26)

theorem threshold_read (b : Fin 16) (g : Fin 32) : r_v121 V (ix3 b g 0) = threshold fun k => r_v115 V (ix3 b g k) := by
  unfold threshold mean
  rw [r_v121_eq, r_v120_eq, r_call12_v0_eq, r_call12_call0_call0_v1_eq, r_call12_call0_call0_v0_eq, r_call12_call0_cst_4_eq, r_call12_call0_v13_eq, r_call12_call0_cst_3_eq, r_call12_call0_v12_eq, r_call12_call0_v11_eq, r_call12_call0_v10_eq, r_call12_call0_v9_eq, r_call12_call0_cst_2_eq, r_call12_call0_v8_eq, r_call12_call0_cst_1_eq, r_call12_call0_v7_eq, r_c_32_eq, r_call12_call0_v6_eq, r_call12_call0_v5_eq, r_call12_call0_v4_eq, r_call12_call0_v3_eq, r_call12_call0_v2_eq, r_call12_call0_cst_0_eq, r_call12_call0_v1_eq, r_call12_call0_v0_eq, r_call12_call0_cst_eq, r_v119_eq, r_v118_eq, r_cst_31_eq, r_v117_eq, r_v116_eq, r_cst_30_eq]
  pointwise
  rw [one_less, if_pos rest_pos]

/-! ## The positive anchors -/

theorem over_threshold (b : Fin 16) (g : Fin 32) (a : Fin 8400) :
    r_v125 V (ix3 b g a) = if r_v121 V (ix3 b g 0) < r_v99 V (ix3 b g a) then r_v94 V (ix3 b g a) else 0 := by
  rw [r_v125_eq, r_v124_eq, r_cst_33_eq, r_v123_eq, r_v122_eq]
  pointwise

/-- A bit turned into a number, entry by entry. -/
theorem bits_at {s : Shape} (X : IVec s 1) (i : s.Idx) (p : Prop) [Decidable p] (h : X i = BitVec.ofBool (decide p)) :
    uitofp (F := Ideal) .f32 X i = ind p := by
  have e : uitofp (F := Ideal) .f32 X i = (FloatOps.uitofp (F := Ideal) .f32 (X i) : EReal) := rfl
  rw [e, h]
  exact bit_real p

/-- Two arrays compared, entry by entry. -/
theorem over_at {s : Shape} (X Y : FVec Ideal s .f32) (i : s.Idx) (x y : EReal) (hX : X i = x) (hY : Y i = y) :
    cmpf .ogt X Y i = BitVec.ofBool (decide (y < x)) := by
  rw [← hX, ← hY]
  rfl

theorem inside_bit (b : Fin 16) (g : Fin 32) (a : Fin 8400) :
    r_v142 V (ix3 b g a) = ind (Ideal.ofBits .f32 814313567#32 < inside (im V b) (levelOf a) g (placeOf a)) := by
  have hc : r_v140 V (ix3 b g a) = Ideal.ofBits .f32 814313567#32 := by
    rw [r_v140_eq, r_cst_35_eq]
    pointwise
  rw [r_v142_eq, r_v141_eq]
  exact bits_at _ _ _ (over_at _ _ _ _ _ (inside_read V b g a) hc)

theorem three_factors (b : Fin 16) (g : Fin 32) (a : Fin 8400) :
    r_v145 V (ix3 b g a) = r_v125 V (ix3 b g a) * r_v142 V (ix3 b g a) * r_arg5 V (ix3 b g 0) := by
  rw [r_v145_eq, r_v144_eq, r_v143_eq]
  pointwise

theorem pos_read (b : Fin 16) (hg : Good (im V b)) (g : Fin 32) (a : Fin 8400) :
    r_v145 V (ix3 b g a) = ind (pos (im V b) (levelOf a) g (placeOf a)) := by
  rw [three_factors, over_threshold, inside_bit, threshold_read, over_read, in_read]
  show _ * _ * (im V b).mask g = _
  by_cases hm : 0 < (im V b).mask g
  · have h1 : (im V b).mask g = 1 := (hg.mask g).resolve_right (not_le.mpr hm)
    have hv : (fun k => r_v115 V (ix3 b g k)) = vals (im V b) g := funext fun k => column_read V b g hm k
    rw [h1, mul_one, hv]
    by_cases hc : cand (im V b) (levelOf a) g (placeOf a)
    · have hi : ind ((0 : EReal) < 1 ∧ cand (im V b) (levelOf a) g (placeOf a)) = 1 := ind_true ⟨zero_lt_one, hc⟩
      rw [hi, if_pos zero_lt_one]
      by_cases ht : threshold (vals (im V b) g) < ov (im V b) (levelOf a) g (placeOf a)
      · rw [if_pos ht, one_mul]
        exact ind_congr ⟨fun h => ⟨hc, ht, h, hm⟩, fun h => h.2.2.1⟩
      · rw [if_neg ht, zero_mul]
        exact (ind_false fun h => ht h.2.1).symm
    · have hi : ind ((0 : EReal) < 1 ∧ cand (im V b) (levelOf a) g (placeOf a)) = 0 := ind_false fun h => hc h.2
      rw [hi, ite_self, zero_mul]
      exact (ind_false fun h => hc h.1).symm
  · have hi : ind (0 < (im V b).mask g ∧ cand (im V b) (levelOf a) g (placeOf a)) = 0 := ind_false fun h => hm h.1
    rw [hi, ite_self, zero_mul, zero_mul]
    exact (ind_false fun h => hm h.2.2.2).symm

/-! ## The assigned boxes -/

theorem many_read (b : Fin 16) (hg : Good (im V b)) (a : Fin 8400) :
    r_v149 V (ix3 b 0 a) = BitVec.ofBool (decide (1 < count fun g => pos (im V b) (levelOf a) g (placeOf a))) := by
  rw [r_v149_eq, r_v148_eq, r_cst_37_eq, r_v147_eq, r_v146_eq, r_cst_36_eq]
  pointwise [pos_read V b hg]
  rw [sum_ind]
  refine congrArg BitVec.ofBool (decide_eq_decide.mpr ?_)
  rw [← EReal.coe_one, EReal.coe_lt_coe_iff]
  exact Nat.one_lt_cast

theorem best_read (b : Fin 16) (a : Fin 8400) :
    r_v150 V (ix2 b a) = BitVec.ofNat 32 (best fun g => ov (im V b) (levelOf a) g (placeOf a)).val := by
  rw [r_v150_eq, r_call14_v0_eq, r_call14_cst_eq, r_call14_c_eq]
  refine (first_max _ b a).trans ?_
  rw [show (fun g => r_v45 V (ix3 b g a)) = fun g => ov (im V b) (levelOf a) g (placeOf a) from funext fun g => overlap_read V b g a]

theorem picked_read (b : Fin 16) (hg : Good (im V b)) (g : Fin 32) (a : Fin 8400) :
    r_v153 V (ix3 b g a) = ind (pick (im V b) (levelOf a) (placeOf a) g) := by
  rw [r_v153_eq, r_call16_v0_eq, r_v152_eq, r_v151_eq, r_call15_v4_eq, r_call15_v3_eq, r_call15_v2_eq, r_call15_v1_eq, r_call15_v0_eq]
  pointwise [pos_read V b hg]
  rw [many_read V b hg, best_read, eq_real, ind_congr ((ofNat_eq (by omega) (by omega)).trans Fin.ext_iff.symm)]
  by_cases h : 1 < count fun g => pos (im V b) (levelOf a) g (placeOf a)
  · rw [decide_eq_true h]
    refine Eq.trans (b := ind (best (fun g => ov (im V b) (levelOf a) g (placeOf a)) = g)) rfl (ind_congr ?_)
    exact ⟨fun e => Or.inl ⟨h, e.symm⟩, fun e => by
      rcases e with ⟨_, e⟩ | ⟨h', _⟩
      · exact e.symm
      · exact absurd h h'⟩
  · rw [decide_eq_false h]
    refine Eq.trans (b := ind (pos (im V b) (levelOf a) g (placeOf a))) rfl (ind_congr ?_)
    exact ⟨fun e => Or.inr ⟨h, e⟩, fun e => by
      rcases e with ⟨h', _⟩ | ⟨_, e⟩
      · exact absurd h' h
      · exact e⟩

theorem found_sum (b : Fin 16) (hg : Good (im V b)) (a : Fin 8400) :
    r_v154 V (ix2 b a) = ∑ g, ind (pick (im V b) (levelOf a) (placeOf a) g) := by
  rw [r_v154_eq, r_cst_38_eq]
  pointwise [picked_read V b hg]

/-- The first greatest entry of a column of indicators is at the assigned box. -/
theorem best_pick (I : Img) (l : Fin 3) (n : Fin 2800) : best (fun g => ind (pick I l n g)) = target I l n := by
  obtain ⟨h1, h2⟩ := best_spec fun g => ind (pick I l n g)
  by_cases h : ∃ g, pick I l n g
  · obtain ⟨g, hp⟩ := h
    have hb : 0 < ind (pick I l n (best fun g => ind (pick I l n g))) := lt_of_lt_of_le (ind_pos.mpr hp) (h1 g)
    exact (target_eq I l n (ind_pos.mp hb)).symm
  · rw [target_none I l n h]
    have hz : ∀ g, ind (pick I l n g) = 0 := fun g => ind_false fun hp => h ⟨g, hp⟩
    exact le_antisymm (h2 0 ((hz 0).trans (hz _).symm)) (Fin.zero_le _)

theorem target_read (b : Fin 16) (hg : Good (im V b)) (a : Fin 8400) :
    r_v155 V (ix2 b a) = BitVec.ofNat 32 (target (im V b) (levelOf a) (placeOf a)).val := by
  rw [r_v155_eq, r_call17_v0_eq, r_call17_cst_eq, r_call17_c_eq]
  refine (first_max _ b a).trans ?_
  rw [show (fun g => r_v153 V (ix3 b g a)) = fun g => ind (pick (im V b) (levelOf a) (placeOf a) g) from funext fun g => picked_read V b hg g a,
    best_pick]

/-! ## The rows of the assigned boxes -/

/-- The row of an image's box in the array of all boxes. -/
def rowAt (b : Fin 16) (t : Fin 32) : Fin 512 := ⟨b.val * 32 + t.val, by omega⟩

theorem sum_row (b : Fin 16) (t : Fin 32) :
    IntOp.addi (BitVec.ofNat 32 t.val) (IntOp.muli (BitVec.ofNat 32 b.val) 32#32) = BitVec.ofNat 32 (rowAt b t).val := by
  show BitVec.ofNat 32 _ + BitVec.ofNat 32 _ * BitVec.ofNat 32 32 = _
  rw [← BitVec.ofNat_mul, ← BitVec.ofNat_add, Nat.add_comm]
  rfl

theorem wrap_row (r : Fin 512) :
    Scalar.select (IntOp.cmpi CmpIPredicate.slt (BitVec.ofNat 32 r.val) 0#32) (IntOp.addi (BitVec.ofNat 32 r.val) 512#32)
      (BitVec.ofNat 32 r.val) = BitVec.ofNat 32 r.val := by
  rw [slt_zero (by omega)]
  rfl

theorem flat_row (b : Fin 16) (hg : Good (im V b)) (a : Fin 8400) :
    r_v168 V (ix3 b a 0) = BitVec.ofNat 32 (rowAt b (target (im V b) (levelOf a) (placeOf a))).val := by
  rw [r_v168_eq, r_v167_eq, r_v166_eq, r_v165_eq, r_c_41_eq, r_v164_eq, r_v163_eq, r_c_40_eq, r_v161_eq, r_v160_eq, r_v159_eq, r_v158_eq, r_c_39_eq, r_v157_eq, r_v156_eq]
  pointwise [target_read V b hg]
  rw [sum_row, wrap_row]

theorem box_row (b : Fin 16) (hg : Good (im V b)) (a : Fin 8400) :
    r_v176 V (ix3 b a 0) = BitVec.ofNat 32 (rowAt b (target (im V b) (levelOf a) (placeOf a))).val := by
  rw [r_v176_eq, r_v175_eq, r_v174_eq, r_v173_eq, r_c_43_eq, r_v172_eq, r_v171_eq, r_c_42_eq, r_v161_eq, r_v160_eq, r_v159_eq, r_v158_eq, r_c_39_eq, r_v157_eq, r_v156_eq]
  pointwise [target_read V b hg]
  rw [sum_row, wrap_row]

theorem label_at (b : Fin 16) (t : Fin 32) : r_v162 V (ix1 (rowAt b t)) = (im V b).lab t := by
  rw [r_v162_eq]
  unfold rowAt
  pointwise
  rfl

theorem box_at (b : Fin 16) (t : Fin 32) (k : Fin 4) : r_v170 V (ix2 (rowAt b t) k) = r_arg4 V (ix3 b t k) := by
  rw [r_v170_eq]
  unfold rowAt
  pointwise

/-! ## The results -/

theorem box_read (b : Fin 16) (hg : Good (im V b)) (a : Fin 8400) (k : Fin 4) :
    r_v177 V (ix3 b a k) = box (im V b) (levelOf a) (placeOf a) k := by
  rw [r_v177_eq]
  refine (row_at _ _ b a k _ (box_row V b hg a)).trans ?_
  rw [box_at]
  match k with
  | 0 => rfl
  | 1 => rfl
  | 2 => rfl
  | 3 => rfl

theorem label_read (b : Fin 16) (hg : Good (im V b)) (a : Fin 8400) : r_v180 V (ix2 b a) = label (im V b) (levelOf a) (placeOf a) := by
  have hv : r_v169 V (ix2 b a) = (im V b).lab (target (im V b) (levelOf a) (placeOf a)) := by
    rw [r_v169_eq]
    exact (entry_at _ _ b a _ (flat_row V b hg a)).trans (label_at V b _)
  rw [r_v180_eq, r_call18_v1_eq, r_call18_v0_eq, r_c_45_eq, r_v179_eq, r_v178_eq, r_cst_44_eq]
  pointwise [found_sum V b hg]
  rw [hv]
  classical
  by_cases h : ∃ g, pick (im V b) (levelOf a) (placeOf a) g
  · rw [if_pos ((sum_pick_pos _ _ _).mpr h)]
    exact (if_pos h).symm
  · rw [if_neg fun h' => h ((sum_pick_pos _ _ _).mp h')]
    exact (if_neg h).symm

theorem found_read (b : Fin 16) (hg : Good (im V b)) (a : Fin 8400) :
    r_v235 V (ix2 b a) = open Classical in BitVec.ofBool (decide (∃ g, pick (im V b) (levelOf a) (placeOf a) g)) := by
  rw [r_v235_eq, r_v234_eq, r_cst_52_eq]
  pointwise [found_sum V b hg]
  exact congrArg BitVec.ofBool (decide_eq_decide.mpr (sum_pick_pos _ _ _))

theorem scale_read (b : Fin 16) (hg : Good (im V b)) (a : Fin 8400) : r_v230 V (ix2 b a) = scale (im V b) (levelOf a) (placeOf a) := by
  unfold scale
  rw [r_v230_eq, r_cst_51_eq, r_v229_eq]
  pointwise [picked_read V b hg, predicted_read V]
  rw [show Ideal.ofBits .f32 4286578688#32 = ⊥ from by simp [Ideal.ofBits, Ideal.ieee]]

theorem hot_read (b : Fin 16) (a : Fin 8400) (c : Fin 80) :
    r_v187 V (ix3 b a c) = if 0 < r_v154 V (ix2 b a) then r_v181 V (ix3 b a ⟨c.val, by omega⟩) else 0 := by
  rw [r_v187_eq, r_v186_eq, r_call20_v0_eq, r_v185_eq, r_cst_47_eq, r_v184_eq, r_v183_eq, r_v182_eq, r_cst_46_eq]
  pointwise

theorem class_read (b : Fin 16) (a : Fin 8400) (c : Fin 81) :
    r_v181 V (ix3 b a c) = ind (r_v180 V (ix2 b a) = BitVec.ofNat 32 c.val) := by
  have h : r_call19_v4 V (ix3 b a c) = IntOp.cmpi CmpIPredicate.eq (r_v180 V (ix2 b a)) (BitVec.ofNat 32 c.val) := by
    rw [r_call19_v4_eq, r_call19_v3_eq, r_call19_v2_eq, r_call19_v1_eq, r_call19_v0_eq]
    pointwise
  rw [r_v181_eq]
  exact bits_at _ _ _ (h.trans (eq_word _ _))

/-- Two arrays multiplied, entry by entry. -/
theorem times_at {s : Shape} (X Y : FVec Ideal s .f32) (i : s.Idx) : mulf X Y i = (X i * Y i : EReal) := rfl

theorem two_factors (b : Fin 16) (a : Fin 8400) (c : Fin 80) :
    r_v233 V (ix3 b a c) = r_v187 V (ix3 b a c) * r_v230 V (ix2 b a) := by
  have h : r_v232 V (ix3 b a c) = r_v230 V (ix2 b a) := by
    rw [r_v232_eq, r_v231_eq]
    pointwise
  rw [r_v233_eq, times_at, h]

theorem score_read (b : Fin 16) (hg : Good (im V b)) (a : Fin 8400) (c : Fin 80) :
    r_v233 V (ix3 b a c) = score (im V b) (levelOf a) (placeOf a) c := by
  rw [two_factors, hot_read, class_read, scale_read V b hg, label_read V b hg, found_sum V b hg]
  classical
  by_cases h : ∃ g, pick (im V b) (levelOf a) (placeOf a) g
  · rw [if_pos ((sum_pick_pos _ _ _).mpr h)]
    have e : label (im V b) (levelOf a) (placeOf a) = (im V b).lab (target (im V b) (levelOf a) (placeOf a)) := if_pos h
    rw [e]
    by_cases hc : BitVec.ofNat 32 c.val = (im V b).lab (target (im V b) (levelOf a) (placeOf a))
    · rw [ind_true hc.symm, one_mul]
      exact (if_pos ⟨h, hc⟩).symm
    · rw [ind_false fun h' => hc h'.symm, zero_mul]
      exact (if_neg fun h' => hc h'.2).symm
  · rw [if_neg fun h' => h ((sum_pick_pos _ _ _).mp h'), zero_mul]
    exact (if_neg fun h' => h h'.1).symm

end Cert.Proof.Ref

end
-- ==== Proof.Domain.lean ====
/-
  What the precondition says of the arguments: finite anchors, mask entries that are one or not positive, and labels
  other than the background.
-/
module

public import proofs.«01_k».proof.Defs
public import proofs.«01_k».proof.Proof.Mask
public import proofs.«01_k».proof.Proof.Whole
public import Idealize.ShloMosaic.Lib.ReduceAll

@[expose] public section

set_option maxRecDepth 16384

noncomputable section

namespace Cert.Proof

open Idealize.ShloMosaic
open Cert.Proof.Spec Cert.Proof.Order

/-- The side conditions of the precondition's operations. -/
theorem domain_facts : Cert.Pre_domain.Facts where
  bcast_S_S8400x2 := by decide
  reducesTo_S8400x2_S_d0_1 := by decide
  h_S_ := by decide
  bcast_S_S16x32x1 := by decide
  reducesTo_S16x32x1_S_d0_1_2 := by decide

instance domain_given : Cert.Pre_domain.Facts := domain_facts

theorem of_bit {p : Prop} [Decidable p] (h : BitVec.ofBool (decide p) = 1#1) : p := by
  by_contra hp
  rw [decide_eq_false hp] at h
  exact absurd h (by decide)

theorem lt_of_bit {x y : EReal} (h : FloatOps.cmpf (F := Ideal) (φ := .f32) .olt x y = 1#1) : x < y := of_bit h
theorem gt_of_bit {x y : EReal} (h : FloatOps.cmpf (F := Ideal) (φ := .f32) .ogt x y = 1#1) : y < x := of_bit h
theorem eq_of_bit {x y : EReal} (h : FloatOps.cmpf (F := Ideal) (φ := .f32) .oeq x y = 1#1) : x = y := of_bit h
theorem le_of_bit {x y : EReal} (h : FloatOps.cmpf (F := Ideal) (φ := .f32) .ole x y = 1#1) : x ≤ y := of_bit h
theorem ne_of_bit {x y : BitVec 32} (h : IntOp.cmpi .ne x y = 1#1) : x ≠ y := by
  rintro rfl
  have : BitVec.ofBool (x != x) = 1#1 := h
  rw [bne_self_eq_false] at this
  exact absurd this (by decide)

theorem or_of_bit : ∀ {c d : BitVec 1}, IntOp.ori c d = 1#1 → c = 1#1 ∨ d = 1#1 := by decide

theorem top_word : Ideal.ofBits .f32 2139095040#32 = ⊤ := by simp [Ideal.ofBits, Ideal.ieee]
theorem low_word : Ideal.ofBits .f32 4286578688#32 = ⊥ := by simp [Ideal.ofBits, Ideal.ieee]
theorem one_word : Ideal.ofBits .f32 1065353216#32 = 1 := by
  have h : Ideal.ofBits .f32 1065353216#32 = ((1 : ℝ) : EReal) := by
    simp [Ideal.ofBits, Ideal.ieee, -EReal.coe_mul, -EReal.coe_one]; norm_num
  exact h.trans EReal.coe_one
theorem nil_word : Ideal.ofBits .f32 0#32 = 0 := by simp [Ideal.ofBits, Ideal.ieee]

open Cert.Pre_domain Cert.Pre_domain.Facts in
/-- The precondition, entry by entry. -/
theorem domain_read (A0 : FVec Ideal S16x8400x80 .f32) (A1 : FVec Ideal S16x8400x4 .f32) (A2 : FVec Ideal S8400x2 .f32)
    (A3 : IVec S16x32x1 32) (A4 : FVec Ideal S16x32x4 .f32) (A5 : FVec Ideal S16x32x1 .f32)
    (h : Cert.Pre_domain.fn (F := Ideal) A0 A1 A2 A3 A4 A5 = fun _ => 1#1) :
    (∀ i, A2 i < (⊤ : EReal) ∧ (⊥ : EReal) < A2 i) ∧ (∀ i, A5 i = (1 : EReal) ∨ A5 i ≤ (0 : EReal)) ∧ ∀ i, A3 i ≠ 80#32 := by
  have h0 := congrFun h (Shape.Idx.first h_S_)
  dsimp only [fn, fn_part1] at h0
  haveI : Subsingleton S_.Idx := ⟨fun i j => funext fun k => k.elim0⟩
  obtain ⟨h12, h3⟩ := IntOp.andi_eq_one.mp h0
  obtain ⟨h1, h2⟩ := IntOp.andi_eq_one.mp h12
  refine ⟨fun i => ?_, fun i => ?_, fun i => ?_⟩
  · obtain ⟨a, b⟩ := IntOp.andi_eq_one.mp (Host.reduce_andi_all _ _ _ _ _ h1 i)
    exact ⟨top_word ▸ lt_of_bit a, low_word ▸ gt_of_bit b⟩
  · rcases or_of_bit (Host.reduce_andi_all _ _ _ _ _ h2 i) with a | a
    · exact Or.inl (one_word ▸ eq_of_bit a)
    · exact Or.inr (nil_word ▸ le_of_bit a)
  · exact ne_of_bit (Host.reduce_andi_all _ _ _ _ _ h3 i)

open Cert.Pre_domain in
/-- The images of arguments that meet the precondition are good. -/
theorem domain_good (A0 : FVec Ideal S16x8400x80 .f32) (A1 : FVec Ideal S16x8400x4 .f32) (A2 : FVec Ideal S8400x2 .f32)
    (A3 : IVec S16x32x1 32) (A4 : FVec Ideal S16x32x4 .f32) (A5 : FVec Ideal S16x32x1 .f32)
    (h : Cert.Pre_domain.fn (F := Ideal) A0 A1 A2 A3 A4 A5 = fun _ => 1#1) (b : Fin 16) :
    Good (imgOf A1 A2 A3 A4 A5 b) ∧ ∀ g, (imgOf A1 A2 A3 A4 A5 b).lab g ≠ 80#32 := by
  obtain ⟨h1, h2, h3⟩ := domain_read A0 A1 A2 A3 A4 A5 h
  have fin : ∀ i, Fin' (A2 i) := fun i =>
    ⟨(A2 i : EReal).toReal, (EReal.coe_toReal (h1 i).1.ne (h1 i).2.ne').symm⟩
  exact ⟨⟨fun _ _ => fin _, fun _ _ => fin _, fun _ => h2 _⟩, fun _ => h3 _⟩

end Cert.Proof

end
-- ==== Proof.Equal.lean ====
/-
  The kernel's run and the reference's run leave the same results.
-/
module

public import proofs.«01_k».proof.Proof.Frames
public import proofs.«01_k».proof.Proof.Finals
public import proofs.«01_k».proof.Proof.RefMask
public import proofs.«01_k».proof.Proof.Domain

@[expose] public section

set_option maxRecDepth 16384

noncomputable section

namespace Cert.Proof.Body

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every execution of the kernel's program ends with its results as the last host lines leave them. -/
theorem run_results : θ_run defs (onTc (τ := τ) (main (F := Ideal))) ⟨m, fun _ => 0, ρ⟩ (fun r => ∀ c : Dev nD,
    r.2.mem ((c.tc : Thread nD τ).loc main_v5) = tail m c main_v5
    ∧ r.2.mem ((c.tc : Thread nD τ).loc main_v6) = tail m c main_v6
    ∧ r.2.mem ((c.tc : Thread nD τ).loc main_v7) = tail m c main_v7
    ∧ r.2.mem ((c.tc : Thread nD τ).loc main_v9) = tail m c main_v9
    ∧ r.2.mem ((c.tc : Thread nD τ).loc main_v10) = tail m c main_v10) :=
  (θ_run defs _ _).mono (fun _ h c => ⟨(h.1 c).2 _ (Pipeline.mem_restRefs_of main_v5 (by decide) (by decide)),
    (h.1 c).2 _ (Pipeline.mem_restRefs_of main_v6 (by decide) (by decide)),
    (h.1 c).2 _ (Pipeline.mem_restRefs_of main_v7 (by decide) (by decide)),
    (h.1 c).2 _ (Pipeline.mem_restRefs_of main_v9 (by decide) (by decide)),
    (h.1 c).2 _ (Pipeline.mem_restRefs_of main_v10 (by decide) (by decide))⟩) (run_main m ρ)

end Cert.Proof.Body

namespace Cert.Proof

open Idealize.ShloMosaic Idealize.ShloMosaic.TcCoe Idealize.SL.Sem Idealize.ShloMosaic.StableHlo
open Cert.Proof.Spec Cert.Proof.Order

/-- Two arrays of two or three dimensions are equal when they read alike at every tuple of coordinates. -/
theorem ext2 {α : Type} {a b : ℕ} {X Y : (⟨2, ![a, b]⟩ : Shape).Idx → α} (h : ∀ i j, X (ix2 i j) = Y (ix2 i j)) : X = Y := by
  funext i
  have e : i = ix2 (i 0) (i 1) := by
    funext k
    match k with
    | 0 => rfl
    | 1 => rfl
  rw [e]
  exact h _ _

theorem ext3 {α : Type} {a b c : ℕ} {X Y : (⟨3, ![a, b, c]⟩ : Shape).Idx → α}
    (h : ∀ i j k, X (ix3 i j k) = Y (ix3 i j k)) : X = Y := by
  funext i
  have e : i = ix3 (i 0) (i 1) (i 2) := by
    funext k
    match k with
    | 0 => rfl
    | 1 => rfl
    | 2 => rfl
  rw [e]
  exact h _ _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hm : Cert.Pre_KernelIdeal_domain m) (c : Dev Cert.KernelIdeal.nD)
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hm in
theorem img_good (b : Fin 16) : Good (Body.imgAt m c b) := (domain_good _ _ _ _ _ _ (hm c) b).1

include hm in
theorem img_label (b : Fin 16) (g : Fin 32) : (Body.imgAt m c b).lab g ≠ 80#32 := (domain_good _ _ _ _ _ _ (hm c) b).2 g

include h1 h2 h3 h4 h5 in
/-- The two programs' arguments hold the same images. -/
theorem img_same (b : Fin 16) : Ref.im (launchContents m' c) b = Body.imgAt m c b := by
  have e1 : Ref.r_arg1 (launchContents m' c) = m ((c.tc : Thread Cert.KernelIdeal.nD Cert.KernelIdeal.τ).loc Cert.KernelIdeal.main_arg1) :=
    (Ref.arg_keep _ _ (by decide)).trans h1
  have e2 : Ref.r_arg2 (launchContents m' c) = m ((c.tc : Thread Cert.KernelIdeal.nD Cert.KernelIdeal.τ).loc Cert.KernelIdeal.main_arg2) :=
    (Ref.arg_keep _ _ (by decide)).trans h2
  have e3 : Ref.r_arg3 (launchContents m' c) = m ((c.tc : Thread Cert.KernelIdeal.nD Cert.KernelIdeal.τ).loc Cert.KernelIdeal.main_arg3) :=
    (Ref.arg_keep _ _ (by decide)).trans h3
  have e4 : Ref.r_arg4 (launchContents m' c) = m ((c.tc : Thread Cert.KernelIdeal.nD Cert.KernelIdeal.τ).loc Cert.KernelIdeal.main_arg4) :=
    (Ref.arg_keep _ _ (by decide)).trans h4
  have e5 : Ref.r_arg5 (launchContents m' c) = m ((c.tc : Thread Cert.KernelIdeal.nD Cert.KernelIdeal.τ).loc Cert.KernelIdeal.main_arg5) :=
    (Ref.arg_keep _ _ (by decide)).trans h5
  unfold Ref.im Body.imgAt
  rw [e1, e2, e3, e4, e5]

include hm h1 h2 h3 h4 h5

theorem same_label : Ref.r_v180 (launchContents m' c) = Body.tail m c Cert.KernelIdeal.main_v5 := by
  have e := img_same m m' c h1 h2 h3 h4 h5
  refine ext2 fun b a => (Ref.label_read _ b (e b ▸ img_good m hm c b) a).trans ?_
  rw [e b]
  exact (Body.value5 m c (img_good m hm c) b a).symm

theorem same_box : Ref.r_v177 (launchContents m' c) = Body.tail m c Cert.KernelIdeal.main_v6 := by
  have e := img_same m m' c h1 h2 h3 h4 h5
  refine ext3 fun b a k => (Ref.box_read _ b (e b ▸ img_good m hm c b) a k).trans ?_
  rw [e b]
  exact (Body.value6 m c (img_good m hm c) b a k).symm

theorem same_score : Ref.r_v233 (launchContents m' c) = Body.tail m c Cert.KernelIdeal.main_v7 := by
  have e := img_same m m' c h1 h2 h3 h4 h5
  refine ext3 fun b a k => (Ref.score_read _ b (e b ▸ img_good m hm c b) a k).trans ?_
  rw [e b]
  exact (Body.value7 m c (img_good m hm c) b a k).symm

theorem same_found : Ref.r_v235 (launchContents m' c) = Body.tail m c Cert.KernelIdeal.main_v9 := by
  have e := img_same m m' c h1 h2 h3 h4 h5
  refine ext2 fun b a => (Ref.found_read _ b (e b ▸ img_good m hm c b) a).trans ?_
  rw [e b]
  exact (Body.value9 m c (img_good m hm c) (img_label m hm c) b a).symm

theorem same_number : Ref.r_v155 (launchContents m' c) = Body.tail m c Cert.KernelIdeal.main_v10 := by
  have e := img_same m m' c h1 h2 h3 h4 h5
  refine ext2 fun b a => (Ref.target_read _ b (e b ▸ img_good m hm c b) a).trans ?_
  rw [e b]
  exact (Body.value10 m c (img_good m hm c) b a).symm

end

/-- The kernel and the reference leave the same five results. -/
theorem equal : Cert.algebraic_KernelIdeal_ReferenceIdeal_pre_domain := by
  intro m g m' g' hm h
  refine ⟨fun c => Body.tail m c Cert.KernelIdeal.main_v5, fun c => Body.tail m c Cert.KernelIdeal.main_v6,
    fun c => Body.tail m c Cert.KernelIdeal.main_v7, fun c => Body.tail m c Cert.KernelIdeal.main_v9,
    fun c => Body.tail m c Cert.KernelIdeal.main_v10, ?_, ?_⟩
  · refine (θ_run Cert.KernelIdeal.defs _ _).mono (fun _ k c => ?_)
      (θ_run_and (Body.run_results m g) (Body.frame (F := Ideal) m g))
    obtain ⟨a5, a6, a7, a9, a10⟩ := k.1 c
    exact ⟨a5, a6, a7, a9, a10, k.2.1 c⟩
  · refine (θ_run Cert.ReferenceIdeal.defs _ _).mono (fun _ k c => ?_) (Ref.run (F := Ideal) m' g')
    obtain ⟨_, h1, h2, h3, h4, h5⟩ := h c
    exact ⟨(k c _).trans (same_label m m' hm c h1 h2 h3 h4 h5), (k c _).trans (same_box m m' hm c h1 h2 h3 h4 h5),
      (k c _).trans (same_score m m' hm c h1 h2 h3 h4 h5), (k c _).trans (same_found m m' hm c h1 h2 h3 h4 h5),
      (k c _).trans (same_number m m' hm c h1 h2 h3 h4 h5),
      (k c _).trans (Ref.arg_keep _ _ (by decide)), (k c _).trans (Ref.arg_keep _ _ (by decide)),
      (k c _).trans (Ref.arg_keep _ _ (by decide)), (k c _).trans (Ref.arg_keep _ _ (by decide)),
      (k c _).trans (Ref.arg_keep _ _ (by decide)), (k c _).trans (Ref.arg_keep _ _ (by decide))⟩

end Cert.Proof

end
-- ==== Proof.lean ====
module

public import proofs.«01_k».proof.Defs
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, domain_facts,
  frame_kernel, frame_ideal, fun m g _ => frame_ideal m g trivial, frame_ref, fun m g _ => frame_ref m g trivial, trivial, equal⟩

end Cert.Proof

end
